-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "k01" .f32 0x3D122279#32 ((80338380498831 / 2251799813685248 : ℝ) : EReal)
  ∧ IdealRules.named_const.Statement Cert.KernelIdeal.κ "k013" .f32 0x3DDB33B6#32 ((241015141496493 / 2251799813685248 : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)) (v3 : (c : Dev Cert.KernelIdeal.nD) → Buf (Elt Ideal) ((c.tc : Thread Cert.KernelIdeal.nD Cert.KernelIdeal.τ).loc Cert.KernelIdeal.main_v36_3)) (v4 : (c : Dev Cert.KernelIdeal.nD) → Buf (Elt Ideal) ((c.tc : Thread Cert.KernelIdeal.nD Cert.KernelIdeal.τ).loc Cert.KernelIdeal.main_v36_4)) (v5 : (c : Dev Cert.KernelIdeal.nD) → Buf (Elt Ideal) ((c.tc : Thread Cert.KernelIdeal.nD Cert.KernelIdeal.τ).loc Cert.KernelIdeal.main_v36_5)) (v6 : (c : Dev Cert.KernelIdeal.nD) → Buf (Elt Ideal) ((c.tc : Thread Cert.KernelIdeal.nD Cert.KernelIdeal.τ).loc Cert.KernelIdeal.main_v36_6)) (v7 : (c : Dev Cert.KernelIdeal.nD) → Buf (Elt Ideal) ((c.tc : Thread Cert.KernelIdeal.nD Cert.KernelIdeal.τ).loc Cert.KernelIdeal.main_v36_7)) (v8 : (c : Dev Cert.KernelIdeal.nD) → Buf (Elt Ideal) ((c.tc : Thread Cert.KernelIdeal.nD Cert.KernelIdeal.τ).loc Cert.KernelIdeal.main_v36_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_v36_3) = v3 c
          ∧ r.2.mem ((c.tc : Thread Cert.KernelIdeal.nD Cert.KernelIdeal.τ).loc Cert.KernelIdeal.main_v36_4) = v4 c
          ∧ r.2.mem ((c.tc : Thread Cert.KernelIdeal.nD Cert.KernelIdeal.τ).loc Cert.KernelIdeal.main_v36_5) = v5 c
          ∧ r.2.mem ((c.tc : Thread Cert.KernelIdeal.nD Cert.KernelIdeal.τ).loc Cert.KernelIdeal.main_v36_6) = v6 c
          ∧ r.2.mem ((c.tc : Thread Cert.KernelIdeal.nD Cert.KernelIdeal.τ).loc Cert.KernelIdeal.main_v36_7) = v7 c
          ∧ r.2.mem ((c.tc : Thread Cert.KernelIdeal.nD Cert.KernelIdeal.τ).loc Cert.KernelIdeal.main_v36_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_v120) = v5 c
          ∧ r.2.mem ((c.tc : Thread Cert.ReferenceIdeal.nD Cert.ReferenceIdeal.τ).loc Cert.ReferenceIdeal.main_v121) = v6 c
          ∧ r.2.mem ((c.tc : Thread Cert.ReferenceIdeal.nD Cert.ReferenceIdeal.τ).loc Cert.ReferenceIdeal.main_v122) = v7 c
          ∧ r.2.mem ((c.tc : Thread Cert.ReferenceIdeal.nD Cert.ReferenceIdeal.τ).loc Cert.ReferenceIdeal.main_v123) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_args.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024x5632 .f32) (main_arg2 : FVec F S3x5632 .f32) (main_arg3 : FVec F S1x5632 .f32) (main_arg4 : FVec F S2816x1024 .f32) (main_arg5 : FVec F S8192x1024 .f32) : IVec S8192x1024 1 × IVec S1024x5632 1 × IVec S3x5632 1 × IVec S1x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S3x2816 : Shape := ⟨2, ![3, 2816]⟩
abbrev S1x2816 : Shape := ⟨2, ![1, 2816]⟩
abbrev S2048x256 : Shape := ⟨2, ![2048, 256]⟩
abbrev S16x256 : Shape := ⟨2, ![16, 256]⟩
abbrev S2048x1024 : Shape := ⟨2, ![2048, 1024]⟩
abbrev S16x1024 : Shape := ⟨2, ![16, 1024]⟩
abbrev S256x1024 : Shape := ⟨2, ![256, 1024]⟩
abbrev S3x256 : Shape := ⟨2, ![3, 256]⟩
abbrev S1x256 : Shape := ⟨2, ![1, 256]⟩
abbrev S512x1024 : Shape := ⟨2, ![512, 1024]⟩
abbrev S272x1024 : Shape := ⟨2, ![272, 1024]⟩
abbrev S272x256 : Shape := ⟨2, ![272, 256]⟩
abbrev S256x256 : Shape := ⟨2, ![256, 256]⟩
abbrev S256x512 : Shape := ⟨2, ![256, 512]⟩
abbrev S256 : Shape := ⟨1, ![256]⟩

abbrev nBuf : Space → Nat
  | .hbm => 53
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S8192x1024, .f32⟩
  | .hbm, ⟨6, _⟩ => ⟨S8192x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S8192x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .bf16⟩
  | .hbm, ⟨36, _⟩ => ⟨S8192x5632, .bf16⟩
  | .hbm, ⟨37, _⟩ => ⟨S8192x2816, .bf16⟩
  | .hbm, ⟨38, _⟩ => ⟨S8192x2816, .bf16⟩
  | .hbm, ⟨39, _⟩ => ⟨S8192x2816, .bf16⟩
  | .hbm, ⟨40, _⟩ => ⟨S8192x2816, .bf16⟩
  | .hbm, ⟨41, _⟩ => ⟨S8192x1024, .bf16⟩
  | .hbm, ⟨42, _⟩ => ⟨S2816x1024, .bf16⟩
  | .hbm, ⟨43, _⟩ => ⟨S8192x1024, .bf16⟩
  | .hbm, ⟨44, _⟩ => ⟨S8192x2816, .bf16⟩
  | .hbm, ⟨45, _⟩ => ⟨S8192x2816, .bf16⟩
  | .hbm, ⟨46, _⟩ => ⟨S2816x1024, .bf16⟩
  | .hbm, ⟨47, _⟩ => ⟨S2816x1024, .bf16⟩
  | .hbm, ⟨48, _⟩ => ⟨S2816x1024, .bf16⟩
  | .hbm, ⟨49, _⟩ => ⟨S3x2816, .f32⟩
  | .hbm, ⟨50, _⟩ => ⟨S3x2816, .f32⟩
  | .hbm, ⟨51, _⟩ => ⟨S1x2816, .f32⟩
  | .hbm, ⟨52, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S16x256, .bf16⟩
  | .local _ .vmem, ⟨7, _⟩ => ⟨S16x256, .bf16⟩
  | .local _ .vmem, ⟨8, _⟩ => ⟨S2048x256, .bf16⟩
  | .local _ .vmem, ⟨9, _⟩ => ⟨S2048x256, .bf16⟩
  | .local _ .vmem, ⟨10, _⟩ => ⟨S16x256, .bf16⟩
  | .local _ .vmem, ⟨11, _⟩ => ⟨S16x256, .bf16⟩
  | .local _ .vmem, ⟨12, _⟩ => ⟨S2048x1024, .bf16⟩
  | .local _ .vmem, ⟨13, _⟩ => ⟨S2048x1024, .bf16⟩
  | .local _ .vmem, ⟨14, _⟩ => ⟨S16x1024, .bf16⟩
  | .local _ .vmem, ⟨15, _⟩ => ⟨S16x1024, .bf16⟩
  | .local _ .vmem, ⟨16, _⟩ => ⟨S256x1024, .bf16⟩
  | .local _ .vmem, ⟨17, _⟩ => ⟨S256x1024, .bf16⟩
  | .local _ .vmem, ⟨18, _⟩ => ⟨S2048x1024, .bf16⟩
  | .local _ .vmem, ⟨19, _⟩ => ⟨S2048x1024, .bf16⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S3x256, .f32⟩
  | .local _ .vmem, ⟨35, _⟩ => ⟨S3x256, .f32⟩
  | .local _ .vmem, ⟨36, _⟩ => ⟨S3x256, .f32⟩
  | .local _ .vmem, ⟨37, _⟩ => ⟨S3x256, .f32⟩
  | .local _ .vmem, ⟨38, _⟩ => ⟨S1x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S512x1024, .f32⟩
  | .local _ .vmem, ⟨43, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36_0 : Ref sig .tc := ⟨.hbm, 44, rfl⟩
abbrev main_v36_1 : Ref sig .tc := ⟨.hbm, 45, rfl⟩
abbrev main_v36_2 : Ref sig .tc := ⟨.hbm, 46, rfl⟩
abbrev main_v36_3 : Ref sig .tc := ⟨.hbm, 47, rfl⟩
abbrev main_v36_4 : Ref sig .tc := ⟨.hbm, 48, rfl⟩
abbrev main_v36_5 : Ref sig .tc := ⟨.hbm, 49, rfl⟩
abbrev main_v36_6 : Ref sig .tc := ⟨.hbm, 50, rfl⟩
abbrev main_v36_7 : Ref sig .tc := ⟨.hbm, 51, rfl⟩
abbrev main_v36_8 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg1 : BitVec 32 := BitVec.ofNat 32 (i 1).val
  let c3_i32_683 : BitVec 32 := 3#32
  let v1290 : BitVec 1 := Scalar.cmpi .eq arg1 c3_i32_683
  let v1291 : BitVec 32 := Scalar.extui v1290
  let c0_i32_684 : BitVec 32 := 0#32
  let v1292 : BitVec 1 := Scalar.cmpi .ne v1291 c0_i32_684
  v1292

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S3x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S3x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== KernelIdeal.lean ====
variable {F : FTy → Type} [FloatOps F] [Named F]
def κ : String → Option EReal := fun
  | "k01" => some ((80338380498831 / 2251799813685248 : ℝ) : EReal)
  | "k013" => some ((241015141496493 / 2251799813685248 : ℝ) : EReal)
  | _ => none
-- ==== ReferenceIdeal.lean ====
abbrev S8192x1024 : Shape := ⟨2, ![8192, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024x2816 : Shape := ⟨2, ![1024, 2816]⟩
abbrev S5632x1024 : Shape := ⟨2, ![5632, 1024]⟩
abbrev S3x2816 : Shape := ⟨2, ![3, 2816]⟩
abbrev S1x2816 : Shape := ⟨2, ![1, 2816]⟩

abbrev nBuf : Space → Nat
  | .hbm => 156
  | .vmem => 0
  | .smem => 0
  | _ => 0

abbrev hbmTy0_0 (i : Nat) : BufTy := match i % 128 with
  | 0 => ⟨S8192x1024, .f32⟩
  | 1 => ⟨S1024x5632, .f32⟩
  | 2 => ⟨S3x5632, .f32⟩
  | 3 => ⟨S1x5632, .f32⟩
  | 4 => ⟨S2816x1024, .f32⟩
  | 5 => ⟨S8192x1024, .f32⟩
  | 6 => ⟨S8192x5632, .f32⟩
  | 7 => ⟨S_, .f32⟩
  | 8 => ⟨S2x5632, .f32⟩
  | 9 => ⟨S8194x5632, .f32⟩
  | 10 => ⟨S_, .f32⟩
  | 11 => ⟨S2x5632, .f32⟩
  | 12 => ⟨S8192x5632, .f32⟩
  | 13 => ⟨S1x5632, .f32⟩
  | 14 => ⟨S5632, .f32⟩
  | 15 => ⟨S1x5632, .f32⟩
  | 16 => ⟨S8192x5632, .f32⟩
  | 17 => ⟨S8192x5632, .f32⟩
  | 18 => ⟨S_, .f32⟩
  | 19 => ⟨S8192x5632, .f32⟩
  | 20 => ⟨S8192x5632, .f32⟩
  | 21 => ⟨S8192x5632, .f32⟩
  | 22 => ⟨S1x5632, .f32⟩
  | 23 => ⟨S5632, .f32⟩
  | 24 => ⟨S1x5632, .f32⟩
  | 25 => ⟨S8192x5632, .f32⟩
  | 26 => ⟨S8192x5632, .f32⟩
  | 27 => ⟨S8192x5632, .f32⟩
  | 28 => ⟨S8192x5632, .f32⟩
  | 29 => ⟨S1x5632, .f32⟩
  | 30 => ⟨S5632, .f32⟩
  | 31 => ⟨S1x5632, .f32⟩
  | 32 => ⟨S8192x5632, .f32⟩
  | 33 => ⟨S8192x5632, .f32⟩
  | 34 => ⟨S8192x5632, .f32⟩
  | 35 => ⟨S8192x5632, .f32⟩
  | 36 => ⟨S8192x5632, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S_, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S8192x2816, .f32⟩
  | 67 => ⟨S8192x2816, .f32⟩
  | 68 => ⟨S8192x1024, .f32⟩
  | 69 => ⟨S1024x2816, .f32⟩
  | 70 => ⟨S2816x1024, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S_, .f32⟩
  | 77 => ⟨S8192x2816, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S8192x2816, .f32⟩
  | 88 => ⟨S8192x2816, .f32⟩
  | 89 => ⟨S8192x5632, .f32⟩
  | 90 => ⟨S_, .f32⟩
  | 91 => ⟨S5632, .f32⟩
  | 92 => ⟨S1x5632, .f32⟩
  | 93 => ⟨S8192x5632, .f32⟩
  | 94 => ⟨S_, .f32⟩
  | 95 => ⟨S5632, .f32⟩
  | 96 => ⟨S1x5632, .f32⟩
  | 97 => ⟨S8192x5632, .f32⟩
  | 98 => ⟨S8192x5632, .f32⟩
  | 99 => ⟨S_, .f32⟩
  | 100 => ⟨S5632, .f32⟩
  | 101 => ⟨S1x5632, .f32⟩
  | 102 => ⟨S_, .f32⟩
  | 103 => ⟨S3x5632, .f32⟩
  | 104 => ⟨S_, .f32⟩
  | 105 => ⟨S8194x5632, .f32⟩
  | 106 => ⟨S8192x5632, .f32⟩
  | 107 => ⟨S_, .f32⟩
  | 108 => ⟨S5632, .f32⟩
  | 109 => ⟨S1x5632, .f32⟩
  | 110 => ⟨S8192x5632, .f32⟩
  | 111 => ⟨S8192x5632, .f32⟩
  | 112 => ⟨S_, .f32⟩
  | 113 => ⟨S5632, .f32⟩
  | 114 => ⟨S1x5632, .f32⟩
  | 115 => ⟨S_, .f32⟩
  | 116 => ⟨S3x5632, .f32⟩
  | 117 => ⟨S3x5632, .f32⟩
  | 118 => ⟨S_, .f32⟩
  | 119 => ⟨S8194x5632, .f32⟩
  | 120 => ⟨S8194x5632, .f32⟩
  | 121 => ⟨S8192x5632, .f32⟩
  | 122 => ⟨S_, .f32⟩
  | 123 => ⟨S5632, .f32⟩
  | 124 => ⟨S1x5632, .f32⟩
  | 125 => ⟨S8192x5632, .f32⟩
  | 126 => ⟨S8192x5632, .f32⟩
  | 127 => ⟨S_, .f32⟩
  | _ => ⟨S8192x1024, .f32⟩

abbrev hbmTy0_1 (i : Nat) : BufTy := match i % 128 with
  | 0 => ⟨S5632, .f32⟩
  | 1 => ⟨S1x5632, .f32⟩
  | 2 => ⟨S_, .f32⟩
  | 3 => ⟨S3x5632, .f32⟩
  | 4 => ⟨S3x5632, .f32⟩
  | 5 => ⟨S_, .f32⟩
  | 6 => ⟨S8194x5632, .f32⟩
  | 7 => ⟨S8194x5632, .f32⟩
  | 8 => ⟨S2x5632, .f32⟩
  | 9 => ⟨S8192x5632, .f32⟩
  | 10 => ⟨S5632x1024, .f32⟩
  | 11 => ⟨S1024x5632, .f32⟩
  | 12 => ⟨S8192x1024, .f32⟩
  | 13 => ⟨S8192x2816, .f32⟩
  | 14 => ⟨S8192x2816, .bf16⟩
  | 15 => ⟨S8192x2816, .f32⟩
  | 16 => ⟨S8192x2816, .bf16⟩
  | 17 => ⟨S1024x2816, .f32⟩
  | 18 => ⟨S2816x1024, .f32⟩
  | 19 => ⟨S2816x1024, .bf16⟩
  | 20 => ⟨S1024x2816, .f32⟩
  | 21 => ⟨S2816x1024, .f32⟩
  | 22 => ⟨S2816x1024, .bf16⟩
  | 23 => ⟨S2816x1024, .bf16⟩
  | 24 => ⟨S3x2816, .f32⟩
  | 25 => ⟨S3x2816, .f32⟩
  | 26 => ⟨S1x2816, .f32⟩
  | 27 => ⟨S1x2816, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_cst_15 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_21 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_cst_23 : Ref sig .tc := ⟨.hbm, 130, rfl⟩
abbrev main_v100 : Ref sig .tc := ⟨.hbm, 131, rfl⟩
abbrev main_v101 : Ref sig .tc := ⟨.hbm, 132, rfl⟩
abbrev main_cst_24 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S8192x2816 : Shape := ⟨2, ![8192, 2816]⟩
abbrev S5632x1024 : Shape := ⟨2, ![5632, 1024]⟩
abbrev S512x2816 : Shape := ⟨2, ![512, 2816]⟩
abbrev S512x1024 : Shape := ⟨2, ![512, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 16
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x5632, .f32⟩
  | .hbm, ⟨7, _⟩ => ⟨S8192x5632, .bf16⟩
  | .hbm, ⟨8, _⟩ => ⟨S8192x2816, .bf16⟩
  | .hbm, ⟨9, _⟩ => ⟨S8192x2816, .bf16⟩
  | .hbm, ⟨10, _⟩ => ⟨S5632x1024, .f32⟩
  | .hbm, ⟨11, _⟩ => ⟨S5632x1024, .bf16⟩
  | .hbm, ⟨12, _⟩ => ⟨S8192x1024, .f32⟩
  | .hbm, ⟨13, _⟩ => ⟨S1x1024, .f32⟩
  | .hbm, ⟨14, _⟩ => ⟨S8192x1024, .bf16⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S_, .f32⟩
  | .hbm, ⟨88, _⟩ => ⟨S8192, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Kernel3.lean ====
abbrev S8192x512 : Shape := ⟨2, ![8192, 512]⟩
abbrev S1024x1024 : Shape := ⟨2, ![1024, 1024]⟩
abbrev S8192x1024 : Shape := ⟨2, ![8192, 1024]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S8192x1024, .bf16⟩
  | .hbm, ⟨7, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x2048 : Shape := ⟨2, ![1024, 2048]⟩
abbrev S8192x512 : Shape := ⟨2, ![8192, 512]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x1024, .bf16⟩
  | .hbm, ⟨11, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S8192x1024 : Shape := ⟨2, ![8192, 1024]⟩
abbrev S1024x2048 : Shape := ⟨2, ![1024, 2048]⟩
abbrev S8192x512 : Shape := ⟨2, ![8192, 512]⟩
abbrev S8192x2048 : Shape := ⟨2, ![8192, 2048]⟩
abbrev S2048x1024 : Shape := ⟨2, ![2048, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x2048, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x2048, .f32⟩
  | .hbm, ⟨12, _⟩ => ⟨S2048x1024, .f32⟩
  | .hbm, ⟨13, _⟩ => ⟨S1024x2048, .f32⟩
  | .hbm, ⟨14, _⟩ => ⟨S2048x1024, .f32⟩
  | .hbm, ⟨15, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel6.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S2048x1024, .f32⟩
  | .hbm, ⟨4, _⟩ => ⟨S2048x1024, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Arrays.lean ====
/- THE ARRAYS THE CALL LEAVES. Each of the nine output arrays is tiled by the blocks the grid points write back, so it
   holds at an index what the point that writes that index's block leaves there; and the frame's run, read so. -/
module

public import proofs.«01_k».proof.Proof.Gen.KernelIdeal.Frame
public import Idealize.ShloMosaic.Lib.Pipeline.Value

@[expose] public section

noncomputable section

namespace Cert.KernelIdeal.Arrays

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What equal points leave is the same (the bound's proof does not enter). -/
theorem outs_congr (c : Dev nD) : ∀ (j : ℕ) (h : j < cfg0.N) (j' : ℕ) (h' : j' < cfg0.N), j = j' →
    outsAt0 m c j h = outsAt0 m c j' h' := by
  intro j h j' h' hj; subst hj; rfl

/-! ## Output window 12 -/

/-- The block of the array that holds index `i`, numbered in the order the points write the blocks back (one per point),
    `i`'s place in it, and the point that writes it back. -/
abbrev run12Of (i : S8192x2816.Idx) : ℕ := 1 * ((i 0).val / 2048 - 0) + 4 * ((i 1).val / 256 - 0)
set_option backward.proofsInPublic true in
abbrev loc12Of (i : S8192x2816.Idx) : S2048x256.Idx := fun a => match a with
  | ⟨0, _⟩ => ⟨(i 0).val % 2048, Nat.mod_lt _ (by decide)⟩
  | ⟨1, _⟩ => ⟨(i 1).val % 256, Nat.mod_lt _ (by decide)⟩
abbrev pt12Of (i : S8192x2816.Idx) : ℕ := run12Of i

/-- WHAT THE ARRAY ENDS HOLDING at index `i` inside the box the flushing blocks fill: output 12's component of what the
    point leaves (`outsAt0`) at the point that writes `i`'s block back, at `i`'s place in the block. `G12` states the array's contents
    only inside the box. -/
def G12 (c : Dev nD) : Buf (Elt F) ((c : Thread nD τ).loc main_v36_0) := fun i =>
  if h : pt12Of i < cfg0.N then
    (outsAt0 m c (pt12Of i) h).1 (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 2) ∧ win0_12.index t (0 : Fin 2) ≤ 3
    ∧ 0 ≤ win0_12.index t (1 : Fin 2) ∧ win0_12.index t (1 : Fin 2) ≤ 10
    ∧ 1 * (win0_12.index t (0 : Fin 2) - 0) + 4 * (win0_12.index t (1 : Fin 2) - 0) = t.val :=
  (by decide +kernel : ∀ t : Fin grid0.N, _)

/-- Every block of the box is SOME flushing point's: `onto12Pt`, the point that writes back the block at place `q` of the box. -/
abbrev onto12Pt (q0 : Fin 4) (q1 : Fin 11) : Fin grid0.N :=
  ⟨1 * q0.val + 4 * q1.val, lt_of_lt_of_eq (by omega) N_0.symm⟩
theorem idx_onto12 : ∀ (q0 : Fin 4) (q1 : Fin 11), ∃ t : Fin cfg0.N, (cfg0.win 12).flush t = true ∧ win0_12.index t = ![q0.val + 0, q1.val + 0] :=
  fun q0 q1 => ⟨onto12Pt q0 q1, (by decide +kernel : ∀ (q0 : Fin 4) (q1 : Fin 11), win0_12.flush (onto12Pt q0 q1) = true ∧ win0_12.index (onto12Pt q0 q1) = ![q0.val + 0, q1.val + 0]) q0 q1⟩

/-- WHAT A FLUSHING POINT `t` WRITES BACK is block `t` of `G12`: output 12's component of what `t` leaves. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12]
  obtain ⟨e0, e1, e2⟩ := idx_facts12 t
  funext y
  have hy0 : (y 0).val < 2048 := (y 0).isLt
  have hy1 : (y 1).val < 256 := (y 1).isLt
  have hb0 : (((cfg0.win 12).blk t).view.emb y 0).val = win0_12.index t (0 : Fin 2) * 2048 + 1 * (y 0).val := rfl
  have hb1 : (((cfg0.win 12).blk t).view.emb y 1).val = win0_12.index t (1 : Fin 2) * 256 + 1 * (y 1).val := rfl
  have hr : run12Of (((cfg0.win 12).blk t).view.emb y) = t.val := by
    show 1 * ((((cfg0.win 12).blk t).view.emb y 0).val / 2048 - 0) + 4 * ((((cfg0.win 12).blk t).view.emb y 1).val / 256 - 0) = _
    rw [hb0, hb1]
    rw [show (win0_12.index t (0 : Fin 2) * 2048 + 1 * (y 0).val) / 2048 = win0_12.index t (0 : Fin 2) from by omega]; rw [show (win0_12.index t (1 : Fin 2) * 256 + 1 * (y 1).val) / 256 = win0_12.index t (1 : Fin 2) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 2048 = (y 0).val; rw [hb0]; omega
    | ⟨1, _⟩ => show (((cfg0.win 12).blk t).view.emb y 1).val % 256 = (y 1).val; rw [hb1]; omega
  have hp : pt12Of (((cfg0.win 12).blk t).view.emb y) = t.val := by
    exact hr
  show (outsAt0 m c t.val t.isLt).1 ((cfg0.win 12).xinj (grid0.coords t) y) = G12 m c (((cfg0.win 12).blk t).view.emb y)
  unfold G12
  rw [dif_pos (by rw [hp]; exact t.isLt), hl, outs_congr m c _ _ _ _ hp.symm]

/-- An index of the array is in point `t`'s block iff each coordinate is in the block's range on its axis. -/
theorem mem_blk12 (t : Fin cfg0.N) (i : S8192x2816.Idx) :
    i ∈ ((cfg0.win 12).blk t).view.set ↔ ∀ a : Fin 2, win0_12.index t a * S2048x256.size a ≤ (i a).val ∧ (i a).val < win0_12.index t a * S2048x256.size a + S2048x256.size a := by
  show i ∈ ((View.whole main_v36_0).slice (win0_12.rect t)).set ↔ _
  rw [View.set_slice_whole, Rect.mem_set_unit]
  exact Iff.rfl

/-- THE COVERED INDICES: in some flushing point's block iff inside the box those blocks fill. -/
theorem covered_iff12 (i : S8192x2816.Idx) :
    (∃ t : Fin cfg0.N, (cfg0.win 12).flush t = true ∧ i ∈ ((cfg0.win 12).blk t).view.set) ↔ 0 ≤ (i 0).val ∧ (i 0).val < 8192 ∧ 0 ≤ (i 1).val ∧ (i 1).val < 2816 := by
  constructor
  · rintro ⟨t, -, hi⟩
    rw [mem_blk12] at hi
    have b0 : win0_12.index t (0 : Fin 2) * 2048 ≤ (i 0).val ∧ (i 0).val < win0_12.index t (0 : Fin 2) * 2048 + 2048 := hi 0
    have b1 : win0_12.index t (1 : Fin 2) * 256 ≤ (i 1).val ∧ (i 1).val < win0_12.index t (1 : Fin 2) * 256 + 256 := hi 1
    obtain ⟨e0, e1, e2⟩ := idx_facts12 t
    omega
  · intro h
    have hi0 : (i 0).val < 8192 := (i 0).isLt
    have hi1 : (i 1).val < 2816 := (i 1).isLt
    obtain ⟨t, hft, ht⟩ := idx_onto12 ⟨(i 0).val / 2048 - 0, by omega⟩ ⟨(i 1).val / 256 - 0, by omega⟩
    have q0 : win0_12.index t (0 : Fin 2) = (i 0).val / 2048 - 0 + 0 := congrFun ht 0
    have q1 : win0_12.index t (1 : Fin 2) = (i 1).val / 256 - 0 + 0 := congrFun ht 1
    refine ⟨t, hft, ?_⟩
    rw [mem_blk12]
    intro a
    match a with
    | ⟨0, _⟩ => show win0_12.index t (0 : Fin 2) * 2048 ≤ (i 0).val ∧ (i 0).val < win0_12.index t (0 : Fin 2) * 2048 + 2048; omega
    | ⟨1, _⟩ => show win0_12.index t (1 : Fin 2) * 256 ≤ (i 1).val ∧ (i 1).val < win0_12.index t (1 : Fin 2) * 256 + 256; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 8192 := (i 0).isLt; have h1 : (i 1).val < 2816 := (i 1).isLt; omega))

/-! ## Output window 13 -/

/-- The block of the array that holds index `i`, numbered in the order the points write the blocks back (one per point),
    `i`'s place in it, and the point that writes it back. -/
abbrev run13Of (i : S8192x2816.Idx) : ℕ := 1 * ((i 0).val / 2048 - 0) + 4 * ((i 1).val / 256 - 0)
set_option backward.proofsInPublic true in
abbrev loc13Of (i : S8192x2816.Idx) : S2048x256.Idx := fun a => match a with
  | ⟨0, _⟩ => ⟨(i 0).val % 2048, Nat.mod_lt _ (by decide)⟩
  | ⟨1, _⟩ => ⟨(i 1).val % 256, Nat.mod_lt _ (by decide)⟩
abbrev pt13Of (i : S8192x2816.Idx) : ℕ := run13Of i

/-- WHAT THE ARRAY ENDS HOLDING at index `i` inside the box the flushing blocks fill: output 13's component of what the
    point leaves (`outsAt0`) at the point that writes `i`'s block back, at `i`'s place in the block. `G13` states the array's contents
    only inside the box. -/
def G13 (c : Dev nD) : Buf (Elt F) ((c : Thread nD τ).loc main_v36_1) := fun i =>
  if h : pt13Of i < cfg0.N then
    (outsAt0 m c (pt13Of i) h).2.1 (loc13Of i)
  else V m c (Pipeline.arrRef spec0 13) i

/-- The printed index map, decided over the grid: output window 13's block indices stay in the box, and the block number
    read off them is the point's (`t`). -/
theorem idx_facts13 : ∀ t : Fin cfg0.N, 0 ≤ win0_13.index t (0 : Fin 2) ∧ win0_13.index t (0 : Fin 2) ≤ 3
    ∧ 0 ≤ win0_13.index t (1 : Fin 2) ∧ win0_13.index t (1 : Fin 2) ≤ 10
    ∧ 1 * (win0_13.index t (0 : Fin 2) - 0) + 4 * (win0_13.index t (1 : Fin 2) - 0) = t.val :=
  (by decide +kernel : ∀ t : Fin grid0.N, _)

/-- Every block of the box is SOME flushing point's: `onto13Pt`, the point that writes back the block at place `q` of the box. -/
abbrev onto13Pt (q0 : Fin 4) (q1 : Fin 11) : Fin grid0.N :=
  ⟨1 * q0.val + 4 * q1.val, lt_of_lt_of_eq (by omega) N_0.symm⟩
theorem idx_onto13 : ∀ (q0 : Fin 4) (q1 : Fin 11), ∃ t : Fin cfg0.N, (cfg0.win 13).flush t = true ∧ win0_13.index t = ![q0.val + 0, q1.val + 0] :=
  fun q0 q1 => ⟨onto13Pt q0 q1, (by decide +kernel : ∀ (q0 : Fin 4) (q1 : Fin 11), win0_13.flush (onto13Pt q0 q1) = true ∧ win0_13.index (onto13Pt q0 q1) = ![q0.val + 0, q1.val + 0]) q0 q1⟩

/-- WHAT A FLUSHING POINT `t` WRITES BACK is block `t` of `G13`: output 13's component of what `t` leaves. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13]
  obtain ⟨e0, e1, e2⟩ := idx_facts13 t
  funext y
  have hy0 : (y 0).val < 2048 := (y 0).isLt
  have hy1 : (y 1).val < 256 := (y 1).isLt
  have hb0 : (((cfg0.win 13).blk t).view.emb y 0).val = win0_13.index t (0 : Fin 2) * 2048 + 1 * (y 0).val := rfl
  have hb1 : (((cfg0.win 13).blk t).view.emb y 1).val = win0_13.index t (1 : Fin 2) * 256 + 1 * (y 1).val := rfl
  have hr : run13Of (((cfg0.win 13).blk t).view.emb y) = t.val := by
    show 1 * ((((cfg0.win 13).blk t).view.emb y 0).val / 2048 - 0) + 4 * ((((cfg0.win 13).blk t).view.emb y 1).val / 256 - 0) = _
    rw [hb0, hb1]
    rw [show (win0_13.index t (0 : Fin 2) * 2048 + 1 * (y 0).val) / 2048 = win0_13.index t (0 : Fin 2) from by omega]; rw [show (win0_13.index t (1 : Fin 2) * 256 + 1 * (y 1).val) / 256 = win0_13.index t (1 : Fin 2) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 2048 = (y 0).val; rw [hb0]; omega
    | ⟨1, _⟩ => show (((cfg0.win 13).blk t).view.emb y 1).val % 256 = (y 1).val; rw [hb1]; omega
  have hp : pt13Of (((cfg0.win 13).blk t).view.emb y) = t.val := by
    exact hr
  show (outsAt0 m c t.val t.isLt).2.1 ((cfg0.win 13).xinj (grid0.coords t) y) = G13 m c (((cfg0.win 13).blk t).view.emb y)
  unfold G13
  rw [dif_pos (by rw [hp]; exact t.isLt), hl, outs_congr m c _ _ _ _ hp.symm]

/-- An index of the array is in point `t`'s block iff each coordinate is in the block's range on its axis. -/
theorem mem_blk13 (t : Fin cfg0.N) (i : S8192x2816.Idx) :
    i ∈ ((cfg0.win 13).blk t).view.set ↔ ∀ a : Fin 2, win0_13.index t a * S2048x256.size a ≤ (i a).val ∧ (i a).val < win0_13.index t a * S2048x256.size a + S2048x256.size a := by
  show i ∈ ((View.whole main_v36_1).slice (win0_13.rect t)).set ↔ _
  rw [View.set_slice_whole, Rect.mem_set_unit]
  exact Iff.rfl

/-- THE COVERED INDICES: in some flushing point's block iff inside the box those blocks fill. -/
theorem covered_iff13 (i : S8192x2816.Idx) :
    (∃ t : Fin cfg0.N, (cfg0.win 13).flush t = true ∧ i ∈ ((cfg0.win 13).blk t).view.set) ↔ 0 ≤ (i 0).val ∧ (i 0).val < 8192 ∧ 0 ≤ (i 1).val ∧ (i 1).val < 2816 := by
  constructor
  · rintro ⟨t, -, hi⟩
    rw [mem_blk13] at hi
    have b0 : win0_13.index t (0 : Fin 2) * 2048 ≤ (i 0).val ∧ (i 0).val < win0_13.index t (0 : Fin 2) * 2048 + 2048 := hi 0
    have b1 : win0_13.index t (1 : Fin 2) * 256 ≤ (i 1).val ∧ (i 1).val < win0_13.index t (1 : Fin 2) * 256 + 256 := hi 1
    obtain ⟨e0, e1, e2⟩ := idx_facts13 t
    omega
  · intro h
    have hi0 : (i 0).val < 8192 := (i 0).isLt
    have hi1 : (i 1).val < 2816 := (i 1).isLt
    obtain ⟨t, hft, ht⟩ := idx_onto13 ⟨(i 0).val / 2048 - 0, by omega⟩ ⟨(i 1).val / 256 - 0, by omega⟩
    have q0 : win0_13.index t (0 : Fin 2) = (i 0).val / 2048 - 0 + 0 := congrFun ht 0
    have q1 : win0_13.index t (1 : Fin 2) = (i 1).val / 256 - 0 + 0 := congrFun ht 1
    refine ⟨t, hft, ?_⟩
    rw [mem_blk13]
    intro a
    match a with
    | ⟨0, _⟩ => show win0_13.index t (0 : Fin 2) * 2048 ≤ (i 0).val ∧ (i 0).val < win0_13.index t (0 : Fin 2) * 2048 + 2048; omega
    | ⟨1, _⟩ => show win0_13.index t (1 : Fin 2) * 256 ≤ (i 1).val ∧ (i 1).val < win0_13.index t (1 : Fin 2) * 256 + 256; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 8192 := (i 0).isLt; have h1 : (i 1).val < 2816 := (i 1).isLt; omega))

/-! ## Output window 14 -/

/-- The block of the array that holds index `i`, numbered in the order the points write the blocks back (one every 4 points),
    `i`'s place in it, and the point that writes it back (the last of its 4). -/
abbrev run14Of (i : S2816x1024.Idx) : ℕ := 1 * ((i 0).val / 256 - 0) + 1 * ((i 1).val / 1024 - 0)
set_option backward.proofsInPublic true in
abbrev loc14Of (i : S2816x1024.Idx) : S256x1024.Idx := fun a => match a with
  | ⟨0, _⟩ => ⟨(i 0).val % 256, Nat.mod_lt _ (by decide)⟩
  | ⟨1, _⟩ => ⟨(i 1).val % 1024, Nat.mod_lt _ (by decide)⟩
abbrev pt14Of (i : S2816x1024.Idx) : ℕ := 4 * run14Of i + 3

/-- WHAT THE ARRAY ENDS HOLDING at index `i` inside the box the flushing blocks fill: output 14's component of what the
    point leaves (`outsAt0`) at the point that writes `i`'s block back, at `i`'s place in the block. `G14` states the array's contents
    only inside the box. -/
def G14 (c : Dev nD) : Buf (Elt F) ((c : Thread nD τ).loc main_v36_2) := fun i =>
  if h : pt14Of i < cfg0.N then
    (outsAt0 m c (pt14Of i) h).2.2.1 (loc14Of i)
  else V m c (Pipeline.arrRef spec0 14) i

/-- The printed index map, decided over the grid: output window 14's block indices stay in the box, and the block number
    read off them is the point's (`t / 4`). -/
theorem idx_facts14 : ∀ t : Fin cfg0.N, 0 ≤ win0_14.index t (0 : Fin 2) ∧ win0_14.index t (0 : Fin 2) ≤ 10
    ∧ 0 ≤ win0_14.index t (1 : Fin 2) ∧ win0_14.index t (1 : Fin 2) ≤ 0
    ∧ 1 * (win0_14.index t (0 : Fin 2) - 0) + 1 * (win0_14.index t (1 : Fin 2) - 0) = t.val / 4 :=
  (by decide +kernel : ∀ t : Fin grid0.N, _)

/-- Every block of the box is SOME flushing point's: `onto14Pt`, the point that writes back the block at place `q` of the box (the last point of its run). -/
abbrev onto14Pt (q0 : Fin 11) (q1 : Fin 1) : Fin grid0.N :=
  ⟨4 * (1 * q0.val + 1 * q1.val) + 3, lt_of_lt_of_eq (by omega) N_0.symm⟩
theorem idx_onto14 : ∀ (q0 : Fin 11) (q1 : Fin 1), ∃ t : Fin cfg0.N, (cfg0.win 14).flush t = true ∧ win0_14.index t = ![q0.val + 0, q1.val + 0] :=
  fun q0 q1 => ⟨onto14Pt q0 q1, (by decide +kernel : ∀ (q0 : Fin 11) (q1 : Fin 1), win0_14.flush (onto14Pt q0 q1) = true ∧ win0_14.index (onto14Pt q0 q1) = ![q0.val + 0, q1.val + 0]) q0 q1⟩

/-- WHAT A FLUSHING POINT `t` WRITES BACK is block `t` of `G14`: output 14's component of what `t` leaves. -/
theorem flushed14_eq (c : Dev nD) (t : Fin cfg0.N) (hf : (cfg0.win 14).flush t = true) :
    (dats m 0 c).flushed 14 t = ((cfg0.win 14).blk t).view.read (Elt F) (G14 m c) := by
  show (cfg0.win 14).cut (grid0.coords t) ((dats m 0 c).after 14 t) = _
  rw [after0_14]
  have hm : t.val % 4 = 3 := (flush0_14 t).mp hf
  obtain ⟨e0, e1, e2⟩ := idx_facts14 t
  funext y
  have hy0 : (y 0).val < 256 := (y 0).isLt
  have hy1 : (y 1).val < 1024 := (y 1).isLt
  have hb0 : (((cfg0.win 14).blk t).view.emb y 0).val = win0_14.index t (0 : Fin 2) * 256 + 1 * (y 0).val := rfl
  have hb1 : (((cfg0.win 14).blk t).view.emb y 1).val = win0_14.index t (1 : Fin 2) * 1024 + 1 * (y 1).val := rfl
  have hr : run14Of (((cfg0.win 14).blk t).view.emb y) = t.val / 4 := by
    show 1 * ((((cfg0.win 14).blk t).view.emb y 0).val / 256 - 0) + 1 * ((((cfg0.win 14).blk t).view.emb y 1).val / 1024 - 0) = _
    rw [hb0, hb1]
    rw [show (win0_14.index t (0 : Fin 2) * 256 + 1 * (y 0).val) / 256 = win0_14.index t (0 : Fin 2) from by omega]; rw [show (win0_14.index t (1 : Fin 2) * 1024 + 1 * (y 1).val) / 1024 = win0_14.index t (1 : Fin 2) from by omega]
    omega
  have hl : loc14Of (((cfg0.win 14).blk t).view.emb y) = (cfg0.win 14).xinj (grid0.coords t) y := by
    funext a; apply Fin.ext
    match a with
    | ⟨0, _⟩ => show (((cfg0.win 14).blk t).view.emb y 0).val % 256 = (y 0).val; rw [hb0]; omega
    | ⟨1, _⟩ => show (((cfg0.win 14).blk t).view.emb y 1).val % 1024 = (y 1).val; rw [hb1]; omega
  have hp : pt14Of (((cfg0.win 14).blk t).view.emb y) = t.val := by
    show 4 * run14Of (((cfg0.win 14).blk t).view.emb y) + 3 = _
    rw [hr]; have := Nat.div_add_mod t.val 4; omega
  show (outsAt0 m c t.val t.isLt).2.2.1 ((cfg0.win 14).xinj (grid0.coords t) y) = G14 m c (((cfg0.win 14).blk t).view.emb y)
  unfold G14
  rw [dif_pos (by rw [hp]; exact t.isLt), hl, outs_congr m c _ _ _ _ hp.symm]

/-- An index of the array is in point `t`'s block iff each coordinate is in the block's range on its axis. -/
theorem mem_blk14 (t : Fin cfg0.N) (i : S2816x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v36_2).slice (win0_14.rect t)).set ↔ _
  rw [View.set_slice_whole, Rect.mem_set_unit]
  exact Iff.rfl

/-- THE COVERED INDICES: in some flushing point's block iff inside the box those blocks fill. -/
theorem covered_iff14 (i : S2816x1024.Idx) :
    (∃ t : Fin cfg0.N, (cfg0.win 14).flush t = true ∧ i ∈ ((cfg0.win 14).blk t).view.set) ↔ 0 ≤ (i 0).val ∧ (i 0).val < 2816 ∧ 0 ≤ (i 1).val ∧ (i 1).val < 1024 := by
  constructor
  · rintro ⟨t, -, hi⟩
    rw [mem_blk14] at hi
    have b0 : win0_14.index t (0 : Fin 2) * 256 ≤ (i 0).val ∧ (i 0).val < win0_14.index t (0 : Fin 2) * 256 + 256 := hi 0
    have b1 : win0_14.index t (1 : Fin 2) * 1024 ≤ (i 1).val ∧ (i 1).val < win0_14.index t (1 : Fin 2) * 1024 + 1024 := hi 1
    obtain ⟨e0, e1, e2⟩ := idx_facts14 t
    omega
  · intro h
    have hi0 : (i 0).val < 2816 := (i 0).isLt
    have hi1 : (i 1).val < 1024 := (i 1).isLt
    obtain ⟨t, hft, ht⟩ := idx_onto14 ⟨(i 0).val / 256 - 0, by omega⟩ ⟨(i 1).val / 1024 - 0, by omega⟩
    have q0 : win0_14.index t (0 : Fin 2) = (i 0).val / 256 - 0 + 0 := congrFun ht 0
    have q1 : win0_14.index t (1 : Fin 2) = (i 1).val / 1024 - 0 + 0 := congrFun ht 1
    refine ⟨t, hft, ?_⟩
    rw [mem_blk14]
    intro a
    match a with
    | ⟨0, _⟩ => show win0_14.index t (0 : Fin 2) * 256 ≤ (i 0).val ∧ (i 0).val < win0_14.index t (0 : Fin 2) * 256 + 256; omega
    | ⟨1, _⟩ => show win0_14.index t (1 : Fin 2) * 1024 ≤ (i 1).val ∧ (i 1).val < win0_14.index t (1 : Fin 2) * 1024 + 1024; omega

/-- THE ARRAY after the run: `G14` (the flushing blocks tile it). -/
theorem final14 (c : Dev nD) : (dats m 0 c).arrAt 14 cfg0.N = G14 m c :=
  (dats m 0 c).arrAt_eq_of_cover 14 _ (fun t hf => flushed14_eq m c t hf) (fun i => (covered_iff14 i).2 (by
    have h0 : (i 0).val < 2816 := (i 0).isLt; have h1 : (i 1).val < 1024 := (i 1).isLt; omega))

/-! ## Output window 15 -/

/-- The block of the array that holds index `i`, numbered in the order the points write the blocks back (one every 4 points),
    `i`'s place in it, and the point that writes it back (the last of its 4). -/
abbrev run15Of (i : S2816x1024.Idx) : ℕ := 1 * ((i 0).val / 256 - 0) + 1 * ((i 1).val / 1024 - 0)
set_option backward.proofsInPublic true in
abbrev loc15Of (i : S2816x1024.Idx) : S256x1024.Idx := fun a => match a with
  | ⟨0, _⟩ => ⟨(i 0).val % 256, Nat.mod_lt _ (by decide)⟩
  | ⟨1, _⟩ => ⟨(i 1).val % 1024, Nat.mod_lt _ (by decide)⟩
abbrev pt15Of (i : S2816x1024.Idx) : ℕ := 4 * run15Of i + 3

/-- WHAT THE ARRAY ENDS HOLDING at index `i` inside the box the flushing blocks fill: output 15's component of what the
    point leaves (`outsAt0`) at the point that writes `i`'s block back, at `i`'s place in the block. `G15` states the array's contents
    only inside the box. -/
def G15 (c : Dev nD) : Buf (Elt F) ((c : Thread nD τ).loc main_v36_3) := fun i =>
  if h : pt15Of i < cfg0.N then
    (outsAt0 m c (pt15Of i) h).2.2.2.1 (loc15Of i)
  else V m c (Pipeline.arrRef spec0 15) i

/-- The printed index map, decided over the grid: output window 15's block indices stay in the box, and the block number
    read off them is the point's (`t / 4`). -/
theorem idx_facts15 : ∀ t : Fin cfg0.N, 0 ≤ win0_15.index t (0 : Fin 2) ∧ win0_15.index t (0 : Fin 2) ≤ 10
    ∧ 0 ≤ win0_15.index t (1 : Fin 2) ∧ win0_15.index t (1 : Fin 2) ≤ 0
    ∧ 1 * (win0_15.index t (0 : Fin 2) - 0) + 1 * (win0_15.index t (1 : Fin 2) - 0) = t.val / 4 :=
  (by decide +kernel : ∀ t : Fin grid0.N, _)

/-- Every block of the box is SOME flushing point's: `onto15Pt`, the point that writes back the block at place `q` of the box (the last point of its run). -/
abbrev onto15Pt (q0 : Fin 11) (q1 : Fin 1) : Fin grid0.N :=
  ⟨4 * (1 * q0.val + 1 * q1.val) + 3, lt_of_lt_of_eq (by omega) N_0.symm⟩
theorem idx_onto15 : ∀ (q0 : Fin 11) (q1 : Fin 1), ∃ t : Fin cfg0.N, (cfg0.win 15).flush t = true ∧ win0_15.index t = ![q0.val + 0, q1.val + 0] :=
  fun q0 q1 => ⟨onto15Pt q0 q1, (by decide +kernel : ∀ (q0 : Fin 11) (q1 : Fin 1), win0_15.flush (onto15Pt q0 q1) = true ∧ win0_15.index (onto15Pt q0 q1) = ![q0.val + 0, q1.val + 0]) q0 q1⟩

/-- WHAT A FLUSHING POINT `t` WRITES BACK is block `t` of `G15`: output 15's component of what `t` leaves. -/
theorem flushed15_eq (c : Dev nD) (t : Fin cfg0.N) (hf : (cfg0.win 15).flush t = true) :
    (dats m 0 c).flushed 15 t = ((cfg0.win 15).blk t).view.read (Elt F) (G15 m c) := by
  show (cfg0.win 15).cut (grid0.coords t) ((dats m 0 c).after 15 t) = _
  rw [after0_15]
  have hm : t.val % 4 = 3 := (flush0_15 t).mp hf
  obtain ⟨e0, e1, e2⟩ := idx_facts15 t
  funext y
  have hy0 : (y 0).val < 256 := (y 0).isLt
  have hy1 : (y 1).val < 1024 := (y 1).isLt
  have hb0 : (((cfg0.win 15).blk t).view.emb y 0).val = win0_15.index t (0 : Fin 2) * 256 + 1 * (y 0).val := rfl
  have hb1 : (((cfg0.win 15).blk t).view.emb y 1).val = win0_15.index t (1 : Fin 2) * 1024 + 1 * (y 1).val := rfl
  have hr : run15Of (((cfg0.win 15).blk t).view.emb y) = t.val / 4 := by
    show 1 * ((((cfg0.win 15).blk t).view.emb y 0).val / 256 - 0) + 1 * ((((cfg0.win 15).blk t).view.emb y 1).val / 1024 - 0) = _
    rw [hb0, hb1]
    rw [show (win0_15.index t (0 : Fin 2) * 256 + 1 * (y 0).val) / 256 = win0_15.index t (0 : Fin 2) from by omega]; rw [show (win0_15.index t (1 : Fin 2) * 1024 + 1 * (y 1).val) / 1024 = win0_15.index t (1 : Fin 2) from by omega]
    omega
  have hl : loc15Of (((cfg0.win 15).blk t).view.emb y) = (cfg0.win 15).xinj (grid0.coords t) y := by
    funext a; apply Fin.ext
    match a with
    | ⟨0, _⟩ => show (((cfg0.win 15).blk t).view.emb y 0).val % 256 = (y 0).val; rw [hb0]; omega
    | ⟨1, _⟩ => show (((cfg0.win 15).blk t).view.emb y 1).val % 1024 = (y 1).val; rw [hb1]; omega
  have hp : pt15Of (((cfg0.win 15).blk t).view.emb y) = t.val := by
    show 4 * run15Of (((cfg0.win 15).blk t).view.emb y) + 3 = _
    rw [hr]; have := Nat.div_add_mod t.val 4; omega
  show (outsAt0 m c t.val t.isLt).2.2.2.1 ((cfg0.win 15).xinj (grid0.coords t) y) = G15 m c (((cfg0.win 15).blk t).view.emb y)
  unfold G15
  rw [dif_pos (by rw [hp]; exact t.isLt), hl, outs_congr m c _ _ _ _ hp.symm]

/-- An index of the array is in point `t`'s block iff each coordinate is in the block's range on its axis. -/
theorem mem_blk15 (t : Fin cfg0.N) (i : S2816x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v36_3).slice (win0_15.rect t)).set ↔ _
  rw [View.set_slice_whole, Rect.mem_set_unit]
  exact Iff.rfl

/-- THE COVERED INDICES: in some flushing point's block iff inside the box those blocks fill. -/
theorem covered_iff15 (i : S2816x1024.Idx) :
    (∃ t : Fin cfg0.N, (cfg0.win 15).flush t = true ∧ i ∈ ((cfg0.win 15).blk t).view.set) ↔ 0 ≤ (i 0).val ∧ (i 0).val < 2816 ∧ 0 ≤ (i 1).val ∧ (i 1).val < 1024 := by
  constructor
  · rintro ⟨t, -, hi⟩
    rw [mem_blk15] at hi
    have b0 : win0_15.index t (0 : Fin 2) * 256 ≤ (i 0).val ∧ (i 0).val < win0_15.index t (0 : Fin 2) * 256 + 256 := hi 0
    have b1 : win0_15.index t (1 : Fin 2) * 1024 ≤ (i 1).val ∧ (i 1).val < win0_15.index t (1 : Fin 2) * 1024 + 1024 := hi 1
    obtain ⟨e0, e1, e2⟩ := idx_facts15 t
    omega
  · intro h
    have hi0 : (i 0).val < 2816 := (i 0).isLt
    have hi1 : (i 1).val < 1024 := (i 1).isLt
    obtain ⟨t, hft, ht⟩ := idx_onto15 ⟨(i 0).val / 256 - 0, by omega⟩ ⟨(i 1).val / 1024 - 0, by omega⟩
    have q0 : win0_15.index t (0 : Fin 2) = (i 0).val / 256 - 0 + 0 := congrFun ht 0
    have q1 : win0_15.index t (1 : Fin 2) = (i 1).val / 1024 - 0 + 0 := congrFun ht 1
    refine ⟨t, hft, ?_⟩
    rw [mem_blk15]
    intro a
    match a with
    | ⟨0, _⟩ => show win0_15.index t (0 : Fin 2) * 256 ≤ (i 0).val ∧ (i 0).val < win0_15.index t (0 : Fin 2) * 256 + 256; omega
    | ⟨1, _⟩ => show win0_15.index t (1 : Fin 2) * 1024 ≤ (i 1).val ∧ (i 1).val < win0_15.index t (1 : Fin 2) * 1024 + 1024; omega

/-- THE ARRAY after the run: `G15` (the flushing blocks tile it). -/
theorem final15 (c : Dev nD) : (dats m 0 c).arrAt 15 cfg0.N = G15 m c :=
  (dats m 0 c).arrAt_eq_of_cover 15 _ (fun t hf => flushed15_eq m c t hf) (fun i => (covered_iff15 i).2 (by
    have h0 : (i 0).val < 2816 := (i 0).isLt; have h1 : (i 1).val < 1024 := (i 1).isLt; omega))

/-! ## Output window 16 -/

/-- The block of the array that holds index `i`, numbered in the order the points write the blocks back (one every 4 points),
    `i`'s place in it, and the point that writes it back (the last of its 4). -/
abbrev run16Of (i : S2816x1024.Idx) : ℕ := 1 * ((i 0).val / 256 - 0) + 1 * ((i 1).val / 1024 - 0)
set_option backward.proofsInPublic true in
abbrev loc16Of (i : S2816x1024.Idx) : S256x1024.Idx := fun a => match a with
  | ⟨0, _⟩ => ⟨(i 0).val % 256, Nat.mod_lt _ (by decide)⟩
  | ⟨1, _⟩ => ⟨(i 1).val % 1024, Nat.mod_lt _ (by decide)⟩
abbrev pt16Of (i : S2816x1024.Idx) : ℕ := 4 * run16Of i + 3

/-- WHAT THE ARRAY ENDS HOLDING at index `i` inside the box the flushing blocks fill: output 16's component of what the
    point leaves (`outsAt0`) at the point that writes `i`'s block back, at `i`'s place in the block. `G16` states the array's contents
    only inside the box. -/
def G16 (c : Dev nD) : Buf (Elt F) ((c : Thread nD τ).loc main_v36_4) := fun i =>
  if h : pt16Of i < cfg0.N then
    (outsAt0 m c (pt16Of i) h).2.2.2.2.1 (loc16Of i)
  else V m c (Pipeline.arrRef spec0 16) i

/-- The printed index map, decided over the grid: output window 16's block indices stay in the box, and the block number
    read off them is the point's (`t / 4`). -/
theorem idx_facts16 : ∀ t : Fin cfg0.N, 0 ≤ win0_16.index t (0 : Fin 2) ∧ win0_16.index t (0 : Fin 2) ≤ 10
    ∧ 0 ≤ win0_16.index t (1 : Fin 2) ∧ win0_16.index t (1 : Fin 2) ≤ 0
    ∧ 1 * (win0_16.index t (0 : Fin 2) - 0) + 1 * (win0_16.index t (1 : Fin 2) - 0) = t.val / 4 :=
  (by decide +kernel : ∀ t : Fin grid0.N, _)

/-- Every block of the box is SOME flushing point's: `onto16Pt`, the point that writes back the block at place `q` of the box (the last point of its run). -/
abbrev onto16Pt (q0 : Fin 11) (q1 : Fin 1) : Fin grid0.N :=
  ⟨4 * (1 * q0.val + 1 * q1.val) + 3, lt_of_lt_of_eq (by omega) N_0.symm⟩
theorem idx_onto16 : ∀ (q0 : Fin 11) (q1 : Fin 1), ∃ t : Fin cfg0.N, (cfg0.win 16).flush t = true ∧ win0_16.index t = ![q0.val + 0, q1.val + 0] :=
  fun q0 q1 => ⟨onto16Pt q0 q1, (by decide +kernel : ∀ (q0 : Fin 11) (q1 : Fin 1), win0_16.flush (onto16Pt q0 q1) = true ∧ win0_16.index (onto16Pt q0 q1) = ![q0.val + 0, q1.val + 0]) q0 q1⟩

/-- WHAT A FLUSHING POINT `t` WRITES BACK is block `t` of `G16`: output 16's component of what `t` leaves. -/
theorem flushed16_eq (c : Dev nD) (t : Fin cfg0.N) (hf : (cfg0.win 16).flush t = true) :
    (dats m 0 c).flushed 16 t = ((cfg0.win 16).blk t).view.read (Elt F) (G16 m c) := by
  show (cfg0.win 16).cut (grid0.coords t) ((dats m 0 c).after 16 t) = _
  rw [after0_16]
  have hm : t.val % 4 = 3 := (flush0_16 t).mp hf
  obtain ⟨e0, e1, e2⟩ := idx_facts16 t
  funext y
  have hy0 : (y 0).val < 256 := (y 0).isLt
  have hy1 : (y 1).val < 1024 := (y 1).isLt
  have hb0 : (((cfg0.win 16).blk t).view.emb y 0).val = win0_16.index t (0 : Fin 2) * 256 + 1 * (y 0).val := rfl
  have hb1 : (((cfg0.win 16).blk t).view.emb y 1).val = win0_16.index t (1 : Fin 2) * 1024 + 1 * (y 1).val := rfl
  have hr : run16Of (((cfg0.win 16).blk t).view.emb y) = t.val / 4 := by
    show 1 * ((((cfg0.win 16).blk t).view.emb y 0).val / 256 - 0) + 1 * ((((cfg0.win 16).blk t).view.emb y 1).val / 1024 - 0) = _
    rw [hb0, hb1]
    rw [show (win0_16.index t (0 : Fin 2) * 256 + 1 * (y 0).val) / 256 = win0_16.index t (0 : Fin 2) from by omega]; rw [show (win0_16.index t (1 : Fin 2) * 1024 + 1 * (y 1).val) / 1024 = win0_16.index t (1 : Fin 2) from by omega]
    omega
  have hl : loc16Of (((cfg0.win 16).blk t).view.emb y) = (cfg0.win 16).xinj (grid0.coords t) y := by
    funext a; apply Fin.ext
    match a with
    | ⟨0, _⟩ => show (((cfg0.win 16).blk t).view.emb y 0).val % 256 = (y 0).val; rw [hb0]; omega
    | ⟨1, _⟩ => show (((cfg0.win 16).blk t).view.emb y 1).val % 1024 = (y 1).val; rw [hb1]; omega
  have hp : pt16Of (((cfg0.win 16).blk t).view.emb y) = t.val := by
    show 4 * run16Of (((cfg0.win 16).blk t).view.emb y) + 3 = _
    rw [hr]; have := Nat.div_add_mod t.val 4; omega
  show (outsAt0 m c t.val t.isLt).2.2.2.2.1 ((cfg0.win 16).xinj (grid0.coords t) y) = G16 m c (((cfg0.win 16).blk t).view.emb y)
  unfold G16
  rw [dif_pos (by rw [hp]; exact t.isLt), hl, outs_congr m c _ _ _ _ hp.symm]

/-- An index of the array is in point `t`'s block iff each coordinate is in the block's range on its axis. -/
theorem mem_blk16 (t : Fin cfg0.N) (i : S2816x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v36_4).slice (win0_16.rect t)).set ↔ _
  rw [View.set_slice_whole, Rect.mem_set_unit]
  exact Iff.rfl

/-- THE COVERED INDICES: in some flushing point's block iff inside the box those blocks fill. -/
theorem covered_iff16 (i : S2816x1024.Idx) :
    (∃ t : Fin cfg0.N, (cfg0.win 16).flush t = true ∧ i ∈ ((cfg0.win 16).blk t).view.set) ↔ 0 ≤ (i 0).val ∧ (i 0).val < 2816 ∧ 0 ≤ (i 1).val ∧ (i 1).val < 1024 := by
  constructor
  · rintro ⟨t, -, hi⟩
    rw [mem_blk16] at hi
    have b0 : win0_16.index t (0 : Fin 2) * 256 ≤ (i 0).val ∧ (i 0).val < win0_16.index t (0 : Fin 2) * 256 + 256 := hi 0
    have b1 : win0_16.index t (1 : Fin 2) * 1024 ≤ (i 1).val ∧ (i 1).val < win0_16.index t (1 : Fin 2) * 1024 + 1024 := hi 1
    obtain ⟨e0, e1, e2⟩ := idx_facts16 t
    omega
  · intro h
    have hi0 : (i 0).val < 2816 := (i 0).isLt
    have hi1 : (i 1).val < 1024 := (i 1).isLt
    obtain ⟨t, hft, ht⟩ := idx_onto16 ⟨(i 0).val / 256 - 0, by omega⟩ ⟨(i 1).val / 1024 - 0, by omega⟩
    have q0 : win0_16.index t (0 : Fin 2) = (i 0).val / 256 - 0 + 0 := congrFun ht 0
    have q1 : win0_16.index t (1 : Fin 2) = (i 1).val / 1024 - 0 + 0 := congrFun ht 1
    refine ⟨t, hft, ?_⟩
    rw [mem_blk16]
    intro a
    match a with
    | ⟨0, _⟩ => show win0_16.index t (0 : Fin 2) * 256 ≤ (i 0).val ∧ (i 0).val < win0_16.index t (0 : Fin 2) * 256 + 256; omega
    | ⟨1, _⟩ => show win0_16.index t (1 : Fin 2) * 1024 ≤ (i 1).val ∧ (i 1).val < win0_16.index t (1 : Fin 2) * 1024 + 1024; omega

/-- THE ARRAY after the run: `G16` (the flushing blocks tile it). -/
theorem final16 (c : Dev nD) : (dats m 0 c).arrAt 16 cfg0.N = G16 m c :=
  (dats m 0 c).arrAt_eq_of_cover 16 _ (fun t hf => flushed16_eq m c t hf) (fun i => (covered_iff16 i).2 (by
    have h0 : (i 0).val < 2816 := (i 0).isLt; have h1 : (i 1).val < 1024 := (i 1).isLt; omega))

/-! ## Output window 17 -/

/-- The block of the array that holds index `i`, numbered in the order the points write the blocks back (one every 4 points),
    `i`'s place in it, and the point that writes it back (the last of its 4). -/
abbrev run17Of (i : S3x2816.Idx) : ℕ := 11 * ((i 0).val / 3 - 0) + 1 * ((i 1).val / 256 - 0)
set_option backward.proofsInPublic true in
abbrev loc17Of (i : S3x2816.Idx) : S3x256.Idx := fun a => match a with
  | ⟨0, _⟩ => ⟨(i 0).val % 3, Nat.mod_lt _ (by decide)⟩
  | ⟨1, _⟩ => ⟨(i 1).val % 256, Nat.mod_lt _ (by decide)⟩
abbrev pt17Of (i : S3x2816.Idx) : ℕ := 4 * run17Of i + 3

/-- WHAT THE ARRAY ENDS HOLDING at index `i` inside the box the flushing blocks fill: output 17's component of what the
    point leaves (`outsAt0`) at the point that writes `i`'s block back, at `i`'s place in the block. `G17` states the array's contents
    only inside the box. -/
def G17 (c : Dev nD) : Buf (Elt F) ((c : Thread nD τ).loc main_v36_5) := fun i =>
  if h : pt17Of i < cfg0.N then
    (outsAt0 m c (pt17Of i) h).2.2.2.2.2.1 (loc17Of i)
  else V m c (Pipeline.arrRef spec0 17) i

/-- The printed index map, decided over the grid: output window 17's block indices stay in the box, and the block number
    read off them is the point's (`t / 4`). -/
theorem idx_facts17 : ∀ t : Fin cfg0.N, 0 ≤ win0_17.index t (0 : Fin 2) ∧ win0_17.index t (0 : Fin 2) ≤ 0
    ∧ 0 ≤ win0_17.index t (1 : Fin 2) ∧ win0_17.index t (1 : Fin 2) ≤ 10
    ∧ 11 * (win0_17.index t (0 : Fin 2) - 0) + 1 * (win0_17.index t (1 : Fin 2) - 0) = t.val / 4 :=
  (by decide +kernel : ∀ t : Fin grid0.N, _)

/-- Every block of the box is SOME flushing point's: `onto17Pt`, the point that writes back the block at place `q` of the box (the last point of its run). -/
abbrev onto17Pt (q0 : Fin 1) (q1 : Fin 11) : Fin grid0.N :=
  ⟨4 * (11 * q0.val + 1 * q1.val) + 3, lt_of_lt_of_eq (by omega) N_0.symm⟩
theorem idx_onto17 : ∀ (q0 : Fin 1) (q1 : Fin 11), ∃ t : Fin cfg0.N, (cfg0.win 17).flush t = true ∧ win0_17.index t = ![q0.val + 0, q1.val + 0] :=
  fun q0 q1 => ⟨onto17Pt q0 q1, (by decide +kernel : ∀ (q0 : Fin 1) (q1 : Fin 11), win0_17.flush (onto17Pt q0 q1) = true ∧ win0_17.index (onto17Pt q0 q1) = ![q0.val + 0, q1.val + 0]) q0 q1⟩

/-- WHAT A FLUSHING POINT `t` WRITES BACK is block `t` of `G17`: output 17's component of what `t` leaves. -/
theorem flushed17_eq (c : Dev nD) (t : Fin cfg0.N) (hf : (cfg0.win 17).flush t = true) :
    (dats m 0 c).flushed 17 t = ((cfg0.win 17).blk t).view.read (Elt F) (G17 m c) := by
  show (cfg0.win 17).cut (grid0.coords t) ((dats m 0 c).after 17 t) = _
  rw [after0_17]
  have hm : t.val % 4 = 3 := (flush0_17 t).mp hf
  obtain ⟨e0, e1, e2⟩ := idx_facts17 t
  funext y
  have hy0 : (y 0).val < 3 := (y 0).isLt
  have hy1 : (y 1).val < 256 := (y 1).isLt
  have hb0 : (((cfg0.win 17).blk t).view.emb y 0).val = win0_17.index t (0 : Fin 2) * 3 + 1 * (y 0).val := rfl
  have hb1 : (((cfg0.win 17).blk t).view.emb y 1).val = win0_17.index t (1 : Fin 2) * 256 + 1 * (y 1).val := rfl
  have hr : run17Of (((cfg0.win 17).blk t).view.emb y) = t.val / 4 := by
    show 11 * ((((cfg0.win 17).blk t).view.emb y 0).val / 3 - 0) + 1 * ((((cfg0.win 17).blk t).view.emb y 1).val / 256 - 0) = _
    rw [hb0, hb1]
    rw [show (win0_17.index t (0 : Fin 2) * 3 + 1 * (y 0).val) / 3 = win0_17.index t (0 : Fin 2) from by omega]; rw [show (win0_17.index t (1 : Fin 2) * 256 + 1 * (y 1).val) / 256 = win0_17.index t (1 : Fin 2) from by omega]
    omega
  have hl : loc17Of (((cfg0.win 17).blk t).view.emb y) = (cfg0.win 17).xinj (grid0.coords t) y := by
    funext a; apply Fin.ext
    match a with
    | ⟨0, _⟩ => show (((cfg0.win 17).blk t).view.emb y 0).val % 3 = (y 0).val; rw [hb0]; omega
    | ⟨1, _⟩ => show (((cfg0.win 17).blk t).view.emb y 1).val % 256 = (y 1).val; rw [hb1]; omega
  have hp : pt17Of (((cfg0.win 17).blk t).view.emb y) = t.val := by
    show 4 * run17Of (((cfg0.win 17).blk t).view.emb y) + 3 = _
    rw [hr]; have := Nat.div_add_mod t.val 4; omega
  show (outsAt0 m c t.val t.isLt).2.2.2.2.2.1 ((cfg0.win 17).xinj (grid0.coords t) y) = G17 m c (((cfg0.win 17).blk t).view.emb y)
  unfold G17
  rw [dif_pos (by rw [hp]; exact t.isLt), hl, outs_congr m c _ _ _ _ hp.symm]

/-- An index of the array is in point `t`'s block iff each coordinate is in the block's range on its axis. -/
theorem mem_blk17 (t : Fin cfg0.N) (i : S3x2816.Idx) :
    i ∈ ((cfg0.win 17).blk t).view.set ↔ ∀ a : Fin 2, win0_17.index t a * S3x256.size a ≤ (i a).val ∧ (i a).val < win0_17.index t a * S3x256.size a + S3x256.size a := by
  show i ∈ ((View.whole main_v36_5).slice (win0_17.rect t)).set ↔ _
  rw [View.set_slice_whole, Rect.mem_set_unit]
  exact Iff.rfl

/-- THE COVERED INDICES: in some flushing point's block iff inside the box those blocks fill. -/
theorem covered_iff17 (i : S3x2816.Idx) :
    (∃ t : Fin cfg0.N, (cfg0.win 17).flush t = true ∧ i ∈ ((cfg0.win 17).blk t).view.set) ↔ 0 ≤ (i 0).val ∧ (i 0).val < 3 ∧ 0 ≤ (i 1).val ∧ (i 1).val < 2816 := by
  constructor
  · rintro ⟨t, -, hi⟩
    rw [mem_blk17] at hi
    have b0 : win0_17.index t (0 : Fin 2) * 3 ≤ (i 0).val ∧ (i 0).val < win0_17.index t (0 : Fin 2) * 3 + 3 := hi 0
    have b1 : win0_17.index t (1 : Fin 2) * 256 ≤ (i 1).val ∧ (i 1).val < win0_17.index t (1 : Fin 2) * 256 + 256 := hi 1
    obtain ⟨e0, e1, e2⟩ := idx_facts17 t
    omega
  · intro h
    have hi0 : (i 0).val < 3 := (i 0).isLt
    have hi1 : (i 1).val < 2816 := (i 1).isLt
    obtain ⟨t, hft, ht⟩ := idx_onto17 ⟨(i 0).val / 3 - 0, by omega⟩ ⟨(i 1).val / 256 - 0, by omega⟩
    have q0 : win0_17.index t (0 : Fin 2) = (i 0).val / 3 - 0 + 0 := congrFun ht 0
    have q1 : win0_17.index t (1 : Fin 2) = (i 1).val / 256 - 0 + 0 := congrFun ht 1
    refine ⟨t, hft, ?_⟩
    rw [mem_blk17]
    intro a
    match a with
    | ⟨0, _⟩ => show win0_17.index t (0 : Fin 2) * 3 ≤ (i 0).val ∧ (i 0).val < win0_17.index t (0 : Fin 2) * 3 + 3; omega
    | ⟨1, _⟩ => show win0_17.index t (1 : Fin 2) * 256 ≤ (i 1).val ∧ (i 1).val < win0_17.index t (1 : Fin 2) * 256 + 256; omega

/-- THE ARRAY after the run: `G17` (the flushing blocks tile it). -/
theorem final17 (c : Dev nD) : (dats m 0 c).arrAt 17 cfg0.N = G17 m c :=
  (dats m 0 c).arrAt_eq_of_cover 17 _ (fun t hf => flushed17_eq m c t hf) (fun i => (covered_iff17 i).2 (by
    have h0 : (i 0).val < 3 := (i 0).isLt; have h1 : (i 1).val < 2816 := (i 1).isLt; omega))

/-! ## Output window 18 -/

/-- The block of the array that holds index `i`, numbered in the order the points write the blocks back (one every 4 points),
    `i`'s place in it, and the point that writes it back (the last of its 4). -/
abbrev run18Of (i : S3x2816.Idx) : ℕ := 11 * ((i 0).val / 3 - 0) + 1 * ((i 1).val / 256 - 0)
set_option backward.proofsInPublic true in
abbrev loc18Of (i : S3x2816.Idx) : S3x256.Idx := fun a => match a with
  | ⟨0, _⟩ => ⟨(i 0).val % 3, Nat.mod_lt _ (by decide)⟩
  | ⟨1, _⟩ => ⟨(i 1).val % 256, Nat.mod_lt _ (by decide)⟩
abbrev pt18Of (i : S3x2816.Idx) : ℕ := 4 * run18Of i + 3

/-- WHAT THE ARRAY ENDS HOLDING at index `i` inside the box the flushing blocks fill: output 18's component of what the
    point leaves (`outsAt0`) at the point that writes `i`'s block back, at `i`'s place in the block. `G18` states the array's contents
    only inside the box. -/
def G18 (c : Dev nD) : Buf (Elt F) ((c : Thread nD τ).loc main_v36_6) := fun i =>
  if h : pt18Of i < cfg0.N then
    (outsAt0 m c (pt18Of i) h).2.2.2.2.2.2.1 (loc18Of i)
  else V m c (Pipeline.arrRef spec0 18) i

/-- The printed index map, decided over the grid: output window 18's block indices stay in the box, and the block number
    read off them is the point's (`t / 4`). -/
theorem idx_facts18 : ∀ t : Fin cfg0.N, 0 ≤ win0_18.index t (0 : Fin 2) ∧ win0_18.index t (0 : Fin 2) ≤ 0
    ∧ 0 ≤ win0_18.index t (1 : Fin 2) ∧ win0_18.index t (1 : Fin 2) ≤ 10
    ∧ 11 * (win0_18.index t (0 : Fin 2) - 0) + 1 * (win0_18.index t (1 : Fin 2) - 0) = t.val / 4 :=
  (by decide +kernel : ∀ t : Fin grid0.N, _)

/-- Every block of the box is SOME flushing point's: `onto18Pt`, the point that writes back the block at place `q` of the box (the last point of its run). -/
abbrev onto18Pt (q0 : Fin 1) (q1 : Fin 11) : Fin grid0.N :=
  ⟨4 * (11 * q0.val + 1 * q1.val) + 3, lt_of_lt_of_eq (by omega) N_0.symm⟩
theorem idx_onto18 : ∀ (q0 : Fin 1) (q1 : Fin 11), ∃ t : Fin cfg0.N, (cfg0.win 18).flush t = true ∧ win0_18.index t = ![q0.val + 0, q1.val + 0] :=
  fun q0 q1 => ⟨onto18Pt q0 q1, (by decide +kernel : ∀ (q0 : Fin 1) (q1 : Fin 11), win0_18.flush (onto18Pt q0 q1) = true ∧ win0_18.index (onto18Pt q0 q1) = ![q0.val + 0, q1.val + 0]) q0 q1⟩

/-- WHAT A FLUSHING POINT `t` WRITES BACK is block `t` of `G18`: output 18's component of what `t` leaves. -/
theorem flushed18_eq (c : Dev nD) (t : Fin cfg0.N) (hf : (cfg0.win 18).flush t = true) :
    (dats m 0 c).flushed 18 t = ((cfg0.win 18).blk t).view.read (Elt F) (G18 m c) := by
  show (cfg0.win 18).cut (grid0.coords t) ((dats m 0 c).after 18 t) = _
  rw [after0_18]
  have hm : t.val % 4 = 3 := (flush0_18 t).mp hf
  obtain ⟨e0, e1, e2⟩ := idx_facts18 t
  funext y
  have hy0 : (y 0).val < 3 := (y 0).isLt
  have hy1 : (y 1).val < 256 := (y 1).isLt
  have hb0 : (((cfg0.win 18).blk t).view.emb y 0).val = win0_18.index t (0 : Fin 2) * 3 + 1 * (y 0).val := rfl
  have hb1 : (((cfg0.win 18).blk t).view.emb y 1).val = win0_18.index t (1 : Fin 2) * 256 + 1 * (y 1).val := rfl
  have hr : run18Of (((cfg0.win 18).blk t).view.emb y) = t.val / 4 := by
    show 11 * ((((cfg0.win 18).blk t).view.emb y 0).val / 3 - 0) + 1 * ((((cfg0.win 18).blk t).view.emb y 1).val / 256 - 0) = _
    rw [hb0, hb1]
    rw [show (win0_18.index t (0 : Fin 2) * 3 + 1 * (y 0).val) / 3 = win0_18.index t (0 : Fin 2) from by omega]; rw [show (win0_18.index t (1 : Fin 2) * 256 + 1 * (y 1).val) / 256 = win0_18.index t (1 : Fin 2) from by omega]
    omega
  have hl : loc18Of (((cfg0.win 18).blk t).view.emb y) = (cfg0.win 18).xinj (grid0.coords t) y := by
    funext a; apply Fin.ext
    match a with
    | ⟨0, _⟩ => show (((cfg0.win 18).blk t).view.emb y 0).val % 3 = (y 0).val; rw [hb0]; omega
    | ⟨1, _⟩ => show (((cfg0.win 18).blk t).view.emb y 1).val % 256 = (y 1).val; rw [hb1]; omega
  have hp : pt18Of (((cfg0.win 18).blk t).view.emb y) = t.val := by
    show 4 * run18Of (((cfg0.win 18).blk t).view.emb y) + 3 = _
    rw [hr]; have := Nat.div_add_mod t.val 4; omega
  show (outsAt0 m c t.val t.isLt).2.2.2.2.2.2.1 ((cfg0.win 18).xinj (grid0.coords t) y) = G18 m c (((cfg0.win 18).blk t).view.emb y)
  unfold G18
  rw [dif_pos (by rw [hp]; exact t.isLt), hl, outs_congr m c _ _ _ _ hp.symm]

/-- An index of the array is in point `t`'s block iff each coordinate is in the block's range on its axis. -/
theorem mem_blk18 (t : Fin cfg0.N) (i : S3x2816.Idx) :
    i ∈ ((cfg0.win 18).blk t).view.set ↔ ∀ a : Fin 2, win0_18.index t a * S3x256.size a ≤ (i a).val ∧ (i a).val < win0_18.index t a * S3x256.size a + S3x256.size a := by
  show i ∈ ((View.whole main_v36_6).slice (win0_18.rect t)).set ↔ _
  rw [View.set_slice_whole, Rect.mem_set_unit]
  exact Iff.rfl

/-- THE COVERED INDICES: in some flushing point's block iff inside the box those blocks fill. -/
theorem covered_iff18 (i : S3x2816.Idx) :
    (∃ t : Fin cfg0.N, (cfg0.win 18).flush t = true ∧ i ∈ ((cfg0.win 18).blk t).view.set) ↔ 0 ≤ (i 0).val ∧ (i 0).val < 3 ∧ 0 ≤ (i 1).val ∧ (i 1).val < 2816 := by
  constructor
  · rintro ⟨t, -, hi⟩
    rw [mem_blk18] at hi
    have b0 : win0_18.index t (0 : Fin 2) * 3 ≤ (i 0).val ∧ (i 0).val < win0_18.index t (0 : Fin 2) * 3 + 3 := hi 0
    have b1 : win0_18.index t (1 : Fin 2) * 256 ≤ (i 1).val ∧ (i 1).val < win0_18.index t (1 : Fin 2) * 256 + 256 := hi 1
    obtain ⟨e0, e1, e2⟩ := idx_facts18 t
    omega
  · intro h
    have hi0 : (i 0).val < 3 := (i 0).isLt
    have hi1 : (i 1).val < 2816 := (i 1).isLt
    obtain ⟨t, hft, ht⟩ := idx_onto18 ⟨(i 0).val / 3 - 0, by omega⟩ ⟨(i 1).val / 256 - 0, by omega⟩
    have q0 : win0_18.index t (0 : Fin 2) = (i 0).val / 3 - 0 + 0 := congrFun ht 0
    have q1 : win0_18.index t (1 : Fin 2) = (i 1).val / 256 - 0 + 0 := congrFun ht 1
    refine ⟨t, hft, ?_⟩
    rw [mem_blk18]
    intro a
    match a with
    | ⟨0, _⟩ => show win0_18.index t (0 : Fin 2) * 3 ≤ (i 0).val ∧ (i 0).val < win0_18.index t (0 : Fin 2) * 3 + 3; omega
    | ⟨1, _⟩ => show win0_18.index t (1 : Fin 2) * 256 ≤ (i 1).val ∧ (i 1).val < win0_18.index t (1 : Fin 2) * 256 + 256; omega

/-- THE ARRAY after the run: `G18` (the flushing blocks tile it). -/
theorem final18 (c : Dev nD) : (dats m 0 c).arrAt 18 cfg0.N = G18 m c :=
  (dats m 0 c).arrAt_eq_of_cover 18 _ (fun t hf => flushed18_eq m c t hf) (fun i => (covered_iff18 i).2 (by
    have h0 : (i 0).val < 3 := (i 0).isLt; have h1 : (i 1).val < 2816 := (i 1).isLt; omega))

/-! ## Output window 19 -/

/-- The block of the array that holds index `i`, numbered in the order the points write the blocks back (one every 4 points),
    `i`'s place in it, and the point that writes it back (the last of its 4). -/
abbrev run19Of (i : S1x2816.Idx) : ℕ := 11 * ((i 0).val / 1 - 0) + 1 * ((i 1).val / 256 - 0)
set_option backward.proofsInPublic true in
abbrev loc19Of (i : S1x2816.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt19Of (i : S1x2816.Idx) : ℕ := 4 * run19Of i + 3

/-- WHAT THE ARRAY ENDS HOLDING at index `i` inside the box the flushing blocks fill: output 19's component of what the
    point leaves (`outsAt0`) at the point that writes `i`'s block back, at `i`'s place in the block. `G19` states the array's contents
    only inside the box. -/
def G19 (c : Dev nD) : Buf (Elt F) ((c : Thread nD τ).loc main_v36_7) := fun i =>
  if h : pt19Of i < cfg0.N then
    (outsAt0 m c (pt19Of i) h).2.2.2.2.2.2.2.1 (loc19Of i)
  else V m c (Pipeline.arrRef spec0 19) i

/-- The printed index map, decided over the grid: output window 19's block indices stay in the box, and the block number
    read off them is the point's (`t / 4`). -/
theorem idx_facts19 : ∀ t : Fin cfg0.N, 0 ≤ win0_19.index t (0 : Fin 2) ∧ win0_19.index t (0 : Fin 2) ≤ 0
    ∧ 0 ≤ win0_19.index t (1 : Fin 2) ∧ win0_19.index t (1 : Fin 2) ≤ 10
    ∧ 11 * (win0_19.index t (0 : Fin 2) - 0) + 1 * (win0_19.index t (1 : Fin 2) - 0) = t.val / 4 :=
  (by decide +kernel : ∀ t : Fin grid0.N, _)

/-- Every block of the box is SOME flushing point's: `onto19Pt`, the point that writes back the block at place `q` of the box (the last point of its run). -/
abbrev onto19Pt (q0 : Fin 1) (q1 : Fin 11) : Fin grid0.N :=
  ⟨4 * (11 * q0.val + 1 * q1.val) + 3, lt_of_lt_of_eq (by omega) N_0.symm⟩
theorem idx_onto19 : ∀ (q0 : Fin 1) (q1 : Fin 11), ∃ t : Fin cfg0.N, (cfg0.win 19).flush t = true ∧ win0_19.index t = ![q0.val + 0, q1.val + 0] :=
  fun q0 q1 => ⟨onto19Pt q0 q1, (by decide +kernel : ∀ (q0 : Fin 1) (q1 : Fin 11), win0_19.flush (onto19Pt q0 q1) = true ∧ win0_19.index (onto19Pt q0 q1) = ![q0.val + 0, q1.val + 0]) q0 q1⟩

/-- WHAT A FLUSHING POINT `t` WRITES BACK is block `t` of `G19`: output 19's component of what `t` leaves. -/
theorem flushed19_eq (c : Dev nD) (t : Fin cfg0.N) (hf : (cfg0.win 19).flush t = true) :
    (dats m 0 c).flushed 19 t = ((cfg0.win 19).blk t).view.read (Elt F) (G19 m c) := by
  show (cfg0.win 19).cut (grid0.coords t) ((dats m 0 c).after 19 t) = _
  rw [after0_19]
  have hm : t.val % 4 = 3 := (flush0_19 t).mp hf
  obtain ⟨e0, e1, e2⟩ := idx_facts19 t
  funext y
  have hy0 : (y 0).val < 1 := (y 0).isLt
  have hy1 : (y 1).val < 256 := (y 1).isLt
  have hb0 : (((cfg0.win 19).blk t).view.emb y 0).val = win0_19.index t (0 : Fin 2) * 1 + 1 * (y 0).val := rfl
  have hb1 : (((cfg0.win 19).blk t).view.emb y 1).val = win0_19.index t (1 : Fin 2) * 256 + 1 * (y 1).val := rfl
  have hr : run19Of (((cfg0.win 19).blk t).view.emb y) = t.val / 4 := by
    show 11 * ((((cfg0.win 19).blk t).view.emb y 0).val / 1 - 0) + 1 * ((((cfg0.win 19).blk t).view.emb y 1).val / 256 - 0) = _
    rw [hb0, hb1]
    rw [show (win0_19.index t (0 : Fin 2) * 1 + 1 * (y 0).val) / 1 = win0_19.index t (0 : Fin 2) from by omega]; rw [show (win0_19.index t (1 : Fin 2) * 256 + 1 * (y 1).val) / 256 = win0_19.index t (1 : Fin 2) from by omega]
    omega
  have hl : loc19Of (((cfg0.win 19).blk t).view.emb y) = (cfg0.win 19).xinj (grid0.coords t) y := by
    funext a; apply Fin.ext
    match a with
    | ⟨0, _⟩ => show (((cfg0.win 19).blk t).view.emb y 0).val % 1 = (y 0).val; rw [hb0]; omega
    | ⟨1, _⟩ => show (((cfg0.win 19).blk t).view.emb y 1).val % 256 = (y 1).val; rw [hb1]; omega
  have hp : pt19Of (((cfg0.win 19).blk t).view.emb y) = t.val := by
    show 4 * run19Of (((cfg0.win 19).blk t).view.emb y) + 3 = _
    rw [hr]; have := Nat.div_add_mod t.val 4; omega
  show (outsAt0 m c t.val t.isLt).2.2.2.2.2.2.2.1 ((cfg0.win 19).xinj (grid0.coords t) y) = G19 m c (((cfg0.win 19).blk t).view.emb y)
  unfold G19
  rw [dif_pos (by rw [hp]; exact t.isLt), hl, outs_congr m c _ _ _ _ hp.symm]

/-- An index of the array is in point `t`'s block iff each coordinate is in the block's range on its axis. -/
theorem mem_blk19 (t : Fin cfg0.N) (i : S1x2816.Idx) :
    i ∈ ((cfg0.win 19).blk t).view.set ↔ ∀ a : Fin 2, win0_19.index t a * S1x256.size a ≤ (i a).val ∧ (i a).val < win0_19.index t a * S1x256.size a + S1x256.size a := by
  show i ∈ ((View.whole main_v36_7).slice (win0_19.rect t)).set ↔ _
  rw [View.set_slice_whole, Rect.mem_set_unit]
  exact Iff.rfl

/-- THE COVERED INDICES: in some flushing point's block iff inside the box those blocks fill. -/
theorem covered_iff19 (i : S1x2816.Idx) :
    (∃ t : Fin cfg0.N, (cfg0.win 19).flush t = true ∧ i ∈ ((cfg0.win 19).blk t).view.set) ↔ 0 ≤ (i 0).val ∧ (i 0).val < 1 ∧ 0 ≤ (i 1).val ∧ (i 1).val < 2816 := by
  constructor
  · rintro ⟨t, -, hi⟩
    rw [mem_blk19] at hi
    have b0 : win0_19.index t (0 : Fin 2) * 1 ≤ (i 0).val ∧ (i 0).val < win0_19.index t (0 : Fin 2) * 1 + 1 := hi 0
    have b1 : win0_19.index t (1 : Fin 2) * 256 ≤ (i 1).val ∧ (i 1).val < win0_19.index t (1 : Fin 2) * 256 + 256 := hi 1
    obtain ⟨e0, e1, e2⟩ := idx_facts19 t
    omega
  · intro h
    have hi0 : (i 0).val < 1 := (i 0).isLt
    have hi1 : (i 1).val < 2816 := (i 1).isLt
    obtain ⟨t, hft, ht⟩ := idx_onto19 ⟨(i 0).val / 1 - 0, by omega⟩ ⟨(i 1).val / 256 - 0, by omega⟩
    have q0 : win0_19.index t (0 : Fin 2) = (i 0).val / 1 - 0 + 0 := congrFun ht 0
    have q1 : win0_19.index t (1 : Fin 2) = (i 1).val / 256 - 0 + 0 := congrFun ht 1
    refine ⟨t, hft, ?_⟩
    rw [mem_blk19]
    intro a
    match a with
    | ⟨0, _⟩ => show win0_19.index t (0 : Fin 2) * 1 ≤ (i 0).val ∧ (i 0).val < win0_19.index t (0 : Fin 2) * 1 + 1; omega
    | ⟨1, _⟩ => show win0_19.index t (1 : Fin 2) * 256 ≤ (i 1).val ∧ (i 1).val < win0_19.index t (1 : Fin 2) * 256 + 256; omega

/-- THE ARRAY after the run: `G19` (the flushing blocks tile it). -/
theorem final19 (c : Dev nD) : (dats m 0 c).arrAt 19 cfg0.N = G19 m c :=
  (dats m 0 c).arrAt_eq_of_cover 19 _ (fun t hf => flushed19_eq m c t hf) (fun i => (covered_iff19 i).2 (by
    have h0 : (i 0).val < 1 := (i 0).isLt; have h1 : (i 1).val < 2816 := (i 1).isLt; omega))

/-! ## Output window 20 -/

/-- The block of the array that holds index `i`, numbered in the order the points write the blocks back (one every 4 points),
    `i`'s place in it, and the point that writes it back (the last of its 4). -/
abbrev run20Of (i : S1x2816.Idx) : ℕ := 11 * ((i 0).val / 1 - 0) + 1 * ((i 1).val / 256 - 0)
set_option backward.proofsInPublic true in
abbrev loc20Of (i : S1x2816.Idx) : S1x256.Idx := fun a => match a with
  | ⟨0, _⟩ => ⟨(i 0).val % 1, Nat.mod_lt _ (by decide)⟩
  | ⟨1, _⟩ => ⟨(i 1).val % 256, Nat.mod_lt _ (by decide)⟩
abbrev pt20Of (i : S1x2816.Idx) : ℕ := 4 * run20Of i + 3

/-- WHAT THE ARRAY ENDS HOLDING at index `i` inside the box the flushing blocks fill: output 20's component of what the
    point leaves (`outsAt0`) at the point that writes `i`'s block back, at `i`'s place in the block. `G20` states the array's contents
    only inside the box. -/
def G20 (c : Dev nD) : Buf (Elt F) ((c : Thread nD τ).loc main_v36_8) := fun i =>
  if h : pt20Of i < cfg0.N then
    (outsAt0 m c (pt20Of i) h).2.2.2.2.2.2.2.2.1 (loc20Of i)
  else V m c (Pipeline.arrRef spec0 20) i

/-- The printed index map, decided over the grid: output window 20's block indices stay in the box, and the block number
    read off them is the point's (`t / 4`). -/
theorem idx_facts20 : ∀ t : Fin cfg0.N, 0 ≤ win0_20.index t (0 : Fin 2) ∧ win0_20.index t (0 : Fin 2) ≤ 0
    ∧ 0 ≤ win0_20.index t (1 : Fin 2) ∧ win0_20.index t (1 : Fin 2) ≤ 10
    ∧ 11 * (win0_20.index t (0 : Fin 2) - 0) + 1 * (win0_20.index t (1 : Fin 2) - 0) = t.val / 4 :=
  (by decide +kernel : ∀ t : Fin grid0.N, _)

/-- Every block of the box is SOME flushing point's: `onto20Pt`, the point that writes back the block at place `q` of the box (the last point of its run). -/
abbrev onto20Pt (q0 : Fin 1) (q1 : Fin 11) : Fin grid0.N :=
  ⟨4 * (11 * q0.val + 1 * q1.val) + 3, lt_of_lt_of_eq (by omega) N_0.symm⟩
theorem idx_onto20 : ∀ (q0 : Fin 1) (q1 : Fin 11), ∃ t : Fin cfg0.N, (cfg0.win 20).flush t = true ∧ win0_20.index t = ![q0.val + 0, q1.val + 0] :=
  fun q0 q1 => ⟨onto20Pt q0 q1, (by decide +kernel : ∀ (q0 : Fin 1) (q1 : Fin 11), win0_20.flush (onto20Pt q0 q1) = true ∧ win0_20.index (onto20Pt q0 q1) = ![q0.val + 0, q1.val + 0]) q0 q1⟩

/-- WHAT A FLUSHING POINT `t` WRITES BACK is block `t` of `G20`: output 20's component of what `t` leaves. -/
theorem flushed20_eq (c : Dev nD) (t : Fin cfg0.N) (hf : (cfg0.win 20).flush t = true) :
    (dats m 0 c).flushed 20 t = ((cfg0.win 20).blk t).view.read (Elt F) (G20 m c) := by
  show (cfg0.win 20).cut (grid0.coords t) ((dats m 0 c).after 20 t) = _
  rw [after0_20]
  have hm : t.val % 4 = 3 := (flush0_20 t).mp hf
  obtain ⟨e0, e1, e2⟩ := idx_facts20 t
  funext y
  have hy0 : (y 0).val < 1 := (y 0).isLt
  have hy1 : (y 1).val < 256 := (y 1).isLt
  have hb0 : (((cfg0.win 20).blk t).view.emb y 0).val = win0_20.index t (0 : Fin 2) * 1 + 1 * (y 0).val := rfl
  have hb1 : (((cfg0.win 20).blk t).view.emb y 1).val = win0_20.index t (1 : Fin 2) * 256 + 1 * (y 1).val := rfl
  have hr : run20Of (((cfg0.win 20).blk t).view.emb y) = t.val / 4 := by
    show 11 * ((((cfg0.win 20).blk t).view.emb y 0).val / 1 - 0) + 1 * ((((cfg0.win 20).blk t).view.emb y 1).val / 256 - 0) = _
    rw [hb0, hb1]
    rw [show (win0_20.index t (0 : Fin 2) * 1 + 1 * (y 0).val) / 1 = win0_20.index t (0 : Fin 2) from by omega]; rw [show (win0_20.index t (1 : Fin 2) * 256 + 1 * (y 1).val) / 256 = win0_20.index t (1 : Fin 2) from by omega]
    omega
  have hl : loc20Of (((cfg0.win 20).blk t).view.emb y) = (cfg0.win 20).xinj (grid0.coords t) y := by
    funext a; apply Fin.ext
    match a with
    | ⟨0, _⟩ => show (((cfg0.win 20).blk t).view.emb y 0).val % 1 = (y 0).val; rw [hb0]; omega
    | ⟨1, _⟩ => show (((cfg0.win 20).blk t).view.emb y 1).val % 256 = (y 1).val; rw [hb1]; omega
  have hp : pt20Of (((cfg0.win 20).blk t).view.emb y) = t.val := by
    show 4 * run20Of (((cfg0.win 20).blk t).view.emb y) + 3 = _
    rw [hr]; have := Nat.div_add_mod t.val 4; omega
  show (outsAt0 m c t.val t.isLt).2.2.2.2.2.2.2.2.1 ((cfg0.win 20).xinj (grid0.coords t) y) = G20 m c (((cfg0.win 20).blk t).view.emb y)
  unfold G20
  rw [dif_pos (by rw [hp]; exact t.isLt), hl, outs_congr m c _ _ _ _ hp.symm]

/-- An index of the array is in point `t`'s block iff each coordinate is in the block's range on its axis. -/
theorem mem_blk20 (t : Fin cfg0.N) (i : S1x2816.Idx) :
    i ∈ ((cfg0.win 20).blk t).view.set ↔ ∀ a : Fin 2, win0_20.index t a * S1x256.size a ≤ (i a).val ∧ (i a).val < win0_20.index t a * S1x256.size a + S1x256.size a := by
  show i ∈ ((View.whole main_v36_8).slice (win0_20.rect t)).set ↔ _
  rw [View.set_slice_whole, Rect.mem_set_unit]
  exact Iff.rfl

/-- THE COVERED INDICES: in some flushing point's block iff inside the box those blocks fill. -/
theorem covered_iff20 (i : S1x2816.Idx) :
    (∃ t : Fin cfg0.N, (cfg0.win 20).flush t = true ∧ i ∈ ((cfg0.win 20).blk t).view.set) ↔ 0 ≤ (i 0).val ∧ (i 0).val < 1 ∧ 0 ≤ (i 1).val ∧ (i 1).val < 2816 := by
  constructor
  · rintro ⟨t, -, hi⟩
    rw [mem_blk20] at hi
    have b0 : win0_20.index t (0 : Fin 2) * 1 ≤ (i 0).val ∧ (i 0).val < win0_20.index t (0 : Fin 2) * 1 + 1 := hi 0
    have b1 : win0_20.index t (1 : Fin 2) * 256 ≤ (i 1).val ∧ (i 1).val < win0_20.index t (1 : Fin 2) * 256 + 256 := hi 1
    obtain ⟨e0, e1, e2⟩ := idx_facts20 t
    omega
  · intro h
    have hi0 : (i 0).val < 1 := (i 0).isLt
    have hi1 : (i 1).val < 2816 := (i 1).isLt
    obtain ⟨t, hft, ht⟩ := idx_onto20 ⟨(i 0).val / 1 - 0, by omega⟩ ⟨(i 1).val / 256 - 0, by omega⟩
    have q0 : win0_20.index t (0 : Fin 2) = (i 0).val / 1 - 0 + 0 := congrFun ht 0
    have q1 : win0_20.index t (1 : Fin 2) = (i 1).val / 256 - 0 + 0 := congrFun ht 1
    refine ⟨t, hft, ?_⟩
    rw [mem_blk20]
    intro a
    match a with
    | ⟨0, _⟩ => show win0_20.index t (0 : Fin 2) * 1 ≤ (i 0).val ∧ (i 0).val < win0_20.index t (0 : Fin 2) * 1 + 1; omega
    | ⟨1, _⟩ => show win0_20.index t (1 : Fin 2) * 256 ≤ (i 1).val ∧ (i 1).val < win0_20.index t (1 : Fin 2) * 256 + 256; omega

/-- THE ARRAY after the run: `G20` (the flushing blocks tile it). -/
theorem final20 (c : Dev nD) : (dats m 0 c).arrAt 20 cfg0.N = G20 m c :=
  (dats m 0 c).arrAt_eq_of_cover 20 _ (fun t hf => flushed20_eq m c t hf) (fun i => (covered_iff20 i).2 (by
    have h0 : (i 0).val < 1 := (i 0).isLt; have h1 : (i 1).val < 2816 := (i 1).isLt; omega))

/-! ## The run, read -/

set_option maxHeartbeats 4000000 in
/-- The frame run re-posted: each output array at what its blocks hold, the arguments unchanged. -/
theorem run : θ_run defs (onTc (τ := τ) (main (F := F))) ⟨m, fun _ => 0, ρ⟩ fun r => ∀ c : Dev nD,
      r.2.mem ((c : Thread nD τ).loc main_v36_0) = G12 m c
      ∧ r.2.mem ((c : Thread nD τ).loc main_v36_1) = G13 m c
      ∧ r.2.mem ((c : Thread nD τ).loc main_v36_2) = G14 m c
      ∧ r.2.mem ((c : Thread nD τ).loc main_v36_3) = G15 m c
      ∧ r.2.mem ((c : Thread nD τ).loc main_v36_4) = G16 m c
      ∧ r.2.mem ((c : Thread nD τ).loc main_v36_5) = G17 m c
      ∧ r.2.mem ((c : Thread nD τ).loc main_v36_6) = G18 m c
      ∧ r.2.mem ((c : Thread nD τ).loc main_v36_7) = G19 m c
      ∧ r.2.mem ((c : Thread nD τ).loc main_v36_8) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 12).trans (final12 m c),
      ((h c).1 13).trans (final13 m c),
      ((h c).1 14).trans (final14 m c),
      ((h c).1 15).trans (final15 m c),
      ((h c).1 16).trans (final16 m c),
      ((h c).1 17).trans (final17 m c),
      ((h c).1 18).trans (final18 m c),
      ((h c).1 19).trans (final19 m c),
      ((h c).1 20).trans (final20 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 11).trans (((dats m 0 c).arrAt_in 11 rfl _).trans ((A_eq m c 11).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Arrays

end

end
-- ==== Proof.Spec.lean ====
/- THE GRADIENTS AS PLAIN SUMS. Over the layer's arrays, read at natural numbers and zero past their last row: the
   cotangent of the gated product, the gradients of the convolution's two outputs, the gradient of its input, and the
   sums over the sequence. The gelu and its slope are the kernel's expressions. -/
module

public import proofs.«01_k».proof.KernelIdeal
public import Idealize.ShloMosaic.PureOps.Ideal

@[expose] public section

noncomputable section

namespace Cert.Spec

open Cert.KernelIdeal Idealize.ShloMosaic

/-- The hyperbolic tangent inside the gelu, half of one plus it, the gelu, and the gelu's slope. -/
def th (x : EReal) : EReal :=
  Ideal.tanh (x * (Ideal.ofBits .f32 0x3F4C422A#32 + Named.named (F := Ideal) (φ := .f32) κ "k01" 0x3D122279#32 * (x * x)))
def hp (x : EReal) : EReal := Ideal.ofBits .f32 0x3F000000#32 + Ideal.ofBits .f32 0x3F000000#32 * th x
def gelu (x : EReal) : EReal := x * hp x
def slope (x : EReal) : EReal :=
  hp x + x * (hp x * (1 - th x)) * (Ideal.ofBits .f32 0x3F4C422A#32 + Named.named (F := Ideal) (φ := .f32) κ "k013" 0x3DDB33B6#32 * (x * x))

/-- The arrays: the convolution's input `u` and output `c`, the cotangent `df`, the down weights `wd`, the layer's input
    `h`, and the taps `w`. -/
structure Inp where
  u : ℕ → ℕ → EReal
  c : ℕ → ℕ → EReal
  df : ℕ → ℕ → EReal
  wd : ℕ → ℕ → EReal
  h : ℕ → ℕ → EReal
  w : ℕ → ℕ → EReal

variable (X : Inp)

/-- The cotangent of the gated product. -/
def dy (t f : ℕ) : EReal := ∑ d : Fin 1024, X.df t d.val * X.wd f d.val
/-- The gradients of the convolution's gate and value outputs. -/
def dcG (t f : ℕ) : EReal := dy X t f * X.c t (2816 + f) * slope (X.c t f)
def dcV (t f : ℕ) : EReal := dy X t f * gelu (X.c t f)
/-- The gradient of the convolution's input at column `g` of the taps, from the gradient `d` of its output at column `f`. -/
def du (d : ℕ → ℕ → EReal) (g t f : ℕ) : EReal := d t f * X.w 2 g + d (t + 1) f * X.w 1 g + d (t + 2) f * X.w 0 g
/-- The terms of the sums over the sequence: up weights, down weights, taps. -/
def termU (d : ℕ → ℕ → EReal) (g f e t : ℕ) : EReal := du X d g t f * X.h t e
def termD (f e t : ℕ) : EReal := gelu (X.c t f) * X.c t (2816 + f) * X.df t e
def termW (d : ℕ → ℕ → EReal) (g f k t : ℕ) : EReal := d (t + (2 - k)) f * X.u t g

end Cert.Spec

end

end
-- ==== Proof.Tile.lean ====
/- WHAT ONE BLOCK OF 256 ROWS COMPUTES. The kernel walks a tile of 2048 rows in eight blocks of 256, each followed by the
   next 16 rows. These are the operations of one block as functions of the arrays it loads, for any reading of the
   floats: the product `dy`, the gelu and its slope, the two gradients `dc` of the convolution's outputs, the three
   shifts of them, the gradient `du` of the convolution's input, and the terms added to each running sum. -/
module

public import proofs.«01_k».proof.Proof.Gen.KernelIdeal.Skeleton
public import Idealize.ShloMosaic.Lib.Pipeline.Value

@[expose] public section

set_option synthInstance.maxSize 4096

noncomputable section

namespace Cert.KernelIdeal.Tile

open Cert.KernelIdeal Cert.KernelIdeal.Gen Idealize.ShloMosaic Idealize.SL.Sem

variable {F : FTy → Type} [FloatOps F] [Named F]

/-- The next 16 rows of the cotangent, which are zero rows at the last tile of the sequence. -/
def tail (i : grid0.Coords) (x : Vec F S16x1024 .bf16) : FVec F S16x1024 .bf16 :=
  Scalar.select (Scalar.cmpi .slt (BitVec.ofNat 32 (i 1).val) 3#32)
    (shapeCast S16x1024 x shapeCasts_S16x1024_S16x1024)
    (broadcast S16x1024 (Scalar.ofBits .bf16 0x0000#16 : F .bf16))

/-- A block's 256 rows and the 16 after them, widened. -/
def ext (a : Vec F S256x256 .bf16) (b : Vec F S16x256 .bf16) : FVec F S272x256 .f32 :=
  extf .f32 (concatenate S272x256 0 [⟨S256x256, shapeCast S256x256 a shapeCasts_S256x256_S256x256⟩,
    ⟨S16x256, shapeCast S16x256 b shapeCasts_S16x256_S16x256⟩] concatenates_S256x256_S16x256_S272x256_d0) bitsLt_bf16_f32

/-- The cotangent of the gated product: the cotangent's rows times the transpose of the down weights. -/
def dy (wd : Vec F S256x1024 .bf16) (a : Vec F S256x1024 .bf16) (b : FVec F S16x1024 .bf16) : FVec F S272x256 .f32 :=
  matmul dot_S272x1024_S256x1024_S272x256_1_1_0_0_n_n none
    (concatenate S272x1024 0 [⟨S256x1024, shapeCast S256x1024 a shapeCasts_S256x1024_S256x1024⟩, ⟨S16x1024, b⟩]
      concatenates_S256x1024_S16x1024_S272x1024_d0 : FVec F S272x1024 .bf16)
    (shapeCast S256x1024 wd shapeCasts_S256x1024_S256x1024 : FVec F S256x1024 .bf16) (constant S272x256 .f32 0x00000000#32)

/-- The hyperbolic tangent inside the gelu. -/
def th (x : FVec F S272x256 .f32) : FVec F S272x256 .f32 :=
  tanh (mulf x (addf (broadcast S272x256 (Scalar.ofBits .f32 0x3F4C422A#32 : F .f32))
    (mulf (broadcast S272x256 (Named.named κ "k01" 0x3D122279#32 : F .f32)) (mulf x x))))

/-- Half of one plus it. -/
def hp (x : FVec F S272x256 .f32) : FVec F S272x256 .f32 :=
  addf (broadcast S272x256 (Scalar.ofBits .f32 0x3F000000#32 : F .f32))
    (mulf (broadcast S272x256 (Scalar.ofBits .f32 0x3F000000#32 : F .f32)) (th x))

/-- The gelu. -/
def gelu (x : FVec F S272x256 .f32) : FVec F S272x256 .f32 := mulf x (hp x)

/-- The gelu's slope. -/
def slope (x : FVec F S272x256 .f32) : FVec F S272x256 .f32 :=
  addf (hp x) (mulf (mulf x (mulf (hp x) (subf (broadcast S272x256 (Scalar.ofBits .f32 0x3F800000#32 : F .f32)) (th x))))
    (addf (broadcast S272x256 (Scalar.ofBits .f32 0x3F4C422A#32 : F .f32))
      (mulf (broadcast S272x256 (Named.named κ "k013" 0x3DDB33B6#32 : F .f32)) (mulf x x))))

/-- The gradient of the convolution's gate output. -/
def dcG (d g v : FVec F S272x256 .f32) : FVec F S272x256 .f32 := mulf (mulf d v) (slope g)

/-- The gradient of the convolution's value output. -/
def dcV (d g : FVec F S272x256 .f32) : FVec F S272x256 .f32 := mulf d (gelu g)

/-- The block's 256 rows of an extended block; -/
def sh0 (x : FVec F S272x256 .f32) : FVec F S256x256 .f32 :=
  extractStridedSlice S256x256 ![0, 0] x slices_S272x256_o0_0_S256x256
/-- the same rows one further on; -/
def sh1 (x : FVec F S272x256 .f32) : FVec F S256x256 .f32 :=
  extractStridedSlice S256x256 ![0, 0] (dynamicRotate 0 271#32 none x rotates_S272x256_d0) slices_S272x256_o0_0_S256x256
/-- and two further on. -/
def sh2 (x : FVec F S272x256 .f32) : FVec F S256x256 .f32 :=
  extractStridedSlice S256x256 ![0, 0] (dynamicRotate 0 270#32 none x rotates_S272x256_d0) slices_S272x256_o0_0_S256x256

/-- The gradient of the convolution's input: the three shifts of `dc`, each times its tap. -/
def du (w : Vec F S3x256 .f32) (x : FVec F S272x256 .f32) : FVec F S256x256 .bf16 :=
  truncf .bf16 (addf (addf
    (mulf (sh0 x) (broadcastTo S256x256 (extractStridedSlice S1x256 ![2, 0] w slices_S3x256_o2_0_S1x256) broadcasts_S1x256_S256x256))
    (mulf (sh1 x) (broadcastTo S256x256 (extractStridedSlice S1x256 ![1, 0] w slices_S3x256_o1_0_S1x256) broadcasts_S1x256_S256x256)))
    (mulf (sh2 x) (broadcastTo S256x256 (extractStridedSlice S1x256 ![0, 0] w slices_S3x256_o0_0_S1x256) broadcasts_S1x256_S256x256)))
    bitsLt_bf16_f32

/-- The running gradient of the up weights after a block: the two halves of `du` side by side, transposed, times `h`'s rows. -/
def stepU (g v : FVec F S256x256 .bf16) (h : Vec F S256x1024 .bf16) (acc : Vec F S512x1024 .f32) : FVec F S512x1024 .f32 :=
  shapeCast S512x1024 (addf acc (matmul dot_S256x512_S256x1024_S512x1024_0_0_1_1_n_n none
    (concatenate S256x512 1 [⟨S256x256, g⟩, ⟨S256x256, v⟩] concatenates_S256x256_S256x256_S256x512_d1 : FVec F S256x512 .bf16)
    (shapeCast S256x1024 h shapeCasts_S256x1024_S256x1024 : FVec F S256x1024 .bf16) (constant S512x1024 .f32 0x00000000#32)))
    shapeCasts_S512x1024_S512x1024

/-- The running gradient of the down weights after a block: the gated product, transposed, times the cotangent's rows. -/
def stepD (g v : FVec F S272x256 .f32) (d : Vec F S256x1024 .bf16) (acc : Vec F S256x1024 .f32) : FVec F S256x1024 .f32 :=
  shapeCast S256x1024 (addf acc (matmul dot_S256x256_S256x1024_S256x1024_0_0_1_1_n_n none
    (truncf .bf16 (mulf (extractStridedSlice S256x256 ![0, 0] (gelu g) slices_S272x256_o0_0_S256x256)
      (extractStridedSlice S256x256 ![0, 0] v slices_S272x256_o0_0_S256x256)) bitsLt_bf16_f32)
    (shapeCast S256x1024 d shapeCasts_S256x1024_S256x1024 : FVec F S256x1024 .bf16) (constant S256x1024 .f32 0x00000000#32)))
    shapeCasts_S256x1024_S256x1024

/-- The sum of a block's 256 rows. -/
def rowSum (x : FVec F S256x256 .f32) : FVec F S1x256 .f32 :=
  shapeCast S1x256 (multiReduction .add [0] S256 x 0x00000000#32 reduces_S256x256_S256 (.inl rfl) rfl : FVec F S256 .f32)
    shapeCasts_S256_S1x256

/-- The running gradient of a bias after a block. -/
def stepB (x : FVec F S272x256 .f32) (acc : Vec F S1x256 .f32) : FVec F S1x256 .f32 :=
  addf (shapeCast S1x256 acc shapeCasts_S1x256_S1x256) (rowSum (sh0 x))

/-- One row of the running gradient of the taps after a block: a shift of `dc` times the convolution's input. -/
def stepW (s : FVec F S256x256 .f32) (u : Vec F S256x256 .bf16) (acc : Vec F S1x256 .f32) : FVec F S1x256 .f32 :=
  addf (shapeCast S1x256 acc shapeCasts_S1x256_S1x256)
    (rowSum (mulf s (extf .f32 (shapeCast S256x256 u shapeCasts_S256x256_S256x256 : FVec F S256x256 .bf16) bitsLt_bf16_f32)))

end Cert.KernelIdeal.Tile

end

end
-- ==== Proof.Fold.lean ====
/- THE EIGHT BLOCKS OF A TILE IN ORDER. `Loads` is what the kernel's body loads at one grid point, block by block; the
   stores the body makes are lists over it: eight blocks of `du`, and for each running sum a list whose every entry
   adds one block's term to what the store before it left. What such a list leaves in its buffer is the terms folded
   in order over the contents before the first. -/
module

public import proofs.«01_k».proof.Proof.Tile
public import Idealize.ShloMosaic.Lib.Pipeline.ReadBack

@[expose] public section

set_option synthInstance.maxSize 4096

noncomputable section

namespace Cert.KernelIdeal.Tile

open Cert.KernelIdeal Cert.KernelIdeal.Gen Idealize.ShloMosaic Idealize.SL.Sem

variable {F : FTy → Type} [FloatOps F] [Named F]

/-- What one grid point loads: the eight blocks of each tiled input, the 16 rows after each block, and the weights. -/
structure Loads (F : FTy → Type) where
  ug : Fin 8 → Vec F S256x256 .bf16
  uv : Fin 8 → Vec F S256x256 .bf16
  g : Fin 8 → Vec F S256x256 .bf16
  gn : Fin 8 → Vec F S16x256 .bf16
  v : Fin 8 → Vec F S256x256 .bf16
  vn : Fin 8 → Vec F S16x256 .bf16
  d : Fin 8 → Vec F S256x1024 .bf16
  dn : Fin 8 → FVec F S16x1024 .bf16
  wd : Vec F S256x1024 .bf16
  h : Fin 8 → Vec F S256x1024 .bf16
  wg : Vec F S3x256 .f32
  wv : Vec F S3x256 .f32

namespace Loads

variable (l : Loads F) (s : Fin 8)

/-- The extended gate and value blocks, the product `dy`, and the two gradients of the convolution's outputs. -/
def G : FVec F S272x256 .f32 := ext (l.g s) (l.gn s)
def V : FVec F S272x256 .f32 := ext (l.v s) (l.vn s)
def D : FVec F S272x256 .f32 := dy l.wd (l.d s) (l.dn s)
def cG : FVec F S272x256 .f32 := dcG (l.D s) (l.G s) (l.V s)
def cV : FVec F S272x256 .f32 := dcV (l.D s) (l.G s)
/-- The block's gradients of the convolution's input. -/
def uG : FVec F S256x256 .bf16 := du l.wg (l.cG s)
def uV : FVec F S256x256 .bf16 := du l.wv (l.cV s)

end Loads

/-! ## Blocks of rows -/

theorem inbT (s : Fin 8) : ∀ a, (![256 * s.val, 0] : Fin 2 → Nat) a + S256x256.size a ≤ S2048x256.size a := by
  intro a; have := s.isLt
  match a with
  | ⟨0, _⟩ => show 256 * s.val + 256 ≤ 2048; omega
  | ⟨1, _⟩ => show 0 + 256 ≤ 256; omega
theorem inbW (s : Fin 8) : ∀ a, (![256 * s.val, 0] : Fin 2 → Nat) a + S256x1024.size a ≤ S2048x1024.size a := by
  intro a; have := s.isLt
  match a with
  | ⟨0, _⟩ => show 256 * s.val + 256 ≤ 2048; omega
  | ⟨1, _⟩ => show 0 + 1024 ≤ 1024; omega
theorem inbTn (s : Fin 8) (h : s.val < 7) : ∀ a, (![256 * (s.val + 1), 0] : Fin 2 → Nat) a + S16x256.size a ≤ S2048x256.size a := by
  intro a
  match a with
  | ⟨0, _⟩ => show 256 * (s.val + 1) + 16 ≤ 2048; omega
  | ⟨1, _⟩ => show 0 + 256 ≤ 256; omega
theorem inbWn (s : Fin 8) (h : s.val < 7) : ∀ a, (![256 * (s.val + 1), 0] : Fin 2 → Nat) a + S16x1024.size a ≤ S2048x1024.size a := by
  intro a
  match a with
  | ⟨0, _⟩ => show 256 * (s.val + 1) + 16 ≤ 2048; omega
  | ⟨1, _⟩ => show 0 + 1024 ≤ 1024; omega
theorem inbR (k : Fin 3) : ∀ a, (![k.val, 0] : Fin 2 → Nat) a + S1x256.size a ≤ S3x256.size a := by
  intro a; have := k.isLt
  match a with
  | ⟨0, _⟩ => show k.val + 1 ≤ 3; omega
  | ⟨1, _⟩ => show 0 + 256 ≤ 256; omega
theorem inb0 (S : Shape) (h : S.rank = 2) : ∀ a, (fun _ => 0 : Fin S.rank → Nat) a + S.size a ≤ S.size a := fun a => by
  show 0 + S.size a ≤ S.size a; omega

/-- The rectangle of block `s` of a tile 256 columns wide, -/
abbrev rT (s : Fin 8) : Rect S2048x256 := Rect.unit ![256 * s.val, 0] S256x256.size (inbT s)
/-- of a tile 1024 wide, -/
abbrev rW (s : Fin 8) : Rect S2048x1024 := Rect.unit ![256 * s.val, 0] S256x1024.size (inbW s)
/-- of the 16 rows after a block, in each, -/
abbrev rTn (s : Fin 8) (h : s.val < 7) : Rect S2048x256 := Rect.unit ![256 * (s.val + 1), 0] S16x256.size (inbTn s h)
abbrev rWn (s : Fin 8) (h : s.val < 7) : Rect S2048x1024 := Rect.unit ![256 * (s.val + 1), 0] S16x1024.size (inbWn s h)
/-- and of one row of three. -/
abbrev rR (k : Fin 3) : Rect S3x256 := Rect.unit ![k.val, 0] S1x256.size (inbR k)

/-- The loads of a grid point from its input blocks. -/
def Loads.of (i : grid0.Coords) (x0 x1 x2 : Vec F S2048x256 .bf16) (x3 : Vec F S16x256 .bf16) (x4 : Vec F S2048x256 .bf16)
    (x5 : Vec F S16x256 .bf16) (x6 : Vec F S2048x1024 .bf16) (x7 : Vec F S16x1024 .bf16) (x8 : Vec F S256x1024 .bf16)
    (x9 : Vec F S2048x1024 .bf16) (x10 x11 : Vec F S3x256 .f32) : Loads F where
  ug s := View.ld x0 (rT s)
  uv s := View.ld x1 (rT s)
  g s := View.ld x2 (rT s)
  gn s := if h : s.val < 7 then View.ld x2 (rTn s h) else x3
  v s := View.ld x4 (rT s)
  vn s := if h : s.val < 7 then View.ld x4 (rTn s h) else x5
  d s := View.ld x6 (rW s)
  dn s := if h : s.val < 7 then shapeCast S16x1024 (View.ld x6 (rWn s h) : Vec F S16x1024 .bf16) shapeCasts_S16x1024_S16x1024 else tail i x7
  wd := x8
  h s := View.ld x9 (rW s)
  wg := x10
  wv := x11

/-! ## Lists of stores -/

section Lists

variable {Val : EltTy → Type} [∀ e, Nonempty (Val e)] {κ : Kind} {sp : Space} {e : EltTy} {S : Shape}

/-- Stores over a whole buffer, each a function of what the buffer held before it; the last store first. -/
def wl (v : View sig κ sp S e) (off : Fin S.rank → Nat) (inb : ∀ a, off a + S.size a ≤ S.size a)
    (init : List (View.Piece Val S e)) : List ((S.Idx → Val e) → (S.Idx → Val e)) → List (View.Piece Val S e)
  | [] => init
  | f :: fs => ⟨Rect.unit off S.size inb, f (v.readCov (wl v off inb init fs) (Rect.unit off S.size inb).toLoadRect)⟩ :: wl v off inb init fs

/-- They leave the functions folded over the contents before the first. -/
theorem canon_wl (v : View sig κ sp S e) (off : Fin S.rank → Nat) (hz : off = fun _ => 0) (inb : ∀ a, off a + S.size a ≤ S.size a)
    (init : List (View.Piece Val S e)) : ∀ fs, View.canon (wl v off inb init fs) = fs.foldr (fun f a => f a) (View.canon init)
  | [] => rfl
  | f :: fs => by
    show View.canon (⟨Rect.unit off S.size inb, _⟩ :: wl v off inb init fs) = _
    rw [View.canon_cons_unit_zero hz, View.readCov_eq_canon']
    show f (View.ld (View.canon (wl v off inb init fs)) (Rect.unit off S.size inb)) = _
    rw [View.ld_unit_zero hz, canon_wl v off hz inb init fs]
    rfl

variable (v : View sig κ sp S3x256 e)

/-- Stores over single rows of three, each a function of what its row held before it; the last store first. -/
def wr (init : List (View.Piece Val S3x256 e)) : List (Fin 3 × ((S1x256.Idx → Val e) → (S1x256.Idx → Val e))) → List (View.Piece Val S3x256 e)
  | [] => init
  | p :: ps => ⟨rR p.1, p.2 (v.readCov (wr init ps) (rR p.1).toLoadRect)⟩ :: wr init ps

/-- The functions of one row folded over its contents before the first. -/
def rowFold (x : S3x256.Idx → Val e) (k : Fin 3) : List (Fin 3 × ((S1x256.Idx → Val e) → (S1x256.Idx → Val e))) → (S1x256.Idx → Val e)
  | [] => View.ld x (rR k)
  | p :: ps => if p.1 = k then p.2 (rowFold x k ps) else rowFold x k ps

theorem rR_disj {k k' : Fin 3} (h : k ≠ k') : LoadRect.disj (rR k) (rR k').toLoadRect = true := by
  revert h; revert k k'; decide

/-- Such stores leave in each row its functions folded. -/
theorem ld_canon_wr (init : List (View.Piece Val S3x256 e)) (k : Fin 3) :
    ∀ ps, View.ld (View.canon (wr v init ps)) (rR k) = rowFold (View.canon init) k ps
  | [] => rfl
  | p :: ps => by
    have ih := ld_canon_wr init k ps
    have ih' := ld_canon_wr init p.1 ps
    have e : ∀ L : List (View.Piece Val S3x256 e), View.ld (View.canon L) (rR k) = v.readCov L (rR k).toLoadRect := fun L => by
      rw [View.readCov_eq_canon']
    rw [e]
    show v.readCov (⟨rR p.1, p.2 (v.readCov (wr v init ps) (rR p.1).toLoadRect)⟩ :: wr v init ps) (rR k).toLoadRect = _
    by_cases hk : p.1 = k
    · subst hk
      rw [View.readCov_cons_toLoadRect, ← e, ih]
      simp [rowFold]
    · rw [View.readCov_skip _ _ _ _ _ (rR_disj hk), ← e, ih]
      simp [rowFold, hk]

end Lists

/-! ## The lists of one grid point -/

section Point

variable (l : Loads F)

/-- The eight stores of `du`. -/
def duL (p : Fin 8 → FVec F S256x256 .bf16) : List (View.Piece (Elt F) S2048x256 .bf16) :=
  [⟨rT 7, p 7⟩, ⟨rT 6, p 6⟩, ⟨rT 5, p 5⟩, ⟨rT 4, p 4⟩, ⟨rT 3, p 3⟩, ⟨rT 2, p 2⟩, ⟨rT 1, p 1⟩, ⟨rT 0, p 0⟩]

/-- A function for each block, the last first; `f0` the first block's. -/
def eight {α : Type} (f : Fin 8 → α) (f0 : α) : List α := [f 7, f 6, f 5, f 4, f 3, f 2, f 1, f0]

/-- For each block the taps' three rows in the order they are stored. -/
def rows3 {α : Type} (f : Fin 8 → Fin 3 → α) (f0 : Fin 3 → α) : List (Fin 3 × α) :=
  [(2, f 7 2), (1, f 7 1), (0, f 7 0), (2, f 6 2), (1, f 6 1), (0, f 6 0), (2, f 5 2), (1, f 5 1), (0, f 5 0),
   (2, f 4 2), (1, f 4 1), (0, f 4 0), (2, f 3 2), (1, f 3 1), (0, f 3 0), (2, f 2 2), (1, f 2 1), (0, f 2 0),
   (2, f 1 2), (1, f 1 1), (0, f 1 0), (2, f0 2), (1, f0 1), (0, f0 0)]

/-- The shift of `dc` that row `k` of the taps takes. -/
def shk (k : Fin 3) (x : FVec F S272x256 .f32) : FVec F S256x256 .f32 :=
  match k with
  | ⟨0, _⟩ => sh2 x
  | ⟨1, _⟩ => sh1 x
  | ⟨_ + 2, _⟩ => sh0 x

/-- The running sums' steps. -/
def fW (c : Fin 8 → FVec F S272x256 .f32) (u : Fin 8 → Vec F S256x256 .bf16) (s : Fin 8) (k : Fin 3) (a : Vec F S1x256 .f32) : Vec F S1x256 .f32 :=
  stepW (shk k (c s)) (u s) a
def fB (c : Fin 8 → FVec F S272x256 .f32) (s : Fin 8) (a : Vec F S1x256 .f32) : Vec F S1x256 .f32 := stepB (c s) a
def fU (s : Fin 8) (a : Vec F S512x1024 .f32) : Vec F S512x1024 .f32 := stepU (l.uG s) (l.uV s) (l.h s) a
def fD (s : Fin 8) (a : Vec F S256x1024 .f32) : Vec F S256x1024 .f32 := stepD (l.G s) (l.V s) (l.d s) a

end Point

end Cert.KernelIdeal.Tile

end

end
-- ==== Proof.Block.lean ====
/- ONE BLOCK OF ROWS AT THE REAL NUMBERS. What each operation of a block of 256 rows reads at an index, and the block's
   gradients as the plain sums of the arrays its loads come from. -/
module

public import proofs.«01_k».proof.Proof.Spec
public import proofs.«01_k».proof.Proof.Fold
public import Idealize.ShloMosaic.Lib.Pointwise.Reshape
public import Idealize.ShloMosaic.Lib.Pointwise.Contract
public import Idealize.ShloMosaic.Lib.Pointwise.Reduce
public import Idealize.ShloMosaic.Lib.Pointwise.Tactic

@[expose] public section

set_option synthInstance.maxSize 4096

noncomputable section

namespace Cert.KernelIdeal.Tile

open Cert.KernelIdeal Cert.KernelIdeal.Gen Idealize.ShloMosaic Idealize.SL.Sem

/-! ## Each operation at an index -/

theorem ext_lo (a : Vec Ideal S256x256 .bf16) (b : Vec Ideal S16x256 .bf16) (r : Fin 272) (q : Fin 256) (h : r.val < 256) :
    ext (F := Ideal) a b (ix2 r q) = a (ix2 ⟨r.val, h⟩ q) := by
  pointwise [ext]
  exact concatenate_pair_apply_left 0 a b _ (ix2 r q) rfl (ix2 ⟨r.val, h⟩ q) (fun b => match b with | ⟨0, _⟩ => rfl | ⟨1, _⟩ => rfl)

theorem ext_hi (a : Vec Ideal S256x256 .bf16) (b : Vec Ideal S16x256 .bf16) (r : Fin 272) (q : Fin 256) (h : 256 ≤ r.val) :
    ext (F := Ideal) a b (ix2 r q) = b (ix2 ⟨r.val - 256, by omega⟩ q) := by
  pointwise [ext]
  exact concatenate_pair_apply_right 0 a b _ (ix2 r q) rfl rfl (ix2 ⟨r.val - 256, by omega⟩ q)
    (fun b hb => match b, hb with | ⟨0, _⟩, hb => absurd rfl hb | ⟨1, _⟩, _ => rfl) (by show r.val - 256 + 256 = r.val; omega)

theorem dy_at (w a : Vec Ideal S256x1024 .bf16) (b : FVec Ideal S16x1024 .bf16) (x : Fin 1024 → EReal) (r : Fin 272) (q : Fin 256)
    (hlo : ∀ (h : r.val < 256) k, a (ix2 ⟨r.val, h⟩ k) = x k) (hhi : ∀ (h : 256 ≤ r.val) k, b (ix2 ⟨r.val - 256, by omega⟩ k) = x k) :
    dy (F := Ideal) w a b (ix2 r q) = ∑ k : Fin 1024, x k * w (ix2 q k) := by
  pointwise [dy]
  refine Finset.sum_congr rfl fun k _ => congrArg (· * w (ix2 q k)) ?_
  by_cases h : r.val < 256
  · rw [← hlo h k]
    exact concatenate_pair_apply_left 0 a b _ (ix2 r k) rfl (ix2 ⟨r.val, h⟩ k) (fun b => match b with | ⟨0, _⟩ => rfl | ⟨1, _⟩ => rfl)
  · rw [← hhi (by omega) k]
    exact concatenate_pair_apply_right 0 a b _ (ix2 r k) rfl rfl (ix2 ⟨r.val - 256, by omega⟩ k)
      (fun b hb => match b, hb with | ⟨0, _⟩, hb => absurd rfl hb | ⟨1, _⟩, _ => rfl) (by show r.val - 256 + 256 = r.val; omega)

theorem dcG_at (d g v : FVec Ideal S272x256 .f32) (r : Fin 272) (q : Fin 256) :
    dcG (F := Ideal) d g v (ix2 r q) = d (ix2 r q) * v (ix2 r q) * Spec.slope (g (ix2 r q)) := by
  pointwise [dcG, slope, hp, th]; rfl

theorem gelu_at (g : FVec Ideal S272x256 .f32) (r : Fin 272) (q : Fin 256) :
    gelu (F := Ideal) g (ix2 r q) = Spec.gelu (g (ix2 r q)) := by
  pointwise [gelu, hp, th]; rfl

theorem dcV_at (d g : FVec Ideal S272x256 .f32) (r : Fin 272) (q : Fin 256) :
    dcV (F := Ideal) d g (ix2 r q) = d (ix2 r q) * Spec.gelu (g (ix2 r q)) := by
  rw [← gelu_at]; pointwise [dcV]

theorem sh0_at (x : FVec Ideal S272x256 .f32) (r : Fin 256) (q : Fin 256) :
    sh0 (F := Ideal) x (ix2 r q) = x (ix2 ⟨r.val + 0, by omega⟩ q) := by
  pointwise [sh0]
theorem sh1_at (x : FVec Ideal S272x256 .f32) (r : Fin 256) (q : Fin 256) :
    sh1 (F := Ideal) x (ix2 r q) = x (ix2 ⟨r.val + 1, by omega⟩ q) := by
  pointwise [sh1]
  exact congrArg x (congrArg (fun a => ix2 a q) (Fin.ext (by show (r.val + 272 - 271) % 272 = r.val + 1; omega)))
theorem sh2_at (x : FVec Ideal S272x256 .f32) (r : Fin 256) (q : Fin 256) :
    sh2 (F := Ideal) x (ix2 r q) = x (ix2 ⟨r.val + 2, by omega⟩ q) := by
  pointwise [sh2]
  exact congrArg x (congrArg (fun a => ix2 a q) (Fin.ext (by show (r.val + 272 - 270) % 272 = r.val + 2; omega)))

theorem shk_at (k : Fin 3) (x : FVec Ideal S272x256 .f32) (r : Fin 256) (q : Fin 256) :
    shk (F := Ideal) k x (ix2 r q) = x (ix2 ⟨r.val + (2 - k.val), by omega⟩ q) := by
  match k with
  | 0 => exact sh2_at x r q
  | 1 => exact sh1_at x r q
  | 2 => exact sh0_at x r q

theorem du_at (w : Vec Ideal S3x256 .f32) (x : FVec Ideal S272x256 .f32) (r : Fin 256) (q : Fin 256) :
    du (F := Ideal) w x (ix2 r q) = x (ix2 ⟨r.val + 0, by omega⟩ q) * w (ix2 2 q) + x (ix2 ⟨r.val + 1, by omega⟩ q) * w (ix2 1 q)
      + x (ix2 ⟨r.val + 2, by omega⟩ q) * w (ix2 0 q) := by
  rw [← sh0_at x r q, ← sh1_at x r q, ← sh2_at x r q]
  pointwise [du]

theorem stepU_lo (g v : FVec Ideal S256x256 .bf16) (h : Vec Ideal S256x1024 .bf16) (acc : Vec Ideal S512x1024 .f32) (r : Fin 512) (q : Fin 1024)
    (hr : r.val < 256) :
    stepU (F := Ideal) g v h acc (ix2 r q) = acc (ix2 r q) + ∑ k : Fin 256, g (ix2 k ⟨r.val, hr⟩) * h (ix2 k q) := by
  pointwise [stepU]
  refine congrArg (acc (ix2 r q) + ·) (Finset.sum_congr rfl fun k _ => congrArg (· * h (ix2 k q)) ?_)
  exact concatenate_pair_apply_left 1 g v _ (ix2 k r) rfl (ix2 k ⟨r.val, hr⟩) (fun b => match b with | ⟨0, _⟩ => rfl | ⟨1, _⟩ => rfl)

theorem stepU_hi (g v : FVec Ideal S256x256 .bf16) (h : Vec Ideal S256x1024 .bf16) (acc : Vec Ideal S512x1024 .f32) (r : Fin 512) (q : Fin 1024)
    (hr : 256 ≤ r.val) :
    stepU (F := Ideal) g v h acc (ix2 r q) = acc (ix2 r q) + ∑ k : Fin 256, v (ix2 k ⟨r.val - 256, by omega⟩) * h (ix2 k q) := by
  pointwise [stepU]
  refine congrArg (acc (ix2 r q) + ·) (Finset.sum_congr rfl fun k _ => congrArg (· * h (ix2 k q)) ?_)
  exact concatenate_pair_apply_right 1 g v _ (ix2 k r) rfl rfl (ix2 k ⟨r.val - 256, by omega⟩)
    (fun b hb => match b, hb with | ⟨0, _⟩, _ => rfl | ⟨1, _⟩, hb => absurd rfl hb) (by show r.val - 256 + 256 = r.val; omega)

theorem stepD_at (g v : FVec Ideal S272x256 .f32) (d : Vec Ideal S256x1024 .bf16) (acc : Vec Ideal S256x1024 .f32) (r : Fin 256) (q : Fin 1024) :
    stepD (F := Ideal) g v d acc (ix2 r q)
      = acc (ix2 r q) + ∑ k : Fin 256, Spec.gelu (g (ix2 ⟨k.val, by omega⟩ r)) * v (ix2 ⟨k.val, by omega⟩ r) * d (ix2 k q) := by
  simp only [← gelu_at]
  pointwise [stepD]

theorem stepB_at (x : FVec Ideal S272x256 .f32) (acc : Vec Ideal S1x256 .f32) (r : Fin 1) (q : Fin 256) :
    stepB (F := Ideal) x acc (ix2 r q) = acc (ix2 r q) + ∑ k : Fin 256, x (ix2 ⟨k.val, by omega⟩ q) := by
  pointwise [stepB, rowSum, sh0]

theorem stepW_at (s : FVec Ideal S256x256 .f32) (u : Vec Ideal S256x256 .bf16) (acc : Vec Ideal S1x256 .f32) (r : Fin 1) (q : Fin 256) :
    stepW (F := Ideal) s u acc (ix2 r q) = acc (ix2 r q) + ∑ k : Fin 256, s (ix2 k q) * u (ix2 k q) := by
  pointwise [stepW, rowSum]

/-! ## A block's arrays -/

/-- The loads `l` of one grid point read the arrays `X` from row `n` and column `p` on. -/
structure Reads (X : Spec.Inp) (l : Loads Ideal) (n p : ℕ) : Prop where
  ug : ∀ (s : Fin 8) (r q : Fin 256), l.ug s (ix2 r q) = X.u (n + 256 * s.val + r.val) (p + q.val)
  uv : ∀ (s : Fin 8) (r q : Fin 256), l.uv s (ix2 r q) = X.u (n + 256 * s.val + r.val) (2816 + (p + q.val))
  g : ∀ (s : Fin 8) (r q : Fin 256), l.g s (ix2 r q) = X.c (n + 256 * s.val + r.val) (p + q.val)
  gn : ∀ (s : Fin 8) (r : Fin 16) (q : Fin 256), n + 256 * s.val + 256 + r.val < 8192 → l.gn s (ix2 r q) = X.c (n + 256 * s.val + 256 + r.val) (p + q.val)
  v : ∀ (s : Fin 8) (r q : Fin 256), l.v s (ix2 r q) = X.c (n + 256 * s.val + r.val) (2816 + (p + q.val))
  vn : ∀ (s : Fin 8) (r : Fin 16) (q : Fin 256), n + 256 * s.val + 256 + r.val < 8192 → l.vn s (ix2 r q) = X.c (n + 256 * s.val + 256 + r.val) (2816 + (p + q.val))
  d : ∀ (s : Fin 8) (r : Fin 256) (e : Fin 1024), l.d s (ix2 r e) = X.df (n + 256 * s.val + r.val) e.val
  dn : ∀ (s : Fin 8) (r : Fin 16) (e : Fin 1024), l.dn s (ix2 r e) = X.df (n + 256 * s.val + 256 + r.val) e.val
  wd : ∀ (q : Fin 256) (e : Fin 1024), l.wd (ix2 q e) = X.wd (p + q.val) e.val
  h : ∀ (s : Fin 8) (r : Fin 256) (e : Fin 1024), l.h s (ix2 r e) = X.h (n + 256 * s.val + r.val) e.val
  wg : ∀ (k : Fin 3) (q : Fin 256), l.wg (ix2 k q) = X.w k.val (p + q.val)
  wv : ∀ (k : Fin 3) (q : Fin 256), l.wv (ix2 k q) = X.w k.val (2816 + (p + q.val))
  /-- Past the sequence the cotangent is zero. -/
  z : ∀ t e, 8192 ≤ t → X.df t e = 0

namespace Reads

variable {X : Spec.Inp} {l : Loads Ideal} {n p : ℕ} (R : Reads X l n p)
include R

theorem dy0 (t f : ℕ) (h : 8192 ≤ t) : Spec.dy X t f = 0 := by
  unfold Spec.dy
  refine Finset.sum_eq_zero fun k _ => ?_
  rw [R.z t _ h, zero_mul]

theorem D_at (s : Fin 8) (r : Fin 272) (q : Fin 256) : l.D s (ix2 r q) = Spec.dy X (n + 256 * s.val + r.val) (p + q.val) := by
  unfold Loads.D Spec.dy
  rw [dy_at l.wd (l.d s) (l.dn s) (fun k => X.df (n + 256 * s.val + r.val) k.val) r q (fun h k => R.d s _ k)
    (fun h k => (R.dn s _ k).trans (congrArg (X.df · k.val) (by show n + 256 * s.val + 256 + (r.val - 256) = n + 256 * s.val + r.val; omega)))]
  exact Finset.sum_congr rfl fun k _ => congrArg _ (R.wd q k)

theorem G_at (s : Fin 8) (r : Fin 272) (q : Fin 256) (h : n + 256 * s.val + r.val < 8192) : l.G s (ix2 r q) = X.c (n + 256 * s.val + r.val) (p + q.val) := by
  unfold Loads.G
  by_cases hr : r.val < 256
  · rw [ext_lo _ _ r q hr, R.g]
  · rw [ext_hi _ _ r q (by omega), R.gn s _ q (by show n + 256 * s.val + 256 + (r.val - 256) < 8192; omega)]
    exact congrArg (X.c · (p + q.val)) (by show n + 256 * s.val + 256 + (r.val - 256) = n + 256 * s.val + r.val; omega)

theorem V_at (s : Fin 8) (r : Fin 272) (q : Fin 256) (h : n + 256 * s.val + r.val < 8192) : l.V s (ix2 r q) = X.c (n + 256 * s.val + r.val) (2816 + (p + q.val)) := by
  unfold Loads.V
  by_cases hr : r.val < 256
  · rw [ext_lo _ _ r q hr, R.v]
  · rw [ext_hi _ _ r q (by omega), R.vn s _ q (by show n + 256 * s.val + 256 + (r.val - 256) < 8192; omega)]
    exact congrArg (X.c · (2816 + (p + q.val))) (by show n + 256 * s.val + 256 + (r.val - 256) = n + 256 * s.val + r.val; omega)

theorem cG_at (s : Fin 8) (r : Fin 272) (q : Fin 256) : l.cG s (ix2 r q) = Spec.dcG X (n + 256 * s.val + r.val) (p + q.val) := by
  unfold Loads.cG Spec.dcG
  rw [dcG_at, R.D_at]
  by_cases h : n + 256 * s.val + r.val < 8192
  · rw [R.G_at s r q h, R.V_at s r q h]
  · rw [R.dy0 _ _ (by omega)]; simp only [zero_mul]

theorem cV_at (s : Fin 8) (r : Fin 272) (q : Fin 256) : l.cV s (ix2 r q) = Spec.dcV X (n + 256 * s.val + r.val) (p + q.val) := by
  unfold Loads.cV Spec.dcV
  rw [dcV_at, R.D_at]
  by_cases h : n + 256 * s.val + r.val < 8192
  · rw [R.G_at s r q h]
  · rw [R.dy0 _ _ (by omega)]; simp only [zero_mul]

theorem uG_at (s : Fin 8) (r q : Fin 256) : l.uG s (ix2 r q) = Spec.du X (Spec.dcG X) (p + q.val) (n + 256 * s.val + r.val) (p + q.val) := by
  unfold Loads.uG Spec.du
  rw [du_at]; simp only [R.cG_at, R.wg]; rfl

theorem uV_at (s : Fin 8) (r q : Fin 256) : l.uV s (ix2 r q) = Spec.du X (Spec.dcV X) (2816 + (p + q.val)) (n + 256 * s.val + r.val) (p + q.val) := by
  unfold Loads.uV Spec.du
  rw [du_at]; simp only [R.cV_at, R.wv]; rfl

/-! ## The terms each block adds -/

theorem fU_lo (s : Fin 8) (a : Vec Ideal S512x1024 .f32) (q : Fin 256) (e : Fin 1024) :
    fU l s a (ix2 ⟨q.val, by omega⟩ e) = a (ix2 ⟨q.val, by omega⟩ e)
      + ∑ k : Fin 256, Spec.termU X (Spec.dcG X) (p + q.val) (p + q.val) e.val (n + 256 * s.val + k.val) := by
  unfold fU Spec.termU
  rw [stepU_lo _ _ _ _ _ _ q.isLt]
  refine congrArg _ (Finset.sum_congr rfl fun k _ => ?_)
  rw [R.h]; exact congrArg (· * _) (R.uG_at s k q)

theorem fU_hi (s : Fin 8) (a : Vec Ideal S512x1024 .f32) (q : Fin 256) (e : Fin 1024) :
    fU l s a (ix2 ⟨256 + q.val, by omega⟩ e) = a (ix2 ⟨256 + q.val, by omega⟩ e)
      + ∑ k : Fin 256, Spec.termU X (Spec.dcV X) (2816 + (p + q.val)) (p + q.val) e.val (n + 256 * s.val + k.val) := by
  unfold fU Spec.termU
  rw [stepU_hi _ _ _ _ _ _ (by show 256 ≤ 256 + q.val; omega)]
  refine congrArg _ (Finset.sum_congr rfl fun k _ => ?_)
  rw [R.h]
  exact congrArg (· * _) ((congrArg (fun z => l.uV s (ix2 k z)) (Fin.ext (by show 256 + q.val - 256 = q.val; omega))).trans (R.uV_at s k q))

theorem fD_at (s : Fin 8) (a : Vec Ideal S256x1024 .f32) (q : Fin 256) (e : Fin 1024) (hn : n + 2048 ≤ 8192) :
    fD l s a (ix2 q e) = a (ix2 q e) + ∑ k : Fin 256, Spec.termD X (p + q.val) e.val (n + 256 * s.val + k.val) := by
  unfold fD Spec.termD
  rw [stepD_at]
  refine congrArg _ (Finset.sum_congr rfl fun k _ => ?_)
  have hs := s.isLt
  have hk := k.isLt
  rw [R.G_at s ⟨k.val, by omega⟩ q (by show n + 256 * s.val + k.val < 8192; omega), R.V_at s ⟨k.val, by omega⟩ q (by show n + 256 * s.val + k.val < 8192; omega), R.d]

theorem fBG_at (s : Fin 8) (a : Vec Ideal S1x256 .f32) (z : Fin 1) (q : Fin 256) :
    fB l.cG s a (ix2 z q) = a (ix2 z q) + ∑ k : Fin 256, Spec.dcG X (n + 256 * s.val + k.val) (p + q.val) := by
  unfold fB
  rw [stepB_at]
  exact congrArg _ (Finset.sum_congr rfl fun k _ => R.cG_at s ⟨k.val, by omega⟩ q)
theorem fBV_at (s : Fin 8) (a : Vec Ideal S1x256 .f32) (z : Fin 1) (q : Fin 256) :
    fB l.cV s a (ix2 z q) = a (ix2 z q) + ∑ k : Fin 256, Spec.dcV X (n + 256 * s.val + k.val) (p + q.val) := by
  unfold fB
  rw [stepB_at]
  exact congrArg _ (Finset.sum_congr rfl fun k _ => R.cV_at s ⟨k.val, by omega⟩ q)

theorem fWG_at (s : Fin 8) (i : Fin 3) (a : Vec Ideal S1x256 .f32) (z : Fin 1) (q : Fin 256) :
    fW l.cG l.ug s i a (ix2 z q) = a (ix2 z q) + ∑ k : Fin 256, Spec.termW X (Spec.dcG X) (p + q.val) (p + q.val) i.val (n + 256 * s.val + k.val) := by
  unfold fW Spec.termW
  rw [stepW_at]
  refine congrArg _ (Finset.sum_congr rfl fun k _ => ?_)
  rw [R.ug, shk_at, R.cG_at]
  exact congrArg (fun t => Spec.dcG X t (p + q.val) * _) (by show n + 256 * s.val + (k.val + (2 - i.val)) = _; omega)
theorem fWV_at (s : Fin 8) (i : Fin 3) (a : Vec Ideal S1x256 .f32) (z : Fin 1) (q : Fin 256) :
    fW l.cV l.uv s i a (ix2 z q) = a (ix2 z q) + ∑ k : Fin 256, Spec.termW X (Spec.dcV X) (2816 + (p + q.val)) (p + q.val) i.val (n + 256 * s.val + k.val) := by
  unfold fW Spec.termW
  rw [stepW_at]
  refine congrArg _ (Finset.sum_congr rfl fun k _ => ?_)
  rw [R.uv, shk_at, R.cV_at]
  exact congrArg (fun t => Spec.dcV X t (p + q.val) * _) (by show n + 256 * s.val + (k.val + (2 - i.val)) = _; omega)

end Reads

end Cert.KernelIdeal.Tile

end

end
-- ==== Proof.Load.lean ====
/- THE LOADS OF A GRID POINT, ONE BY ONE. A load from a staging buffer that holds a block is the block's rows there,
   whatever the buffer; and `Loads.of`'s fields at each of the eight blocks. -/
module

public import proofs.«01_k».proof.Proof.Fold

@[expose] public section

set_option synthInstance.maxSize 4096
set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F] [Named F]

theorem inbZ {S : Shape} {off : Fin S.rank → Nat} (h : off = fun _ => 0) : ∀ a, off a + S.size a ≤ S.size a := by
  subst h; intro a; exact (Nat.zero_add _).le

theorem z2 : (![0, 0] : Fin 2 → Nat) = fun _ => 0 := by
  funext a; match a with | ⟨0, _⟩ => rfl | ⟨1, _⟩ => rfl

theorem inbU0 : ∀ a, (![0, 0] : Fin 2 → Nat) a + S256x1024.size a ≤ S512x1024.size a := by
  intro a; match a with | ⟨0, _⟩ => exact (by decide : 0 + 256 ≤ 512) | ⟨1, _⟩ => exact (by decide : 0 + 1024 ≤ 1024)

theorem inbU1 : ∀ a, (![256, 0] : Fin 2 → Nat) a + S256x1024.size a ≤ S512x1024.size a := by
  intro a; match a with | ⟨0, _⟩ => exact (by decide : 256 + 256 ≤ 512) | ⟨1, _⟩ => exact (by decide : 0 + 1024 ≤ 1024)

/-! ## A load of rows, and of a whole block -/

theorem ldT0 (a : Memref sig .tc .vmem S2048x256 .bf16) (h : a.IsWhole) (x : Vec F S2048x256 .bf16) (inb : ∀ a, (![0, 0] : Fin 2 → Nat) a + S256x256.size a ≤ S2048x256.size a) :
    View.readAt (Elt F) a.view (Rect.unit ![0, 0] ![256, 256] inb : Rect S2048x256).toLoadRect (h.unread x) = View.ld x (rT 0) := by
  rw [View.readAt_eq_ld, Memref.IsWhole.read_unread]; rfl
theorem ldW0 (a : Memref sig .tc .vmem S2048x1024 .bf16) (h : a.IsWhole) (x : Vec F S2048x1024 .bf16) (inb : ∀ a, (![0, 0] : Fin 2 → Nat) a + S256x1024.size a ≤ S2048x1024.size a) :
    View.readAt (Elt F) a.view (Rect.unit ![0, 0] ![256, 1024] inb : Rect S2048x1024).toLoadRect (h.unread x) = View.ld x (rW 0) := by
  rw [View.readAt_eq_ld, Memref.IsWhole.read_unread]; rfl
theorem ldTn0 (a : Memref sig .tc .vmem S2048x256 .bf16) (h : a.IsWhole) (x : Vec F S2048x256 .bf16) (inb : ∀ a, (![256, 0] : Fin 2 → Nat) a + S16x256.size a ≤ S2048x256.size a) :
    View.readAt (Elt F) a.view (Rect.unit ![256, 0] ![16, 256] inb : Rect S2048x256).toLoadRect (h.unread x) = View.ld x (rTn 0 (by decide)) := by
  rw [View.readAt_eq_ld, Memref.IsWhole.read_unread]; rfl
theorem ldWn0 (a : Memref sig .tc .vmem S2048x1024 .bf16) (h : a.IsWhole) (x : Vec F S2048x1024 .bf16) (inb : ∀ a, (![256, 0] : Fin 2 → Nat) a + S16x1024.size a ≤ S2048x1024.size a) :
    View.readAt (Elt F) a.view (Rect.unit ![256, 0] ![16, 1024] inb : Rect S2048x1024).toLoadRect (h.unread x) = View.ld x (rWn 0 (by decide)) := by
  rw [View.readAt_eq_ld, Memref.IsWhole.read_unread]; rfl
theorem ldT1 (a : Memref sig .tc .vmem S2048x256 .bf16) (h : a.IsWhole) (x : Vec F S2048x256 .bf16) (inb : ∀ a, (![256, 0] : Fin 2 → Nat) a + S256x256.size a ≤ S2048x256.size a) :
    View.readAt (Elt F) a.view (Rect.unit ![256, 0] ![256, 256] inb : Rect S2048x256).toLoadRect (h.unread x) = View.ld x (rT 1) := by
  rw [View.readAt_eq_ld, Memref.IsWhole.read_unread]; rfl
theorem ldW1 (a : Memref sig .tc .vmem S2048x1024 .bf16) (h : a.IsWhole) (x : Vec F S2048x1024 .bf16) (inb : ∀ a, (![256, 0] : Fin 2 → Nat) a + S256x1024.size a ≤ S2048x1024.size a) :
    View.readAt (Elt F) a.view (Rect.unit ![256, 0] ![256, 1024] inb : Rect S2048x1024).toLoadRect (h.unread x) = View.ld x (rW 1) := by
  rw [View.readAt_eq_ld, Memref.IsWhole.read_unread]; rfl
theorem ldTn1 (a : Memref sig .tc .vmem S2048x256 .bf16) (h : a.IsWhole) (x : Vec F S2048x256 .bf16) (inb : ∀ a, (![512, 0] : Fin 2 → Nat) a + S16x256.size a ≤ S2048x256.size a) :
    View.readAt (Elt F) a.view (Rect.unit ![512, 0] ![16, 256] inb : Rect S2048x256).toLoadRect (h.unread x) = View.ld x (rTn 1 (by decide)) := by
  rw [View.readAt_eq_ld, Memref.IsWhole.read_unread]; rfl
theorem ldWn1 (a : Memref sig .tc .vmem S2048x1024 .bf16) (h : a.IsWhole) (x : Vec F S2048x1024 .bf16) (inb : ∀ a, (![512, 0] : Fin 2 → Nat) a + S16x1024.size a ≤ S2048x1024.size a) :
    View.readAt (Elt F) a.view (Rect.unit ![512, 0] ![16, 1024] inb : Rect S2048x1024).toLoadRect (h.unread x) = View.ld x (rWn 1 (by decide)) := by
  rw [View.readAt_eq_ld, Memref.IsWhole.read_unread]; rfl
theorem ldT2 (a : Memref sig .tc .vmem S2048x256 .bf16) (h : a.IsWhole) (x : Vec F S2048x256 .bf16) (inb : ∀ a, (![512, 0] : Fin 2 → Nat) a + S256x256.size a ≤ S2048x256.size a) :
    View.readAt (Elt F) a.view (Rect.unit ![512, 0] ![256, 256] inb : Rect S2048x256).toLoadRect (h.unread x) = View.ld x (rT 2) := by
  rw [View.readAt_eq_ld, Memref.IsWhole.read_unread]; rfl
theorem ldW2 (a : Memref sig .tc .vmem S2048x1024 .bf16) (h : a.IsWhole) (x : Vec F S2048x1024 .bf16) (inb : ∀ a, (![512, 0] : Fin 2 → Nat) a + S256x1024.size a ≤ S2048x1024.size a) :
    View.readAt (Elt F) a.view (Rect.unit ![512, 0] ![256, 1024] inb : Rect S2048x1024).toLoadRect (h.unread x) = View.ld x (rW 2) := by
  rw [View.readAt_eq_ld, Memref.IsWhole.read_unread]; rfl
theorem ldTn2 (a : Memref sig .tc .vmem S2048x256 .bf16) (h : a.IsWhole) (x : Vec F S2048x256 .bf16) (inb : ∀ a, (![768, 0] : Fin 2 → Nat) a + S16x256.size a ≤ S2048x256.size a) :
    View.readAt (Elt F) a.view (Rect.unit ![768, 0] ![16, 256] inb : Rect S2048x256).toLoadRect (h.unread x) = View.ld x (rTn 2 (by decide)) := by
  rw [View.readAt_eq_ld, Memref.IsWhole.read_unread]; rfl
theorem ldWn2 (a : Memref sig .tc .vmem S2048x1024 .bf16) (h : a.IsWhole) (x : Vec F S2048x1024 .bf16) (inb : ∀ a, (![768, 0] : Fin 2 → Nat) a + S16x1024.size a ≤ S2048x1024.size a) :
    View.readAt (Elt F) a.view (Rect.unit ![768, 0] ![16, 1024] inb : Rect S2048x1024).toLoadRect (h.unread x) = View.ld x (rWn 2 (by decide)) := by
  rw [View.readAt_eq_ld, Memref.IsWhole.read_unread]; rfl
theorem ldT3 (a : Memref sig .tc .vmem S2048x256 .bf16) (h : a.IsWhole) (x : Vec F S2048x256 .bf16) (inb : ∀ a, (![768, 0] : Fin 2 → Nat) a + S256x256.size a ≤ S2048x256.size a) :
    View.readAt (Elt F) a.view (Rect.unit ![768, 0] ![256, 256] inb : Rect S2048x256).toLoadRect (h.unread x) = View.ld x (rT 3) := by
  rw [View.readAt_eq_ld, Memref.IsWhole.read_unread]; rfl
theorem ldW3 (a : Memref sig .tc .vmem S2048x1024 .bf16) (h : a.IsWhole) (x : Vec F S2048x1024 .bf16) (inb : ∀ a, (![768, 0] : Fin 2 → Nat) a + S256x1024.size a ≤ S2048x1024.size a) :
    View.readAt (Elt F) a.view (Rect.unit ![768, 0] ![256, 1024] inb : Rect S2048x1024).toLoadRect (h.unread x) = View.ld x (rW 3) := by
  rw [View.readAt_eq_ld, Memref.IsWhole.read_unread]; rfl
theorem ldTn3 (a : Memref sig .tc .vmem S2048x256 .bf16) (h : a.IsWhole) (x : Vec F S2048x256 .bf16) (inb : ∀ a, (![1024, 0] : Fin 2 → Nat) a + S16x256.size a ≤ S2048x256.size a) :
    View.readAt (Elt F) a.view (Rect.unit ![1024, 0] ![16, 256] inb : Rect S2048x256).toLoadRect (h.unread x) = View.ld x (rTn 3 (by decide)) := by
  rw [View.readAt_eq_ld, Memref.IsWhole.read_unread]; rfl
theorem ldWn3 (a : Memref sig .tc .vmem S2048x1024 .bf16) (h : a.IsWhole) (x : Vec F S2048x1024 .bf16) (inb : ∀ a, (![1024, 0] : Fin 2 → Nat) a + S16x1024.size a ≤ S2048x1024.size a) :
    View.readAt (Elt F) a.view (Rect.unit ![1024, 0] ![16, 1024] inb : Rect S2048x1024).toLoadRect (h.unread x) = View.ld x (rWn 3 (by decide)) := by
  rw [View.readAt_eq_ld, Memref.IsWhole.read_unread]; rfl
theorem ldT4 (a : Memref sig .tc .vmem S2048x256 .bf16) (h : a.IsWhole) (x : Vec F S2048x256 .bf16) (inb : ∀ a, (![1024, 0] : Fin 2 → Nat) a + S256x256.size a ≤ S2048x256.size a) :
    View.readAt (Elt F) a.view (Rect.unit ![1024, 0] ![256, 256] inb : Rect S2048x256).toLoadRect (h.unread x) = View.ld x (rT 4) := by
  rw [View.readAt_eq_ld, Memref.IsWhole.read_unread]; rfl
theorem ldW4 (a : Memref sig .tc .vmem S2048x1024 .bf16) (h : a.IsWhole) (x : Vec F S2048x1024 .bf16) (inb : ∀ a, (![1024, 0] : Fin 2 → Nat) a + S256x1024.size a ≤ S2048x1024.size a) :
    View.readAt (Elt F) a.view (Rect.unit ![1024, 0] ![256, 1024] inb : Rect S2048x1024).toLoadRect (h.unread x) = View.ld x (rW 4) := by
  rw [View.readAt_eq_ld, Memref.IsWhole.read_unread]; rfl
theorem ldTn4 (a : Memref sig .tc .vmem S2048x256 .bf16) (h : a.IsWhole) (x : Vec F S2048x256 .bf16) (inb : ∀ a, (![1280, 0] : Fin 2 → Nat) a + S16x256.size a ≤ S2048x256.size a) :
    View.readAt (Elt F) a.view (Rect.unit ![1280, 0] ![16, 256] inb : Rect S2048x256).toLoadRect (h.unread x) = View.ld x (rTn 4 (by decide)) := by
  rw [View.readAt_eq_ld, Memref.IsWhole.read_unread]; rfl
theorem ldWn4 (a : Memref sig .tc .vmem S2048x1024 .bf16) (h : a.IsWhole) (x : Vec F S2048x1024 .bf16) (inb : ∀ a, (![1280, 0] : Fin 2 → Nat) a + S16x1024.size a ≤ S2048x1024.size a) :
    View.readAt (Elt F) a.view (Rect.unit ![1280, 0] ![16, 1024] inb : Rect S2048x1024).toLoadRect (h.unread x) = View.ld x (rWn 4 (by decide)) := by
  rw [View.readAt_eq_ld, Memref.IsWhole.read_unread]; rfl
theorem ldT5 (a : Memref sig .tc .vmem S2048x256 .bf16) (h : a.IsWhole) (x : Vec F S2048x256 .bf16) (inb : ∀ a, (![1280, 0] : Fin 2 → Nat) a + S256x256.size a ≤ S2048x256.size a) :
    View.readAt (Elt F) a.view (Rect.unit ![1280, 0] ![256, 256] inb : Rect S2048x256).toLoadRect (h.unread x) = View.ld x (rT 5) := by
  rw [View.readAt_eq_ld, Memref.IsWhole.read_unread]; rfl
theorem ldW5 (a : Memref sig .tc .vmem S2048x1024 .bf16) (h : a.IsWhole) (x : Vec F S2048x1024 .bf16) (inb : ∀ a, (![1280, 0] : Fin 2 → Nat) a + S256x1024.size a ≤ S2048x1024.size a) :
    View.readAt (Elt F) a.view (Rect.unit ![1280, 0] ![256, 1024] inb : Rect S2048x1024).toLoadRect (h.unread x) = View.ld x (rW 5) := by
  rw [View.readAt_eq_ld, Memref.IsWhole.read_unread]; rfl
theorem ldTn5 (a : Memref sig .tc .vmem S2048x256 .bf16) (h : a.IsWhole) (x : Vec F S2048x256 .bf16) (inb : ∀ a, (![1536, 0] : Fin 2 → Nat) a + S16x256.size a ≤ S2048x256.size a) :
    View.readAt (Elt F) a.view (Rect.unit ![1536, 0] ![16, 256] inb : Rect S2048x256).toLoadRect (h.unread x) = View.ld x (rTn 5 (by decide)) := by
  rw [View.readAt_eq_ld, Memref.IsWhole.read_unread]; rfl
theorem ldWn5 (a : Memref sig .tc .vmem S2048x1024 .bf16) (h : a.IsWhole) (x : Vec F S2048x1024 .bf16) (inb : ∀ a, (![1536, 0] : Fin 2 → Nat) a + S16x1024.size a ≤ S2048x1024.size a) :
    View.readAt (Elt F) a.view (Rect.unit ![1536, 0] ![16, 1024] inb : Rect S2048x1024).toLoadRect (h.unread x) = View.ld x (rWn 5 (by decide)) := by
  rw [View.readAt_eq_ld, Memref.IsWhole.read_unread]; rfl
theorem ldT6 (a : Memref sig .tc .vmem S2048x256 .bf16) (h : a.IsWhole) (x : Vec F S2048x256 .bf16) (inb : ∀ a, (![1536, 0] : Fin 2 → Nat) a + S256x256.size a ≤ S2048x256.size a) :
    View.readAt (Elt F) a.view (Rect.unit ![1536, 0] ![256, 256] inb : Rect S2048x256).toLoadRect (h.unread x) = View.ld x (rT 6) := by
  rw [View.readAt_eq_ld, Memref.IsWhole.read_unread]; rfl
theorem ldW6 (a : Memref sig .tc .vmem S2048x1024 .bf16) (h : a.IsWhole) (x : Vec F S2048x1024 .bf16) (inb : ∀ a, (![1536, 0] : Fin 2 → Nat) a + S256x1024.size a ≤ S2048x1024.size a) :
    View.readAt (Elt F) a.view (Rect.unit ![1536, 0] ![256, 1024] inb : Rect S2048x1024).toLoadRect (h.unread x) = View.ld x (rW 6) := by
  rw [View.readAt_eq_ld, Memref.IsWhole.read_unread]; rfl
theorem ldTn6 (a : Memref sig .tc .vmem S2048x256 .bf16) (h : a.IsWhole) (x : Vec F S2048x256 .bf16) (inb : ∀ a, (![1792, 0] : Fin 2 → Nat) a + S16x256.size a ≤ S2048x256.size a) :
    View.readAt (Elt F) a.view (Rect.unit ![1792, 0] ![16, 256] inb : Rect S2048x256).toLoadRect (h.unread x) = View.ld x (rTn 6 (by decide)) := by
  rw [View.readAt_eq_ld, Memref.IsWhole.read_unread]; rfl
theorem ldWn6 (a : Memref sig .tc .vmem S2048x1024 .bf16) (h : a.IsWhole) (x : Vec F S2048x1024 .bf16) (inb : ∀ a, (![1792, 0] : Fin 2 → Nat) a + S16x1024.size a ≤ S2048x1024.size a) :
    View.readAt (Elt F) a.view (Rect.unit ![1792, 0] ![16, 1024] inb : Rect S2048x1024).toLoadRect (h.unread x) = View.ld x (rWn 6 (by decide)) := by
  rw [View.readAt_eq_ld, Memref.IsWhole.read_unread]; rfl
theorem ldT7 (a : Memref sig .tc .vmem S2048x256 .bf16) (h : a.IsWhole) (x : Vec F S2048x256 .bf16) (inb : ∀ a, (![1792, 0] : Fin 2 → Nat) a + S256x256.size a ≤ S2048x256.size a) :
    View.readAt (Elt F) a.view (Rect.unit ![1792, 0] ![256, 256] inb : Rect S2048x256).toLoadRect (h.unread x) = View.ld x (rT 7) := by
  rw [View.readAt_eq_ld, Memref.IsWhole.read_unread]; rfl
theorem ldW7 (a : Memref sig .tc .vmem S2048x1024 .bf16) (h : a.IsWhole) (x : Vec F S2048x1024 .bf16) (inb : ∀ a, (![1792, 0] : Fin 2 → Nat) a + S256x1024.size a ≤ S2048x1024.size a) :
    View.readAt (Elt F) a.view (Rect.unit ![1792, 0] ![256, 1024] inb : Rect S2048x1024).toLoadRect (h.unread x) = View.ld x (rW 7) := by
  rw [View.readAt_eq_ld, Memref.IsWhole.read_unread]; rfl
theorem ldS16x256 (a : Memref sig .tc .vmem S16x256 .bf16) (h : a.IsWhole) (x : Vec F S16x256 .bf16) (inb : ∀ a, (![0, 0] : Fin 2 → Nat) a + S16x256.size a ≤ S16x256.size a) :
    View.readAt (Elt F) a.view (Rect.unit ![0, 0] ![16, 256] inb : Rect S16x256).toLoadRect (h.unread x) = x := by
  rw [View.readAt_eq_ld, Memref.IsWhole.read_unread]; exact View.ld_unit_zero z2 _ _
theorem ldS16x1024 (a : Memref sig .tc .vmem S16x1024 .bf16) (h : a.IsWhole) (x : Vec F S16x1024 .bf16) (inb : ∀ a, (![0, 0] : Fin 2 → Nat) a + S16x1024.size a ≤ S16x1024.size a) :
    View.readAt (Elt F) a.view (Rect.unit ![0, 0] ![16, 1024] inb : Rect S16x1024).toLoadRect (h.unread x) = x := by
  rw [View.readAt_eq_ld, Memref.IsWhole.read_unread]; exact View.ld_unit_zero z2 _ _
theorem ldS256x1024 (a : Memref sig .tc .vmem S256x1024 .bf16) (h : a.IsWhole) (x : Vec F S256x1024 .bf16) (inb : ∀ a, (![0, 0] : Fin 2 → Nat) a + S256x1024.size a ≤ S256x1024.size a) :
    View.readAt (Elt F) a.view (Rect.unit ![0, 0] ![256, 1024] inb : Rect S256x1024).toLoadRect (h.unread x) = x := by
  rw [View.readAt_eq_ld, Memref.IsWhole.read_unread]; exact View.ld_unit_zero z2 _ _
theorem ldS3x256f (a : Memref sig .tc .vmem S3x256 .f32) (h : a.IsWhole) (x : Vec F S3x256 .f32) (inb : ∀ a, (![0, 0] : Fin 2 → Nat) a + S3x256.size a ≤ S3x256.size a) :
    View.readAt (Elt F) a.view (Rect.unit ![0, 0] ![3, 256] inb : Rect S3x256).toLoadRect (h.unread x) = x := by
  rw [View.readAt_eq_ld, Memref.IsWhole.read_unread]; exact View.ld_unit_zero z2 _ _
theorem ldS1x256f (a : Memref sig .tc .vmem S1x256 .f32) (h : a.IsWhole) (x : Vec F S1x256 .f32) (inb : ∀ a, (![0, 0] : Fin 2 → Nat) a + S1x256.size a ≤ S1x256.size a) :
    View.readAt (Elt F) a.view (Rect.unit ![0, 0] ![1, 256] inb : Rect S1x256).toLoadRect (h.unread x) = x := by
  rw [View.readAt_eq_ld, Memref.IsWhole.read_unread]; exact View.ld_unit_zero z2 _ _
theorem ldS512x1024f (a : Memref sig .tc .vmem S512x1024 .f32) (h : a.IsWhole) (x : Vec F S512x1024 .f32) (inb : ∀ a, (![0, 0] : Fin 2 → Nat) a + S512x1024.size a ≤ S512x1024.size a) :
    View.readAt (Elt F) a.view (Rect.unit ![0, 0] ![512, 1024] inb : Rect S512x1024).toLoadRect (h.unread x) = x := by
  rw [View.readAt_eq_ld, Memref.IsWhole.read_unread]; exact View.ld_unit_zero z2 _ _
theorem ldS256x1024f (a : Memref sig .tc .vmem S256x1024 .f32) (h : a.IsWhole) (x : Vec F S256x1024 .f32) (inb : ∀ a, (![0, 0] : Fin 2 → Nat) a + S256x1024.size a ≤ S256x1024.size a) :
    View.readAt (Elt F) a.view (Rect.unit ![0, 0] ![256, 1024] inb : Rect S256x1024).toLoadRect (h.unread x) = x := by
  rw [View.readAt_eq_ld, Memref.IsWhole.read_unread]; exact View.ld_unit_zero z2 _ _
theorem ldR0 (a : Memref sig .tc .vmem S3x256 .f32) (h : a.IsWhole) (x : Vec F S3x256 .f32) (inb : ∀ a, (![0, 0] : Fin 2 → Nat) a + S1x256.size a ≤ S3x256.size a) :
    View.readAt (Elt F) a.view (Rect.unit ![0, 0] ![1, 256] inb : Rect S3x256).toLoadRect (h.unread x) = View.ld x (rR 0) := by
  rw [View.readAt_eq_ld, Memref.IsWhole.read_unread]; rfl
theorem ldR1 (a : Memref sig .tc .vmem S3x256 .f32) (h : a.IsWhole) (x : Vec F S3x256 .f32) (inb : ∀ a, (![1, 0] : Fin 2 → Nat) a + S1x256.size a ≤ S3x256.size a) :
    View.readAt (Elt F) a.view (Rect.unit ![1, 0] ![1, 256] inb : Rect S3x256).toLoadRect (h.unread x) = View.ld x (rR 1) := by
  rw [View.readAt_eq_ld, Memref.IsWhole.read_unread]; rfl
theorem ldR2 (a : Memref sig .tc .vmem S3x256 .f32) (h : a.IsWhole) (x : Vec F S3x256 .f32) (inb : ∀ a, (![2, 0] : Fin 2 → Nat) a + S1x256.size a ≤ S3x256.size a) :
    View.readAt (Elt F) a.view (Rect.unit ![2, 0] ![1, 256] inb : Rect S3x256).toLoadRect (h.unread x) = View.ld x (rR 2) := by
  rw [View.readAt_eq_ld, Memref.IsWhole.read_unread]; rfl

/-! ## The fields of `Loads.of` -/

section Of

variable (i : grid0.Coords) (x0 x1 x2 : Vec F S2048x256 .bf16) (x3 : Vec F S16x256 .bf16) (x4 : Vec F S2048x256 .bf16)
    (x5 : Vec F S16x256 .bf16) (x6 : Vec F S2048x1024 .bf16) (x7 : Vec F S16x1024 .bf16) (x8 : Vec F S256x1024 .bf16)
    (x9 : Vec F S2048x1024 .bf16) (x10 x11 : Vec F S3x256 .f32)

theorem of_ug (s : Fin 8) : (Loads.of i x0 x1 x2 x3 x4 x5 x6 x7 x8 x9 x10 x11).ug s = View.ld x0 (rT s) := by unfold Loads.of; exact rfl
theorem of_uv (s : Fin 8) : (Loads.of i x0 x1 x2 x3 x4 x5 x6 x7 x8 x9 x10 x11).uv s = View.ld x1 (rT s) := by unfold Loads.of; exact rfl
theorem of_g (s : Fin 8) : (Loads.of i x0 x1 x2 x3 x4 x5 x6 x7 x8 x9 x10 x11).g s = View.ld x2 (rT s) := by unfold Loads.of; exact rfl
theorem of_v (s : Fin 8) : (Loads.of i x0 x1 x2 x3 x4 x5 x6 x7 x8 x9 x10 x11).v s = View.ld x4 (rT s) := by unfold Loads.of; exact rfl
theorem of_d (s : Fin 8) : (Loads.of i x0 x1 x2 x3 x4 x5 x6 x7 x8 x9 x10 x11).d s = View.ld x6 (rW s) := by unfold Loads.of; exact rfl
theorem of_h (s : Fin 8) : (Loads.of i x0 x1 x2 x3 x4 x5 x6 x7 x8 x9 x10 x11).h s = View.ld x9 (rW s) := by unfold Loads.of; exact rfl
theorem of_wd : (Loads.of i x0 x1 x2 x3 x4 x5 x6 x7 x8 x9 x10 x11).wd = x8 := by unfold Loads.of; exact rfl
theorem of_wg : (Loads.of i x0 x1 x2 x3 x4 x5 x6 x7 x8 x9 x10 x11).wg = x10 := by unfold Loads.of; exact rfl
theorem of_wv : (Loads.of i x0 x1 x2 x3 x4 x5 x6 x7 x8 x9 x10 x11).wv = x11 := by unfold Loads.of; exact rfl
theorem of_gn0 : (Loads.of i x0 x1 x2 x3 x4 x5 x6 x7 x8 x9 x10 x11).gn 0 = View.ld x2 (rTn 0 (by decide)) := by unfold Loads.of; dsimp only; exact dif_pos (by decide)
theorem of_vn0 : (Loads.of i x0 x1 x2 x3 x4 x5 x6 x7 x8 x9 x10 x11).vn 0 = View.ld x4 (rTn 0 (by decide)) := by unfold Loads.of; dsimp only; exact dif_pos (by decide)
theorem of_dn0 : (Loads.of i x0 x1 x2 x3 x4 x5 x6 x7 x8 x9 x10 x11).dn 0 = shapeCast S16x1024 (View.ld x6 (rWn 0 (by decide)) : Vec F S16x1024 .bf16) shapeCasts_S16x1024_S16x1024 := by unfold Loads.of; dsimp only; exact dif_pos (by decide)
theorem of_gn1 : (Loads.of i x0 x1 x2 x3 x4 x5 x6 x7 x8 x9 x10 x11).gn 1 = View.ld x2 (rTn 1 (by decide)) := by unfold Loads.of; dsimp only; exact dif_pos (by decide)
theorem of_vn1 : (Loads.of i x0 x1 x2 x3 x4 x5 x6 x7 x8 x9 x10 x11).vn 1 = View.ld x4 (rTn 1 (by decide)) := by unfold Loads.of; dsimp only; exact dif_pos (by decide)
theorem of_dn1 : (Loads.of i x0 x1 x2 x3 x4 x5 x6 x7 x8 x9 x10 x11).dn 1 = shapeCast S16x1024 (View.ld x6 (rWn 1 (by decide)) : Vec F S16x1024 .bf16) shapeCasts_S16x1024_S16x1024 := by unfold Loads.of; dsimp only; exact dif_pos (by decide)
theorem of_gn2 : (Loads.of i x0 x1 x2 x3 x4 x5 x6 x7 x8 x9 x10 x11).gn 2 = View.ld x2 (rTn 2 (by decide)) := by unfold Loads.of; dsimp only; exact dif_pos (by decide)
theorem of_vn2 : (Loads.of i x0 x1 x2 x3 x4 x5 x6 x7 x8 x9 x10 x11).vn 2 = View.ld x4 (rTn 2 (by decide)) := by unfold Loads.of; dsimp only; exact dif_pos (by decide)
theorem of_dn2 : (Loads.of i x0 x1 x2 x3 x4 x5 x6 x7 x8 x9 x10 x11).dn 2 = shapeCast S16x1024 (View.ld x6 (rWn 2 (by decide)) : Vec F S16x1024 .bf16) shapeCasts_S16x1024_S16x1024 := by unfold Loads.of; dsimp only; exact dif_pos (by decide)
theorem of_gn3 : (Loads.of i x0 x1 x2 x3 x4 x5 x6 x7 x8 x9 x10 x11).gn 3 = View.ld x2 (rTn 3 (by decide)) := by unfold Loads.of; dsimp only; exact dif_pos (by decide)
theorem of_vn3 : (Loads.of i x0 x1 x2 x3 x4 x5 x6 x7 x8 x9 x10 x11).vn 3 = View.ld x4 (rTn 3 (by decide)) := by unfold Loads.of; dsimp only; exact dif_pos (by decide)
theorem of_dn3 : (Loads.of i x0 x1 x2 x3 x4 x5 x6 x7 x8 x9 x10 x11).dn 3 = shapeCast S16x1024 (View.ld x6 (rWn 3 (by decide)) : Vec F S16x1024 .bf16) shapeCasts_S16x1024_S16x1024 := by unfold Loads.of; dsimp only; exact dif_pos (by decide)
theorem of_gn4 : (Loads.of i x0 x1 x2 x3 x4 x5 x6 x7 x8 x9 x10 x11).gn 4 = View.ld x2 (rTn 4 (by decide)) := by unfold Loads.of; dsimp only; exact dif_pos (by decide)
theorem of_vn4 : (Loads.of i x0 x1 x2 x3 x4 x5 x6 x7 x8 x9 x10 x11).vn 4 = View.ld x4 (rTn 4 (by decide)) := by unfold Loads.of; dsimp only; exact dif_pos (by decide)
theorem of_dn4 : (Loads.of i x0 x1 x2 x3 x4 x5 x6 x7 x8 x9 x10 x11).dn 4 = shapeCast S16x1024 (View.ld x6 (rWn 4 (by decide)) : Vec F S16x1024 .bf16) shapeCasts_S16x1024_S16x1024 := by unfold Loads.of; dsimp only; exact dif_pos (by decide)
theorem of_gn5 : (Loads.of i x0 x1 x2 x3 x4 x5 x6 x7 x8 x9 x10 x11).gn 5 = View.ld x2 (rTn 5 (by decide)) := by unfold Loads.of; dsimp only; exact dif_pos (by decide)
theorem of_vn5 : (Loads.of i x0 x1 x2 x3 x4 x5 x6 x7 x8 x9 x10 x11).vn 5 = View.ld x4 (rTn 5 (by decide)) := by unfold Loads.of; dsimp only; exact dif_pos (by decide)
theorem of_dn5 : (Loads.of i x0 x1 x2 x3 x4 x5 x6 x7 x8 x9 x10 x11).dn 5 = shapeCast S16x1024 (View.ld x6 (rWn 5 (by decide)) : Vec F S16x1024 .bf16) shapeCasts_S16x1024_S16x1024 := by unfold Loads.of; dsimp only; exact dif_pos (by decide)
theorem of_gn6 : (Loads.of i x0 x1 x2 x3 x4 x5 x6 x7 x8 x9 x10 x11).gn 6 = View.ld x2 (rTn 6 (by decide)) := by unfold Loads.of; dsimp only; exact dif_pos (by decide)
theorem of_vn6 : (Loads.of i x0 x1 x2 x3 x4 x5 x6 x7 x8 x9 x10 x11).vn 6 = View.ld x4 (rTn 6 (by decide)) := by unfold Loads.of; dsimp only; exact dif_pos (by decide)
theorem of_dn6 : (Loads.of i x0 x1 x2 x3 x4 x5 x6 x7 x8 x9 x10 x11).dn 6 = shapeCast S16x1024 (View.ld x6 (rWn 6 (by decide)) : Vec F S16x1024 .bf16) shapeCasts_S16x1024_S16x1024 := by unfold Loads.of; dsimp only; exact dif_pos (by decide)
theorem of_gn7 : (Loads.of i x0 x1 x2 x3 x4 x5 x6 x7 x8 x9 x10 x11).gn 7 = x3 := by unfold Loads.of; dsimp only; exact dif_neg (by decide)
theorem of_vn7 : (Loads.of i x0 x1 x2 x3 x4 x5 x6 x7 x8 x9 x10 x11).vn 7 = x5 := by unfold Loads.of; dsimp only; exact dif_neg (by decide)
theorem of_dn7 : (Loads.of i x0 x1 x2 x3 x4 x5 x6 x7 x8 x9 x10 x11).dn 7 = tail i x7 := by unfold Loads.of; dsimp only; exact dif_neg (by decide)

end Of

/-! ## The named forms, recognised -/

theorem fold_ext (a : Vec F S256x256 .bf16) (b : Vec F S16x256 .bf16) (h1 h2 h3 h4) :
    extf .f32 (concatenate S272x256 0 [⟨S256x256, (shapeCast S256x256 a h1 : FVec F S256x256 .bf16)⟩, ⟨S16x256, (shapeCast S16x256 b h2 : FVec F S16x256 .bf16)⟩] h3 : FVec F S272x256 .bf16) h4
      = ext a b := rfl

theorem fold_dy (wd a : Vec F S256x1024 .bf16) (b : FVec F S16x1024 .bf16) (h1 h2 h3) :
    matmul dot_S272x1024_S256x1024_S272x256_1_1_0_0_n_n none
      (concatenate S272x1024 0 [⟨S256x1024, (shapeCast S256x1024 a h1 : FVec F S256x1024 .bf16)⟩, ⟨S16x1024, b⟩] h2 : FVec F S272x1024 .bf16)
      (shapeCast S256x1024 wd h3 : FVec F S256x1024 .bf16) (constant S272x256 .f32 0x00000000#32) = dy wd a b := rfl

/-- The product inside the up weights' step. -/
def mmU (g v : FVec F S256x256 .bf16) (h : FVec F S256x1024 .bf16) : FVec F S512x1024 .f32 :=
  matmul dot_S256x512_S256x1024_S512x1024_0_0_1_1_n_n none
    (concatenate S256x512 1 [⟨S256x256, g⟩, ⟨S256x256, v⟩] concatenates_S256x256_S256x256_S256x512_d1 : FVec F S256x512 .bf16)
    h (constant S512x1024 .f32 0x00000000#32)

theorem fold_mmU (g v : FVec F S256x256 .bf16) (h : FVec F S256x1024 .bf16) (h2) :
    matmul dot_S256x512_S256x1024_S512x1024_0_0_1_1_n_n none
    (concatenate S256x512 1 [⟨S256x256, g⟩, ⟨S256x256, v⟩] h2 : FVec F S256x512 .bf16)
    h (constant S512x1024 .f32 0x00000000#32) = mmU g v h := rfl

/-! ## One store more -/

section Cons

variable {Val : EltTy → Type} [∀ e, Nonempty (Val e)] {κ : Kind} {sp : Space} {e : EltTy} {S : Shape}

theorem wl_cons (v : View sig κ sp S e) (off : Fin S.rank → Nat) (inb : ∀ a, off a + S.size a ≤ S.size a)
    (init : List (View.Piece Val S e)) (f : (S.Idx → Val e) → (S.Idx → Val e)) (fs : List ((S.Idx → Val e) → (S.Idx → Val e))) :
    wl v off inb init (f :: fs) = ⟨Rect.unit off S.size inb, f (v.readCov (wl v off inb init fs) (Rect.unit off S.size inb).toLoadRect)⟩ :: wl v off inb init fs := rfl

theorem wr_cons (v : View sig κ sp S3x256 e) (init : List (View.Piece Val S3x256 e)) (p : Fin 3 × ((S1x256.Idx → Val e) → (S1x256.Idx → Val e)))
    (ps : List (Fin 3 × ((S1x256.Idx → Val e) → (S1x256.Idx → Val e)))) :
    wr v init (p :: ps) = ⟨rR p.1, p.2 (v.readCov (wr v init ps) (rR p.1).toLoadRect)⟩ :: wr v init ps := rfl

end Cons

end Cert.KernelIdeal.Tile

end

end
-- ==== Proof.RunA.lean ====
/- ONE GRID POINT AT THE FIRST ROW BLOCK. What the body of the kernel stores, window by window, at the first row
   block of a column block, where every running sum starts from zero: the stores are lists over the loads of the
   point, one entry for each of the eight strips of rows. -/
module

public import proofs.«01_k».proof.Proof.Fold
public import proofs.«01_k».proof.Proof.Gen.KernelIdeal.Frame.RunA
public import proofs.«01_k».proof.Proof.Load

@[expose] public section

set_option synthInstance.maxSize 4096
set_option maxRecDepth 16384

noncomputable section

namespace Cert.KernelIdeal.Tile

open Cert.KernelIdeal.Gen.kernelRun0_A.sl
open Cert.KernelIdeal Cert.KernelIdeal.Gen Idealize.ShloMosaic Idealize.ShloMosaic.TcCoe Idealize.SL.Sem

variable {F : FTy → Type} [FloatOps F] [Named F]

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S16x256 .bf16) (harg5 : arg5.IsWhole) (arg6 : Memref sig .tc .vmem S2048x256 .bf16) (harg6 : arg6.IsWhole) (arg7 : Memref sig .tc .vmem S16x256 .bf16) (harg7 : arg7.IsWhole) (arg8 : Memref sig .tc .vmem S2048x1024 .bf16) (harg8 : arg8.IsWhole) (arg9 : Memref sig .tc .vmem S16x1024 .bf16) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S3x256 .f32) (harg12 : arg12.IsWhole) (arg13 : Memref sig .tc .vmem S3x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S3x256 .f32) (harg19 : arg19.IsWhole) (arg20 : Memref sig .tc .vmem S3x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S256x1024 .f32) (harg24 : arg24.IsWhole) (hc0 : cond0_0 i) (hc1 : ¬cond0_1 i)
    (x0 : Vec F S2048x256 .bf16) (x1 : Vec F S2048x256 .bf16) (x2 : Vec F S2048x256 .bf16) (x3 : Vec F S16x256 .bf16) (x4 : Vec F S2048x256 .bf16) (x5 : Vec F S16x256 .bf16) (x6 : Vec F S2048x1024 .bf16) (x7 : Vec F S16x1024 .bf16) (x8 : Vec F S256x1024 .bf16) (x9 : Vec F S2048x1024 .bf16) (x10 : Vec F S3x256 .f32) (x11 : Vec F S3x256 .f32)
  {L : Loads F} (hL : (Loads.of i x0 x1 x2 x3 x4 x5 x6 x7 x8 x9 x10 x11) = L)
include hL

set_option maxHeartbeats 8000000 in
/-- The blocks of the gate half of `du`, over the loads `L`. -/
theorem L12_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).1 = duL L.uG := by
  subst hL
  unfold kernelRun0_A
  dsimp only
  unfold duL
  simp only [k0_pay148, fW, fB, fU, fD, Loads.uG, Loads.uV, Loads.cG, Loads.cV, Loads.D, Loads.G, Loads.V, v1196, v1195, r_89, r, r_66, v6, v11, v7, v9, v10, cst, v1141, v1140, v1139, v1137, v1147, v1146, v1145, v1143, r_90, r_78, r_50, r_67, r_68, r_70, r_43, v662, v659, v661, cst_11, r_51, r_52, r_54, r_55, r_56, cst_451, v724, v723, v719, v715, r_48, v503, v502, v499, v501, v234, v233, v718, r_49, v77, v76, v722, v706, v705, r_47, v81, v80, v564, v563, r_42, r_17, v509, v508, v505, v507, v511, r_32, v562, r_38, r_30, r_12, v179, r_18, r_19, r_21, r_22, v244, v243, v239, v235, v222, v221, v220, v23, v22, v19, v21, r_13, r_16, v238, v224, v223, v242, v226, v225, v84, v83, v79, v75, r_5, v17, v16, v13, v15, v29, v28, v25, v27, v74, r_11, v78, r_6, v82, r_7, fold_ext, fold_dy, fold_mmU, ldS16x1024, ldS16x256, ldS256x1024, ldS256x1024f, ldS3x256f, ldT0, ldT1, ldT2, ldT3, ldT4, ldT5, ldT6, ldT7, ldTn0, ldTn1, ldTn2, ldTn3, ldTn4, ldTn5, ldTn6, ldW0, ldW1, ldW2, ldW3, ldW4, ldW5, ldW6, ldW7, ldWn0, ldWn1, ldWn2, ldWn3, ldWn4, ldWn5, ldWn6]
  simp only [of_ug, of_uv, of_g, of_v, of_d, of_h, of_wd, of_wg, of_wv, of_gn0, of_vn0, of_dn0, of_gn1, of_vn1, of_dn1, of_gn2, of_vn2, of_dn2, of_gn3, of_vn3, of_dn3, of_gn4, of_vn4, of_dn4, of_gn5, of_vn5, of_dn5, of_gn6, of_vn6, of_dn6, of_gn7, of_vn7, of_dn7]
  rfl

set_option maxHeartbeats 8000000 in
/-- The blocks of the value half of `du`, over the loads `L`. -/
theorem L13_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.1 = duL L.uV := by
  subst hL
  unfold kernelRun0_A
  dsimp only
  unfold duL
  simp only [k0_pay148, fW, fB, fU, fD, Loads.uG, Loads.uV, Loads.cG, Loads.cV, Loads.D, Loads.G, Loads.V, v1208, v1207, v1203, v1199, r_86, r_66, v6, v11, v7, v9, v10, cst, v1141, v1140, v1139, v1137, v86, v85, r_1, v1202, r_87, v89, v88, v1206, r_88, v93, v92, v1054, v1053, v1049, r_79, r_50, r_67, r_70, v1048, r_76, r_80, v1052, r_77, r_65, r_43, v662, v659, v661, cst_11, r_57, v736, v735, v731, v727, v708, v707, v503, v502, v499, v501, r_46, v730, v710, v709, v734, v712, v711, v576, v575, v571, v567, r_39, r_17, v509, v508, v505, v507, v570, r_40, v574, r_41, r_31, r_12, v179, r_18, r_22, v256, v255, v251, v247, v228, v227, v23, v22, v19, v21, r_15, v250, v230, v229, v254, v232, v231, v96, v95, v91, v87, r_8, v17, v16, v13, v15, v29, v28, v25, v27, v90, r_9, v94, r_10, fold_ext, fold_dy, fold_mmU, ldS16x1024, ldS16x256, ldS256x1024, ldS256x1024f, ldS3x256f, ldT0, ldT1, ldT2, ldT3, ldT4, ldT5, ldT6, ldT7, ldTn0, ldTn1, ldTn2, ldTn3, ldTn4, ldTn5, ldTn6, ldW0, ldW1, ldW2, ldW3, ldW4, ldW5, ldW6, ldW7, ldWn0, ldWn1, ldWn2, ldWn3, ldWn4, ldWn5, ldWn6]
  simp only [of_ug, of_uv, of_g, of_v, of_d, of_h, of_wd, of_wg, of_wv, of_gn0, of_vn0, of_dn0, of_gn1, of_vn1, of_dn1, of_gn2, of_vn2, of_dn2, of_gn3, of_vn3, of_dn3, of_gn4, of_vn4, of_dn4, of_gn5, of_vn5, of_dn5, of_gn6, of_vn6, of_dn6, of_gn7, of_vn7, of_dn7]
  rfl

set_option maxHeartbeats 8000000 in
/-- The stores to the gate half of the taps' gradient, over the loads `L`. -/
theorem L17_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.2.2.2.2.1 = wr arg19.view [⟨Rect.unit ![0, 0] S3x256.size (inbZ z2), k0_pay6⟩] (rows3 (fW L.cG L.ug) ((fW L.cG L.ug) 0)) := by
  obtain ⟨l, hl⟩ : ∃ l, l = (rows3 (fW L.cG L.ug) ((fW L.cG L.ug) 0)) := ⟨_, rfl⟩
  have h23 : H17_1 = wr arg19.view [⟨Rect.unit ![0, 0] S3x256.size (inbZ z2), k0_pay6⟩] (l.drop 24) := by
    subst hl hL
    simp only [H17_1, v1293, cst_685]
    rfl
  have h22 : H17_2 c arg2 harg2 arg4 harg4 arg6 harg6 arg8 harg8 arg10 harg10 arg19 x0 x2 x4 x6 x8 = wr arg19.view [⟨Rect.unit ![0, 0] S3x256.size (inbZ z2), k0_pay6⟩] (l.drop 23) := by
    rw [show l.drop 23 = (0, ((fW L.cG L.ug) 0) 0) :: l.drop 24 by rw [hl]; rfl, wr_cons]
    subst hl hL
    simp only [k0_pay148, fW, fB, fU, fD, Loads.uG, Loads.uV, Loads.cG, Loads.cV, Loads.D, Loads.G, Loads.V, H17_2, v132, v128, v127, v131, v130, v129, r_7, v17, v16, v13, v15, v6, cst_11, v29, v28, v25, v27, v120, v119, h23, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h21 : H17_3 c arg2 harg2 arg4 harg4 arg6 harg6 arg8 harg8 arg10 harg10 arg19 x0 x2 x4 x6 x8 = wr arg19.view [⟨Rect.unit ![0, 0] S3x256.size (inbZ z2), k0_pay6⟩] (l.drop 22) := by
    rw [show l.drop 22 = (1, ((fW L.cG L.ug) 0) 1) :: l.drop 23 by rw [hl]; rfl, wr_cons]
    subst hl hL
    simp only [k0_pay148, fW, fB, fU, fD, Loads.uG, Loads.uV, Loads.cG, Loads.cV, Loads.D, Loads.G, Loads.V, H17_3, v139, v135, v134, v138, v137, v136, r_6, v17, v16, v13, v15, v6, cst_11, v29, v28, v25, v27, v120, v119, h22, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h20 : H17_4 c arg2 harg2 arg4 harg4 arg6 harg6 arg8 harg8 arg10 harg10 arg19 x0 x2 x4 x6 x8 = wr arg19.view [⟨Rect.unit ![0, 0] S3x256.size (inbZ z2), k0_pay6⟩] (l.drop 21) := by
    rw [show l.drop 21 = (2, ((fW L.cG L.ug) 0) 2) :: l.drop 22 by rw [hl]; rfl, wr_cons]
    subst hl hL
    simp only [k0_pay148, fW, fB, fU, fD, Loads.uG, Loads.uV, Loads.cG, Loads.cV, Loads.D, Loads.G, Loads.V, H17_4, v146, v142, v141, v145, v144, v143, r_5, v17, v16, v13, v15, v6, cst_11, v29, v28, v25, v27, v120, v119, h21, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h19 : H17_5 c arg2 harg2 arg4 harg4 arg6 harg6 arg8 harg8 arg10 harg10 arg19 x0 x2 x4 x6 x8 = wr arg19.view [⟨Rect.unit ![0, 0] S3x256.size (inbZ z2), k0_pay6⟩] (l.drop 20) := by
    rw [show l.drop 20 = (0, (fW L.cG L.ug) 1 0) :: l.drop 21 by rw [hl]; rfl, wr_cons]
    subst hl hL
    simp only [k0_pay148, fW, fB, fU, fD, Loads.uG, Loads.uV, Loads.cG, Loads.cV, Loads.D, Loads.G, Loads.V, H17_5, v292, v288, v287, v291, v290, v289, v226, v225, v221, v220, v23, v22, v19, v21, v6, cst_11, r_13, r_16, v280, v279, h20, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h18 : H17_6 c arg2 harg2 arg4 harg4 arg6 harg6 arg8 harg8 arg10 harg10 arg19 x0 x2 x4 x6 x8 = wr arg19.view [⟨Rect.unit ![0, 0] S3x256.size (inbZ z2), k0_pay6⟩] (l.drop 19) := by
    rw [show l.drop 19 = (1, (fW L.cG L.ug) 1 1) :: l.drop 20 by rw [hl]; rfl, wr_cons]
    subst hl hL
    simp only [k0_pay148, fW, fB, fU, fD, Loads.uG, Loads.uV, Loads.cG, Loads.cV, Loads.D, Loads.G, Loads.V, H17_6, v299, v295, v294, v298, v297, v296, v224, v223, v221, v220, v23, v22, v19, v21, v6, cst_11, r_13, r_16, v280, v279, h19, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h17 : H17_7 c arg2 harg2 arg4 harg4 arg6 harg6 arg8 harg8 arg10 harg10 arg19 x0 x2 x4 x6 x8 = wr arg19.view [⟨Rect.unit ![0, 0] S3x256.size (inbZ z2), k0_pay6⟩] (l.drop 18) := by
    rw [show l.drop 18 = (2, (fW L.cG L.ug) 1 2) :: l.drop 19 by rw [hl]; rfl, wr_cons]
    subst hl hL
    simp only [k0_pay148, fW, fB, fU, fD, Loads.uG, Loads.uV, Loads.cG, Loads.cV, Loads.D, Loads.G, Loads.V, H17_7, v306, v302, v301, v305, v304, v303, v222, v221, v220, v23, v22, v19, v21, v6, cst_11, r_13, r_16, v280, v279, h18, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h16 : H17_8 c arg2 harg2 arg4 harg4 arg6 harg6 arg8 harg8 arg10 harg10 arg19 x0 x2 x4 x6 x8 = wr arg19.view [⟨Rect.unit ![0, 0] S3x256.size (inbZ z2), k0_pay6⟩] (l.drop 17) := by
    rw [show l.drop 17 = (0, (fW L.cG L.ug) 2 0) :: l.drop 18 by rw [hl]; rfl, wr_cons]
    subst hl hL
    simp only [k0_pay148, fW, fB, fU, fD, Loads.uG, Loads.uV, Loads.cG, Loads.cV, Loads.D, Loads.G, Loads.V, H17_8, v452, v448, v447, v451, v450, v449, r_26, r_12, v6, v179, r_18, r_19, r_21, r_22, v440, v439, h17, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h15 : H17_9 c arg2 harg2 arg4 harg4 arg6 harg6 arg8 harg8 arg10 harg10 arg19 x0 x2 x4 x6 x8 = wr arg19.view [⟨Rect.unit ![0, 0] S3x256.size (inbZ z2), k0_pay6⟩] (l.drop 16) := by
    rw [show l.drop 16 = (1, (fW L.cG L.ug) 2 1) :: l.drop 17 by rw [hl]; rfl, wr_cons]
    subst hl hL
    simp only [k0_pay148, fW, fB, fU, fD, Loads.uG, Loads.uV, Loads.cG, Loads.cV, Loads.D, Loads.G, Loads.V, H17_9, v459, v455, v454, v458, v457, v456, r_25, r_12, v6, v179, r_18, r_19, r_21, r_22, v440, v439, h16, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h14 : H17_10 c arg2 harg2 arg4 harg4 arg6 harg6 arg8 harg8 arg10 harg10 arg19 x0 x2 x4 x6 x8 = wr arg19.view [⟨Rect.unit ![0, 0] S3x256.size (inbZ z2), k0_pay6⟩] (l.drop 15) := by
    rw [show l.drop 15 = (2, (fW L.cG L.ug) 2 2) :: l.drop 16 by rw [hl]; rfl, wr_cons]
    subst hl hL
    simp only [k0_pay148, fW, fB, fU, fD, Loads.uG, Loads.uV, Loads.cG, Loads.cV, Loads.D, Loads.G, Loads.V, H17_10, v466, v462, v461, v465, v464, v463, r_24, r_12, v6, v179, r_18, r_19, r_21, r_22, v440, v439, h15, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h13 : H17_11 c arg2 harg2 arg4 harg4 arg6 harg6 arg8 harg8 arg10 harg10 arg19 x0 x2 x4 x6 x8 = wr arg19.view [⟨Rect.unit ![0, 0] S3x256.size (inbZ z2), k0_pay6⟩] (l.drop 14) := by
    rw [show l.drop 14 = (0, (fW L.cG L.ug) 3 0) :: l.drop 15 by rw [hl]; rfl, wr_cons]
    subst hl hL
    simp only [k0_pay148, fW, fB, fU, fD, Loads.uG, Loads.uV, Loads.cG, Loads.cV, Loads.D, Loads.G, Loads.V, H17_11, v612, v608, v607, v611, v610, v609, r_38, r_17, v6, v509, v508, v505, v507, v511, r_32, v600, v599, h14, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h12 : H17_12 c arg2 harg2 arg4 harg4 arg6 harg6 arg8 harg8 arg10 harg10 arg19 x0 x2 x4 x6 x8 = wr arg19.view [⟨Rect.unit ![0, 0] S3x256.size (inbZ z2), k0_pay6⟩] (l.drop 13) := by
    rw [show l.drop 13 = (1, (fW L.cG L.ug) 3 1) :: l.drop 14 by rw [hl]; rfl, wr_cons]
    subst hl hL
    simp only [k0_pay148, fW, fB, fU, fD, Loads.uG, Loads.uV, Loads.cG, Loads.cV, Loads.D, Loads.G, Loads.V, H17_12, v619, v615, v614, v618, v617, v616, r_37, r_17, v6, v509, v508, v505, v507, v511, r_32, v600, v599, h13, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h11 : H17_13 c arg2 harg2 arg4 harg4 arg6 harg6 arg8 harg8 arg10 harg10 arg19 x0 x2 x4 x6 x8 = wr arg19.view [⟨Rect.unit ![0, 0] S3x256.size (inbZ z2), k0_pay6⟩] (l.drop 12) := by
    rw [show l.drop 12 = (2, (fW L.cG L.ug) 3 2) :: l.drop 13 by rw [hl]; rfl, wr_cons]
    subst hl hL
    simp only [k0_pay148, fW, fB, fU, fD, Loads.uG, Loads.uV, Loads.cG, Loads.cV, Loads.D, Loads.G, Loads.V, H17_13, v626, v622, v621, v625, v624, v623, r_36, r_17, v6, v509, v508, v505, v507, v511, r_32, v600, v599, h12, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h10 : H17_14 c arg2 harg2 arg4 harg4 arg6 harg6 arg8 harg8 arg10 harg10 arg19 x0 x2 x4 x6 x8 = wr arg19.view [⟨Rect.unit ![0, 0] S3x256.size (inbZ z2), k0_pay6⟩] (l.drop 11) := by
    rw [show l.drop 11 = (0, (fW L.cG L.ug) 4 0) :: l.drop 12 by rw [hl]; rfl, wr_cons]
    subst hl hL
    simp only [k0_pay148, fW, fB, fU, fD, Loads.uG, Loads.uV, Loads.cG, Loads.cV, Loads.D, Loads.G, Loads.V, H17_14, v772, v768, v767, v771, v770, v769, v706, v705, r_47, v503, v502, v499, v501, v6, cst_11, v760, v759, h11, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h9 : H17_15 c arg2 harg2 arg4 harg4 arg6 harg6 arg8 harg8 arg10 harg10 arg19 x0 x2 x4 x6 x8 = wr arg19.view [⟨Rect.unit ![0, 0] S3x256.size (inbZ z2), k0_pay6⟩] (l.drop 10) := by
    rw [show l.drop 10 = (1, (fW L.cG L.ug) 4 1) :: l.drop 11 by rw [hl]; rfl, wr_cons]
    subst hl hL
    simp only [k0_pay148, fW, fB, fU, fD, Loads.uG, Loads.uV, Loads.cG, Loads.cV, Loads.D, Loads.G, Loads.V, H17_15, v779, v775, v774, v778, v777, v776, r_49, v503, v502, v499, v501, v6, cst_11, v760, v759, h10, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h8 : H17_16 c arg2 harg2 arg4 harg4 arg6 harg6 arg8 harg8 arg10 harg10 arg19 x0 x2 x4 x6 x8 = wr arg19.view [⟨Rect.unit ![0, 0] S3x256.size (inbZ z2), k0_pay6⟩] (l.drop 9) := by
    rw [show l.drop 9 = (2, (fW L.cG L.ug) 4 2) :: l.drop 10 by rw [hl]; rfl, wr_cons]
    subst hl hL
    simp only [k0_pay148, fW, fB, fU, fD, Loads.uG, Loads.uV, Loads.cG, Loads.cV, Loads.D, Loads.G, Loads.V, H17_16, v786, v782, v781, v785, v784, v783, r_48, v503, v502, v499, v501, v6, cst_11, v760, v759, h9, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h7 : H17_17 c arg2 harg2 arg4 harg4 arg6 harg6 arg8 harg8 arg10 harg10 arg19 x0 x2 x4 x6 x8 = wr arg19.view [⟨Rect.unit ![0, 0] S3x256.size (inbZ z2), k0_pay6⟩] (l.drop 8) := by
    rw [show l.drop 8 = (0, (fW L.cG L.ug) 5 0) :: l.drop 9 by rw [hl]; rfl, wr_cons]
    subst hl hL
    simp only [k0_pay148, fW, fB, fU, fD, Loads.uG, Loads.uV, Loads.cG, Loads.cV, Loads.D, Loads.G, Loads.V, H17_17, v932, v928, v927, v931, v930, v929, r_60, r_43, v6, v662, v659, v661, cst_11, r_51, r_52, r_54, r_55, r_56, cst_451, v920, v919, h8, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h6 : H17_18 c arg2 harg2 arg4 harg4 arg6 harg6 arg8 harg8 arg10 harg10 arg19 x0 x2 x4 x6 x8 = wr arg19.view [⟨Rect.unit ![0, 0] S3x256.size (inbZ z2), k0_pay6⟩] (l.drop 7) := by
    rw [show l.drop 7 = (1, (fW L.cG L.ug) 5 1) :: l.drop 8 by rw [hl]; rfl, wr_cons]
    subst hl hL
    simp only [k0_pay148, fW, fB, fU, fD, Loads.uG, Loads.uV, Loads.cG, Loads.cV, Loads.D, Loads.G, Loads.V, H17_18, v939, v935, v934, v938, v937, v936, r_59, r_43, v6, v662, v659, v661, cst_11, r_51, r_52, r_54, r_55, r_56, cst_451, v920, v919, h7, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h5 : H17_19 c arg2 harg2 arg4 harg4 arg6 harg6 arg8 harg8 arg10 harg10 arg19 x0 x2 x4 x6 x8 = wr arg19.view [⟨Rect.unit ![0, 0] S3x256.size (inbZ z2), k0_pay6⟩] (l.drop 6) := by
    rw [show l.drop 6 = (2, (fW L.cG L.ug) 5 2) :: l.drop 7 by rw [hl]; rfl, wr_cons]
    subst hl hL
    simp only [k0_pay148, fW, fB, fU, fD, Loads.uG, Loads.uV, Loads.cG, Loads.cV, Loads.D, Loads.G, Loads.V, H17_19, v946, v942, v941, v945, v944, v943, r_58, r_43, v6, v662, v659, v661, cst_11, r_51, r_52, r_54, r_55, r_56, cst_451, v920, v919, h6, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h4 : H17_20 c arg2 harg2 arg4 harg4 arg6 harg6 arg8 harg8 arg10 harg10 arg19 x0 x2 x4 x6 x8 = wr arg19.view [⟨Rect.unit ![0, 0] S3x256.size (inbZ z2), k0_pay6⟩] (l.drop 5) := by
    rw [show l.drop 5 = (0, (fW L.cG L.ug) 6 0) :: l.drop 6 by rw [hl]; rfl, wr_cons]
    subst hl hL
    simp only [k0_pay148, fW, fB, fU, fD, Loads.uG, Loads.uV, Loads.cG, Loads.cV, Loads.D, Loads.G, Loads.V, H17_20, v1090, v1086, v1085, v1089, v1088, v1087, r_74, r_50, v6, r_67, r_68, r_70, v1078, v1077, h5, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h3 : H17_21 c arg2 harg2 arg4 harg4 arg6 harg6 arg8 harg8 arg10 harg10 arg19 x0 x2 x4 x6 x8 = wr arg19.view [⟨Rect.unit ![0, 0] S3x256.size (inbZ z2), k0_pay6⟩] (l.drop 4) := by
    rw [show l.drop 4 = (1, (fW L.cG L.ug) 6 1) :: l.drop 5 by rw [hl]; rfl, wr_cons]
    subst hl hL
    simp only [k0_pay148, fW, fB, fU, fD, Loads.uG, Loads.uV, Loads.cG, Loads.cV, Loads.D, Loads.G, Loads.V, H17_21, v1097, v1093, v1092, v1096, v1095, v1094, r_73, r_50, v6, r_67, r_68, r_70, v1078, v1077, h4, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h2 : H17_22 c arg2 harg2 arg4 harg4 arg6 harg6 arg8 harg8 arg10 harg10 arg19 x0 x2 x4 x6 x8 = wr arg19.view [⟨Rect.unit ![0, 0] S3x256.size (inbZ z2), k0_pay6⟩] (l.drop 3) := by
    rw [show l.drop 3 = (2, (fW L.cG L.ug) 6 2) :: l.drop 4 by rw [hl]; rfl, wr_cons]
    subst hl hL
    simp only [k0_pay148, fW, fB, fU, fD, Loads.uG, Loads.uV, Loads.cG, Loads.cV, Loads.D, Loads.G, Loads.V, H17_22, v1104, v1100, v1099, v1103, v1102, v1101, r_72, r_50, v6, r_67, r_68, r_70, v1078, v1077, h3, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h1 : H17_23 c i arg2 harg2 arg4 harg4 arg5 harg5 arg6 harg6 arg7 harg7 arg8 harg8 arg9 harg9 arg10 harg10 arg19 x0 x2 x3 x4 x5 x6 x7 x8 = wr arg19.view [⟨Rect.unit ![0, 0] S3x256.size (inbZ z2), k0_pay6⟩] (l.drop 2) := by
    rw [show l.drop 2 = (0, (fW L.cG L.ug) 7 0) :: l.drop 3 by rw [hl]; rfl, wr_cons]
    subst hl hL
    simp only [k0_pay148, fW, fB, fU, fD, Loads.uG, Loads.uV, Loads.cG, Loads.cV, Loads.D, Loads.G, Loads.V, H17_23, v1244, v1240, v1239, v1243, v1242, v1241, r_85, r_66, v6, v11, v7, v9, v10, cst, v1141, v1140, v1139, v1137, v1147, v1146, v1145, v1143, v1232, v1231, h2, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  have h0 : H17_24 c i arg2 harg2 arg4 harg4 arg5 harg5 arg6 harg6 arg7 harg7 arg8 harg8 arg9 harg9 arg10 harg10 arg19 x0 x2 x3 x4 x5 x6 x7 x8 = wr arg19.view [⟨Rect.unit ![0, 0] S3x256.size (inbZ z2), k0_pay6⟩] (l.drop 1) := by
    rw [show l.drop 1 = (1, (fW L.cG L.ug) 7 1) :: l.drop 2 by rw [hl]; rfl, wr_cons]
    subst hl hL
    simp only [k0_pay148, fW, fB, fU, fD, Loads.uG, Loads.uV, Loads.cG, Loads.cV, Loads.D, Loads.G, Loads.V, H17_24, v1251, v1247, v1246, v1250, v1249, v1248, r_84, r_66, v6, v11, v7, v9, v10, cst, v1141, v1140, v1139, v1137, v1147, v1146, v1145, v1143, v1232, v1231, h1, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  unfold kernelRun0_A
  dsimp only
  rw [← hl, show l = (2, (fW L.cG L.ug) 7 2) :: l.drop 1 by rw [hl]; rfl, wr_cons]
  subst hl hL
  simp only [k0_pay148, fW, fB, fU, fD, Loads.uG, Loads.uV, Loads.cG, Loads.cV, Loads.D, Loads.G, Loads.V, v1258, v1254, v1253, v1257, v1256, v1255, r_83, r_66, v6, v11, v7, v9, v10, cst, v1141, v1140, v1139, v1137, v1147, v1146, v1145, v1143, v1232, v1231, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the value half of the taps' gradient, over the loads `L`. -/
theorem L18_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.2.2.2.2.2.1 = wr arg20.view [⟨Rect.unit ![0, 0] S3x256.size (inbZ z2), k0_pay7⟩] (rows3 (fW L.cV L.uv) ((fW L.cV L.uv) 0)) := by
  obtain ⟨l, hl⟩ : ∃ l, l = (rows3 (fW L.cV L.uv) ((fW L.cV L.uv) 0)) := ⟨_, rfl⟩
  have h23 : H17_1 = wr arg20.view [⟨Rect.unit ![0, 0] S3x256.size (inbZ z2), k0_pay7⟩] (l.drop 24) := by
    subst hl hL
    simp only [H17_1, v1293, cst_685]
    rfl
  have h22 : H18_2 c arg3 harg3 arg4 harg4 arg8 harg8 arg10 harg10 arg20 x1 x2 x6 x8 = wr arg20.view [⟨Rect.unit ![0, 0] S3x256.size (inbZ z2), k0_pay7⟩] (l.drop 23) := by
    rw [show l.drop 23 = (0, ((fW L.cV L.uv) 0) 0) :: l.drop 24 by rw [hl]; rfl, wr_cons]
    subst hl hL
    simp only [k0_pay148, fW, fB, fU, fD, Loads.uG, Loads.uV, Loads.cG, Loads.cV, Loads.D, Loads.G, Loads.V, H18_2, v162, v158, v157, v161, v160, v159, r_10, v17, v16, v13, v15, v6, cst_11, v29, v28, v25, v27, v150, v149, h23, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h21 : H18_3 c arg3 harg3 arg4 harg4 arg8 harg8 arg10 harg10 arg20 x1 x2 x6 x8 = wr arg20.view [⟨Rect.unit ![0, 0] S3x256.size (inbZ z2), k0_pay7⟩] (l.drop 22) := by
    rw [show l.drop 22 = (1, ((fW L.cV L.uv) 0) 1) :: l.drop 23 by rw [hl]; rfl, wr_cons]
    subst hl hL
    simp only [k0_pay148, fW, fB, fU, fD, Loads.uG, Loads.uV, Loads.cG, Loads.cV, Loads.D, Loads.G, Loads.V, H18_3, v169, v165, v164, v168, v167, v166, r_9, v17, v16, v13, v15, v6, cst_11, v29, v28, v25, v27, v150, v149, h22, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h20 : H18_4 c arg3 harg3 arg4 harg4 arg8 harg8 arg10 harg10 arg20 x1 x2 x6 x8 = wr arg20.view [⟨Rect.unit ![0, 0] S3x256.size (inbZ z2), k0_pay7⟩] (l.drop 21) := by
    rw [show l.drop 21 = (2, ((fW L.cV L.uv) 0) 2) :: l.drop 22 by rw [hl]; rfl, wr_cons]
    subst hl hL
    simp only [k0_pay148, fW, fB, fU, fD, Loads.uG, Loads.uV, Loads.cG, Loads.cV, Loads.D, Loads.G, Loads.V, H18_4, v176, v172, v171, v175, v174, v173, r_8, v17, v16, v13, v15, v6, cst_11, v29, v28, v25, v27, v150, v149, h21, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h19 : H18_5 c arg3 harg3 arg4 harg4 arg8 harg8 arg10 harg10 arg20 x1 x2 x6 x8 = wr arg20.view [⟨Rect.unit ![0, 0] S3x256.size (inbZ z2), k0_pay7⟩] (l.drop 20) := by
    rw [show l.drop 20 = (0, (fW L.cV L.uv) 1 0) :: l.drop 21 by rw [hl]; rfl, wr_cons]
    subst hl hL
    simp only [k0_pay148, fW, fB, fU, fD, Loads.uG, Loads.uV, Loads.cG, Loads.cV, Loads.D, Loads.G, Loads.V, H18_5, v322, v318, v317, v321, v320, v319, v232, v231, v227, v23, v22, v19, v21, v6, cst_11, r_15, v310, v309, h20, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h18 : H18_6 c arg3 harg3 arg4 harg4 arg8 harg8 arg10 harg10 arg20 x1 x2 x6 x8 = wr arg20.view [⟨Rect.unit ![0, 0] S3x256.size (inbZ z2), k0_pay7⟩] (l.drop 19) := by
    rw [show l.drop 19 = (1, (fW L.cV L.uv) 1 1) :: l.drop 20 by rw [hl]; rfl, wr_cons]
    subst hl hL
    simp only [k0_pay148, fW, fB, fU, fD, Loads.uG, Loads.uV, Loads.cG, Loads.cV, Loads.D, Loads.G, Loads.V, H18_6, v329, v325, v324, v328, v327, v326, v230, v229, v227, v23, v22, v19, v21, v6, cst_11, r_15, v310, v309, h19, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h17 : H18_7 c arg3 harg3 arg4 harg4 arg8 harg8 arg10 harg10 arg20 x1 x2 x6 x8 = wr arg20.view [⟨Rect.unit ![0, 0] S3x256.size (inbZ z2), k0_pay7⟩] (l.drop 18) := by
    rw [show l.drop 18 = (2, (fW L.cV L.uv) 1 2) :: l.drop 19 by rw [hl]; rfl, wr_cons]
    subst hl hL
    simp only [k0_pay148, fW, fB, fU, fD, Loads.uG, Loads.uV, Loads.cG, Loads.cV, Loads.D, Loads.G, Loads.V, H18_7, v228, v227, v23, v22, v19, v21, v6, cst_11, r_15, v310, v309, v331, h18, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h16 : H18_8 c arg3 harg3 arg4 harg4 arg8 harg8 arg10 harg10 arg20 x1 x2 x6 x8 = wr arg20.view [⟨Rect.unit ![0, 0] S3x256.size (inbZ z2), k0_pay7⟩] (l.drop 17) := by
    rw [show l.drop 17 = (0, (fW L.cV L.uv) 2 0) :: l.drop 18 by rw [hl]; rfl, wr_cons]
    subst hl hL
    simp only [k0_pay148, fW, fB, fU, fD, Loads.uG, Loads.uV, Loads.cG, Loads.cV, Loads.D, Loads.G, Loads.V, H18_8, v482, v478, v477, v481, v480, v479, r_29, r_12, v6, v179, r_18, r_22, v470, v469, h17, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h15 : H18_9 c arg3 harg3 arg4 harg4 arg8 harg8 arg10 harg10 arg20 x1 x2 x6 x8 = wr arg20.view [⟨Rect.unit ![0, 0] S3x256.size (inbZ z2), k0_pay7⟩] (l.drop 16) := by
    rw [show l.drop 16 = (1, (fW L.cV L.uv) 2 1) :: l.drop 17 by rw [hl]; rfl, wr_cons]
    subst hl hL
    simp only [k0_pay148, fW, fB, fU, fD, Loads.uG, Loads.uV, Loads.cG, Loads.cV, Loads.D, Loads.G, Loads.V, H18_9, v489, v485, v484, v488, v487, v486, r_28, r_12, v6, v179, r_18, r_22, v470, v469, h16, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h14 : H18_10 c arg3 harg3 arg4 harg4 arg8 harg8 arg10 harg10 arg20 x1 x2 x6 x8 = wr arg20.view [⟨Rect.unit ![0, 0] S3x256.size (inbZ z2), k0_pay7⟩] (l.drop 15) := by
    rw [show l.drop 15 = (2, (fW L.cV L.uv) 2 2) :: l.drop 16 by rw [hl]; rfl, wr_cons]
    subst hl hL
    simp only [k0_pay148, fW, fB, fU, fD, Loads.uG, Loads.uV, Loads.cG, Loads.cV, Loads.D, Loads.G, Loads.V, H18_10, v496, v492, v491, v495, v494, v493, r_27, r_12, v6, v179, r_18, r_22, v470, v469, h15, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h13 : H18_11 c arg3 harg3 arg4 harg4 arg8 harg8 arg10 harg10 arg20 x1 x2 x6 x8 = wr arg20.view [⟨Rect.unit ![0, 0] S3x256.size (inbZ z2), k0_pay7⟩] (l.drop 14) := by
    rw [show l.drop 14 = (0, (fW L.cV L.uv) 3 0) :: l.drop 15 by rw [hl]; rfl, wr_cons]
    subst hl hL
    simp only [k0_pay148, fW, fB, fU, fD, Loads.uG, Loads.uV, Loads.cG, Loads.cV, Loads.D, Loads.G, Loads.V, H18_11, v642, v638, v637, v641, v640, v639, r_41, r_17, v6, v509, v508, v505, v507, v630, v629, h14, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h12 : H18_12 c arg3 harg3 arg4 harg4 arg8 harg8 arg10 harg10 arg20 x1 x2 x6 x8 = wr arg20.view [⟨Rect.unit ![0, 0] S3x256.size (inbZ z2), k0_pay7⟩] (l.drop 13) := by
    rw [show l.drop 13 = (1, (fW L.cV L.uv) 3 1) :: l.drop 14 by rw [hl]; rfl, wr_cons]
    subst hl hL
    simp only [k0_pay148, fW, fB, fU, fD, Loads.uG, Loads.uV, Loads.cG, Loads.cV, Loads.D, Loads.G, Loads.V, H18_12, v649, v645, v644, v648, v647, v646, r_40, r_17, v6, v509, v508, v505, v507, v630, v629, h13, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h11 : H18_13 c arg3 harg3 arg4 harg4 arg8 harg8 arg10 harg10 arg20 x1 x2 x6 x8 = wr arg20.view [⟨Rect.unit ![0, 0] S3x256.size (inbZ z2), k0_pay7⟩] (l.drop 12) := by
    rw [show l.drop 12 = (2, (fW L.cV L.uv) 3 2) :: l.drop 13 by rw [hl]; rfl, wr_cons]
    subst hl hL
    simp only [k0_pay148, fW, fB, fU, fD, Loads.uG, Loads.uV, Loads.cG, Loads.cV, Loads.D, Loads.G, Loads.V, H18_13, v656, v652, v651, v655, v654, v653, r_39, r_17, v6, v509, v508, v505, v507, v630, v629, h12, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h10 : H18_14 c arg3 harg3 arg4 harg4 arg8 harg8 arg10 harg10 arg20 x1 x2 x6 x8 = wr arg20.view [⟨Rect.unit ![0, 0] S3x256.size (inbZ z2), k0_pay7⟩] (l.drop 11) := by
    rw [show l.drop 11 = (0, (fW L.cV L.uv) 4 0) :: l.drop 12 by rw [hl]; rfl, wr_cons]
    subst hl hL
    simp only [k0_pay148, fW, fB, fU, fD, Loads.uG, Loads.uV, Loads.cG, Loads.cV, Loads.D, Loads.G, Loads.V, H18_14, v802, v798, v797, v801, v800, v799, v712, v711, v707, v503, v502, v499, v501, v6, cst_11, r_46, v790, v789, h11, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h9 : H18_15 c arg3 harg3 arg4 harg4 arg8 harg8 arg10 harg10 arg20 x1 x2 x6 x8 = wr arg20.view [⟨Rect.unit ![0, 0] S3x256.size (inbZ z2), k0_pay7⟩] (l.drop 10) := by
    rw [show l.drop 10 = (1, (fW L.cV L.uv) 4 1) :: l.drop 11 by rw [hl]; rfl, wr_cons]
    subst hl hL
    simp only [k0_pay148, fW, fB, fU, fD, Loads.uG, Loads.uV, Loads.cG, Loads.cV, Loads.D, Loads.G, Loads.V, H18_15, v809, v805, v804, v808, v807, v806, v710, v709, v707, v503, v502, v499, v501, v6, cst_11, r_46, v790, v789, h10, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h8 : H18_16 c arg3 harg3 arg4 harg4 arg8 harg8 arg10 harg10 arg20 x1 x2 x6 x8 = wr arg20.view [⟨Rect.unit ![0, 0] S3x256.size (inbZ z2), k0_pay7⟩] (l.drop 9) := by
    rw [show l.drop 9 = (2, (fW L.cV L.uv) 4 2) :: l.drop 10 by rw [hl]; rfl, wr_cons]
    subst hl hL
    simp only [k0_pay148, fW, fB, fU, fD, Loads.uG, Loads.uV, Loads.cG, Loads.cV, Loads.D, Loads.G, Loads.V, H18_16, v812, v811, v813, v708, v707, v503, v502, v499, v501, v6, cst_11, r_46, v790, v789, h9, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h7 : H18_17 c arg3 harg3 arg4 harg4 arg8 harg8 arg10 harg10 arg20 x1 x2 x6 x8 = wr arg20.view [⟨Rect.unit ![0, 0] S3x256.size (inbZ z2), k0_pay7⟩] (l.drop 8) := by
    rw [show l.drop 8 = (0, (fW L.cV L.uv) 5 0) :: l.drop 9 by rw [hl]; rfl, wr_cons]
    subst hl hL
    simp only [k0_pay148, fW, fB, fU, fD, Loads.uG, Loads.uV, Loads.cG, Loads.cV, Loads.D, Loads.G, Loads.V, H18_17, v962, v958, v957, v961, v960, v959, r_63, r_43, v6, v662, v659, v661, cst_11, r_57, v950, v949, h8, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h6 : H18_18 c arg3 harg3 arg4 harg4 arg8 harg8 arg10 harg10 arg20 x1 x2 x6 x8 = wr arg20.view [⟨Rect.unit ![0, 0] S3x256.size (inbZ z2), k0_pay7⟩] (l.drop 7) := by
    rw [show l.drop 7 = (1, (fW L.cV L.uv) 5 1) :: l.drop 8 by rw [hl]; rfl, wr_cons]
    subst hl hL
    simp only [k0_pay148, fW, fB, fU, fD, Loads.uG, Loads.uV, Loads.cG, Loads.cV, Loads.D, Loads.G, Loads.V, H18_18, r_62, r_43, v6, v662, v659, v661, cst_11, r_57, v950, v949, v964, h7, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h5 : H18_19 c arg3 harg3 arg4 harg4 arg8 harg8 arg10 harg10 arg20 x1 x2 x6 x8 = wr arg20.view [⟨Rect.unit ![0, 0] S3x256.size (inbZ z2), k0_pay7⟩] (l.drop 6) := by
    rw [show l.drop 6 = (2, (fW L.cV L.uv) 5 2) :: l.drop 7 by rw [hl]; rfl, wr_cons]
    subst hl hL
    simp only [k0_pay148, fW, fB, fU, fD, Loads.uG, Loads.uV, Loads.cG, Loads.cV, Loads.D, Loads.G, Loads.V, H18_19, r_61, r_43, v6, v662, v659, v661, cst_11, r_57, v950, v949, v971, h6, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h4 : H18_20 c arg3 harg3 arg4 harg4 arg8 harg8 arg10 harg10 arg20 x1 x2 x6 x8 = wr arg20.view [⟨Rect.unit ![0, 0] S3x256.size (inbZ z2), k0_pay7⟩] (l.drop 5) := by
    rw [show l.drop 5 = (0, (fW L.cV L.uv) 6 0) :: l.drop 6 by rw [hl]; rfl, wr_cons]
    subst hl hL
    simp only [k0_pay148, fW, fB, fU, fD, Loads.uG, Loads.uV, Loads.cG, Loads.cV, Loads.D, Loads.G, Loads.V, H18_20, v1120, v1116, v1115, v1119, v1118, v1117, r_77, r_50, v6, r_67, r_70, v1108, v1107, h5, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h3 : H18_21 c arg3 harg3 arg4 harg4 arg8 harg8 arg10 harg10 arg20 x1 x2 x6 x8 = wr arg20.view [⟨Rect.unit ![0, 0] S3x256.size (inbZ z2), k0_pay7⟩] (l.drop 4) := by
    rw [show l.drop 4 = (1, (fW L.cV L.uv) 6 1) :: l.drop 5 by rw [hl]; rfl, wr_cons]
    subst hl hL
    simp only [k0_pay148, fW, fB, fU, fD, Loads.uG, Loads.uV, Loads.cG, Loads.cV, Loads.D, Loads.G, Loads.V, H18_21, v1127, v1123, v1122, v1126, v1125, v1124, r_76, r_50, v6, r_67, r_70, v1108, v1107, h4, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h2 : H18_22 c arg3 harg3 arg4 harg4 arg8 harg8 arg10 harg10 arg20 x1 x2 x6 x8 = wr arg20.view [⟨Rect.unit ![0, 0] S3x256.size (inbZ z2), k0_pay7⟩] (l.drop 3) := by
    rw [show l.drop 3 = (2, (fW L.cV L.uv) 6 2) :: l.drop 4 by rw [hl]; rfl, wr_cons]
    subst hl hL
    simp only [k0_pay148, fW, fB, fU, fD, Loads.uG, Loads.uV, Loads.cG, Loads.cV, Loads.D, Loads.G, Loads.V, H18_22, v1134, v1130, v1129, v1133, v1132, v1131, r_75, r_50, v6, r_67, r_70, v1108, v1107, h3, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h1 : H18_23 c i arg3 harg3 arg4 harg4 arg5 harg5 arg8 harg8 arg9 harg9 arg10 harg10 arg20 x1 x2 x3 x6 x7 x8 = wr arg20.view [⟨Rect.unit ![0, 0] S3x256.size (inbZ z2), k0_pay7⟩] (l.drop 2) := by
    rw [show l.drop 2 = (0, (fW L.cV L.uv) 7 0) :: l.drop 3 by rw [hl]; rfl, wr_cons]
    subst hl hL
    simp only [k0_pay148, fW, fB, fU, fD, Loads.uG, Loads.uV, Loads.cG, Loads.cV, Loads.D, Loads.G, Loads.V, H18_23, r_88, r_66, v6, v11, v7, v9, v10, cst, v1141, v1140, v1139, v1137, v1262, v1261, v1269, h2, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  have h0 : H18_24 c i arg3 harg3 arg4 harg4 arg5 harg5 arg8 harg8 arg9 harg9 arg10 harg10 arg20 x1 x2 x3 x6 x7 x8 = wr arg20.view [⟨Rect.unit ![0, 0] S3x256.size (inbZ z2), k0_pay7⟩] (l.drop 1) := by
    rw [show l.drop 1 = (1, (fW L.cV L.uv) 7 1) :: l.drop 2 by rw [hl]; rfl, wr_cons]
    subst hl hL
    simp only [k0_pay148, fW, fB, fU, fD, Loads.uG, Loads.uV, Loads.cG, Loads.cV, Loads.D, Loads.G, Loads.V, H18_24, r_91, v1276, r_92, r_87, r_66, v6, v11, v7, v9, v10, cst, v1141, v1140, v1139, v1137, v1262, v1261, h1, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  unfold kernelRun0_A
  dsimp only
  rw [← hl, show l = (2, (fW L.cV L.uv) 7 2) :: l.drop 1 by rw [hl]; rfl, wr_cons]
  subst hl hL
  simp only [k0_pay148, fW, fB, fU, fD, Loads.uG, Loads.uV, Loads.cG, Loads.cV, Loads.D, Loads.G, Loads.V, r_86, r_66, v6, v11, v7, v9, v10, cst, v1141, v1140, v1139, v1137, v1262, v1261, v1283, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the gate half of the biases' gradient, over the loads `L`. -/
theorem L19_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.2.2.2.2.2.2.1 = wl arg21.view ![0, 0] (inbZ z2) [⟨Rect.unit ![0, 0] S1x256.size (inbZ z2), k0_pay8⟩] (eight (fB L.cG) ((fB L.cG) 0)) := by
  obtain ⟨l, hl⟩ : ∃ l, l = (eight (fB L.cG) ((fB L.cG) 0)) := ⟨_, rfl⟩
  have h7 : H19_1 = wl arg21.view ![0, 0] (inbZ z2) [⟨Rect.unit ![0, 0] S1x256.size (inbZ z2), k0_pay8⟩] (l.drop 8) := by
    subst hl hL
    simp only [H19_1, v1297, cst_685]
    rfl
  have h6 : H19_2 c arg4 harg4 arg6 harg6 arg8 harg8 arg10 harg10 arg21 x2 x4 x6 x8 = wl arg21.view ![0, 0] (inbZ z2) [⟨Rect.unit ![0, 0] S1x256.size (inbZ z2), k0_pay8⟩] (l.drop 7) := by
    rw [show l.drop 7 = ((fB L.cG) 0) :: l.drop 8 by rw [hl]; rfl, wl_cons]
    subst hl hL
    simp only [k0_pay148, fW, fB, fU, fD, Loads.uG, Loads.uV, Loads.cG, Loads.cV, Loads.D, Loads.G, Loads.V, H19_2, v125, v122, v121, v124, v123, r_5, v17, v16, v13, v15, v6, cst_11, v29, v28, v25, v27, h7, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h5 : H19_3 c arg4 harg4 arg6 harg6 arg8 harg8 arg10 harg10 arg21 x2 x4 x6 x8 = wl arg21.view ![0, 0] (inbZ z2) [⟨Rect.unit ![0, 0] S1x256.size (inbZ z2), k0_pay8⟩] (l.drop 6) := by
    rw [show l.drop 6 = (fB L.cG) 1 :: l.drop 7 by rw [hl]; rfl, wl_cons]
    subst hl hL
    simp only [k0_pay148, fW, fB, fU, fD, Loads.uG, Loads.uV, Loads.cG, Loads.cV, Loads.D, Loads.G, Loads.V, H19_3, v285, v282, v281, v284, v283, v222, v221, v220, v23, v22, v19, v21, v6, cst_11, r_13, r_16, h6, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h4 : H19_4 c arg4 harg4 arg6 harg6 arg8 harg8 arg10 harg10 arg21 x2 x4 x6 x8 = wl arg21.view ![0, 0] (inbZ z2) [⟨Rect.unit ![0, 0] S1x256.size (inbZ z2), k0_pay8⟩] (l.drop 5) := by
    rw [show l.drop 5 = (fB L.cG) 2 :: l.drop 6 by rw [hl]; rfl, wl_cons]
    subst hl hL
    simp only [k0_pay148, fW, fB, fU, fD, Loads.uG, Loads.uV, Loads.cG, Loads.cV, Loads.D, Loads.G, Loads.V, H19_4, v445, v442, v441, v444, v443, r_24, r_12, v6, v179, r_18, r_19, r_21, r_22, h5, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h3 : H19_5 c arg4 harg4 arg6 harg6 arg8 harg8 arg10 harg10 arg21 x2 x4 x6 x8 = wl arg21.view ![0, 0] (inbZ z2) [⟨Rect.unit ![0, 0] S1x256.size (inbZ z2), k0_pay8⟩] (l.drop 4) := by
    rw [show l.drop 4 = (fB L.cG) 3 :: l.drop 5 by rw [hl]; rfl, wl_cons]
    subst hl hL
    simp only [k0_pay148, fW, fB, fU, fD, Loads.uG, Loads.uV, Loads.cG, Loads.cV, Loads.D, Loads.G, Loads.V, H19_5, v605, v602, v601, v604, v603, r_36, r_17, v6, v509, v508, v505, v507, v511, r_32, h4, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h2 : H19_6 c arg4 harg4 arg6 harg6 arg8 harg8 arg10 harg10 arg21 x2 x4 x6 x8 = wl arg21.view ![0, 0] (inbZ z2) [⟨Rect.unit ![0, 0] S1x256.size (inbZ z2), k0_pay8⟩] (l.drop 3) := by
    rw [show l.drop 3 = (fB L.cG) 4 :: l.drop 4 by rw [hl]; rfl, wl_cons]
    subst hl hL
    simp only [k0_pay148, fW, fB, fU, fD, Loads.uG, Loads.uV, Loads.cG, Loads.cV, Loads.D, Loads.G, Loads.V, H19_6, v765, v762, v761, v764, v763, r_48, v503, v502, v499, v501, v6, cst_11, h3, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h1 : H19_7 c arg4 harg4 arg6 harg6 arg8 harg8 arg10 harg10 arg21 x2 x4 x6 x8 = wl arg21.view ![0, 0] (inbZ z2) [⟨Rect.unit ![0, 0] S1x256.size (inbZ z2), k0_pay8⟩] (l.drop 2) := by
    rw [show l.drop 2 = (fB L.cG) 5 :: l.drop 3 by rw [hl]; rfl, wl_cons]
    subst hl hL
    simp only [k0_pay148, fW, fB, fU, fD, Loads.uG, Loads.uV, Loads.cG, Loads.cV, Loads.D, Loads.G, Loads.V, H19_7, v925, v922, v921, v924, v923, r_58, r_43, v6, v662, v659, v661, cst_11, r_51, r_52, r_54, r_55, r_56, cst_451, h2, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h0 : H19_8 c arg4 harg4 arg6 harg6 arg8 harg8 arg10 harg10 arg21 x2 x4 x6 x8 = wl arg21.view ![0, 0] (inbZ z2) [⟨Rect.unit ![0, 0] S1x256.size (inbZ z2), k0_pay8⟩] (l.drop 1) := by
    rw [show l.drop 1 = (fB L.cG) 6 :: l.drop 2 by rw [hl]; rfl, wl_cons]
    subst hl hL
    simp only [k0_pay148, fW, fB, fU, fD, Loads.uG, Loads.uV, Loads.cG, Loads.cV, Loads.D, Loads.G, Loads.V, H19_8, v1083, v1080, v1079, v1082, v1081, r_72, r_50, v6, r_67, r_68, r_70, h1, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_A
  dsimp only
  rw [← hl, show l = (fB L.cG) 7 :: l.drop 1 by rw [hl]; rfl, wl_cons]
  subst hl hL
  simp only [k0_pay148, fW, fB, fU, fD, Loads.uG, Loads.uV, Loads.cG, Loads.cV, Loads.D, Loads.G, Loads.V, v1237, v1234, v1233, v1236, v1235, r_83, r_66, v6, v11, v7, v9, v10, cst, v1141, v1140, v1139, v1137, v1147, v1146, v1145, v1143, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the value half of the biases' gradient, over the loads `L`. -/
theorem L20_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.2.2.2.2.2.2.2.1 = wl arg22.view ![0, 0] (inbZ z2) [⟨Rect.unit ![0, 0] S1x256.size (inbZ z2), k0_pay9⟩] (eight (fB L.cV) ((fB L.cV) 0)) := by
  obtain ⟨l, hl⟩ : ∃ l, l = (eight (fB L.cV) ((fB L.cV) 0)) := ⟨_, rfl⟩
  have h7 : H19_1 = wl arg22.view ![0, 0] (inbZ z2) [⟨Rect.unit ![0, 0] S1x256.size (inbZ z2), k0_pay9⟩] (l.drop 8) := by
    subst hl hL
    simp only [H19_1, v1297, cst_685]
    rfl
  have h6 : H20_2 c arg4 harg4 arg8 harg8 arg10 harg10 arg22 x2 x6 x8 = wl arg22.view ![0, 0] (inbZ z2) [⟨Rect.unit ![0, 0] S1x256.size (inbZ z2), k0_pay9⟩] (l.drop 7) := by
    rw [show l.drop 7 = ((fB L.cV) 0) :: l.drop 8 by rw [hl]; rfl, wl_cons]
    subst hl hL
    simp only [k0_pay148, fW, fB, fU, fD, Loads.uG, Loads.uV, Loads.cG, Loads.cV, Loads.D, Loads.G, Loads.V, H20_2, v155, v152, v151, v154, v153, r_8, v17, v16, v13, v15, v6, cst_11, v29, v28, v25, v27, h7, fold_ext, fold_dy, fold_mmU, ldS256x1024, ldS256x1024f, ldT0, ldTn0, ldW0, ldWn0]
    simp only [of_ug, of_uv, of_g, of_v, of_d, of_h, of_wd, of_wg, of_wv, of_gn0, of_vn0, of_dn0]
    rfl
  have h5 : H20_3 c arg4 harg4 arg8 harg8 arg10 harg10 arg22 x2 x6 x8 = wl arg22.view ![0, 0] (inbZ z2) [⟨Rect.unit ![0, 0] S1x256.size (inbZ z2), k0_pay9⟩] (l.drop 6) := by
    rw [show l.drop 6 = (fB L.cV) 1 :: l.drop 7 by rw [hl]; rfl, wl_cons]
    subst hl hL
    simp only [k0_pay148, fW, fB, fU, fD, Loads.uG, Loads.uV, Loads.cG, Loads.cV, Loads.D, Loads.G, Loads.V, H20_3, v315, v312, v311, v314, v313, v228, v227, v23, v22, v19, v21, v6, cst_11, r_15, h6, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h4 : H20_4 c arg4 harg4 arg8 harg8 arg10 harg10 arg22 x2 x6 x8 = wl arg22.view ![0, 0] (inbZ z2) [⟨Rect.unit ![0, 0] S1x256.size (inbZ z2), k0_pay9⟩] (l.drop 5) := by
    rw [show l.drop 5 = (fB L.cV) 2 :: l.drop 6 by rw [hl]; rfl, wl_cons]
    subst hl hL
    simp only [k0_pay148, fW, fB, fU, fD, Loads.uG, Loads.uV, Loads.cG, Loads.cV, Loads.D, Loads.G, Loads.V, H20_4, v475, v472, v471, v474, v473, r_27, r_12, v6, v179, r_18, r_22, h5, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h3 : H20_5 c arg4 harg4 arg8 harg8 arg10 harg10 arg22 x2 x6 x8 = wl arg22.view ![0, 0] (inbZ z2) [⟨Rect.unit ![0, 0] S1x256.size (inbZ z2), k0_pay9⟩] (l.drop 4) := by
    rw [show l.drop 4 = (fB L.cV) 3 :: l.drop 5 by rw [hl]; rfl, wl_cons]
    subst hl hL
    simp only [k0_pay148, fW, fB, fU, fD, Loads.uG, Loads.uV, Loads.cG, Loads.cV, Loads.D, Loads.G, Loads.V, H20_5, v635, v632, v631, v634, v633, r_39, r_17, v6, v509, v508, v505, v507, h4, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h2 : H20_6 c arg4 harg4 arg8 harg8 arg10 harg10 arg22 x2 x6 x8 = wl arg22.view ![0, 0] (inbZ z2) [⟨Rect.unit ![0, 0] S1x256.size (inbZ z2), k0_pay9⟩] (l.drop 3) := by
    rw [show l.drop 3 = (fB L.cV) 4 :: l.drop 4 by rw [hl]; rfl, wl_cons]
    subst hl hL
    simp only [k0_pay148, fW, fB, fU, fD, Loads.uG, Loads.uV, Loads.cG, Loads.cV, Loads.D, Loads.G, Loads.V, H20_6, v795, v792, v791, v794, v793, v708, v707, v503, v502, v499, v501, v6, cst_11, r_46, h3, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h1 : H20_7 c arg4 harg4 arg8 harg8 arg10 harg10 arg22 x2 x6 x8 = wl arg22.view ![0, 0] (inbZ z2) [⟨Rect.unit ![0, 0] S1x256.size (inbZ z2), k0_pay9⟩] (l.drop 2) := by
    rw [show l.drop 2 = (fB L.cV) 5 :: l.drop 3 by rw [hl]; rfl, wl_cons]
    subst hl hL
    simp only [k0_pay148, fW, fB, fU, fD, Loads.uG, Loads.uV, Loads.cG, Loads.cV, Loads.D, Loads.G, Loads.V, H20_7, v955, v952, v951, v954, v953, r_61, r_43, v6, v662, v659, v661, cst_11, r_57, h2, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h0 : H20_8 c arg4 harg4 arg8 harg8 arg10 harg10 arg22 x2 x6 x8 = wl arg22.view ![0, 0] (inbZ z2) [⟨Rect.unit ![0, 0] S1x256.size (inbZ z2), k0_pay9⟩] (l.drop 1) := by
    rw [show l.drop 1 = (fB L.cV) 6 :: l.drop 2 by rw [hl]; rfl, wl_cons]
    subst hl hL
    simp only [k0_pay148, fW, fB, fU, fD, Loads.uG, Loads.uV, Loads.cG, Loads.cV, Loads.D, Loads.G, Loads.V, H20_8, v1113, v1110, v1109, v1112, v1111, r_75, r_50, v6, r_67, r_70, h1, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_A
  dsimp only
  rw [← hl, show l = (fB L.cV) 7 :: l.drop 1 by rw [hl]; rfl, wl_cons]
  subst hl hL
  simp only [k0_pay148, fW, fB, fU, fD, Loads.uG, Loads.uV, Loads.cG, Loads.cV, Loads.D, Loads.G, Loads.V, r_86, r_66, v6, v11, v7, v9, v10, cst, v1141, v1140, v1139, v1137, v1264, v1263, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the up weights' running sum, over the loads `L`. -/
theorem LS0_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.2.2.2.2.2.2.2.2.1 = wl arg23.view ![0, 0] (inbZ z2) [⟨Rect.unit ![0, 0] S512x1024.size (inbZ z2), k0_pay10⟩] (eight (fU L) ((fU L) 0)) := by
  obtain ⟨l, hl⟩ : ∃ l, l = (eight (fU L) ((fU L) 0)) := ⟨_, rfl⟩
  have h7 : HS0_1 = wl arg23.view ![0, 0] (inbZ z2) [⟨Rect.unit ![0, 0] S512x1024.size (inbZ z2), k0_pay10⟩] (l.drop 8) := by
    subst hl hL
    simp only [HS0_1, v1304, v1301, cst_685]
    rfl
  have h6 : HS0_2 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 7) := by
    rw [show l.drop 7 = ((fU L) 0) :: l.drop 8 by rw [hl]; rfl, wl_cons]
    subst hl hL
    simp only [k0_pay148, fW, fB, fU, fD, Loads.uG, Loads.uV, Loads.cG, Loads.cV, Loads.D, Loads.G, Loads.V, HS0_2, v107, v104, v99, v103, v100, v84, v83, v79, v75, r_5, v17, v16, v13, v15, v6, cst_11, v29, v28, v25, v27, v74, r_11, r, v78, r_6, v77, v76, v82, r_7, v81, v80, v96, v95, v91, v87, r_8, v86, v85, r_1, v90, r_9, v89, v88, v94, r_10, v93, v92, v102, cst_43, h7, fold_ext, fold_dy, fold_mmU, ldS256x1024, ldS256x1024f, ldS3x256f, ldT0, ldTn0, ldW0, ldWn0]
    simp only [of_ug, of_uv, of_g, of_v, of_d, of_h, of_wd, of_wg, of_wv, of_gn0, of_vn0, of_dn0]
    rfl
  have h5 : HS0_3 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 6) := by
    rw [show l.drop 6 = (fU L) 1 :: l.drop 7 by rw [hl]; rfl, wl_cons]
    subst hl hL
    simp only [k0_pay148, fW, fB, fU, fD, Loads.uG, Loads.uV, Loads.cG, Loads.cV, Loads.D, Loads.G, Loads.V, HS0_3, v267, v264, v259, v263, v260, v244, v243, v239, v235, v222, v221, v220, v23, v22, v19, v21, v6, cst_11, r_13, r_16, v234, v233, r, v238, v224, v223, v77, v76, v242, v226, v225, v81, v80, v256, v255, v251, v247, v228, v227, r_15, v86, v85, r_1, v250, v230, v229, v89, v88, v254, v232, v231, v93, v92, v262, cst_43, h6, fold_ext, fold_dy, fold_mmU, ldS256x1024, ldS256x1024f, ldS3x256f, ldT1, ldTn1, ldW0, ldW1, ldWn1]
    simp only [of_ug, of_uv, of_g, of_v, of_d, of_h, of_wd, of_wg, of_wv, of_gn0, of_vn0, of_dn0, of_gn1, of_vn1, of_dn1]
    rfl
  have h4 : HS0_4 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 5) := by
    rw [show l.drop 5 = (fU L) 2 :: l.drop 6 by rw [hl]; rfl, wl_cons]
    subst hl hL
    simp only [k0_pay148, fW, fB, fU, fD, Loads.uG, Loads.uV, Loads.cG, Loads.cV, Loads.D, Loads.G, Loads.V, HS0_4, v427, v424, v419, v423, v420, r_30, r, r_12, v6, v179, r_18, r_19, r_21, r_22, r_31, r_1, v422, cst_43, h5, fold_ext, fold_dy, fold_mmU, ldS256x1024, ldS256x1024f, ldS3x256f, ldT2, ldTn2, ldW0, ldW2, ldWn2]
    simp only [of_ug, of_uv, of_g, of_v, of_d, of_h, of_wd, of_wg, of_wv, of_gn0, of_vn0, of_dn0, of_gn2, of_vn2, of_dn2]
    rfl
  have h3 : HS0_5 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 4) := by
    rw [show l.drop 4 = (fU L) 3 :: l.drop 5 by rw [hl]; rfl, wl_cons]
    subst hl hL
    simp only [k0_pay148, fW, fB, fU, fD, Loads.uG, Loads.uV, Loads.cG, Loads.cV, Loads.D, Loads.G, Loads.V, HS0_5, v587, v584, v579, v583, v580, v564, v563, r_42, r, r_17, v6, v509, v508, v505, v507, v511, r_32, v562, r_38, v81, v80, v576, v575, v571, v567, r_39, v86, v85, r_1, v570, r_40, v89, v88, v574, r_41, v93, v92, v582, cst_43, h4, fold_ext, fold_dy, fold_mmU, ldS256x1024, ldS256x1024f, ldS3x256f, ldT3, ldTn3, ldW0, ldW3, ldWn3]
    simp only [of_ug, of_uv, of_g, of_v, of_d, of_h, of_wd, of_wg, of_wv, of_gn0, of_vn0, of_dn0, of_gn3, of_vn3, of_dn3]
    rfl
  have h2 : HS0_6 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 3) := by
    rw [show l.drop 3 = (fU L) 4 :: l.drop 4 by rw [hl]; rfl, wl_cons]
    subst hl hL
    simp only [k0_pay148, fW, fB, fU, fD, Loads.uG, Loads.uV, Loads.cG, Loads.cV, Loads.D, Loads.G, Loads.V, HS0_6, v747, v744, v739, v743, v740, v724, v723, v719, v715, r_48, v503, v502, v499, v501, v6, cst_11, v234, v233, r, v718, r_49, v77, v76, v722, v706, v705, r_47, v81, v80, v736, v735, v731, v727, v708, v707, r_46, v86, v85, r_1, v730, v710, v709, v89, v88, v734, v712, v711, v93, v92, v742, cst_43, h3, fold_ext, fold_dy, fold_mmU, ldS256x1024, ldS256x1024f, ldS3x256f, ldT4, ldTn4, ldW0, ldW4, ldWn4]
    simp only [of_ug, of_uv, of_g, of_v, of_d, of_h, of_wd, of_wg, of_wv, of_gn0, of_vn0, of_dn0, of_gn4, of_vn4, of_dn4]
    rfl
  have h1 : HS0_7 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 2) := by
    rw [show l.drop 2 = (fU L) 5 :: l.drop 3 by rw [hl]; rfl, wl_cons]
    subst hl hL
    simp only [k0_pay148, fW, fB, fU, fD, Loads.uG, Loads.uV, Loads.cG, Loads.cV, Loads.D, Loads.G, Loads.V, HS0_7, v907, v904, v899, v903, v900, r_64, r, r_43, v6, v662, v659, v661, cst_11, r_51, r_52, r_54, r_55, r_56, cst_451, r_65, r_1, r_57, v902, cst_43, h2, fold_ext, fold_dy, fold_mmU, ldS256x1024, ldS256x1024f, ldS3x256f, ldT5, ldTn5, ldW0, ldW5, ldWn5]
    simp only [of_ug, of_uv, of_g, of_v, of_d, of_h, of_wd, of_wg, of_wv, of_gn0, of_vn0, of_dn0, of_gn5, of_vn5, of_dn5]
    rfl
  have h0 : HS0_8 c arg4 harg4 arg6 harg6 arg8 harg8 arg10 harg10 arg11 harg11 arg12 harg12 arg13 harg13 arg23 x2 x4 x6 x8 x9 x10 x11 = wl arg23.view ![0, 0] (inbZ z2) [⟨Rect.unit ![0, 0] S512x1024.size (inbZ z2), k0_pay10⟩] (l.drop 1) := by
    rw [show l.drop 1 = (fU L) 6 :: l.drop 2 by rw [hl]; rfl, wl_cons]
    subst hl hL
    simp only [k0_pay148, fW, fB, fU, fD, Loads.uG, Loads.uV, Loads.cG, Loads.cV, Loads.D, Loads.G, Loads.V, HS0_8, v1065, v1062, v1057, v1061, v1058, r_78, r, r_50, v6, r_67, r_68, r_70, v1054, v1053, v1049, r_79, r_1, v1048, r_76, r_80, v1052, r_77, v93, v92, v1060, cst_43, h1, fold_ext, fold_dy, fold_mmU, ldS256x1024, ldS256x1024f, ldS3x256f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_A
  dsimp only
  rw [← hl, show l = (fU L) 7 :: l.drop 1 by rw [hl]; rfl, wl_cons]
  subst hl hL
  simp only [k0_pay148, fW, fB, fU, fD, Loads.uG, Loads.uV, Loads.cG, Loads.cV, Loads.D, Loads.G, Loads.V, v1219, v1216, v1211, v1215, v1212, v1196, v1195, r_89, r, r_66, v6, v11, v7, v9, v10, cst, v1141, v1140, v1139, v1137, v1147, v1146, v1145, v1143, r_90, v1208, v1207, v1203, v1199, r_86, v86, v85, r_1, v1202, r_87, v89, v88, v1206, r_88, v93, v92, v1214, cst_43, h0, fold_ext, fold_dy, fold_mmU, ldS16x1024, ldS16x256, ldS256x1024, ldS256x1024f, ldS3x256f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the down weights' running sum, over the loads `L`. -/
theorem LS1_A :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11).2.2.2.2.2.2.2.2.2.2.1 = wl arg24.view ![0, 0] (inbZ z2) [⟨Rect.unit ![0, 0] S256x1024.size (inbZ z2), k0_pay11⟩] (eight (fD L) ((fD L) 0)) := by
  have h7 : HS1_1 = wl arg24.view ![0, 0] (inbZ z2) [⟨Rect.unit ![0, 0] S256x1024.size (inbZ z2), k0_pay11⟩] ((eight (fD L) ((fD L) 0)).drop 8) := by
    subst hL
    simp only [HS1_1, v1308, v1305, cst_685]
    rfl
  have h6 : HS1_2 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 7) := by
    rw [show (eight (fD L) ((fD L) 0)).drop 7 = ((fD L) 0) :: (eight (fD L) ((fD L) 0)).drop 8 from rfl, wl_cons]
    subst hL
    simp only [k0_pay148, fW, fB, fU, fD, Loads.uG, Loads.uV, Loads.cG, Loads.cV, Loads.D, Loads.G, Loads.V, HS1_2, v117, v114, v108, v113, v112, v111, v109, r_4, v29, v28, v25, v27, v110, r_2, r_3, cst_48, h7, fold_ext, fold_dy, fold_mmU, ldS256x1024, ldS256x1024f, ldT0, ldTn0, ldW0]
    simp only [of_ug, of_uv, of_g, of_v, of_d, of_h, of_wd, of_wg, of_wv, of_gn0, of_vn0, of_dn0]
    rfl
  have h5 : HS1_3 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 6) := by
    rw [show (eight (fD L) ((fD L) 0)).drop 6 = (fD L) 1 :: (eight (fD L) ((fD L) 0)).drop 7 from rfl, wl_cons]
    subst hL
    simp only [k0_pay148, fW, fB, fU, fD, Loads.uG, Loads.uV, Loads.cG, Loads.cV, Loads.D, Loads.G, Loads.V, HS1_3, v277, v274, v268, v273, v272, v271, v269, r_15, v270, r_13, r_14, cst_48, h6, fold_ext, fold_dy, fold_mmU, ldT1, ldTn1, ldW1]
    simp only [of_ug, of_uv, of_g, of_v, of_d, of_h, of_wd, of_wg, of_wv, of_gn1, of_vn1, of_dn1]
    rfl
  have h4 : HS1_4 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 5) := by
    rw [show (eight (fD L) ((fD L) 0)).drop 5 = (fD L) 2 :: (eight (fD L) ((fD L) 0)).drop 6 from rfl, wl_cons]
    subst hL
    simp only [k0_pay148, fW, fB, fU, fD, Loads.uG, Loads.uV, Loads.cG, Loads.cV, Loads.D, Loads.G, Loads.V, HS1_4, v437, v434, v428, v433, v432, v431, v429, r_23, r_18, r_22, v430, r_19, r_20, cst_48, h5, fold_ext, fold_dy, fold_mmU, ldT2, ldTn2, ldW2]
    simp only [of_ug, of_uv, of_g, of_v, of_d, of_h, of_wd, of_wg, of_wv, of_gn2, of_vn2, of_dn2]
    rfl
  have h3 : HS1_5 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 4) := by
    rw [show (eight (fD L) ((fD L) 0)).drop 4 = (fD L) 3 :: (eight (fD L) ((fD L) 0)).drop 5 from rfl, wl_cons]
    subst hL
    simp only [k0_pay148, fW, fB, fU, fD, Loads.uG, Loads.uV, Loads.cG, Loads.cV, Loads.D, Loads.G, Loads.V, HS1_5, v597, v594, v588, v593, v592, v591, v589, r_35, v509, v508, v505, v507, v590, r_33, v511, r_32, r_34, cst_48, h4, fold_ext, fold_dy, fold_mmU, ldT3, ldTn3, ldW3]
    simp only [of_ug, of_uv, of_g, of_v, of_d, of_h, of_wd, of_wg, of_wv, of_gn3, of_vn3, of_dn3]
    rfl
  have h2 : HS1_6 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 3) := by
    rw [show (eight (fD L) ((fD L) 0)).drop 3 = (fD L) 4 :: (eight (fD L) ((fD L) 0)).drop 4 from rfl, wl_cons]
    subst hL
    simp only [k0_pay148, fW, fB, fU, fD, Loads.uG, Loads.uV, Loads.cG, Loads.cV, Loads.D, Loads.G, Loads.V, HS1_6, v757, v754, v748, v753, v752, v751, v749, r_46, v750, r_44, r_45, cst_48, h3, fold_ext, fold_dy, fold_mmU, ldT4, ldTn4, ldW4]
    simp only [of_ug, of_uv, of_g, of_v, of_d, of_h, of_wd, of_wg, of_wv, of_gn4, of_vn4, of_dn4]
    rfl
  have h1 : HS1_7 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 2) := by
    rw [show (eight (fD L) ((fD L) 0)).drop 2 = (fD L) 5 :: (eight (fD L) ((fD L) 0)).drop 3 from rfl, wl_cons]
    subst hL
    simp only [k0_pay148, fW, fB, fU, fD, Loads.uG, Loads.uV, Loads.cG, Loads.cV, Loads.D, Loads.G, Loads.V, HS1_7, v917, v914, v908, v913, v912, v911, v909, r_57, v910, r_52, r_53, cst_48, h2, fold_ext, fold_dy, fold_mmU, ldT5, ldTn5, ldW5]
    simp only [of_ug, of_uv, of_g, of_v, of_d, of_h, of_wd, of_wg, of_wv, of_gn5, of_vn5, of_dn5]
    rfl
  have h0 : HS1_8 c arg4 harg4 arg6 harg6 arg8 harg8 arg24 x2 x4 x6 = wl arg24.view ![0, 0] (inbZ z2) [⟨Rect.unit ![0, 0] S256x1024.size (inbZ z2), k0_pay11⟩] ((eight (fD L) ((fD L) 0)).drop 1) := by
    rw [show (eight (fD L) ((fD L) 0)).drop 1 = (fD L) 6 :: (eight (fD L) ((fD L) 0)).drop 2 from rfl, wl_cons]
    subst hL
    simp only [k0_pay148, fW, fB, fU, fD, Loads.uG, Loads.uV, Loads.cG, Loads.cV, Loads.D, Loads.G, Loads.V, HS1_8, v1075, v1072, v1066, v1071, v1070, v1069, v1067, r_71, r_67, r_70, v1068, r_68, r_69, cst_48, h1, fold_ext, fold_dy, fold_mmU, ldT6, ldTn6, ldW6]
    simp only [of_ug, of_uv, of_g, of_v, of_d, of_h, of_wd, of_wg, of_wv, of_gn6, of_vn6, of_dn6]
    rfl
  unfold kernelRun0_A
  dsimp only
  rw [show (eight (fD L) ((fD L) 0)) = (fD L) 7 :: (eight (fD L) ((fD L) 0)).drop 1 from rfl, wl_cons]
  subst hL
  simp only [k0_pay148, fW, fB, fU, fD, Loads.uG, Loads.uV, Loads.cG, Loads.cV, Loads.D, Loads.G, Loads.V, v1229, v1226, v1220, v1225, v1224, v1223, v1221, r_82, v1141, v1140, v1139, v1137, v1222, v1147, v1146, v1145, v1143, r_81, cst_48, h0, fold_ext, fold_dy, fold_mmU, ldS16x256, ldT7, ldW7]
  simp only [of_ug, of_uv, of_g, of_v, of_d, of_h, of_wd, of_wg, of_wv, of_gn7, of_vn7, of_dn7]
  rfl

end Cert.KernelIdeal.Tile

end

end
-- ==== Proof.RunB.lean ====
/- ONE GRID POINT IN THE MIDDLE. What the body of the kernel stores, window by window, at a row block that is
   neither the first nor the last, where every running sum goes on from what it held: the stores are lists over the
   loads of the point, one entry for each of the eight strips of rows. -/
module

public import proofs.«01_k».proof.Proof.Fold
public import proofs.«01_k».proof.Proof.Gen.KernelIdeal.Frame.RunB
public import proofs.«01_k».proof.Proof.Load

@[expose] public section

set_option synthInstance.maxSize 4096
set_option maxRecDepth 16384

noncomputable section

namespace Cert.KernelIdeal.Tile

open Cert.KernelIdeal.Gen.kernelRun0_B.sl
open Cert.KernelIdeal Cert.KernelIdeal.Gen Idealize.ShloMosaic Idealize.ShloMosaic.TcCoe Idealize.SL.Sem

variable {F : FTy → Type} [FloatOps F] [Named F]

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S16x256 .bf16) (harg5 : arg5.IsWhole) (arg6 : Memref sig .tc .vmem S2048x256 .bf16) (harg6 : arg6.IsWhole) (arg7 : Memref sig .tc .vmem S16x256 .bf16) (harg7 : arg7.IsWhole) (arg8 : Memref sig .tc .vmem S2048x1024 .bf16) (harg8 : arg8.IsWhole) (arg9 : Memref sig .tc .vmem S16x1024 .bf16) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S3x256 .f32) (harg12 : arg12.IsWhole) (arg13 : Memref sig .tc .vmem S3x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S3x256 .f32) (harg19 : arg19.IsWhole) (arg20 : Memref sig .tc .vmem S3x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S256x1024 .f32) (harg24 : arg24.IsWhole) (hc0 : ¬cond0_0 i) (hc1 : ¬cond0_1 i)
    (x0 : Vec F S2048x256 .bf16) (x1 : Vec F S2048x256 .bf16) (x2 : Vec F S2048x256 .bf16) (x3 : Vec F S16x256 .bf16) (x4 : Vec F S2048x256 .bf16) (x5 : Vec F S16x256 .bf16) (x6 : Vec F S2048x1024 .bf16) (x7 : Vec F S16x1024 .bf16) (x8 : Vec F S256x1024 .bf16) (x9 : Vec F S2048x1024 .bf16) (x10 : Vec F S3x256 .f32) (x11 : Vec F S3x256 .f32) (xo17 : Vec F S3x256 .f32) (xo18 : Vec F S3x256 .f32) (xo19 : Vec F S1x256 .f32) (xo20 : Vec F S1x256 .f32) (xs0 : Vec F S512x1024 .f32) (xs1 : Vec F S256x1024 .f32)
  {L : Loads F} (hL : (Loads.of i x0 x1 x2 x3 x4 x5 x6 x7 x8 x9 x10 x11) = L)
include hL

set_option maxHeartbeats 8000000 in
/-- The blocks of the gate half of `du`, over the loads `L`. -/
theorem L12_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).1 = duL L.uG := by
  subst hL
  unfold kernelRun0_B
  dsimp only
  unfold duL
  simp only [k0_pay148, fW, fB, fU, fD, Loads.uG, Loads.uV, Loads.cG, Loads.cV, Loads.D, Loads.G, Loads.V, v1196, v1195, r_89, r, r_66, v6, v11, v7, v9, v10, cst, v1141, v1140, v1139, v1137, v1147, v1146, v1145, v1143, r_90, r_78, r_50, r_67, r_68, r_70, r_43, v662, v659, v661, cst_11, r_51, r_52, r_54, r_55, r_56, cst_451, v724, v723, v719, v715, r_48, v503, v502, v499, v501, v234, v233, v718, r_49, v77, v76, v722, v706, v705, r_47, v81, v80, v564, v563, r_42, r_17, v509, v508, v505, v507, v511, r_32, v562, r_38, r_30, r_12, v179, r_18, r_19, r_21, r_22, v244, v243, v239, v235, v222, v221, v220, v23, v22, v19, v21, r_13, r_16, v238, v224, v223, v242, v226, v225, v84, v83, v79, v75, r_5, v17, v16, v13, v15, v29, v28, v25, v27, v74, r_11, v78, r_6, v82, r_7, fold_ext, fold_dy, fold_mmU, ldS16x1024, ldS16x256, ldS256x1024, ldS256x1024f, ldS3x256f, ldT0, ldT1, ldT2, ldT3, ldT4, ldT5, ldT6, ldT7, ldTn0, ldTn1, ldTn2, ldTn3, ldTn4, ldTn5, ldTn6, ldW0, ldW1, ldW2, ldW3, ldW4, ldW5, ldW6, ldW7, ldWn0, ldWn1, ldWn2, ldWn3, ldWn4, ldWn5, ldWn6]
  simp only [of_ug, of_uv, of_g, of_v, of_d, of_h, of_wd, of_wg, of_wv, of_gn0, of_vn0, of_dn0, of_gn1, of_vn1, of_dn1, of_gn2, of_vn2, of_dn2, of_gn3, of_vn3, of_dn3, of_gn4, of_vn4, of_dn4, of_gn5, of_vn5, of_dn5, of_gn6, of_vn6, of_dn6, of_gn7, of_vn7, of_dn7]
  rfl

set_option maxHeartbeats 8000000 in
/-- The blocks of the value half of `du`, over the loads `L`. -/
theorem L13_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.1 = duL L.uV := by
  subst hL
  unfold kernelRun0_B
  dsimp only
  unfold duL
  simp only [k0_pay148, fW, fB, fU, fD, Loads.uG, Loads.uV, Loads.cG, Loads.cV, Loads.D, Loads.G, Loads.V, v1208, v1207, v1203, v1199, r_86, r_66, v6, v11, v7, v9, v10, cst, v1141, v1140, v1139, v1137, v86, v85, r_1, v1202, r_87, v89, v88, v1206, r_88, v93, v92, v1054, v1053, v1049, r_79, r_50, r_67, r_70, v1048, r_76, r_80, v1052, r_77, r_65, r_43, v662, v659, v661, cst_11, r_57, v736, v735, v731, v727, v708, v707, v503, v502, v499, v501, r_46, v730, v710, v709, v734, v712, v711, v576, v575, v571, v567, r_39, r_17, v509, v508, v505, v507, v570, r_40, v574, r_41, r_31, r_12, v179, r_18, r_22, v256, v255, v251, v247, v228, v227, v23, v22, v19, v21, r_15, v250, v230, v229, v254, v232, v231, v96, v95, v91, v87, r_8, v17, v16, v13, v15, v29, v28, v25, v27, v90, r_9, v94, r_10, fold_ext, fold_dy, fold_mmU, ldS16x1024, ldS16x256, ldS256x1024, ldS256x1024f, ldS3x256f, ldT0, ldT1, ldT2, ldT3, ldT4, ldT5, ldT6, ldT7, ldTn0, ldTn1, ldTn2, ldTn3, ldTn4, ldTn5, ldTn6, ldW0, ldW1, ldW2, ldW3, ldW4, ldW5, ldW6, ldW7, ldWn0, ldWn1, ldWn2, ldWn3, ldWn4, ldWn5, ldWn6]
  simp only [of_ug, of_uv, of_g, of_v, of_d, of_h, of_wd, of_wg, of_wv, of_gn0, of_vn0, of_dn0, of_gn1, of_vn1, of_dn1, of_gn2, of_vn2, of_dn2, of_gn3, of_vn3, of_dn3, of_gn4, of_vn4, of_dn4, of_gn5, of_vn5, of_dn5, of_gn6, of_vn6, of_dn6, of_gn7, of_vn7, of_dn7]
  rfl

set_option maxHeartbeats 8000000 in
/-- The stores to the gate half of the taps' gradient, over the loads `L`. -/
theorem L17_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.1 = wr arg19.view [] (rows3 (fW L.cG L.ug) (fun k _ => (fW L.cG L.ug) 0 k (View.ld xo17 (rR k)))) := by
  obtain ⟨l, hl⟩ : ∃ l, l = (rows3 (fW L.cG L.ug) (fun k _ => (fW L.cG L.ug) 0 k (View.ld xo17 (rR k)))) := ⟨_, rfl⟩
  have h20 : H17_3 c arg2 harg2 arg4 harg4 arg6 harg6 arg8 harg8 arg10 harg10 arg19 harg19 x0 x2 x4 x6 x8 xo17 = wr arg19.view [] (l.drop 21) := by
    rw [show l.drop 21 = [(2, (fun k _ => (fW L.cG L.ug) 0 k (View.ld xo17 (rR k))) 2), (1, (fun k _ => (fW L.cG L.ug) 0 k (View.ld xo17 (rR k))) 1), (0, (fun k _ => (fW L.cG L.ug) 0 k (View.ld xo17 (rR k))) 0)] by rw [hl]; rfl, wr_cons, wr_cons, wr_cons]
    subst hl hL
    simp only [k0_pay148, fW, fB, fU, fD, Loads.uG, Loads.uV, Loads.cG, Loads.cV, Loads.D, Loads.G, Loads.V, H17_3, v146, v142, v141, v145, v144, v143, r_5, v17, v16, v13, v15, v6, cst_11, v29, v28, v25, v27, v120, v119, v139, v135, v134, v138, v137, v136, r_6, v132, v128, v131, v130, v129, r_7, fold_ext, fold_dy, fold_mmU, ldR0, ldR1, ldR2, ldS1x256f, ldS256x1024, ldS256x1024f, ldT0, ldTn0, ldW0, ldWn0]
    simp only [of_ug, of_uv, of_g, of_v, of_d, of_h, of_wd, of_wg, of_wv, of_gn0, of_vn0, of_dn0]
    rfl
  have h19 : H17_4 c arg2 harg2 arg4 harg4 arg6 harg6 arg8 harg8 arg10 harg10 arg19 harg19 x0 x2 x4 x6 x8 xo17 = wr arg19.view [] (l.drop 20) := by
    rw [show l.drop 20 = (0, (fW L.cG L.ug) 1 0) :: l.drop 21 by rw [hl]; rfl, wr_cons]
    subst hl hL
    simp only [k0_pay148, fW, fB, fU, fD, Loads.uG, Loads.uV, Loads.cG, Loads.cV, Loads.D, Loads.G, Loads.V, H17_4, v292, v288, v287, v291, v290, v289, v226, v225, v221, v220, v23, v22, v19, v21, v6, cst_11, r_13, r_16, v280, v279, h20, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h18 : H17_5 c arg2 harg2 arg4 harg4 arg6 harg6 arg8 harg8 arg10 harg10 arg19 harg19 x0 x2 x4 x6 x8 xo17 = wr arg19.view [] (l.drop 19) := by
    rw [show l.drop 19 = (1, (fW L.cG L.ug) 1 1) :: l.drop 20 by rw [hl]; rfl, wr_cons]
    subst hl hL
    simp only [k0_pay148, fW, fB, fU, fD, Loads.uG, Loads.uV, Loads.cG, Loads.cV, Loads.D, Loads.G, Loads.V, H17_5, v299, v295, v294, v298, v297, v296, v224, v223, v221, v220, v23, v22, v19, v21, v6, cst_11, r_13, r_16, v280, v279, h19, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h17 : H17_6 c arg2 harg2 arg4 harg4 arg6 harg6 arg8 harg8 arg10 harg10 arg19 harg19 x0 x2 x4 x6 x8 xo17 = wr arg19.view [] (l.drop 18) := by
    rw [show l.drop 18 = (2, (fW L.cG L.ug) 1 2) :: l.drop 19 by rw [hl]; rfl, wr_cons]
    subst hl hL
    simp only [k0_pay148, fW, fB, fU, fD, Loads.uG, Loads.uV, Loads.cG, Loads.cV, Loads.D, Loads.G, Loads.V, H17_6, v306, v302, v301, v305, v304, v303, v222, v221, v220, v23, v22, v19, v21, v6, cst_11, r_13, r_16, v280, v279, h18, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h16 : H17_7 c arg2 harg2 arg4 harg4 arg6 harg6 arg8 harg8 arg10 harg10 arg19 harg19 x0 x2 x4 x6 x8 xo17 = wr arg19.view [] (l.drop 17) := by
    rw [show l.drop 17 = (0, (fW L.cG L.ug) 2 0) :: l.drop 18 by rw [hl]; rfl, wr_cons]
    subst hl hL
    simp only [k0_pay148, fW, fB, fU, fD, Loads.uG, Loads.uV, Loads.cG, Loads.cV, Loads.D, Loads.G, Loads.V, H17_7, v452, v448, v447, v451, v450, v449, r_26, r_12, v6, v179, r_18, r_19, r_21, r_22, v440, v439, h17, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h15 : H17_8 c arg2 harg2 arg4 harg4 arg6 harg6 arg8 harg8 arg10 harg10 arg19 harg19 x0 x2 x4 x6 x8 xo17 = wr arg19.view [] (l.drop 16) := by
    rw [show l.drop 16 = (1, (fW L.cG L.ug) 2 1) :: l.drop 17 by rw [hl]; rfl, wr_cons]
    subst hl hL
    simp only [k0_pay148, fW, fB, fU, fD, Loads.uG, Loads.uV, Loads.cG, Loads.cV, Loads.D, Loads.G, Loads.V, H17_8, v459, v455, v454, v458, v457, v456, r_25, r_12, v6, v179, r_18, r_19, r_21, r_22, v440, v439, h16, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h14 : H17_9 c arg2 harg2 arg4 harg4 arg6 harg6 arg8 harg8 arg10 harg10 arg19 harg19 x0 x2 x4 x6 x8 xo17 = wr arg19.view [] (l.drop 15) := by
    rw [show l.drop 15 = (2, (fW L.cG L.ug) 2 2) :: l.drop 16 by rw [hl]; rfl, wr_cons]
    subst hl hL
    simp only [k0_pay148, fW, fB, fU, fD, Loads.uG, Loads.uV, Loads.cG, Loads.cV, Loads.D, Loads.G, Loads.V, H17_9, v466, v462, v461, v465, v464, v463, r_24, r_12, v6, v179, r_18, r_19, r_21, r_22, v440, v439, h15, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h13 : H17_10 c arg2 harg2 arg4 harg4 arg6 harg6 arg8 harg8 arg10 harg10 arg19 harg19 x0 x2 x4 x6 x8 xo17 = wr arg19.view [] (l.drop 14) := by
    rw [show l.drop 14 = (0, (fW L.cG L.ug) 3 0) :: l.drop 15 by rw [hl]; rfl, wr_cons]
    subst hl hL
    simp only [k0_pay148, fW, fB, fU, fD, Loads.uG, Loads.uV, Loads.cG, Loads.cV, Loads.D, Loads.G, Loads.V, H17_10, v612, v608, v607, v611, v610, v609, r_38, r_17, v6, v509, v508, v505, v507, v511, r_32, v600, v599, h14, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h12 : H17_11 c arg2 harg2 arg4 harg4 arg6 harg6 arg8 harg8 arg10 harg10 arg19 harg19 x0 x2 x4 x6 x8 xo17 = wr arg19.view [] (l.drop 13) := by
    rw [show l.drop 13 = (1, (fW L.cG L.ug) 3 1) :: l.drop 14 by rw [hl]; rfl, wr_cons]
    subst hl hL
    simp only [k0_pay148, fW, fB, fU, fD, Loads.uG, Loads.uV, Loads.cG, Loads.cV, Loads.D, Loads.G, Loads.V, H17_11, v619, v615, v614, v618, v617, v616, r_37, r_17, v6, v509, v508, v505, v507, v511, r_32, v600, v599, h13, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h11 : H17_12 c arg2 harg2 arg4 harg4 arg6 harg6 arg8 harg8 arg10 harg10 arg19 harg19 x0 x2 x4 x6 x8 xo17 = wr arg19.view [] (l.drop 12) := by
    rw [show l.drop 12 = (2, (fW L.cG L.ug) 3 2) :: l.drop 13 by rw [hl]; rfl, wr_cons]
    subst hl hL
    simp only [k0_pay148, fW, fB, fU, fD, Loads.uG, Loads.uV, Loads.cG, Loads.cV, Loads.D, Loads.G, Loads.V, H17_12, v626, v622, v621, v625, v624, v623, r_36, r_17, v6, v509, v508, v505, v507, v511, r_32, v600, v599, h12, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h10 : H17_13 c arg2 harg2 arg4 harg4 arg6 harg6 arg8 harg8 arg10 harg10 arg19 harg19 x0 x2 x4 x6 x8 xo17 = wr arg19.view [] (l.drop 11) := by
    rw [show l.drop 11 = (0, (fW L.cG L.ug) 4 0) :: l.drop 12 by rw [hl]; rfl, wr_cons]
    subst hl hL
    simp only [k0_pay148, fW, fB, fU, fD, Loads.uG, Loads.uV, Loads.cG, Loads.cV, Loads.D, Loads.G, Loads.V, H17_13, v772, v768, v767, v771, v770, v769, v706, v705, r_47, v503, v502, v499, v501, v6, cst_11, v760, v759, h11, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h9 : H17_14 c arg2 harg2 arg4 harg4 arg6 harg6 arg8 harg8 arg10 harg10 arg19 harg19 x0 x2 x4 x6 x8 xo17 = wr arg19.view [] (l.drop 10) := by
    rw [show l.drop 10 = (1, (fW L.cG L.ug) 4 1) :: l.drop 11 by rw [hl]; rfl, wr_cons]
    subst hl hL
    simp only [k0_pay148, fW, fB, fU, fD, Loads.uG, Loads.uV, Loads.cG, Loads.cV, Loads.D, Loads.G, Loads.V, H17_14, v779, v775, v774, v778, v777, v776, r_49, v503, v502, v499, v501, v6, cst_11, v760, v759, h10, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h8 : H17_15 c arg2 harg2 arg4 harg4 arg6 harg6 arg8 harg8 arg10 harg10 arg19 harg19 x0 x2 x4 x6 x8 xo17 = wr arg19.view [] (l.drop 9) := by
    rw [show l.drop 9 = (2, (fW L.cG L.ug) 4 2) :: l.drop 10 by rw [hl]; rfl, wr_cons]
    subst hl hL
    simp only [k0_pay148, fW, fB, fU, fD, Loads.uG, Loads.uV, Loads.cG, Loads.cV, Loads.D, Loads.G, Loads.V, H17_15, v786, v782, v781, v785, v784, v783, r_48, v503, v502, v499, v501, v6, cst_11, v760, v759, h9, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h7 : H17_16 c arg2 harg2 arg4 harg4 arg6 harg6 arg8 harg8 arg10 harg10 arg19 harg19 x0 x2 x4 x6 x8 xo17 = wr arg19.view [] (l.drop 8) := by
    rw [show l.drop 8 = (0, (fW L.cG L.ug) 5 0) :: l.drop 9 by rw [hl]; rfl, wr_cons]
    subst hl hL
    simp only [k0_pay148, fW, fB, fU, fD, Loads.uG, Loads.uV, Loads.cG, Loads.cV, Loads.D, Loads.G, Loads.V, H17_16, v932, v928, v927, v931, v930, v929, r_60, r_43, v6, v662, v659, v661, cst_11, r_51, r_52, r_54, r_55, r_56, cst_451, v920, v919, h8, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h6 : H17_17 c arg2 harg2 arg4 harg4 arg6 harg6 arg8 harg8 arg10 harg10 arg19 harg19 x0 x2 x4 x6 x8 xo17 = wr arg19.view [] (l.drop 7) := by
    rw [show l.drop 7 = (1, (fW L.cG L.ug) 5 1) :: l.drop 8 by rw [hl]; rfl, wr_cons]
    subst hl hL
    simp only [k0_pay148, fW, fB, fU, fD, Loads.uG, Loads.uV, Loads.cG, Loads.cV, Loads.D, Loads.G, Loads.V, H17_17, v939, v935, v934, v938, v937, v936, r_59, r_43, v6, v662, v659, v661, cst_11, r_51, r_52, r_54, r_55, r_56, cst_451, v920, v919, h7, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h5 : H17_18 c arg2 harg2 arg4 harg4 arg6 harg6 arg8 harg8 arg10 harg10 arg19 harg19 x0 x2 x4 x6 x8 xo17 = wr arg19.view [] (l.drop 6) := by
    rw [show l.drop 6 = (2, (fW L.cG L.ug) 5 2) :: l.drop 7 by rw [hl]; rfl, wr_cons]
    subst hl hL
    simp only [k0_pay148, fW, fB, fU, fD, Loads.uG, Loads.uV, Loads.cG, Loads.cV, Loads.D, Loads.G, Loads.V, H17_18, v946, v942, v941, v945, v944, v943, r_58, r_43, v6, v662, v659, v661, cst_11, r_51, r_52, r_54, r_55, r_56, cst_451, v920, v919, h6, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h4 : H17_19 c arg2 harg2 arg4 harg4 arg6 harg6 arg8 harg8 arg10 harg10 arg19 harg19 x0 x2 x4 x6 x8 xo17 = wr arg19.view [] (l.drop 5) := by
    rw [show l.drop 5 = (0, (fW L.cG L.ug) 6 0) :: l.drop 6 by rw [hl]; rfl, wr_cons]
    subst hl hL
    simp only [k0_pay148, fW, fB, fU, fD, Loads.uG, Loads.uV, Loads.cG, Loads.cV, Loads.D, Loads.G, Loads.V, H17_19, v1090, v1086, v1085, v1089, v1088, v1087, r_74, r_50, v6, r_67, r_68, r_70, v1078, v1077, h5, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h3 : H17_20 c arg2 harg2 arg4 harg4 arg6 harg6 arg8 harg8 arg10 harg10 arg19 harg19 x0 x2 x4 x6 x8 xo17 = wr arg19.view [] (l.drop 4) := by
    rw [show l.drop 4 = (1, (fW L.cG L.ug) 6 1) :: l.drop 5 by rw [hl]; rfl, wr_cons]
    subst hl hL
    simp only [k0_pay148, fW, fB, fU, fD, Loads.uG, Loads.uV, Loads.cG, Loads.cV, Loads.D, Loads.G, Loads.V, H17_20, v1097, v1093, v1092, v1096, v1095, v1094, r_73, r_50, v6, r_67, r_68, r_70, v1078, v1077, h4, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h2 : H17_21 c arg2 harg2 arg4 harg4 arg6 harg6 arg8 harg8 arg10 harg10 arg19 harg19 x0 x2 x4 x6 x8 xo17 = wr arg19.view [] (l.drop 3) := by
    rw [show l.drop 3 = (2, (fW L.cG L.ug) 6 2) :: l.drop 4 by rw [hl]; rfl, wr_cons]
    subst hl hL
    simp only [k0_pay148, fW, fB, fU, fD, Loads.uG, Loads.uV, Loads.cG, Loads.cV, Loads.D, Loads.G, Loads.V, H17_21, v1104, v1100, v1099, v1103, v1102, v1101, r_72, r_50, v6, r_67, r_68, r_70, v1078, v1077, h3, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h1 : H17_22 c i arg2 harg2 arg4 harg4 arg5 harg5 arg6 harg6 arg7 harg7 arg8 harg8 arg9 harg9 arg10 harg10 arg19 harg19 x0 x2 x3 x4 x5 x6 x7 x8 xo17 = wr arg19.view [] (l.drop 2) := by
    rw [show l.drop 2 = (0, (fW L.cG L.ug) 7 0) :: l.drop 3 by rw [hl]; rfl, wr_cons]
    subst hl hL
    simp only [k0_pay148, fW, fB, fU, fD, Loads.uG, Loads.uV, Loads.cG, Loads.cV, Loads.D, Loads.G, Loads.V, H17_22, v1244, v1240, v1239, v1243, v1242, v1241, r_85, r_66, v6, v11, v7, v9, v10, cst, v1141, v1140, v1139, v1137, v1147, v1146, v1145, v1143, v1232, v1231, h2, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  have h0 : H17_23 c i arg2 harg2 arg4 harg4 arg5 harg5 arg6 harg6 arg7 harg7 arg8 harg8 arg9 harg9 arg10 harg10 arg19 harg19 x0 x2 x3 x4 x5 x6 x7 x8 xo17 = wr arg19.view [] (l.drop 1) := by
    rw [show l.drop 1 = (1, (fW L.cG L.ug) 7 1) :: l.drop 2 by rw [hl]; rfl, wr_cons]
    subst hl hL
    simp only [k0_pay148, fW, fB, fU, fD, Loads.uG, Loads.uV, Loads.cG, Loads.cV, Loads.D, Loads.G, Loads.V, H17_23, v1251, v1247, v1246, v1250, v1249, v1248, r_84, r_66, v6, v11, v7, v9, v10, cst, v1141, v1140, v1139, v1137, v1147, v1146, v1145, v1143, v1232, v1231, h1, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  unfold kernelRun0_B
  dsimp only
  rw [← hl, show l = (2, (fW L.cG L.ug) 7 2) :: l.drop 1 by rw [hl]; rfl, wr_cons]
  subst hl hL
  simp only [k0_pay148, fW, fB, fU, fD, Loads.uG, Loads.uV, Loads.cG, Loads.cV, Loads.D, Loads.G, Loads.V, v1258, v1254, v1253, v1257, v1256, v1255, r_83, r_66, v6, v11, v7, v9, v10, cst, v1141, v1140, v1139, v1137, v1147, v1146, v1145, v1143, v1232, v1231, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the value half of the taps' gradient, over the loads `L`. -/
theorem L18_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.1 = wr arg20.view [] (rows3 (fW L.cV L.uv) (fun k _ => (fW L.cV L.uv) 0 k (View.ld xo18 (rR k)))) := by
  obtain ⟨l, hl⟩ : ∃ l, l = (rows3 (fW L.cV L.uv) (fun k _ => (fW L.cV L.uv) 0 k (View.ld xo18 (rR k)))) := ⟨_, rfl⟩
  have h20 : H18_3 c arg3 harg3 arg4 harg4 arg8 harg8 arg10 harg10 arg20 harg20 x1 x2 x6 x8 xo18 = wr arg20.view [] (l.drop 21) := by
    rw [show l.drop 21 = [(2, (fun k _ => (fW L.cV L.uv) 0 k (View.ld xo18 (rR k))) 2), (1, (fun k _ => (fW L.cV L.uv) 0 k (View.ld xo18 (rR k))) 1), (0, (fun k _ => (fW L.cV L.uv) 0 k (View.ld xo18 (rR k))) 0)] by rw [hl]; rfl, wr_cons, wr_cons, wr_cons]
    subst hl hL
    simp only [k0_pay148, fW, fB, fU, fD, Loads.uG, Loads.uV, Loads.cG, Loads.cV, Loads.D, Loads.G, Loads.V, H18_3, v176, v172, v171, v175, v174, v173, r_8, v17, v16, v13, v15, v6, cst_11, v29, v28, v25, v27, v150, v149, v169, v165, v164, v168, v167, v166, r_9, v162, v158, v161, v160, v159, r_10, fold_ext, fold_dy, fold_mmU, ldR0, ldR1, ldR2, ldS1x256f, ldS256x1024, ldS256x1024f, ldT0, ldTn0, ldW0, ldWn0]
    simp only [of_ug, of_uv, of_g, of_v, of_d, of_h, of_wd, of_wg, of_wv, of_gn0, of_vn0, of_dn0]
    rfl
  have h19 : H18_4 c arg3 harg3 arg4 harg4 arg8 harg8 arg10 harg10 arg20 harg20 x1 x2 x6 x8 xo18 = wr arg20.view [] (l.drop 20) := by
    rw [show l.drop 20 = (0, (fW L.cV L.uv) 1 0) :: l.drop 21 by rw [hl]; rfl, wr_cons]
    subst hl hL
    simp only [k0_pay148, fW, fB, fU, fD, Loads.uG, Loads.uV, Loads.cG, Loads.cV, Loads.D, Loads.G, Loads.V, H18_4, v322, v318, v317, v321, v320, v319, v232, v231, v227, v23, v22, v19, v21, v6, cst_11, r_15, v310, v309, h20, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h18 : H18_5 c arg3 harg3 arg4 harg4 arg8 harg8 arg10 harg10 arg20 harg20 x1 x2 x6 x8 xo18 = wr arg20.view [] (l.drop 19) := by
    rw [show l.drop 19 = (1, (fW L.cV L.uv) 1 1) :: l.drop 20 by rw [hl]; rfl, wr_cons]
    subst hl hL
    simp only [k0_pay148, fW, fB, fU, fD, Loads.uG, Loads.uV, Loads.cG, Loads.cV, Loads.D, Loads.G, Loads.V, H18_5, v329, v325, v324, v328, v327, v326, v230, v229, v227, v23, v22, v19, v21, v6, cst_11, r_15, v310, v309, h19, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h17 : H18_6 c arg3 harg3 arg4 harg4 arg8 harg8 arg10 harg10 arg20 harg20 x1 x2 x6 x8 xo18 = wr arg20.view [] (l.drop 18) := by
    rw [show l.drop 18 = (2, (fW L.cV L.uv) 1 2) :: l.drop 19 by rw [hl]; rfl, wr_cons]
    subst hl hL
    simp only [k0_pay148, fW, fB, fU, fD, Loads.uG, Loads.uV, Loads.cG, Loads.cV, Loads.D, Loads.G, Loads.V, H18_6, v228, v227, v23, v22, v19, v21, v6, cst_11, r_15, v310, v309, v331, h18, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h16 : H18_7 c arg3 harg3 arg4 harg4 arg8 harg8 arg10 harg10 arg20 harg20 x1 x2 x6 x8 xo18 = wr arg20.view [] (l.drop 17) := by
    rw [show l.drop 17 = (0, (fW L.cV L.uv) 2 0) :: l.drop 18 by rw [hl]; rfl, wr_cons]
    subst hl hL
    simp only [k0_pay148, fW, fB, fU, fD, Loads.uG, Loads.uV, Loads.cG, Loads.cV, Loads.D, Loads.G, Loads.V, H18_7, v482, v478, v477, v481, v480, v479, r_29, r_12, v6, v179, r_18, r_22, v470, v469, h17, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h15 : H18_8 c arg3 harg3 arg4 harg4 arg8 harg8 arg10 harg10 arg20 harg20 x1 x2 x6 x8 xo18 = wr arg20.view [] (l.drop 16) := by
    rw [show l.drop 16 = (1, (fW L.cV L.uv) 2 1) :: l.drop 17 by rw [hl]; rfl, wr_cons]
    subst hl hL
    simp only [k0_pay148, fW, fB, fU, fD, Loads.uG, Loads.uV, Loads.cG, Loads.cV, Loads.D, Loads.G, Loads.V, H18_8, v489, v485, v484, v488, v487, v486, r_28, r_12, v6, v179, r_18, r_22, v470, v469, h16, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h14 : H18_9 c arg3 harg3 arg4 harg4 arg8 harg8 arg10 harg10 arg20 harg20 x1 x2 x6 x8 xo18 = wr arg20.view [] (l.drop 15) := by
    rw [show l.drop 15 = (2, (fW L.cV L.uv) 2 2) :: l.drop 16 by rw [hl]; rfl, wr_cons]
    subst hl hL
    simp only [k0_pay148, fW, fB, fU, fD, Loads.uG, Loads.uV, Loads.cG, Loads.cV, Loads.D, Loads.G, Loads.V, H18_9, v496, v492, v491, v495, v494, v493, r_27, r_12, v6, v179, r_18, r_22, v470, v469, h15, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h13 : H18_10 c arg3 harg3 arg4 harg4 arg8 harg8 arg10 harg10 arg20 harg20 x1 x2 x6 x8 xo18 = wr arg20.view [] (l.drop 14) := by
    rw [show l.drop 14 = (0, (fW L.cV L.uv) 3 0) :: l.drop 15 by rw [hl]; rfl, wr_cons]
    subst hl hL
    simp only [k0_pay148, fW, fB, fU, fD, Loads.uG, Loads.uV, Loads.cG, Loads.cV, Loads.D, Loads.G, Loads.V, H18_10, v642, v638, v637, v641, v640, v639, r_41, r_17, v6, v509, v508, v505, v507, v630, v629, h14, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h12 : H18_11 c arg3 harg3 arg4 harg4 arg8 harg8 arg10 harg10 arg20 harg20 x1 x2 x6 x8 xo18 = wr arg20.view [] (l.drop 13) := by
    rw [show l.drop 13 = (1, (fW L.cV L.uv) 3 1) :: l.drop 14 by rw [hl]; rfl, wr_cons]
    subst hl hL
    simp only [k0_pay148, fW, fB, fU, fD, Loads.uG, Loads.uV, Loads.cG, Loads.cV, Loads.D, Loads.G, Loads.V, H18_11, v649, v645, v644, v648, v647, v646, r_40, r_17, v6, v509, v508, v505, v507, v630, v629, h13, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h11 : H18_12 c arg3 harg3 arg4 harg4 arg8 harg8 arg10 harg10 arg20 harg20 x1 x2 x6 x8 xo18 = wr arg20.view [] (l.drop 12) := by
    rw [show l.drop 12 = (2, (fW L.cV L.uv) 3 2) :: l.drop 13 by rw [hl]; rfl, wr_cons]
    subst hl hL
    simp only [k0_pay148, fW, fB, fU, fD, Loads.uG, Loads.uV, Loads.cG, Loads.cV, Loads.D, Loads.G, Loads.V, H18_12, v656, v652, v651, v655, v654, v653, r_39, r_17, v6, v509, v508, v505, v507, v630, v629, h12, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h10 : H18_13 c arg3 harg3 arg4 harg4 arg8 harg8 arg10 harg10 arg20 harg20 x1 x2 x6 x8 xo18 = wr arg20.view [] (l.drop 11) := by
    rw [show l.drop 11 = (0, (fW L.cV L.uv) 4 0) :: l.drop 12 by rw [hl]; rfl, wr_cons]
    subst hl hL
    simp only [k0_pay148, fW, fB, fU, fD, Loads.uG, Loads.uV, Loads.cG, Loads.cV, Loads.D, Loads.G, Loads.V, H18_13, v802, v798, v797, v801, v800, v799, v712, v711, v707, v503, v502, v499, v501, v6, cst_11, r_46, v790, v789, h11, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h9 : H18_14 c arg3 harg3 arg4 harg4 arg8 harg8 arg10 harg10 arg20 harg20 x1 x2 x6 x8 xo18 = wr arg20.view [] (l.drop 10) := by
    rw [show l.drop 10 = (1, (fW L.cV L.uv) 4 1) :: l.drop 11 by rw [hl]; rfl, wr_cons]
    subst hl hL
    simp only [k0_pay148, fW, fB, fU, fD, Loads.uG, Loads.uV, Loads.cG, Loads.cV, Loads.D, Loads.G, Loads.V, H18_14, v809, v805, v804, v808, v807, v806, v710, v709, v707, v503, v502, v499, v501, v6, cst_11, r_46, v790, v789, h10, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h8 : H18_15 c arg3 harg3 arg4 harg4 arg8 harg8 arg10 harg10 arg20 harg20 x1 x2 x6 x8 xo18 = wr arg20.view [] (l.drop 9) := by
    rw [show l.drop 9 = (2, (fW L.cV L.uv) 4 2) :: l.drop 10 by rw [hl]; rfl, wr_cons]
    subst hl hL
    simp only [k0_pay148, fW, fB, fU, fD, Loads.uG, Loads.uV, Loads.cG, Loads.cV, Loads.D, Loads.G, Loads.V, H18_15, v812, v811, v813, v708, v707, v503, v502, v499, v501, v6, cst_11, r_46, v790, v789, h9, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h7 : H18_16 c arg3 harg3 arg4 harg4 arg8 harg8 arg10 harg10 arg20 harg20 x1 x2 x6 x8 xo18 = wr arg20.view [] (l.drop 8) := by
    rw [show l.drop 8 = (0, (fW L.cV L.uv) 5 0) :: l.drop 9 by rw [hl]; rfl, wr_cons]
    subst hl hL
    simp only [k0_pay148, fW, fB, fU, fD, Loads.uG, Loads.uV, Loads.cG, Loads.cV, Loads.D, Loads.G, Loads.V, H18_16, v962, v958, v957, v961, v960, v959, r_63, r_43, v6, v662, v659, v661, cst_11, r_57, v950, v949, h8, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h6 : H18_17 c arg3 harg3 arg4 harg4 arg8 harg8 arg10 harg10 arg20 harg20 x1 x2 x6 x8 xo18 = wr arg20.view [] (l.drop 7) := by
    rw [show l.drop 7 = (1, (fW L.cV L.uv) 5 1) :: l.drop 8 by rw [hl]; rfl, wr_cons]
    subst hl hL
    simp only [k0_pay148, fW, fB, fU, fD, Loads.uG, Loads.uV, Loads.cG, Loads.cV, Loads.D, Loads.G, Loads.V, H18_17, r_62, r_43, v6, v662, v659, v661, cst_11, r_57, v950, v949, v964, h7, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h5 : H18_18 c arg3 harg3 arg4 harg4 arg8 harg8 arg10 harg10 arg20 harg20 x1 x2 x6 x8 xo18 = wr arg20.view [] (l.drop 6) := by
    rw [show l.drop 6 = (2, (fW L.cV L.uv) 5 2) :: l.drop 7 by rw [hl]; rfl, wr_cons]
    subst hl hL
    simp only [k0_pay148, fW, fB, fU, fD, Loads.uG, Loads.uV, Loads.cG, Loads.cV, Loads.D, Loads.G, Loads.V, H18_18, r_61, r_43, v6, v662, v659, v661, cst_11, r_57, v950, v949, v971, h6, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h4 : H18_19 c arg3 harg3 arg4 harg4 arg8 harg8 arg10 harg10 arg20 harg20 x1 x2 x6 x8 xo18 = wr arg20.view [] (l.drop 5) := by
    rw [show l.drop 5 = (0, (fW L.cV L.uv) 6 0) :: l.drop 6 by rw [hl]; rfl, wr_cons]
    subst hl hL
    simp only [k0_pay148, fW, fB, fU, fD, Loads.uG, Loads.uV, Loads.cG, Loads.cV, Loads.D, Loads.G, Loads.V, H18_19, v1120, v1116, v1115, v1119, v1118, v1117, r_77, r_50, v6, r_67, r_70, v1108, v1107, h5, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h3 : H18_20 c arg3 harg3 arg4 harg4 arg8 harg8 arg10 harg10 arg20 harg20 x1 x2 x6 x8 xo18 = wr arg20.view [] (l.drop 4) := by
    rw [show l.drop 4 = (1, (fW L.cV L.uv) 6 1) :: l.drop 5 by rw [hl]; rfl, wr_cons]
    subst hl hL
    simp only [k0_pay148, fW, fB, fU, fD, Loads.uG, Loads.uV, Loads.cG, Loads.cV, Loads.D, Loads.G, Loads.V, H18_20, v1127, v1123, v1122, v1126, v1125, v1124, r_76, r_50, v6, r_67, r_70, v1108, v1107, h4, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h2 : H18_21 c arg3 harg3 arg4 harg4 arg8 harg8 arg10 harg10 arg20 harg20 x1 x2 x6 x8 xo18 = wr arg20.view [] (l.drop 3) := by
    rw [show l.drop 3 = (2, (fW L.cV L.uv) 6 2) :: l.drop 4 by rw [hl]; rfl, wr_cons]
    subst hl hL
    simp only [k0_pay148, fW, fB, fU, fD, Loads.uG, Loads.uV, Loads.cG, Loads.cV, Loads.D, Loads.G, Loads.V, H18_21, v1134, v1130, v1129, v1133, v1132, v1131, r_75, r_50, v6, r_67, r_70, v1108, v1107, h3, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h1 : H18_22 c i arg3 harg3 arg4 harg4 arg5 harg5 arg8 harg8 arg9 harg9 arg10 harg10 arg20 harg20 x1 x2 x3 x6 x7 x8 xo18 = wr arg20.view [] (l.drop 2) := by
    rw [show l.drop 2 = (0, (fW L.cV L.uv) 7 0) :: l.drop 3 by rw [hl]; rfl, wr_cons]
    subst hl hL
    simp only [k0_pay148, fW, fB, fU, fD, Loads.uG, Loads.uV, Loads.cG, Loads.cV, Loads.D, Loads.G, Loads.V, H18_22, r_88, r_66, v6, v11, v7, v9, v10, cst, v1141, v1140, v1139, v1137, v1262, v1261, v1269, h2, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  have h0 : H18_23 c i arg3 harg3 arg4 harg4 arg5 harg5 arg8 harg8 arg9 harg9 arg10 harg10 arg20 harg20 x1 x2 x3 x6 x7 x8 xo18 = wr arg20.view [] (l.drop 1) := by
    rw [show l.drop 1 = (1, (fW L.cV L.uv) 7 1) :: l.drop 2 by rw [hl]; rfl, wr_cons]
    subst hl hL
    simp only [k0_pay148, fW, fB, fU, fD, Loads.uG, Loads.uV, Loads.cG, Loads.cV, Loads.D, Loads.G, Loads.V, H18_23, r_91, v1276, r_92, r_87, r_66, v6, v11, v7, v9, v10, cst, v1141, v1140, v1139, v1137, v1262, v1261, h1, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  unfold kernelRun0_B
  dsimp only
  rw [← hl, show l = (2, (fW L.cV L.uv) 7 2) :: l.drop 1 by rw [hl]; rfl, wr_cons]
  subst hl hL
  simp only [k0_pay148, fW, fB, fU, fD, Loads.uG, Loads.uV, Loads.cG, Loads.cV, Loads.D, Loads.G, Loads.V, r_86, r_66, v6, v11, v7, v9, v10, cst, v1141, v1140, v1139, v1137, v1262, v1261, v1283, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the gate half of the biases' gradient, over the loads `L`. -/
theorem L19_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.1 = wl arg21.view ![0, 0] (inbZ z2) [] (eight (fB L.cG) (fun _ => (fB L.cG) 0 xo19)) := by
  obtain ⟨l, hl⟩ : ∃ l, l = (eight (fB L.cG) (fun _ => (fB L.cG) 0 xo19)) := ⟨_, rfl⟩
  have h6 : H19_1 c arg4 harg4 arg6 harg6 arg8 harg8 arg10 harg10 arg21 harg21 x2 x4 x6 x8 xo19 = wl arg21.view ![0, 0] (inbZ z2) [] (l.drop 7) := by
    rw [show l.drop 7 = [(fun _ => (fB L.cG) 0 xo19)] by rw [hl]; rfl, wl_cons]
    subst hl hL
    simp only [k0_pay148, fW, fB, fU, fD, Loads.uG, Loads.uV, Loads.cG, Loads.cV, Loads.D, Loads.G, Loads.V, H19_1, v125, v122, v124, v123, r_5, v17, v16, v13, v15, v6, cst_11, v29, v28, v25, v27, fold_ext, fold_dy, fold_mmU, ldR0, ldS1x256f, ldS256x1024, ldS256x1024f, ldT0, ldTn0, ldW0, ldWn0]
    simp only [of_ug, of_uv, of_g, of_v, of_d, of_h, of_wd, of_wg, of_wv, of_gn0, of_vn0, of_dn0]
    rfl
  have h5 : H19_2 c arg4 harg4 arg6 harg6 arg8 harg8 arg10 harg10 arg21 harg21 x2 x4 x6 x8 xo19 = wl arg21.view ![0, 0] (inbZ z2) [] (l.drop 6) := by
    rw [show l.drop 6 = (fB L.cG) 1 :: l.drop 7 by rw [hl]; rfl, wl_cons]
    subst hl hL
    simp only [k0_pay148, fW, fB, fU, fD, Loads.uG, Loads.uV, Loads.cG, Loads.cV, Loads.D, Loads.G, Loads.V, H19_2, v285, v282, v281, v284, v283, v222, v221, v220, v23, v22, v19, v21, v6, cst_11, r_13, r_16, h6, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h4 : H19_3 c arg4 harg4 arg6 harg6 arg8 harg8 arg10 harg10 arg21 harg21 x2 x4 x6 x8 xo19 = wl arg21.view ![0, 0] (inbZ z2) [] (l.drop 5) := by
    rw [show l.drop 5 = (fB L.cG) 2 :: l.drop 6 by rw [hl]; rfl, wl_cons]
    subst hl hL
    simp only [k0_pay148, fW, fB, fU, fD, Loads.uG, Loads.uV, Loads.cG, Loads.cV, Loads.D, Loads.G, Loads.V, H19_3, v445, v442, v441, v444, v443, r_24, r_12, v6, v179, r_18, r_19, r_21, r_22, h5, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h3 : H19_4 c arg4 harg4 arg6 harg6 arg8 harg8 arg10 harg10 arg21 harg21 x2 x4 x6 x8 xo19 = wl arg21.view ![0, 0] (inbZ z2) [] (l.drop 4) := by
    rw [show l.drop 4 = (fB L.cG) 3 :: l.drop 5 by rw [hl]; rfl, wl_cons]
    subst hl hL
    simp only [k0_pay148, fW, fB, fU, fD, Loads.uG, Loads.uV, Loads.cG, Loads.cV, Loads.D, Loads.G, Loads.V, H19_4, v605, v602, v601, v604, v603, r_36, r_17, v6, v509, v508, v505, v507, v511, r_32, h4, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h2 : H19_5 c arg4 harg4 arg6 harg6 arg8 harg8 arg10 harg10 arg21 harg21 x2 x4 x6 x8 xo19 = wl arg21.view ![0, 0] (inbZ z2) [] (l.drop 3) := by
    rw [show l.drop 3 = (fB L.cG) 4 :: l.drop 4 by rw [hl]; rfl, wl_cons]
    subst hl hL
    simp only [k0_pay148, fW, fB, fU, fD, Loads.uG, Loads.uV, Loads.cG, Loads.cV, Loads.D, Loads.G, Loads.V, H19_5, v765, v762, v761, v764, v763, r_48, v503, v502, v499, v501, v6, cst_11, h3, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h1 : H19_6 c arg4 harg4 arg6 harg6 arg8 harg8 arg10 harg10 arg21 harg21 x2 x4 x6 x8 xo19 = wl arg21.view ![0, 0] (inbZ z2) [] (l.drop 2) := by
    rw [show l.drop 2 = (fB L.cG) 5 :: l.drop 3 by rw [hl]; rfl, wl_cons]
    subst hl hL
    simp only [k0_pay148, fW, fB, fU, fD, Loads.uG, Loads.uV, Loads.cG, Loads.cV, Loads.D, Loads.G, Loads.V, H19_6, v925, v922, v921, v924, v923, r_58, r_43, v6, v662, v659, v661, cst_11, r_51, r_52, r_54, r_55, r_56, cst_451, h2, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h0 : H19_7 c arg4 harg4 arg6 harg6 arg8 harg8 arg10 harg10 arg21 harg21 x2 x4 x6 x8 xo19 = wl arg21.view ![0, 0] (inbZ z2) [] (l.drop 1) := by
    rw [show l.drop 1 = (fB L.cG) 6 :: l.drop 2 by rw [hl]; rfl, wl_cons]
    subst hl hL
    simp only [k0_pay148, fW, fB, fU, fD, Loads.uG, Loads.uV, Loads.cG, Loads.cV, Loads.D, Loads.G, Loads.V, H19_7, v1083, v1080, v1079, v1082, v1081, r_72, r_50, v6, r_67, r_68, r_70, h1, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_B
  dsimp only
  rw [← hl, show l = (fB L.cG) 7 :: l.drop 1 by rw [hl]; rfl, wl_cons]
  subst hl hL
  simp only [k0_pay148, fW, fB, fU, fD, Loads.uG, Loads.uV, Loads.cG, Loads.cV, Loads.D, Loads.G, Loads.V, v1237, v1234, v1233, v1236, v1235, r_83, r_66, v6, v11, v7, v9, v10, cst, v1141, v1140, v1139, v1137, v1147, v1146, v1145, v1143, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the value half of the biases' gradient, over the loads `L`. -/
theorem L20_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.2.1 = wl arg22.view ![0, 0] (inbZ z2) [] (eight (fB L.cV) (fun _ => (fB L.cV) 0 xo20)) := by
  obtain ⟨l, hl⟩ : ∃ l, l = (eight (fB L.cV) (fun _ => (fB L.cV) 0 xo20)) := ⟨_, rfl⟩
  have h6 : H20_1 c arg4 harg4 arg8 harg8 arg10 harg10 arg22 harg22 x2 x6 x8 xo20 = wl arg22.view ![0, 0] (inbZ z2) [] (l.drop 7) := by
    rw [show l.drop 7 = [(fun _ => (fB L.cV) 0 xo20)] by rw [hl]; rfl, wl_cons]
    subst hl hL
    simp only [k0_pay148, fW, fB, fU, fD, Loads.uG, Loads.uV, Loads.cG, Loads.cV, Loads.D, Loads.G, Loads.V, H20_1, v155, v152, v154, v153, r_8, v17, v16, v13, v15, v6, cst_11, v29, v28, v25, v27, fold_ext, fold_dy, fold_mmU, ldR0, ldS1x256f, ldS256x1024, ldS256x1024f, ldT0, ldTn0, ldW0, ldWn0]
    simp only [of_ug, of_uv, of_g, of_v, of_d, of_h, of_wd, of_wg, of_wv, of_gn0, of_vn0, of_dn0]
    rfl
  have h5 : H20_2 c arg4 harg4 arg8 harg8 arg10 harg10 arg22 harg22 x2 x6 x8 xo20 = wl arg22.view ![0, 0] (inbZ z2) [] (l.drop 6) := by
    rw [show l.drop 6 = (fB L.cV) 1 :: l.drop 7 by rw [hl]; rfl, wl_cons]
    subst hl hL
    simp only [k0_pay148, fW, fB, fU, fD, Loads.uG, Loads.uV, Loads.cG, Loads.cV, Loads.D, Loads.G, Loads.V, H20_2, v315, v312, v311, v314, v313, v228, v227, v23, v22, v19, v21, v6, cst_11, r_15, h6, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h4 : H20_3 c arg4 harg4 arg8 harg8 arg10 harg10 arg22 harg22 x2 x6 x8 xo20 = wl arg22.view ![0, 0] (inbZ z2) [] (l.drop 5) := by
    rw [show l.drop 5 = (fB L.cV) 2 :: l.drop 6 by rw [hl]; rfl, wl_cons]
    subst hl hL
    simp only [k0_pay148, fW, fB, fU, fD, Loads.uG, Loads.uV, Loads.cG, Loads.cV, Loads.D, Loads.G, Loads.V, H20_3, v475, v472, v471, v474, v473, r_27, r_12, v6, v179, r_18, r_22, h5, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h3 : H20_4 c arg4 harg4 arg8 harg8 arg10 harg10 arg22 harg22 x2 x6 x8 xo20 = wl arg22.view ![0, 0] (inbZ z2) [] (l.drop 4) := by
    rw [show l.drop 4 = (fB L.cV) 3 :: l.drop 5 by rw [hl]; rfl, wl_cons]
    subst hl hL
    simp only [k0_pay148, fW, fB, fU, fD, Loads.uG, Loads.uV, Loads.cG, Loads.cV, Loads.D, Loads.G, Loads.V, H20_4, v635, v632, v631, v634, v633, r_39, r_17, v6, v509, v508, v505, v507, h4, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h2 : H20_5 c arg4 harg4 arg8 harg8 arg10 harg10 arg22 harg22 x2 x6 x8 xo20 = wl arg22.view ![0, 0] (inbZ z2) [] (l.drop 3) := by
    rw [show l.drop 3 = (fB L.cV) 4 :: l.drop 4 by rw [hl]; rfl, wl_cons]
    subst hl hL
    simp only [k0_pay148, fW, fB, fU, fD, Loads.uG, Loads.uV, Loads.cG, Loads.cV, Loads.D, Loads.G, Loads.V, H20_5, v795, v792, v791, v794, v793, v708, v707, v503, v502, v499, v501, v6, cst_11, r_46, h3, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h1 : H20_6 c arg4 harg4 arg8 harg8 arg10 harg10 arg22 harg22 x2 x6 x8 xo20 = wl arg22.view ![0, 0] (inbZ z2) [] (l.drop 2) := by
    rw [show l.drop 2 = (fB L.cV) 5 :: l.drop 3 by rw [hl]; rfl, wl_cons]
    subst hl hL
    simp only [k0_pay148, fW, fB, fU, fD, Loads.uG, Loads.uV, Loads.cG, Loads.cV, Loads.D, Loads.G, Loads.V, H20_6, v955, v952, v951, v954, v953, r_61, r_43, v6, v662, v659, v661, cst_11, r_57, h2, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h0 : H20_7 c arg4 harg4 arg8 harg8 arg10 harg10 arg22 harg22 x2 x6 x8 xo20 = wl arg22.view ![0, 0] (inbZ z2) [] (l.drop 1) := by
    rw [show l.drop 1 = (fB L.cV) 6 :: l.drop 2 by rw [hl]; rfl, wl_cons]
    subst hl hL
    simp only [k0_pay148, fW, fB, fU, fD, Loads.uG, Loads.uV, Loads.cG, Loads.cV, Loads.D, Loads.G, Loads.V, H20_7, v1113, v1110, v1109, v1112, v1111, r_75, r_50, v6, r_67, r_70, h1, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_B
  dsimp only
  rw [← hl, show l = (fB L.cV) 7 :: l.drop 1 by rw [hl]; rfl, wl_cons]
  subst hl hL
  simp only [k0_pay148, fW, fB, fU, fD, Loads.uG, Loads.uV, Loads.cG, Loads.cV, Loads.D, Loads.G, Loads.V, r_86, r_66, v6, v11, v7, v9, v10, cst, v1141, v1140, v1139, v1137, v1264, v1263, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the up weights' running sum, over the loads `L`. -/
theorem LS0_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.2.2.1 = wl arg23.view ![0, 0] (inbZ z2) [] (eight (fU L) (fun _ => (fU L) 0 xs0)) := by
  obtain ⟨l, hl⟩ : ∃ l, l = (eight (fU L) (fun _ => (fU L) 0 xs0)) := ⟨_, rfl⟩
  have h6 : HS0_1 c arg4 harg4 arg6 harg6 arg8 harg8 arg10 harg10 arg11 harg11 arg12 harg12 arg13 harg13 arg23 harg23 x2 x4 x6 x8 x9 x10 x11 xs0 = wl arg23.view ![0, 0] (inbZ z2) [] (l.drop 7) := by
    rw [show l.drop 7 = [(fun _ => (fU L) 0 xs0)] by rw [hl]; rfl, wl_cons]
    subst hl hL
    simp only [k0_pay148, fW, fB, fU, fD, Loads.uG, Loads.uV, Loads.cG, Loads.cV, Loads.D, Loads.G, Loads.V, HS0_1, v107, v104, v103, v100, v84, v83, v79, v75, r_5, v17, v16, v13, v15, v6, cst_11, v29, v28, v25, v27, v74, r_11, r, v78, r_6, v77, v76, v82, r_7, v81, v80, v96, v95, v91, v87, r_8, v86, v85, r_1, v90, r_9, v89, v88, v94, r_10, v93, v92, v102, cst_43, fold_ext, fold_dy, fold_mmU, ldS256x1024, ldS256x1024f, ldS3x256f, ldS512x1024f, ldT0, ldTn0, ldW0, ldWn0]
    simp only [of_ug, of_uv, of_g, of_v, of_d, of_h, of_wd, of_wg, of_wv, of_gn0, of_vn0, of_dn0]
    rfl
  have h5 : HS0_2 c arg4 harg4 arg6 harg6 arg8 harg8 arg10 harg10 arg11 harg11 arg12 harg12 arg13 harg13 arg23 harg23 x2 x4 x6 x8 x9 x10 x11 xs0 = wl arg23.view ![0, 0] (inbZ z2) [] (l.drop 6) := by
    rw [show l.drop 6 = (fU L) 1 :: l.drop 7 by rw [hl]; rfl, wl_cons]
    subst hl hL
    simp only [k0_pay148, fW, fB, fU, fD, Loads.uG, Loads.uV, Loads.cG, Loads.cV, Loads.D, Loads.G, Loads.V, HS0_2, v267, v264, v259, v263, v260, v244, v243, v239, v235, v222, v221, v220, v23, v22, v19, v21, v6, cst_11, r_13, r_16, v234, v233, r, v238, v224, v223, v77, v76, v242, v226, v225, v81, v80, v256, v255, v251, v247, v228, v227, r_15, v86, v85, r_1, v250, v230, v229, v89, v88, v254, v232, v231, v93, v92, v262, cst_43, h6, fold_ext, fold_dy, fold_mmU, ldS256x1024, ldS256x1024f, ldS3x256f, ldT1, ldTn1, ldW0, ldW1, ldWn1]
    simp only [of_ug, of_uv, of_g, of_v, of_d, of_h, of_wd, of_wg, of_wv, of_gn0, of_vn0, of_dn0, of_gn1, of_vn1, of_dn1]
    rfl
  have h4 : HS0_3 c arg4 harg4 arg6 harg6 arg8 harg8 arg10 harg10 arg11 harg11 arg12 harg12 arg13 harg13 arg23 harg23 x2 x4 x6 x8 x9 x10 x11 xs0 = wl arg23.view ![0, 0] (inbZ z2) [] (l.drop 5) := by
    rw [show l.drop 5 = (fU L) 2 :: l.drop 6 by rw [hl]; rfl, wl_cons]
    subst hl hL
    simp only [k0_pay148, fW, fB, fU, fD, Loads.uG, Loads.uV, Loads.cG, Loads.cV, Loads.D, Loads.G, Loads.V, HS0_3, v427, v424, v419, v423, v420, r_30, r, r_12, v6, v179, r_18, r_19, r_21, r_22, r_31, r_1, v422, cst_43, h5, fold_ext, fold_dy, fold_mmU, ldS256x1024, ldS256x1024f, ldS3x256f, ldT2, ldTn2, ldW0, ldW2, ldWn2]
    simp only [of_ug, of_uv, of_g, of_v, of_d, of_h, of_wd, of_wg, of_wv, of_gn0, of_vn0, of_dn0, of_gn2, of_vn2, of_dn2]
    rfl
  have h3 : HS0_4 c arg4 harg4 arg6 harg6 arg8 harg8 arg10 harg10 arg11 harg11 arg12 harg12 arg13 harg13 arg23 harg23 x2 x4 x6 x8 x9 x10 x11 xs0 = wl arg23.view ![0, 0] (inbZ z2) [] (l.drop 4) := by
    rw [show l.drop 4 = (fU L) 3 :: l.drop 5 by rw [hl]; rfl, wl_cons]
    subst hl hL
    simp only [k0_pay148, fW, fB, fU, fD, Loads.uG, Loads.uV, Loads.cG, Loads.cV, Loads.D, Loads.G, Loads.V, HS0_4, v587, v584, v579, v583, v580, v564, v563, r_42, r, r_17, v6, v509, v508, v505, v507, v511, r_32, v562, r_38, v81, v80, v576, v575, v571, v567, r_39, v86, v85, r_1, v570, r_40, v89, v88, v574, r_41, v93, v92, v582, cst_43, h4, fold_ext, fold_dy, fold_mmU, ldS256x1024, ldS256x1024f, ldS3x256f, ldT3, ldTn3, ldW0, ldW3, ldWn3]
    simp only [of_ug, of_uv, of_g, of_v, of_d, of_h, of_wd, of_wg, of_wv, of_gn0, of_vn0, of_dn0, of_gn3, of_vn3, of_dn3]
    rfl
  have h2 : HS0_5 c arg4 harg4 arg6 harg6 arg8 harg8 arg10 harg10 arg11 harg11 arg12 harg12 arg13 harg13 arg23 harg23 x2 x4 x6 x8 x9 x10 x11 xs0 = wl arg23.view ![0, 0] (inbZ z2) [] (l.drop 3) := by
    rw [show l.drop 3 = (fU L) 4 :: l.drop 4 by rw [hl]; rfl, wl_cons]
    subst hl hL
    simp only [k0_pay148, fW, fB, fU, fD, Loads.uG, Loads.uV, Loads.cG, Loads.cV, Loads.D, Loads.G, Loads.V, HS0_5, v747, v744, v739, v743, v740, v724, v723, v719, v715, r_48, v503, v502, v499, v501, v6, cst_11, v234, v233, r, v718, r_49, v77, v76, v722, v706, v705, r_47, v81, v80, v736, v735, v731, v727, v708, v707, r_46, v86, v85, r_1, v730, v710, v709, v89, v88, v734, v712, v711, v93, v92, v742, cst_43, h3, fold_ext, fold_dy, fold_mmU, ldS256x1024, ldS256x1024f, ldS3x256f, ldT4, ldTn4, ldW0, ldW4, ldWn4]
    simp only [of_ug, of_uv, of_g, of_v, of_d, of_h, of_wd, of_wg, of_wv, of_gn0, of_vn0, of_dn0, of_gn4, of_vn4, of_dn4]
    rfl
  have h1 : HS0_6 c arg4 harg4 arg6 harg6 arg8 harg8 arg10 harg10 arg11 harg11 arg12 harg12 arg13 harg13 arg23 harg23 x2 x4 x6 x8 x9 x10 x11 xs0 = wl arg23.view ![0, 0] (inbZ z2) [] (l.drop 2) := by
    rw [show l.drop 2 = (fU L) 5 :: l.drop 3 by rw [hl]; rfl, wl_cons]
    subst hl hL
    simp only [k0_pay148, fW, fB, fU, fD, Loads.uG, Loads.uV, Loads.cG, Loads.cV, Loads.D, Loads.G, Loads.V, HS0_6, v907, v904, v899, v903, v900, r_64, r, r_43, v6, v662, v659, v661, cst_11, r_51, r_52, r_54, r_55, r_56, cst_451, r_65, r_1, r_57, v902, cst_43, h2, fold_ext, fold_dy, fold_mmU, ldS256x1024, ldS256x1024f, ldS3x256f, ldT5, ldTn5, ldW0, ldW5, ldWn5]
    simp only [of_ug, of_uv, of_g, of_v, of_d, of_h, of_wd, of_wg, of_wv, of_gn0, of_vn0, of_dn0, of_gn5, of_vn5, of_dn5]
    rfl
  have h0 : HS0_7 c arg4 harg4 arg6 harg6 arg8 harg8 arg10 harg10 arg11 harg11 arg12 harg12 arg13 harg13 arg23 harg23 x2 x4 x6 x8 x9 x10 x11 xs0 = wl arg23.view ![0, 0] (inbZ z2) [] (l.drop 1) := by
    rw [show l.drop 1 = (fU L) 6 :: l.drop 2 by rw [hl]; rfl, wl_cons]
    subst hl hL
    simp only [k0_pay148, fW, fB, fU, fD, Loads.uG, Loads.uV, Loads.cG, Loads.cV, Loads.D, Loads.G, Loads.V, HS0_7, v1065, v1062, v1057, v1061, v1058, r_78, r, r_50, v6, r_67, r_68, r_70, v1054, v1053, v1049, r_79, r_1, v1048, r_76, r_80, v1052, r_77, v93, v92, v1060, cst_43, h1, fold_ext, fold_dy, fold_mmU, ldS256x1024, ldS256x1024f, ldS3x256f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_B
  dsimp only
  rw [← hl, show l = (fU L) 7 :: l.drop 1 by rw [hl]; rfl, wl_cons]
  subst hl hL
  simp only [k0_pay148, fW, fB, fU, fD, Loads.uG, Loads.uV, Loads.cG, Loads.cV, Loads.D, Loads.G, Loads.V, v1219, v1216, v1211, v1215, v1212, v1196, v1195, r_89, r, r_66, v6, v11, v7, v9, v10, cst, v1141, v1140, v1139, v1137, v1147, v1146, v1145, v1143, r_90, v1208, v1207, v1203, v1199, r_86, v86, v85, r_1, v1202, r_87, v89, v88, v1206, r_88, v93, v92, v1214, cst_43, h0, fold_ext, fold_dy, fold_mmU, ldS16x1024, ldS16x256, ldS256x1024, ldS256x1024f, ldS3x256f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the down weights' running sum, over the loads `L`. -/
theorem LS1_B :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.2.2.2.1 = wl arg24.view ![0, 0] (inbZ z2) [] (eight (fD L) (fun _ => (fD L) 0 xs1)) := by
  have h6 : HS1_1 c arg4 harg4 arg6 harg6 arg8 harg8 arg24 harg24 x2 x4 x6 xs1 = wl arg24.view ![0, 0] (inbZ z2) [] ((eight (fD L) (fun _ => (fD L) 0 xs1)).drop 7) := by
    rw [show (eight (fD L) (fun _ => (fD L) 0 xs1)).drop 7 = [(fun _ => (fD L) 0 xs1)] from rfl, wl_cons]
    subst hL
    simp only [k0_pay148, fW, fB, fU, fD, Loads.uG, Loads.uV, Loads.cG, Loads.cV, Loads.D, Loads.G, Loads.V, HS1_1, v117, v114, v113, v112, v111, v109, r_4, v29, v28, v25, v27, v110, r_2, r_3, cst_48, fold_ext, fold_dy, fold_mmU, ldS256x1024, ldS256x1024f, ldT0, ldTn0, ldW0]
    simp only [of_ug, of_uv, of_g, of_v, of_d, of_h, of_wd, of_wg, of_wv, of_gn0, of_vn0, of_dn0]
    rfl
  have h5 : HS1_2 c arg4 harg4 arg6 harg6 arg8 harg8 arg24 harg24 x2 x4 x6 xs1 = wl arg24.view ![0, 0] (inbZ z2) [] ((eight (fD L) (fun _ => (fD L) 0 xs1)).drop 6) := by
    rw [show (eight (fD L) (fun _ => (fD L) 0 xs1)).drop 6 = (fD L) 1 :: (eight (fD L) (fun _ => (fD L) 0 xs1)).drop 7 from rfl, wl_cons]
    subst hL
    simp only [k0_pay148, fW, fB, fU, fD, Loads.uG, Loads.uV, Loads.cG, Loads.cV, Loads.D, Loads.G, Loads.V, HS1_2, v277, v274, v268, v273, v272, v271, v269, r_15, v270, r_13, r_14, cst_48, h6, fold_ext, fold_dy, fold_mmU, ldT1, ldTn1, ldW1]
    simp only [of_ug, of_uv, of_g, of_v, of_d, of_h, of_wd, of_wg, of_wv, of_gn1, of_vn1, of_dn1]
    rfl
  have h4 : HS1_3 c arg4 harg4 arg6 harg6 arg8 harg8 arg24 harg24 x2 x4 x6 xs1 = wl arg24.view ![0, 0] (inbZ z2) [] ((eight (fD L) (fun _ => (fD L) 0 xs1)).drop 5) := by
    rw [show (eight (fD L) (fun _ => (fD L) 0 xs1)).drop 5 = (fD L) 2 :: (eight (fD L) (fun _ => (fD L) 0 xs1)).drop 6 from rfl, wl_cons]
    subst hL
    simp only [k0_pay148, fW, fB, fU, fD, Loads.uG, Loads.uV, Loads.cG, Loads.cV, Loads.D, Loads.G, Loads.V, HS1_3, v437, v434, v428, v433, v432, v431, v429, r_23, r_18, r_22, v430, r_19, r_20, cst_48, h5, fold_ext, fold_dy, fold_mmU, ldT2, ldTn2, ldW2]
    simp only [of_ug, of_uv, of_g, of_v, of_d, of_h, of_wd, of_wg, of_wv, of_gn2, of_vn2, of_dn2]
    rfl
  have h3 : HS1_4 c arg4 harg4 arg6 harg6 arg8 harg8 arg24 harg24 x2 x4 x6 xs1 = wl arg24.view ![0, 0] (inbZ z2) [] ((eight (fD L) (fun _ => (fD L) 0 xs1)).drop 4) := by
    rw [show (eight (fD L) (fun _ => (fD L) 0 xs1)).drop 4 = (fD L) 3 :: (eight (fD L) (fun _ => (fD L) 0 xs1)).drop 5 from rfl, wl_cons]
    subst hL
    simp only [k0_pay148, fW, fB, fU, fD, Loads.uG, Loads.uV, Loads.cG, Loads.cV, Loads.D, Loads.G, Loads.V, HS1_4, v597, v594, v588, v593, v592, v591, v589, r_35, v509, v508, v505, v507, v590, r_33, v511, r_32, r_34, cst_48, h4, fold_ext, fold_dy, fold_mmU, ldT3, ldTn3, ldW3]
    simp only [of_ug, of_uv, of_g, of_v, of_d, of_h, of_wd, of_wg, of_wv, of_gn3, of_vn3, of_dn3]
    rfl
  have h2 : HS1_5 c arg4 harg4 arg6 harg6 arg8 harg8 arg24 harg24 x2 x4 x6 xs1 = wl arg24.view ![0, 0] (inbZ z2) [] ((eight (fD L) (fun _ => (fD L) 0 xs1)).drop 3) := by
    rw [show (eight (fD L) (fun _ => (fD L) 0 xs1)).drop 3 = (fD L) 4 :: (eight (fD L) (fun _ => (fD L) 0 xs1)).drop 4 from rfl, wl_cons]
    subst hL
    simp only [k0_pay148, fW, fB, fU, fD, Loads.uG, Loads.uV, Loads.cG, Loads.cV, Loads.D, Loads.G, Loads.V, HS1_5, v757, v754, v748, v753, v752, v751, v749, r_46, v750, r_44, r_45, cst_48, h3, fold_ext, fold_dy, fold_mmU, ldT4, ldTn4, ldW4]
    simp only [of_ug, of_uv, of_g, of_v, of_d, of_h, of_wd, of_wg, of_wv, of_gn4, of_vn4, of_dn4]
    rfl
  have h1 : HS1_6 c arg4 harg4 arg6 harg6 arg8 harg8 arg24 harg24 x2 x4 x6 xs1 = wl arg24.view ![0, 0] (inbZ z2) [] ((eight (fD L) (fun _ => (fD L) 0 xs1)).drop 2) := by
    rw [show (eight (fD L) (fun _ => (fD L) 0 xs1)).drop 2 = (fD L) 5 :: (eight (fD L) (fun _ => (fD L) 0 xs1)).drop 3 from rfl, wl_cons]
    subst hL
    simp only [k0_pay148, fW, fB, fU, fD, Loads.uG, Loads.uV, Loads.cG, Loads.cV, Loads.D, Loads.G, Loads.V, HS1_6, v917, v914, v908, v913, v912, v911, v909, r_57, v910, r_52, r_53, cst_48, h2, fold_ext, fold_dy, fold_mmU, ldT5, ldTn5, ldW5]
    simp only [of_ug, of_uv, of_g, of_v, of_d, of_h, of_wd, of_wg, of_wv, of_gn5, of_vn5, of_dn5]
    rfl
  have h0 : HS1_7 c arg4 harg4 arg6 harg6 arg8 harg8 arg24 harg24 x2 x4 x6 xs1 = wl arg24.view ![0, 0] (inbZ z2) [] ((eight (fD L) (fun _ => (fD L) 0 xs1)).drop 1) := by
    rw [show (eight (fD L) (fun _ => (fD L) 0 xs1)).drop 1 = (fD L) 6 :: (eight (fD L) (fun _ => (fD L) 0 xs1)).drop 2 from rfl, wl_cons]
    subst hL
    simp only [k0_pay148, fW, fB, fU, fD, Loads.uG, Loads.uV, Loads.cG, Loads.cV, Loads.D, Loads.G, Loads.V, HS1_7, v1075, v1072, v1066, v1071, v1070, v1069, v1067, r_71, r_67, r_70, v1068, r_68, r_69, cst_48, h1, fold_ext, fold_dy, fold_mmU, ldT6, ldTn6, ldW6]
    simp only [of_ug, of_uv, of_g, of_v, of_d, of_h, of_wd, of_wg, of_wv, of_gn6, of_vn6, of_dn6]
    rfl
  unfold kernelRun0_B
  dsimp only
  rw [show (eight (fD L) (fun _ => (fD L) 0 xs1)) = (fD L) 7 :: (eight (fD L) (fun _ => (fD L) 0 xs1)).drop 1 from rfl, wl_cons]
  subst hL
  simp only [k0_pay148, fW, fB, fU, fD, Loads.uG, Loads.uV, Loads.cG, Loads.cV, Loads.D, Loads.G, Loads.V, v1229, v1226, v1220, v1225, v1224, v1223, v1221, r_82, v1141, v1140, v1139, v1137, v1222, v1147, v1146, v1145, v1143, r_81, cst_48, h0, fold_ext, fold_dy, fold_mmU, ldS16x256, ldT7, ldW7]
  simp only [of_ug, of_uv, of_g, of_v, of_d, of_h, of_wd, of_wg, of_wv, of_gn7, of_vn7, of_dn7]
  rfl

end Cert.KernelIdeal.Tile

end

end
-- ==== Proof.RunC.lean ====
/- ONE GRID POINT AT THE LAST ROW BLOCK. What the body of the kernel stores, window by window, at the last row
   block of a column block, where the running sums go on and three of them are written out: the stores are lists
   over the loads of the point, one entry for each of the eight strips of rows. -/
module

public import proofs.«01_k».proof.Proof.Fold
public import proofs.«01_k».proof.Proof.Gen.KernelIdeal.Frame.RunC
public import proofs.«01_k».proof.Proof.Load

@[expose] public section

set_option synthInstance.maxSize 4096
set_option maxRecDepth 16384

noncomputable section

namespace Cert.KernelIdeal.Tile

open Cert.KernelIdeal.Gen.kernelRun0_C.sl
open Cert.KernelIdeal Cert.KernelIdeal.Gen Idealize.ShloMosaic Idealize.ShloMosaic.TcCoe Idealize.SL.Sem

variable {F : FTy → Type} [FloatOps F] [Named F]

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S16x256 .bf16) (harg5 : arg5.IsWhole) (arg6 : Memref sig .tc .vmem S2048x256 .bf16) (harg6 : arg6.IsWhole) (arg7 : Memref sig .tc .vmem S16x256 .bf16) (harg7 : arg7.IsWhole) (arg8 : Memref sig .tc .vmem S2048x1024 .bf16) (harg8 : arg8.IsWhole) (arg9 : Memref sig .tc .vmem S16x1024 .bf16) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S3x256 .f32) (harg12 : arg12.IsWhole) (arg13 : Memref sig .tc .vmem S3x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S3x256 .f32) (harg19 : arg19.IsWhole) (arg20 : Memref sig .tc .vmem S3x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S256x1024 .f32) (harg24 : arg24.IsWhole) (hc0 : ¬cond0_0 i) (hc1 : cond0_1 i)
    (x0 : Vec F S2048x256 .bf16) (x1 : Vec F S2048x256 .bf16) (x2 : Vec F S2048x256 .bf16) (x3 : Vec F S16x256 .bf16) (x4 : Vec F S2048x256 .bf16) (x5 : Vec F S16x256 .bf16) (x6 : Vec F S2048x1024 .bf16) (x7 : Vec F S16x1024 .bf16) (x8 : Vec F S256x1024 .bf16) (x9 : Vec F S2048x1024 .bf16) (x10 : Vec F S3x256 .f32) (x11 : Vec F S3x256 .f32) (xo17 : Vec F S3x256 .f32) (xo18 : Vec F S3x256 .f32) (xo19 : Vec F S1x256 .f32) (xo20 : Vec F S1x256 .f32) (xs0 : Vec F S512x1024 .f32) (xs1 : Vec F S256x1024 .f32)
  {L : Loads F} (hL : (Loads.of i x0 x1 x2 x3 x4 x5 x6 x7 x8 x9 x10 x11) = L)
include hL

set_option maxHeartbeats 8000000 in
/-- The blocks of the gate half of `du`, over the loads `L`. -/
theorem L12_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).1 = duL L.uG := by
  subst hL
  unfold kernelRun0_C
  dsimp only
  unfold duL
  simp only [k0_pay148, fW, fB, fU, fD, Loads.uG, Loads.uV, Loads.cG, Loads.cV, Loads.D, Loads.G, Loads.V, v1196, v1195, r_89, r, r_66, v6, v11, v7, v9, v10, cst, v1141, v1140, v1139, v1137, v1147, v1146, v1145, v1143, r_90, r_78, r_50, r_67, r_68, r_70, r_43, v662, v659, v661, cst_11, r_51, r_52, r_54, r_55, r_56, cst_451, v724, v723, v719, v715, r_48, v503, v502, v499, v501, v234, v233, v718, r_49, v77, v76, v722, v706, v705, r_47, v81, v80, v564, v563, r_42, r_17, v509, v508, v505, v507, v511, r_32, v562, r_38, r_30, r_12, v179, r_18, r_19, r_21, r_22, v244, v243, v239, v235, v222, v221, v220, v23, v22, v19, v21, r_13, r_16, v238, v224, v223, v242, v226, v225, v84, v83, v79, v75, r_5, v17, v16, v13, v15, v29, v28, v25, v27, v74, r_11, v78, r_6, v82, r_7, fold_ext, fold_dy, fold_mmU, ldS16x1024, ldS16x256, ldS256x1024, ldS256x1024f, ldS3x256f, ldT0, ldT1, ldT2, ldT3, ldT4, ldT5, ldT6, ldT7, ldTn0, ldTn1, ldTn2, ldTn3, ldTn4, ldTn5, ldTn6, ldW0, ldW1, ldW2, ldW3, ldW4, ldW5, ldW6, ldW7, ldWn0, ldWn1, ldWn2, ldWn3, ldWn4, ldWn5, ldWn6]
  simp only [of_ug, of_uv, of_g, of_v, of_d, of_h, of_wd, of_wg, of_wv, of_gn0, of_vn0, of_dn0, of_gn1, of_vn1, of_dn1, of_gn2, of_vn2, of_dn2, of_gn3, of_vn3, of_dn3, of_gn4, of_vn4, of_dn4, of_gn5, of_vn5, of_dn5, of_gn6, of_vn6, of_dn6, of_gn7, of_vn7, of_dn7]
  rfl

set_option maxHeartbeats 8000000 in
/-- The blocks of the value half of `du`, over the loads `L`. -/
theorem L13_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.1 = duL L.uV := by
  subst hL
  unfold kernelRun0_C
  dsimp only
  unfold duL
  simp only [k0_pay148, fW, fB, fU, fD, Loads.uG, Loads.uV, Loads.cG, Loads.cV, Loads.D, Loads.G, Loads.V, v1208, v1207, v1203, v1199, r_86, r_66, v6, v11, v7, v9, v10, cst, v1141, v1140, v1139, v1137, v86, v85, r_1, v1202, r_87, v89, v88, v1206, r_88, v93, v92, v1054, v1053, v1049, r_79, r_50, r_67, r_70, v1048, r_76, r_80, v1052, r_77, r_65, r_43, v662, v659, v661, cst_11, r_57, v736, v735, v731, v727, v708, v707, v503, v502, v499, v501, r_46, v730, v710, v709, v734, v712, v711, v576, v575, v571, v567, r_39, r_17, v509, v508, v505, v507, v570, r_40, v574, r_41, r_31, r_12, v179, r_18, r_22, v256, v255, v251, v247, v228, v227, v23, v22, v19, v21, r_15, v250, v230, v229, v254, v232, v231, v96, v95, v91, v87, r_8, v17, v16, v13, v15, v29, v28, v25, v27, v90, r_9, v94, r_10, fold_ext, fold_dy, fold_mmU, ldS16x1024, ldS16x256, ldS256x1024, ldS256x1024f, ldS3x256f, ldT0, ldT1, ldT2, ldT3, ldT4, ldT5, ldT6, ldT7, ldTn0, ldTn1, ldTn2, ldTn3, ldTn4, ldTn5, ldTn6, ldW0, ldW1, ldW2, ldW3, ldW4, ldW5, ldW6, ldW7, ldWn0, ldWn1, ldWn2, ldWn3, ldWn4, ldWn5, ldWn6]
  simp only [of_ug, of_uv, of_g, of_v, of_d, of_h, of_wd, of_wg, of_wv, of_gn0, of_vn0, of_dn0, of_gn1, of_vn1, of_dn1, of_gn2, of_vn2, of_dn2, of_gn3, of_vn3, of_dn3, of_gn4, of_vn4, of_dn4, of_gn5, of_vn5, of_dn5, of_gn6, of_vn6, of_dn6, of_gn7, of_vn7, of_dn7]
  rfl

set_option maxHeartbeats 8000000 in
/-- The stores to the gate half of the taps' gradient, over the loads `L`. -/
theorem L17_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.1 = wr arg19.view [] (rows3 (fW L.cG L.ug) (fun k _ => (fW L.cG L.ug) 0 k (View.ld xo17 (rR k)))) := by
  obtain ⟨l, hl⟩ : ∃ l, l = (rows3 (fW L.cG L.ug) (fun k _ => (fW L.cG L.ug) 0 k (View.ld xo17 (rR k)))) := ⟨_, rfl⟩
  have h20 : H17_3 c arg2 harg2 arg4 harg4 arg6 harg6 arg8 harg8 arg10 harg10 arg19 harg19 x0 x2 x4 x6 x8 xo17 = wr arg19.view [] (l.drop 21) := by
    rw [show l.drop 21 = [(2, (fun k _ => (fW L.cG L.ug) 0 k (View.ld xo17 (rR k))) 2), (1, (fun k _ => (fW L.cG L.ug) 0 k (View.ld xo17 (rR k))) 1), (0, (fun k _ => (fW L.cG L.ug) 0 k (View.ld xo17 (rR k))) 0)] by rw [hl]; rfl, wr_cons, wr_cons, wr_cons]
    subst hl hL
    simp only [k0_pay148, fW, fB, fU, fD, Loads.uG, Loads.uV, Loads.cG, Loads.cV, Loads.D, Loads.G, Loads.V, H17_3, v146, v142, v141, v145, v144, v143, r_5, v17, v16, v13, v15, v6, cst_11, v29, v28, v25, v27, v120, v119, v139, v135, v134, v138, v137, v136, r_6, v132, v128, v131, v130, v129, r_7, fold_ext, fold_dy, fold_mmU, ldR0, ldR1, ldR2, ldS1x256f, ldS256x1024, ldS256x1024f, ldT0, ldTn0, ldW0, ldWn0]
    simp only [of_ug, of_uv, of_g, of_v, of_d, of_h, of_wd, of_wg, of_wv, of_gn0, of_vn0, of_dn0]
    rfl
  have h19 : H17_4 c arg2 harg2 arg4 harg4 arg6 harg6 arg8 harg8 arg10 harg10 arg19 harg19 x0 x2 x4 x6 x8 xo17 = wr arg19.view [] (l.drop 20) := by
    rw [show l.drop 20 = (0, (fW L.cG L.ug) 1 0) :: l.drop 21 by rw [hl]; rfl, wr_cons]
    subst hl hL
    simp only [k0_pay148, fW, fB, fU, fD, Loads.uG, Loads.uV, Loads.cG, Loads.cV, Loads.D, Loads.G, Loads.V, H17_4, v292, v288, v287, v291, v290, v289, v226, v225, v221, v220, v23, v22, v19, v21, v6, cst_11, r_13, r_16, v280, v279, h20, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h18 : H17_5 c arg2 harg2 arg4 harg4 arg6 harg6 arg8 harg8 arg10 harg10 arg19 harg19 x0 x2 x4 x6 x8 xo17 = wr arg19.view [] (l.drop 19) := by
    rw [show l.drop 19 = (1, (fW L.cG L.ug) 1 1) :: l.drop 20 by rw [hl]; rfl, wr_cons]
    subst hl hL
    simp only [k0_pay148, fW, fB, fU, fD, Loads.uG, Loads.uV, Loads.cG, Loads.cV, Loads.D, Loads.G, Loads.V, H17_5, v299, v295, v294, v298, v297, v296, v224, v223, v221, v220, v23, v22, v19, v21, v6, cst_11, r_13, r_16, v280, v279, h19, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h17 : H17_6 c arg2 harg2 arg4 harg4 arg6 harg6 arg8 harg8 arg10 harg10 arg19 harg19 x0 x2 x4 x6 x8 xo17 = wr arg19.view [] (l.drop 18) := by
    rw [show l.drop 18 = (2, (fW L.cG L.ug) 1 2) :: l.drop 19 by rw [hl]; rfl, wr_cons]
    subst hl hL
    simp only [k0_pay148, fW, fB, fU, fD, Loads.uG, Loads.uV, Loads.cG, Loads.cV, Loads.D, Loads.G, Loads.V, H17_6, v306, v302, v301, v305, v304, v303, v222, v221, v220, v23, v22, v19, v21, v6, cst_11, r_13, r_16, v280, v279, h18, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h16 : H17_7 c arg2 harg2 arg4 harg4 arg6 harg6 arg8 harg8 arg10 harg10 arg19 harg19 x0 x2 x4 x6 x8 xo17 = wr arg19.view [] (l.drop 17) := by
    rw [show l.drop 17 = (0, (fW L.cG L.ug) 2 0) :: l.drop 18 by rw [hl]; rfl, wr_cons]
    subst hl hL
    simp only [k0_pay148, fW, fB, fU, fD, Loads.uG, Loads.uV, Loads.cG, Loads.cV, Loads.D, Loads.G, Loads.V, H17_7, v452, v448, v447, v451, v450, v449, r_26, r_12, v6, v179, r_18, r_19, r_21, r_22, v440, v439, h17, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h15 : H17_8 c arg2 harg2 arg4 harg4 arg6 harg6 arg8 harg8 arg10 harg10 arg19 harg19 x0 x2 x4 x6 x8 xo17 = wr arg19.view [] (l.drop 16) := by
    rw [show l.drop 16 = (1, (fW L.cG L.ug) 2 1) :: l.drop 17 by rw [hl]; rfl, wr_cons]
    subst hl hL
    simp only [k0_pay148, fW, fB, fU, fD, Loads.uG, Loads.uV, Loads.cG, Loads.cV, Loads.D, Loads.G, Loads.V, H17_8, v459, v455, v454, v458, v457, v456, r_25, r_12, v6, v179, r_18, r_19, r_21, r_22, v440, v439, h16, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h14 : H17_9 c arg2 harg2 arg4 harg4 arg6 harg6 arg8 harg8 arg10 harg10 arg19 harg19 x0 x2 x4 x6 x8 xo17 = wr arg19.view [] (l.drop 15) := by
    rw [show l.drop 15 = (2, (fW L.cG L.ug) 2 2) :: l.drop 16 by rw [hl]; rfl, wr_cons]
    subst hl hL
    simp only [k0_pay148, fW, fB, fU, fD, Loads.uG, Loads.uV, Loads.cG, Loads.cV, Loads.D, Loads.G, Loads.V, H17_9, v466, v462, v461, v465, v464, v463, r_24, r_12, v6, v179, r_18, r_19, r_21, r_22, v440, v439, h15, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h13 : H17_10 c arg2 harg2 arg4 harg4 arg6 harg6 arg8 harg8 arg10 harg10 arg19 harg19 x0 x2 x4 x6 x8 xo17 = wr arg19.view [] (l.drop 14) := by
    rw [show l.drop 14 = (0, (fW L.cG L.ug) 3 0) :: l.drop 15 by rw [hl]; rfl, wr_cons]
    subst hl hL
    simp only [k0_pay148, fW, fB, fU, fD, Loads.uG, Loads.uV, Loads.cG, Loads.cV, Loads.D, Loads.G, Loads.V, H17_10, v612, v608, v607, v611, v610, v609, r_38, r_17, v6, v509, v508, v505, v507, v511, r_32, v600, v599, h14, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h12 : H17_11 c arg2 harg2 arg4 harg4 arg6 harg6 arg8 harg8 arg10 harg10 arg19 harg19 x0 x2 x4 x6 x8 xo17 = wr arg19.view [] (l.drop 13) := by
    rw [show l.drop 13 = (1, (fW L.cG L.ug) 3 1) :: l.drop 14 by rw [hl]; rfl, wr_cons]
    subst hl hL
    simp only [k0_pay148, fW, fB, fU, fD, Loads.uG, Loads.uV, Loads.cG, Loads.cV, Loads.D, Loads.G, Loads.V, H17_11, v619, v615, v614, v618, v617, v616, r_37, r_17, v6, v509, v508, v505, v507, v511, r_32, v600, v599, h13, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h11 : H17_12 c arg2 harg2 arg4 harg4 arg6 harg6 arg8 harg8 arg10 harg10 arg19 harg19 x0 x2 x4 x6 x8 xo17 = wr arg19.view [] (l.drop 12) := by
    rw [show l.drop 12 = (2, (fW L.cG L.ug) 3 2) :: l.drop 13 by rw [hl]; rfl, wr_cons]
    subst hl hL
    simp only [k0_pay148, fW, fB, fU, fD, Loads.uG, Loads.uV, Loads.cG, Loads.cV, Loads.D, Loads.G, Loads.V, H17_12, v626, v622, v621, v625, v624, v623, r_36, r_17, v6, v509, v508, v505, v507, v511, r_32, v600, v599, h12, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h10 : H17_13 c arg2 harg2 arg4 harg4 arg6 harg6 arg8 harg8 arg10 harg10 arg19 harg19 x0 x2 x4 x6 x8 xo17 = wr arg19.view [] (l.drop 11) := by
    rw [show l.drop 11 = (0, (fW L.cG L.ug) 4 0) :: l.drop 12 by rw [hl]; rfl, wr_cons]
    subst hl hL
    simp only [k0_pay148, fW, fB, fU, fD, Loads.uG, Loads.uV, Loads.cG, Loads.cV, Loads.D, Loads.G, Loads.V, H17_13, v772, v768, v767, v771, v770, v769, v706, v705, r_47, v503, v502, v499, v501, v6, cst_11, v760, v759, h11, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h9 : H17_14 c arg2 harg2 arg4 harg4 arg6 harg6 arg8 harg8 arg10 harg10 arg19 harg19 x0 x2 x4 x6 x8 xo17 = wr arg19.view [] (l.drop 10) := by
    rw [show l.drop 10 = (1, (fW L.cG L.ug) 4 1) :: l.drop 11 by rw [hl]; rfl, wr_cons]
    subst hl hL
    simp only [k0_pay148, fW, fB, fU, fD, Loads.uG, Loads.uV, Loads.cG, Loads.cV, Loads.D, Loads.G, Loads.V, H17_14, v779, v775, v774, v778, v777, v776, r_49, v503, v502, v499, v501, v6, cst_11, v760, v759, h10, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h8 : H17_15 c arg2 harg2 arg4 harg4 arg6 harg6 arg8 harg8 arg10 harg10 arg19 harg19 x0 x2 x4 x6 x8 xo17 = wr arg19.view [] (l.drop 9) := by
    rw [show l.drop 9 = (2, (fW L.cG L.ug) 4 2) :: l.drop 10 by rw [hl]; rfl, wr_cons]
    subst hl hL
    simp only [k0_pay148, fW, fB, fU, fD, Loads.uG, Loads.uV, Loads.cG, Loads.cV, Loads.D, Loads.G, Loads.V, H17_15, v786, v782, v781, v785, v784, v783, r_48, v503, v502, v499, v501, v6, cst_11, v760, v759, h9, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h7 : H17_16 c arg2 harg2 arg4 harg4 arg6 harg6 arg8 harg8 arg10 harg10 arg19 harg19 x0 x2 x4 x6 x8 xo17 = wr arg19.view [] (l.drop 8) := by
    rw [show l.drop 8 = (0, (fW L.cG L.ug) 5 0) :: l.drop 9 by rw [hl]; rfl, wr_cons]
    subst hl hL
    simp only [k0_pay148, fW, fB, fU, fD, Loads.uG, Loads.uV, Loads.cG, Loads.cV, Loads.D, Loads.G, Loads.V, H17_16, v932, v928, v927, v931, v930, v929, r_60, r_43, v6, v662, v659, v661, cst_11, r_51, r_52, r_54, r_55, r_56, cst_451, v920, v919, h8, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h6 : H17_17 c arg2 harg2 arg4 harg4 arg6 harg6 arg8 harg8 arg10 harg10 arg19 harg19 x0 x2 x4 x6 x8 xo17 = wr arg19.view [] (l.drop 7) := by
    rw [show l.drop 7 = (1, (fW L.cG L.ug) 5 1) :: l.drop 8 by rw [hl]; rfl, wr_cons]
    subst hl hL
    simp only [k0_pay148, fW, fB, fU, fD, Loads.uG, Loads.uV, Loads.cG, Loads.cV, Loads.D, Loads.G, Loads.V, H17_17, v939, v935, v934, v938, v937, v936, r_59, r_43, v6, v662, v659, v661, cst_11, r_51, r_52, r_54, r_55, r_56, cst_451, v920, v919, h7, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h5 : H17_18 c arg2 harg2 arg4 harg4 arg6 harg6 arg8 harg8 arg10 harg10 arg19 harg19 x0 x2 x4 x6 x8 xo17 = wr arg19.view [] (l.drop 6) := by
    rw [show l.drop 6 = (2, (fW L.cG L.ug) 5 2) :: l.drop 7 by rw [hl]; rfl, wr_cons]
    subst hl hL
    simp only [k0_pay148, fW, fB, fU, fD, Loads.uG, Loads.uV, Loads.cG, Loads.cV, Loads.D, Loads.G, Loads.V, H17_18, v946, v942, v941, v945, v944, v943, r_58, r_43, v6, v662, v659, v661, cst_11, r_51, r_52, r_54, r_55, r_56, cst_451, v920, v919, h6, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h4 : H17_19 c arg2 harg2 arg4 harg4 arg6 harg6 arg8 harg8 arg10 harg10 arg19 harg19 x0 x2 x4 x6 x8 xo17 = wr arg19.view [] (l.drop 5) := by
    rw [show l.drop 5 = (0, (fW L.cG L.ug) 6 0) :: l.drop 6 by rw [hl]; rfl, wr_cons]
    subst hl hL
    simp only [k0_pay148, fW, fB, fU, fD, Loads.uG, Loads.uV, Loads.cG, Loads.cV, Loads.D, Loads.G, Loads.V, H17_19, v1090, v1086, v1085, v1089, v1088, v1087, r_74, r_50, v6, r_67, r_68, r_70, v1078, v1077, h5, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h3 : H17_20 c arg2 harg2 arg4 harg4 arg6 harg6 arg8 harg8 arg10 harg10 arg19 harg19 x0 x2 x4 x6 x8 xo17 = wr arg19.view [] (l.drop 4) := by
    rw [show l.drop 4 = (1, (fW L.cG L.ug) 6 1) :: l.drop 5 by rw [hl]; rfl, wr_cons]
    subst hl hL
    simp only [k0_pay148, fW, fB, fU, fD, Loads.uG, Loads.uV, Loads.cG, Loads.cV, Loads.D, Loads.G, Loads.V, H17_20, v1097, v1093, v1092, v1096, v1095, v1094, r_73, r_50, v6, r_67, r_68, r_70, v1078, v1077, h4, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h2 : H17_21 c arg2 harg2 arg4 harg4 arg6 harg6 arg8 harg8 arg10 harg10 arg19 harg19 x0 x2 x4 x6 x8 xo17 = wr arg19.view [] (l.drop 3) := by
    rw [show l.drop 3 = (2, (fW L.cG L.ug) 6 2) :: l.drop 4 by rw [hl]; rfl, wr_cons]
    subst hl hL
    simp only [k0_pay148, fW, fB, fU, fD, Loads.uG, Loads.uV, Loads.cG, Loads.cV, Loads.D, Loads.G, Loads.V, H17_21, v1104, v1100, v1099, v1103, v1102, v1101, r_72, r_50, v6, r_67, r_68, r_70, v1078, v1077, h3, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h1 : H17_22 c i arg2 harg2 arg4 harg4 arg5 harg5 arg6 harg6 arg7 harg7 arg8 harg8 arg9 harg9 arg10 harg10 arg19 harg19 x0 x2 x3 x4 x5 x6 x7 x8 xo17 = wr arg19.view [] (l.drop 2) := by
    rw [show l.drop 2 = (0, (fW L.cG L.ug) 7 0) :: l.drop 3 by rw [hl]; rfl, wr_cons]
    subst hl hL
    simp only [k0_pay148, fW, fB, fU, fD, Loads.uG, Loads.uV, Loads.cG, Loads.cV, Loads.D, Loads.G, Loads.V, H17_22, v1244, v1240, v1239, v1243, v1242, v1241, r_85, r_66, v6, v11, v7, v9, v10, cst, v1141, v1140, v1139, v1137, v1147, v1146, v1145, v1143, v1232, v1231, h2, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  have h0 : H17_23 c i arg2 harg2 arg4 harg4 arg5 harg5 arg6 harg6 arg7 harg7 arg8 harg8 arg9 harg9 arg10 harg10 arg19 harg19 x0 x2 x3 x4 x5 x6 x7 x8 xo17 = wr arg19.view [] (l.drop 1) := by
    rw [show l.drop 1 = (1, (fW L.cG L.ug) 7 1) :: l.drop 2 by rw [hl]; rfl, wr_cons]
    subst hl hL
    simp only [k0_pay148, fW, fB, fU, fD, Loads.uG, Loads.uV, Loads.cG, Loads.cV, Loads.D, Loads.G, Loads.V, H17_23, v1251, v1247, v1246, v1250, v1249, v1248, r_84, r_66, v6, v11, v7, v9, v10, cst, v1141, v1140, v1139, v1137, v1147, v1146, v1145, v1143, v1232, v1231, h1, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  unfold kernelRun0_C
  dsimp only
  rw [← hl, show l = (2, (fW L.cG L.ug) 7 2) :: l.drop 1 by rw [hl]; rfl, wr_cons]
  subst hl hL
  simp only [k0_pay148, fW, fB, fU, fD, Loads.uG, Loads.uV, Loads.cG, Loads.cV, Loads.D, Loads.G, Loads.V, v1258, v1254, v1253, v1257, v1256, v1255, r_83, r_66, v6, v11, v7, v9, v10, cst, v1141, v1140, v1139, v1137, v1147, v1146, v1145, v1143, v1232, v1231, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the value half of the taps' gradient, over the loads `L`. -/
theorem L18_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.1 = wr arg20.view [] (rows3 (fW L.cV L.uv) (fun k _ => (fW L.cV L.uv) 0 k (View.ld xo18 (rR k)))) := by
  obtain ⟨l, hl⟩ : ∃ l, l = (rows3 (fW L.cV L.uv) (fun k _ => (fW L.cV L.uv) 0 k (View.ld xo18 (rR k)))) := ⟨_, rfl⟩
  have h20 : H18_3 c arg3 harg3 arg4 harg4 arg8 harg8 arg10 harg10 arg20 harg20 x1 x2 x6 x8 xo18 = wr arg20.view [] (l.drop 21) := by
    rw [show l.drop 21 = [(2, (fun k _ => (fW L.cV L.uv) 0 k (View.ld xo18 (rR k))) 2), (1, (fun k _ => (fW L.cV L.uv) 0 k (View.ld xo18 (rR k))) 1), (0, (fun k _ => (fW L.cV L.uv) 0 k (View.ld xo18 (rR k))) 0)] by rw [hl]; rfl, wr_cons, wr_cons, wr_cons]
    subst hl hL
    simp only [k0_pay148, fW, fB, fU, fD, Loads.uG, Loads.uV, Loads.cG, Loads.cV, Loads.D, Loads.G, Loads.V, H18_3, v176, v172, v171, v175, v174, v173, r_8, v17, v16, v13, v15, v6, cst_11, v29, v28, v25, v27, v150, v149, v169, v165, v164, v168, v167, v166, r_9, v162, v158, v161, v160, v159, r_10, fold_ext, fold_dy, fold_mmU, ldR0, ldR1, ldR2, ldS1x256f, ldS256x1024, ldS256x1024f, ldT0, ldTn0, ldW0, ldWn0]
    simp only [of_ug, of_uv, of_g, of_v, of_d, of_h, of_wd, of_wg, of_wv, of_gn0, of_vn0, of_dn0]
    rfl
  have h19 : H18_4 c arg3 harg3 arg4 harg4 arg8 harg8 arg10 harg10 arg20 harg20 x1 x2 x6 x8 xo18 = wr arg20.view [] (l.drop 20) := by
    rw [show l.drop 20 = (0, (fW L.cV L.uv) 1 0) :: l.drop 21 by rw [hl]; rfl, wr_cons]
    subst hl hL
    simp only [k0_pay148, fW, fB, fU, fD, Loads.uG, Loads.uV, Loads.cG, Loads.cV, Loads.D, Loads.G, Loads.V, H18_4, v322, v318, v317, v321, v320, v319, v232, v231, v227, v23, v22, v19, v21, v6, cst_11, r_15, v310, v309, h20, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h18 : H18_5 c arg3 harg3 arg4 harg4 arg8 harg8 arg10 harg10 arg20 harg20 x1 x2 x6 x8 xo18 = wr arg20.view [] (l.drop 19) := by
    rw [show l.drop 19 = (1, (fW L.cV L.uv) 1 1) :: l.drop 20 by rw [hl]; rfl, wr_cons]
    subst hl hL
    simp only [k0_pay148, fW, fB, fU, fD, Loads.uG, Loads.uV, Loads.cG, Loads.cV, Loads.D, Loads.G, Loads.V, H18_5, v329, v325, v324, v328, v327, v326, v230, v229, v227, v23, v22, v19, v21, v6, cst_11, r_15, v310, v309, h19, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h17 : H18_6 c arg3 harg3 arg4 harg4 arg8 harg8 arg10 harg10 arg20 harg20 x1 x2 x6 x8 xo18 = wr arg20.view [] (l.drop 18) := by
    rw [show l.drop 18 = (2, (fW L.cV L.uv) 1 2) :: l.drop 19 by rw [hl]; rfl, wr_cons]
    subst hl hL
    simp only [k0_pay148, fW, fB, fU, fD, Loads.uG, Loads.uV, Loads.cG, Loads.cV, Loads.D, Loads.G, Loads.V, H18_6, v228, v227, v23, v22, v19, v21, v6, cst_11, r_15, v310, v309, v331, h18, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h16 : H18_7 c arg3 harg3 arg4 harg4 arg8 harg8 arg10 harg10 arg20 harg20 x1 x2 x6 x8 xo18 = wr arg20.view [] (l.drop 17) := by
    rw [show l.drop 17 = (0, (fW L.cV L.uv) 2 0) :: l.drop 18 by rw [hl]; rfl, wr_cons]
    subst hl hL
    simp only [k0_pay148, fW, fB, fU, fD, Loads.uG, Loads.uV, Loads.cG, Loads.cV, Loads.D, Loads.G, Loads.V, H18_7, v482, v478, v477, v481, v480, v479, r_29, r_12, v6, v179, r_18, r_22, v470, v469, h17, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h15 : H18_8 c arg3 harg3 arg4 harg4 arg8 harg8 arg10 harg10 arg20 harg20 x1 x2 x6 x8 xo18 = wr arg20.view [] (l.drop 16) := by
    rw [show l.drop 16 = (1, (fW L.cV L.uv) 2 1) :: l.drop 17 by rw [hl]; rfl, wr_cons]
    subst hl hL
    simp only [k0_pay148, fW, fB, fU, fD, Loads.uG, Loads.uV, Loads.cG, Loads.cV, Loads.D, Loads.G, Loads.V, H18_8, v489, v485, v484, v488, v487, v486, r_28, r_12, v6, v179, r_18, r_22, v470, v469, h16, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h14 : H18_9 c arg3 harg3 arg4 harg4 arg8 harg8 arg10 harg10 arg20 harg20 x1 x2 x6 x8 xo18 = wr arg20.view [] (l.drop 15) := by
    rw [show l.drop 15 = (2, (fW L.cV L.uv) 2 2) :: l.drop 16 by rw [hl]; rfl, wr_cons]
    subst hl hL
    simp only [k0_pay148, fW, fB, fU, fD, Loads.uG, Loads.uV, Loads.cG, Loads.cV, Loads.D, Loads.G, Loads.V, H18_9, v496, v492, v491, v495, v494, v493, r_27, r_12, v6, v179, r_18, r_22, v470, v469, h15, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h13 : H18_10 c arg3 harg3 arg4 harg4 arg8 harg8 arg10 harg10 arg20 harg20 x1 x2 x6 x8 xo18 = wr arg20.view [] (l.drop 14) := by
    rw [show l.drop 14 = (0, (fW L.cV L.uv) 3 0) :: l.drop 15 by rw [hl]; rfl, wr_cons]
    subst hl hL
    simp only [k0_pay148, fW, fB, fU, fD, Loads.uG, Loads.uV, Loads.cG, Loads.cV, Loads.D, Loads.G, Loads.V, H18_10, v642, v638, v637, v641, v640, v639, r_41, r_17, v6, v509, v508, v505, v507, v630, v629, h14, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h12 : H18_11 c arg3 harg3 arg4 harg4 arg8 harg8 arg10 harg10 arg20 harg20 x1 x2 x6 x8 xo18 = wr arg20.view [] (l.drop 13) := by
    rw [show l.drop 13 = (1, (fW L.cV L.uv) 3 1) :: l.drop 14 by rw [hl]; rfl, wr_cons]
    subst hl hL
    simp only [k0_pay148, fW, fB, fU, fD, Loads.uG, Loads.uV, Loads.cG, Loads.cV, Loads.D, Loads.G, Loads.V, H18_11, v649, v645, v644, v648, v647, v646, r_40, r_17, v6, v509, v508, v505, v507, v630, v629, h13, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h11 : H18_12 c arg3 harg3 arg4 harg4 arg8 harg8 arg10 harg10 arg20 harg20 x1 x2 x6 x8 xo18 = wr arg20.view [] (l.drop 12) := by
    rw [show l.drop 12 = (2, (fW L.cV L.uv) 3 2) :: l.drop 13 by rw [hl]; rfl, wr_cons]
    subst hl hL
    simp only [k0_pay148, fW, fB, fU, fD, Loads.uG, Loads.uV, Loads.cG, Loads.cV, Loads.D, Loads.G, Loads.V, H18_12, v656, v652, v651, v655, v654, v653, r_39, r_17, v6, v509, v508, v505, v507, v630, v629, h12, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h10 : H18_13 c arg3 harg3 arg4 harg4 arg8 harg8 arg10 harg10 arg20 harg20 x1 x2 x6 x8 xo18 = wr arg20.view [] (l.drop 11) := by
    rw [show l.drop 11 = (0, (fW L.cV L.uv) 4 0) :: l.drop 12 by rw [hl]; rfl, wr_cons]
    subst hl hL
    simp only [k0_pay148, fW, fB, fU, fD, Loads.uG, Loads.uV, Loads.cG, Loads.cV, Loads.D, Loads.G, Loads.V, H18_13, v802, v798, v797, v801, v800, v799, v712, v711, v707, v503, v502, v499, v501, v6, cst_11, r_46, v790, v789, h11, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h9 : H18_14 c arg3 harg3 arg4 harg4 arg8 harg8 arg10 harg10 arg20 harg20 x1 x2 x6 x8 xo18 = wr arg20.view [] (l.drop 10) := by
    rw [show l.drop 10 = (1, (fW L.cV L.uv) 4 1) :: l.drop 11 by rw [hl]; rfl, wr_cons]
    subst hl hL
    simp only [k0_pay148, fW, fB, fU, fD, Loads.uG, Loads.uV, Loads.cG, Loads.cV, Loads.D, Loads.G, Loads.V, H18_14, v809, v805, v804, v808, v807, v806, v710, v709, v707, v503, v502, v499, v501, v6, cst_11, r_46, v790, v789, h10, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h8 : H18_15 c arg3 harg3 arg4 harg4 arg8 harg8 arg10 harg10 arg20 harg20 x1 x2 x6 x8 xo18 = wr arg20.view [] (l.drop 9) := by
    rw [show l.drop 9 = (2, (fW L.cV L.uv) 4 2) :: l.drop 10 by rw [hl]; rfl, wr_cons]
    subst hl hL
    simp only [k0_pay148, fW, fB, fU, fD, Loads.uG, Loads.uV, Loads.cG, Loads.cV, Loads.D, Loads.G, Loads.V, H18_15, v812, v811, v813, v708, v707, v503, v502, v499, v501, v6, cst_11, r_46, v790, v789, h9, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h7 : H18_16 c arg3 harg3 arg4 harg4 arg8 harg8 arg10 harg10 arg20 harg20 x1 x2 x6 x8 xo18 = wr arg20.view [] (l.drop 8) := by
    rw [show l.drop 8 = (0, (fW L.cV L.uv) 5 0) :: l.drop 9 by rw [hl]; rfl, wr_cons]
    subst hl hL
    simp only [k0_pay148, fW, fB, fU, fD, Loads.uG, Loads.uV, Loads.cG, Loads.cV, Loads.D, Loads.G, Loads.V, H18_16, v962, v958, v957, v961, v960, v959, r_63, r_43, v6, v662, v659, v661, cst_11, r_57, v950, v949, h8, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h6 : H18_17 c arg3 harg3 arg4 harg4 arg8 harg8 arg10 harg10 arg20 harg20 x1 x2 x6 x8 xo18 = wr arg20.view [] (l.drop 7) := by
    rw [show l.drop 7 = (1, (fW L.cV L.uv) 5 1) :: l.drop 8 by rw [hl]; rfl, wr_cons]
    subst hl hL
    simp only [k0_pay148, fW, fB, fU, fD, Loads.uG, Loads.uV, Loads.cG, Loads.cV, Loads.D, Loads.G, Loads.V, H18_17, r_62, r_43, v6, v662, v659, v661, cst_11, r_57, v950, v949, v964, h7, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h5 : H18_18 c arg3 harg3 arg4 harg4 arg8 harg8 arg10 harg10 arg20 harg20 x1 x2 x6 x8 xo18 = wr arg20.view [] (l.drop 6) := by
    rw [show l.drop 6 = (2, (fW L.cV L.uv) 5 2) :: l.drop 7 by rw [hl]; rfl, wr_cons]
    subst hl hL
    simp only [k0_pay148, fW, fB, fU, fD, Loads.uG, Loads.uV, Loads.cG, Loads.cV, Loads.D, Loads.G, Loads.V, H18_18, r_61, r_43, v6, v662, v659, v661, cst_11, r_57, v950, v949, v971, h6, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h4 : H18_19 c arg3 harg3 arg4 harg4 arg8 harg8 arg10 harg10 arg20 harg20 x1 x2 x6 x8 xo18 = wr arg20.view [] (l.drop 5) := by
    rw [show l.drop 5 = (0, (fW L.cV L.uv) 6 0) :: l.drop 6 by rw [hl]; rfl, wr_cons]
    subst hl hL
    simp only [k0_pay148, fW, fB, fU, fD, Loads.uG, Loads.uV, Loads.cG, Loads.cV, Loads.D, Loads.G, Loads.V, H18_19, v1120, v1116, v1115, v1119, v1118, v1117, r_77, r_50, v6, r_67, r_70, v1108, v1107, h5, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h3 : H18_20 c arg3 harg3 arg4 harg4 arg8 harg8 arg10 harg10 arg20 harg20 x1 x2 x6 x8 xo18 = wr arg20.view [] (l.drop 4) := by
    rw [show l.drop 4 = (1, (fW L.cV L.uv) 6 1) :: l.drop 5 by rw [hl]; rfl, wr_cons]
    subst hl hL
    simp only [k0_pay148, fW, fB, fU, fD, Loads.uG, Loads.uV, Loads.cG, Loads.cV, Loads.D, Loads.G, Loads.V, H18_20, v1127, v1123, v1122, v1126, v1125, v1124, r_76, r_50, v6, r_67, r_70, v1108, v1107, h4, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h2 : H18_21 c arg3 harg3 arg4 harg4 arg8 harg8 arg10 harg10 arg20 harg20 x1 x2 x6 x8 xo18 = wr arg20.view [] (l.drop 3) := by
    rw [show l.drop 3 = (2, (fW L.cV L.uv) 6 2) :: l.drop 4 by rw [hl]; rfl, wr_cons]
    subst hl hL
    simp only [k0_pay148, fW, fB, fU, fD, Loads.uG, Loads.uV, Loads.cG, Loads.cV, Loads.D, Loads.G, Loads.V, H18_21, v1134, v1130, v1129, v1133, v1132, v1131, r_75, r_50, v6, r_67, r_70, v1108, v1107, h3, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  have h1 : H18_22 c i arg3 harg3 arg4 harg4 arg5 harg5 arg8 harg8 arg9 harg9 arg10 harg10 arg20 harg20 x1 x2 x3 x6 x7 x8 xo18 = wr arg20.view [] (l.drop 2) := by
    rw [show l.drop 2 = (0, (fW L.cV L.uv) 7 0) :: l.drop 3 by rw [hl]; rfl, wr_cons]
    subst hl hL
    simp only [k0_pay148, fW, fB, fU, fD, Loads.uG, Loads.uV, Loads.cG, Loads.cV, Loads.D, Loads.G, Loads.V, H18_22, r_88, r_66, v6, v11, v7, v9, v10, cst, v1141, v1140, v1139, v1137, v1262, v1261, v1269, h2, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  have h0 : H18_23 c i arg3 harg3 arg4 harg4 arg5 harg5 arg8 harg8 arg9 harg9 arg10 harg10 arg20 harg20 x1 x2 x3 x6 x7 x8 xo18 = wr arg20.view [] (l.drop 1) := by
    rw [show l.drop 1 = (1, (fW L.cV L.uv) 7 1) :: l.drop 2 by rw [hl]; rfl, wr_cons]
    subst hl hL
    simp only [k0_pay148, fW, fB, fU, fD, Loads.uG, Loads.uV, Loads.cG, Loads.cV, Loads.D, Loads.G, Loads.V, H18_23, r_91, v1276, r_92, r_87, r_66, v6, v11, v7, v9, v10, cst, v1141, v1140, v1139, v1137, v1262, v1261, h1, fold_ext, fold_dy, fold_mmU, ldS16x1024, ldS16x256, ldS256x1024, ldS256x1024f, ldT7, ldW0, ldW7]
    simp only [of_ug, of_uv, of_g, of_v, of_d, of_h, of_wd, of_wg, of_wv, of_gn0, of_vn0, of_dn0, of_gn7, of_vn7, of_dn7]
    rfl
  unfold kernelRun0_C
  dsimp only
  rw [← hl, show l = (2, (fW L.cV L.uv) 7 2) :: l.drop 1 by rw [hl]; rfl, wr_cons]
  subst hl hL
  simp only [k0_pay148, fW, fB, fU, fD, Loads.uG, Loads.uV, Loads.cG, Loads.cV, Loads.D, Loads.G, Loads.V, r_86, r_66, v6, v11, v7, v9, v10, cst, v1141, v1140, v1139, v1137, v1262, v1261, v1283, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the gate half of the biases' gradient, over the loads `L`. -/
theorem L19_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.1 = wl arg21.view ![0, 0] (inbZ z2) [] (eight (fB L.cG) (fun _ => (fB L.cG) 0 xo19)) := by
  obtain ⟨l, hl⟩ : ∃ l, l = (eight (fB L.cG) (fun _ => (fB L.cG) 0 xo19)) := ⟨_, rfl⟩
  have h6 : H19_1 c arg4 harg4 arg6 harg6 arg8 harg8 arg10 harg10 arg21 harg21 x2 x4 x6 x8 xo19 = wl arg21.view ![0, 0] (inbZ z2) [] (l.drop 7) := by
    rw [show l.drop 7 = [(fun _ => (fB L.cG) 0 xo19)] by rw [hl]; rfl, wl_cons]
    subst hl hL
    simp only [k0_pay148, fW, fB, fU, fD, Loads.uG, Loads.uV, Loads.cG, Loads.cV, Loads.D, Loads.G, Loads.V, H19_1, v125, v122, v124, v123, r_5, v17, v16, v13, v15, v6, cst_11, v29, v28, v25, v27, fold_ext, fold_dy, fold_mmU, ldR0, ldS1x256f, ldS256x1024, ldS256x1024f, ldT0, ldTn0, ldW0, ldWn0]
    simp only [of_ug, of_uv, of_g, of_v, of_d, of_h, of_wd, of_wg, of_wv, of_gn0, of_vn0, of_dn0]
    rfl
  have h5 : H19_2 c arg4 harg4 arg6 harg6 arg8 harg8 arg10 harg10 arg21 harg21 x2 x4 x6 x8 xo19 = wl arg21.view ![0, 0] (inbZ z2) [] (l.drop 6) := by
    rw [show l.drop 6 = (fB L.cG) 1 :: l.drop 7 by rw [hl]; rfl, wl_cons]
    subst hl hL
    simp only [k0_pay148, fW, fB, fU, fD, Loads.uG, Loads.uV, Loads.cG, Loads.cV, Loads.D, Loads.G, Loads.V, H19_2, v285, v282, v281, v284, v283, v222, v221, v220, v23, v22, v19, v21, v6, cst_11, r_13, r_16, h6, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h4 : H19_3 c arg4 harg4 arg6 harg6 arg8 harg8 arg10 harg10 arg21 harg21 x2 x4 x6 x8 xo19 = wl arg21.view ![0, 0] (inbZ z2) [] (l.drop 5) := by
    rw [show l.drop 5 = (fB L.cG) 2 :: l.drop 6 by rw [hl]; rfl, wl_cons]
    subst hl hL
    simp only [k0_pay148, fW, fB, fU, fD, Loads.uG, Loads.uV, Loads.cG, Loads.cV, Loads.D, Loads.G, Loads.V, H19_3, v445, v442, v441, v444, v443, r_24, r_12, v6, v179, r_18, r_19, r_21, r_22, h5, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h3 : H19_4 c arg4 harg4 arg6 harg6 arg8 harg8 arg10 harg10 arg21 harg21 x2 x4 x6 x8 xo19 = wl arg21.view ![0, 0] (inbZ z2) [] (l.drop 4) := by
    rw [show l.drop 4 = (fB L.cG) 3 :: l.drop 5 by rw [hl]; rfl, wl_cons]
    subst hl hL
    simp only [k0_pay148, fW, fB, fU, fD, Loads.uG, Loads.uV, Loads.cG, Loads.cV, Loads.D, Loads.G, Loads.V, H19_4, v605, v602, v601, v604, v603, r_36, r_17, v6, v509, v508, v505, v507, v511, r_32, h4, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h2 : H19_5 c arg4 harg4 arg6 harg6 arg8 harg8 arg10 harg10 arg21 harg21 x2 x4 x6 x8 xo19 = wl arg21.view ![0, 0] (inbZ z2) [] (l.drop 3) := by
    rw [show l.drop 3 = (fB L.cG) 4 :: l.drop 4 by rw [hl]; rfl, wl_cons]
    subst hl hL
    simp only [k0_pay148, fW, fB, fU, fD, Loads.uG, Loads.uV, Loads.cG, Loads.cV, Loads.D, Loads.G, Loads.V, H19_5, v765, v762, v761, v764, v763, r_48, v503, v502, v499, v501, v6, cst_11, h3, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h1 : H19_6 c arg4 harg4 arg6 harg6 arg8 harg8 arg10 harg10 arg21 harg21 x2 x4 x6 x8 xo19 = wl arg21.view ![0, 0] (inbZ z2) [] (l.drop 2) := by
    rw [show l.drop 2 = (fB L.cG) 5 :: l.drop 3 by rw [hl]; rfl, wl_cons]
    subst hl hL
    simp only [k0_pay148, fW, fB, fU, fD, Loads.uG, Loads.uV, Loads.cG, Loads.cV, Loads.D, Loads.G, Loads.V, H19_6, v925, v922, v921, v924, v923, r_58, r_43, v6, v662, v659, v661, cst_11, r_51, r_52, r_54, r_55, r_56, cst_451, h2, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h0 : H19_7 c arg4 harg4 arg6 harg6 arg8 harg8 arg10 harg10 arg21 harg21 x2 x4 x6 x8 xo19 = wl arg21.view ![0, 0] (inbZ z2) [] (l.drop 1) := by
    rw [show l.drop 1 = (fB L.cG) 6 :: l.drop 2 by rw [hl]; rfl, wl_cons]
    subst hl hL
    simp only [k0_pay148, fW, fB, fU, fD, Loads.uG, Loads.uV, Loads.cG, Loads.cV, Loads.D, Loads.G, Loads.V, H19_7, v1083, v1080, v1079, v1082, v1081, r_72, r_50, v6, r_67, r_68, r_70, h1, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_C
  dsimp only
  rw [← hl, show l = (fB L.cG) 7 :: l.drop 1 by rw [hl]; rfl, wl_cons]
  subst hl hL
  simp only [k0_pay148, fW, fB, fU, fD, Loads.uG, Loads.uV, Loads.cG, Loads.cV, Loads.D, Loads.G, Loads.V, v1237, v1234, v1233, v1236, v1235, r_83, r_66, v6, v11, v7, v9, v10, cst, v1141, v1140, v1139, v1137, v1147, v1146, v1145, v1143, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the value half of the biases' gradient, over the loads `L`. -/
theorem L20_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.2.1 = wl arg22.view ![0, 0] (inbZ z2) [] (eight (fB L.cV) (fun _ => (fB L.cV) 0 xo20)) := by
  have h6 : H20_1 c arg4 harg4 arg8 harg8 arg10 harg10 arg22 harg22 x2 x6 x8 xo20 = wl arg22.view ![0, 0] (inbZ z2) [] ((eight (fB L.cV) (fun _ => (fB L.cV) 0 xo20)).drop 7) := by
    rw [show (eight (fB L.cV) (fun _ => (fB L.cV) 0 xo20)).drop 7 = [(fun _ => (fB L.cV) 0 xo20)] from rfl, wl_cons]
    subst hL
    simp only [k0_pay148, fW, fB, fU, fD, Loads.uG, Loads.uV, Loads.cG, Loads.cV, Loads.D, Loads.G, Loads.V, H20_1, v155, v152, v154, v153, r_8, v17, v16, v13, v15, v6, cst_11, v29, v28, v25, v27, fold_ext, fold_dy, fold_mmU, ldR0, ldS1x256f, ldS256x1024, ldS256x1024f, ldT0, ldTn0, ldW0, ldWn0]
    simp only [of_ug, of_uv, of_g, of_v, of_d, of_h, of_wd, of_wg, of_wv, of_gn0, of_vn0, of_dn0]
    rfl
  have h5 : H20_2 c arg4 harg4 arg8 harg8 arg10 harg10 arg22 harg22 x2 x6 x8 xo20 = wl arg22.view ![0, 0] (inbZ z2) [] ((eight (fB L.cV) (fun _ => (fB L.cV) 0 xo20)).drop 6) := by
    rw [show (eight (fB L.cV) (fun _ => (fB L.cV) 0 xo20)).drop 6 = (fB L.cV) 1 :: (eight (fB L.cV) (fun _ => (fB L.cV) 0 xo20)).drop 7 from rfl, wl_cons]
    subst hL
    simp only [k0_pay148, fW, fB, fU, fD, Loads.uG, Loads.uV, Loads.cG, Loads.cV, Loads.D, Loads.G, Loads.V, H20_2, v315, v312, v311, v314, v313, v228, v227, v23, v22, v19, v21, v6, cst_11, r_15, h6, fold_ext, fold_dy, fold_mmU, ldS256x1024, ldS256x1024f, ldT1, ldTn1, ldW0, ldW1, ldWn1]
    simp only [of_ug, of_uv, of_g, of_v, of_d, of_h, of_wd, of_wg, of_wv, of_gn0, of_vn0, of_dn0, of_gn1, of_vn1, of_dn1]
    rfl
  have h4 : H20_3 c arg4 harg4 arg8 harg8 arg10 harg10 arg22 harg22 x2 x6 x8 xo20 = wl arg22.view ![0, 0] (inbZ z2) [] ((eight (fB L.cV) (fun _ => (fB L.cV) 0 xo20)).drop 5) := by
    rw [show (eight (fB L.cV) (fun _ => (fB L.cV) 0 xo20)).drop 5 = (fB L.cV) 2 :: (eight (fB L.cV) (fun _ => (fB L.cV) 0 xo20)).drop 6 from rfl, wl_cons]
    subst hL
    simp only [k0_pay148, fW, fB, fU, fD, Loads.uG, Loads.uV, Loads.cG, Loads.cV, Loads.D, Loads.G, Loads.V, H20_3, v475, v472, v471, v474, v473, r_27, r_12, v6, v179, r_18, r_22, h5, fold_ext, fold_dy, fold_mmU, ldS256x1024, ldS256x1024f, ldT2, ldTn2, ldW0, ldW2, ldWn2]
    simp only [of_ug, of_uv, of_g, of_v, of_d, of_h, of_wd, of_wg, of_wv, of_gn0, of_vn0, of_dn0, of_gn2, of_vn2, of_dn2]
    rfl
  have h3 : H20_4 c arg4 harg4 arg8 harg8 arg10 harg10 arg22 harg22 x2 x6 x8 xo20 = wl arg22.view ![0, 0] (inbZ z2) [] ((eight (fB L.cV) (fun _ => (fB L.cV) 0 xo20)).drop 4) := by
    rw [show (eight (fB L.cV) (fun _ => (fB L.cV) 0 xo20)).drop 4 = (fB L.cV) 3 :: (eight (fB L.cV) (fun _ => (fB L.cV) 0 xo20)).drop 5 from rfl, wl_cons]
    subst hL
    simp only [k0_pay148, fW, fB, fU, fD, Loads.uG, Loads.uV, Loads.cG, Loads.cV, Loads.D, Loads.G, Loads.V, H20_4, v635, v632, v631, v634, v633, r_39, r_17, v6, v509, v508, v505, v507, h4, fold_ext, fold_dy, fold_mmU, ldS256x1024, ldS256x1024f, ldT3, ldTn3, ldW0, ldW3, ldWn3]
    simp only [of_ug, of_uv, of_g, of_v, of_d, of_h, of_wd, of_wg, of_wv, of_gn0, of_vn0, of_dn0, of_gn3, of_vn3, of_dn3]
    rfl
  have h2 : H20_5 c arg4 harg4 arg8 harg8 arg10 harg10 arg22 harg22 x2 x6 x8 xo20 = wl arg22.view ![0, 0] (inbZ z2) [] ((eight (fB L.cV) (fun _ => (fB L.cV) 0 xo20)).drop 3) := by
    rw [show (eight (fB L.cV) (fun _ => (fB L.cV) 0 xo20)).drop 3 = (fB L.cV) 4 :: (eight (fB L.cV) (fun _ => (fB L.cV) 0 xo20)).drop 4 from rfl, wl_cons]
    subst hL
    simp only [k0_pay148, fW, fB, fU, fD, Loads.uG, Loads.uV, Loads.cG, Loads.cV, Loads.D, Loads.G, Loads.V, H20_5, v795, v792, v791, v794, v793, v708, v707, v503, v502, v499, v501, v6, cst_11, r_46, h3, fold_ext, fold_dy, fold_mmU, ldS256x1024, ldS256x1024f, ldT4, ldTn4, ldW0, ldW4, ldWn4]
    simp only [of_ug, of_uv, of_g, of_v, of_d, of_h, of_wd, of_wg, of_wv, of_gn0, of_vn0, of_dn0, of_gn4, of_vn4, of_dn4]
    rfl
  have h1 : H20_6 c arg4 harg4 arg8 harg8 arg10 harg10 arg22 harg22 x2 x6 x8 xo20 = wl arg22.view ![0, 0] (inbZ z2) [] ((eight (fB L.cV) (fun _ => (fB L.cV) 0 xo20)).drop 2) := by
    rw [show (eight (fB L.cV) (fun _ => (fB L.cV) 0 xo20)).drop 2 = (fB L.cV) 5 :: (eight (fB L.cV) (fun _ => (fB L.cV) 0 xo20)).drop 3 from rfl, wl_cons]
    subst hL
    simp only [k0_pay148, fW, fB, fU, fD, Loads.uG, Loads.uV, Loads.cG, Loads.cV, Loads.D, Loads.G, Loads.V, H20_6, v955, v952, v951, v954, v953, r_61, r_43, v6, v662, v659, v661, cst_11, r_57, h2, fold_ext, fold_dy, fold_mmU, ldS256x1024, ldS256x1024f, ldT5, ldTn5, ldW0, ldW5, ldWn5]
    simp only [of_ug, of_uv, of_g, of_v, of_d, of_h, of_wd, of_wg, of_wv, of_gn0, of_vn0, of_dn0, of_gn5, of_vn5, of_dn5]
    rfl
  have h0 : H20_7 c arg4 harg4 arg8 harg8 arg10 harg10 arg22 harg22 x2 x6 x8 xo20 = wl arg22.view ![0, 0] (inbZ z2) [] ((eight (fB L.cV) (fun _ => (fB L.cV) 0 xo20)).drop 1) := by
    rw [show (eight (fB L.cV) (fun _ => (fB L.cV) 0 xo20)).drop 1 = (fB L.cV) 6 :: (eight (fB L.cV) (fun _ => (fB L.cV) 0 xo20)).drop 2 from rfl, wl_cons]
    subst hL
    simp only [k0_pay148, fW, fB, fU, fD, Loads.uG, Loads.uV, Loads.cG, Loads.cV, Loads.D, Loads.G, Loads.V, H20_7, v1113, v1110, v1109, v1112, v1111, r_75, r_50, v6, r_67, r_70, h1, fold_ext, fold_dy, fold_mmU, ldS256x1024, ldS256x1024f, ldT6, ldTn6, ldW0, ldW6, ldWn6]
    simp only [of_ug, of_uv, of_g, of_v, of_d, of_h, of_wd, of_wg, of_wv, of_gn0, of_vn0, of_dn0, of_gn6, of_vn6, of_dn6]
    rfl
  unfold kernelRun0_C
  dsimp only
  rw [show (eight (fB L.cV) (fun _ => (fB L.cV) 0 xo20)) = (fB L.cV) 7 :: (eight (fB L.cV) (fun _ => (fB L.cV) 0 xo20)).drop 1 from rfl, wl_cons]
  subst hL
  simp only [k0_pay148, fW, fB, fU, fD, Loads.uG, Loads.uV, Loads.cG, Loads.cV, Loads.D, Loads.G, Loads.V, r_86, r_66, v6, v11, v7, v9, v10, cst, v1141, v1140, v1139, v1137, v1264, v1263, h0, fold_ext, fold_dy, fold_mmU, ldS16x1024, ldS16x256, ldS256x1024, ldS256x1024f, ldT7, ldW0, ldW7]
  simp only [of_ug, of_uv, of_g, of_v, of_d, of_h, of_wd, of_wg, of_wv, of_gn0, of_vn0, of_dn0, of_gn7, of_vn7, of_dn7]
  rfl

set_option maxHeartbeats 8000000 in
/-- The stores to the up weights' running sum, over the loads `L`. -/
theorem LS0_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.2.2.1 = wl arg23.view ![0, 0] (inbZ z2) [] (eight (fU L) (fun _ => (fU L) 0 xs0)) := by
  have h7 : HS0_1 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 7) := by
    rw [show (eight (fU L) (fun _ => (fU L) 0 xs0)).drop 7 = [(fun _ => (fU L) 0 xs0)] from rfl, wl_cons]
    subst hL
    simp only [k0_pay148, fW, fB, fU, fD, Loads.uG, Loads.uV, Loads.cG, Loads.cV, Loads.D, Loads.G, Loads.V, HS0_1, v107, v104, v103, v100, v84, v83, v79, v75, r_5, v17, v16, v13, v15, v6, cst_11, v29, v28, v25, v27, v74, r_11, r, v78, r_6, v77, v76, v82, r_7, v81, v80, v96, v95, v91, v87, r_8, v86, v85, r_1, v90, r_9, v89, v88, v94, r_10, v93, v92, v102, cst_43, fold_ext, fold_dy, fold_mmU, ldS256x1024, ldS256x1024f, ldS3x256f, ldS512x1024f, ldT0, ldTn0, ldW0, ldWn0]
    simp only [of_ug, of_uv, of_g, of_v, of_d, of_h, of_wd, of_wg, of_wv, of_gn0, of_vn0, of_dn0]
    rfl
  have h6 : HS0_2 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 6) := by
    rw [show (eight (fU L) (fun _ => (fU L) 0 xs0)).drop 6 = (fU L) 1 :: (eight (fU L) (fun _ => (fU L) 0 xs0)).drop 7 from rfl, wl_cons]
    subst hL
    simp only [k0_pay148, fW, fB, fU, fD, Loads.uG, Loads.uV, Loads.cG, Loads.cV, Loads.D, Loads.G, Loads.V, HS0_2, v267, v264, v259, v263, v260, v244, v243, v239, v235, v222, v221, v220, v23, v22, v19, v21, v6, cst_11, r_13, r_16, v234, v233, r, v238, v224, v223, v77, v76, v242, v226, v225, v81, v80, v256, v255, v251, v247, v228, v227, r_15, v86, v85, r_1, v250, v230, v229, v89, v88, v254, v232, v231, v93, v92, v262, cst_43, h7, fold_ext, fold_dy, fold_mmU, ldS256x1024, ldS256x1024f, ldS3x256f, ldT1, ldTn1, ldW0, ldW1, ldWn1]
    simp only [of_ug, of_uv, of_g, of_v, of_d, of_h, of_wd, of_wg, of_wv, of_gn0, of_vn0, of_dn0, of_gn1, of_vn1, of_dn1]
    rfl
  have h5 : HS0_3 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 5) := by
    rw [show (eight (fU L) (fun _ => (fU L) 0 xs0)).drop 5 = (fU L) 2 :: (eight (fU L) (fun _ => (fU L) 0 xs0)).drop 6 from rfl, wl_cons]
    subst hL
    simp only [k0_pay148, fW, fB, fU, fD, Loads.uG, Loads.uV, Loads.cG, Loads.cV, Loads.D, Loads.G, Loads.V, HS0_3, v427, v424, v419, v423, v420, r_30, r, r_12, v6, v179, r_18, r_19, r_21, r_22, r_31, r_1, v422, cst_43, h6, fold_ext, fold_dy, fold_mmU, ldS256x1024, ldS256x1024f, ldS3x256f, ldT2, ldTn2, ldW0, ldW2, ldWn2]
    simp only [of_ug, of_uv, of_g, of_v, of_d, of_h, of_wd, of_wg, of_wv, of_gn0, of_vn0, of_dn0, of_gn2, of_vn2, of_dn2]
    rfl
  have h4 : HS0_4 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 4) := by
    rw [show (eight (fU L) (fun _ => (fU L) 0 xs0)).drop 4 = (fU L) 3 :: (eight (fU L) (fun _ => (fU L) 0 xs0)).drop 5 from rfl, wl_cons]
    subst hL
    simp only [k0_pay148, fW, fB, fU, fD, Loads.uG, Loads.uV, Loads.cG, Loads.cV, Loads.D, Loads.G, Loads.V, HS0_4, v587, v584, v579, v583, v580, v564, v563, r_42, r, r_17, v6, v509, v508, v505, v507, v511, r_32, v562, r_38, v81, v80, v576, v575, v571, v567, r_39, v86, v85, r_1, v570, r_40, v89, v88, v574, r_41, v93, v92, v582, cst_43, h5, fold_ext, fold_dy, fold_mmU, ldS256x1024, ldS256x1024f, ldS3x256f, ldT3, ldTn3, ldW0, ldW3, ldWn3]
    simp only [of_ug, of_uv, of_g, of_v, of_d, of_h, of_wd, of_wg, of_wv, of_gn0, of_vn0, of_dn0, of_gn3, of_vn3, of_dn3]
    rfl
  have h3 : HS0_5 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 3) := by
    rw [show (eight (fU L) (fun _ => (fU L) 0 xs0)).drop 3 = (fU L) 4 :: (eight (fU L) (fun _ => (fU L) 0 xs0)).drop 4 from rfl, wl_cons]
    subst hL
    simp only [k0_pay148, fW, fB, fU, fD, Loads.uG, Loads.uV, Loads.cG, Loads.cV, Loads.D, Loads.G, Loads.V, HS0_5, v747, v744, v739, v743, v740, v724, v723, v719, v715, r_48, v503, v502, v499, v501, v6, cst_11, v234, v233, r, v718, r_49, v77, v76, v722, v706, v705, r_47, v81, v80, v736, v735, v731, v727, v708, v707, r_46, v86, v85, r_1, v730, v710, v709, v89, v88, v734, v712, v711, v93, v92, v742, cst_43, h4, fold_ext, fold_dy, fold_mmU, ldS256x1024, ldS256x1024f, ldS3x256f, ldT4, ldTn4, ldW0, ldW4, ldWn4]
    simp only [of_ug, of_uv, of_g, of_v, of_d, of_h, of_wd, of_wg, of_wv, of_gn0, of_vn0, of_dn0, of_gn4, of_vn4, of_dn4]
    rfl
  have h2 : HS0_6 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 2) := by
    rw [show (eight (fU L) (fun _ => (fU L) 0 xs0)).drop 2 = (fU L) 5 :: (eight (fU L) (fun _ => (fU L) 0 xs0)).drop 3 from rfl, wl_cons]
    subst hL
    simp only [k0_pay148, fW, fB, fU, fD, Loads.uG, Loads.uV, Loads.cG, Loads.cV, Loads.D, Loads.G, Loads.V, HS0_6, v907, v904, v899, v903, v900, r_64, r, r_43, v6, v662, v659, v661, cst_11, r_51, r_52, r_54, r_55, r_56, cst_451, r_65, r_1, r_57, v902, cst_43, h3, fold_ext, fold_dy, fold_mmU, ldS256x1024, ldS256x1024f, ldS3x256f, ldT5, ldTn5, ldW0, ldW5, ldWn5]
    simp only [of_ug, of_uv, of_g, of_v, of_d, of_h, of_wd, of_wg, of_wv, of_gn0, of_vn0, of_dn0, of_gn5, of_vn5, of_dn5]
    rfl
  have h1 : HS0_7 c arg4 harg4 arg6 harg6 arg8 harg8 arg10 harg10 arg11 harg11 arg12 harg12 arg13 harg13 arg23 harg23 x2 x4 x6 x8 x9 x10 x11 xs0 = wl arg23.view ![0, 0] (inbZ z2) [] ((eight (fU L) (fun _ => (fU L) 0 xs0)).drop 1) := by
    rw [show (eight (fU L) (fun _ => (fU L) 0 xs0)).drop 1 = (fU L) 6 :: (eight (fU L) (fun _ => (fU L) 0 xs0)).drop 2 from rfl, wl_cons]
    subst hL
    simp only [k0_pay148, fW, fB, fU, fD, Loads.uG, Loads.uV, Loads.cG, Loads.cV, Loads.D, Loads.G, Loads.V, HS0_7, v1065, v1062, v1057, v1061, v1058, r_78, r, r_50, v6, r_67, r_68, r_70, v1054, v1053, v1049, r_79, r_1, v1048, r_76, r_80, v1052, r_77, v93, v92, v1060, cst_43, h2, fold_ext, fold_dy, fold_mmU, ldS256x1024, ldS256x1024f, ldS3x256f, ldT6, ldTn6, ldW0, ldW6, ldWn6]
    simp only [of_ug, of_uv, of_g, of_v, of_d, of_h, of_wd, of_wg, of_wv, of_gn0, of_vn0, of_dn0, of_gn6, of_vn6, of_dn6]
    rfl
  have h0 : HS0_8 c i arg4 harg4 arg5 harg5 arg6 harg6 arg7 harg7 arg8 harg8 arg9 harg9 arg10 harg10 arg11 harg11 arg12 harg12 arg13 harg13 arg23 harg23 x2 x3 x4 x5 x6 x7 x8 x9 x10 x11 xs0 = wl arg23.view ![0, 0] (inbZ z2) [] ((eight (fU L) (fun _ => (fU L) 0 xs0)).drop 0) := by
    rw [show (eight (fU L) (fun _ => (fU L) 0 xs0)).drop 0 = (fU L) 7 :: (eight (fU L) (fun _ => (fU L) 0 xs0)).drop 1 from rfl, wl_cons]
    subst hL
    simp only [k0_pay148, fW, fB, fU, fD, Loads.uG, Loads.uV, Loads.cG, Loads.cV, Loads.D, Loads.G, Loads.V, HS0_8, v1219, v1216, v1211, v1215, v1212, v1196, v1195, r_89, r, r_66, v6, v11, v7, v9, v10, cst, v1141, v1140, v1139, v1137, v1147, v1146, v1145, v1143, r_90, v1208, v1207, v1203, v1199, r_86, v86, v85, r_1, v1202, r_87, v89, v88, v1206, r_88, v93, v92, v1214, cst_43, h1, fold_ext, fold_dy, fold_mmU, ldS16x1024, ldS16x256, ldS256x1024, ldS256x1024f, ldS3x256f, ldT7, ldW0, ldW7]
    simp only [of_ug, of_uv, of_g, of_v, of_d, of_h, of_wd, of_wg, of_wv, of_gn0, of_vn0, of_dn0, of_gn7, of_vn7, of_dn7]
    rfl
  unfold kernelRun0_C
  dsimp only
  subst hL
  rw [h0]
  rfl

set_option maxHeartbeats 8000000 in
/-- The stores to the down weights' running sum, over the loads `L`. -/
theorem LS1_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.2.2.2.2.2.2.1 = wl arg24.view ![0, 0] (inbZ z2) [] (eight (fD L) (fun _ => (fD L) 0 xs1)) := by
  have h7 : HS1_1 c arg4 harg4 arg6 harg6 arg8 harg8 arg24 harg24 x2 x4 x6 xs1 = wl arg24.view ![0, 0] (inbZ z2) [] ((eight (fD L) (fun _ => (fD L) 0 xs1)).drop 7) := by
    rw [show (eight (fD L) (fun _ => (fD L) 0 xs1)).drop 7 = [(fun _ => (fD L) 0 xs1)] from rfl, wl_cons]
    subst hL
    simp only [k0_pay148, fW, fB, fU, fD, Loads.uG, Loads.uV, Loads.cG, Loads.cV, Loads.D, Loads.G, Loads.V, HS1_1, v117, v114, v113, v112, v111, v109, r_4, v29, v28, v25, v27, v110, r_2, r_3, cst_48, fold_ext, fold_dy, fold_mmU, ldS256x1024, ldS256x1024f, ldT0, ldTn0, ldW0]
    simp only [of_ug, of_uv, of_g, of_v, of_d, of_h, of_wd, of_wg, of_wv, of_gn0, of_vn0, of_dn0]
    rfl
  have h6 : HS1_2 c arg4 harg4 arg6 harg6 arg8 harg8 arg24 harg24 x2 x4 x6 xs1 = wl arg24.view ![0, 0] (inbZ z2) [] ((eight (fD L) (fun _ => (fD L) 0 xs1)).drop 6) := by
    rw [show (eight (fD L) (fun _ => (fD L) 0 xs1)).drop 6 = (fD L) 1 :: (eight (fD L) (fun _ => (fD L) 0 xs1)).drop 7 from rfl, wl_cons]
    subst hL
    simp only [k0_pay148, fW, fB, fU, fD, Loads.uG, Loads.uV, Loads.cG, Loads.cV, Loads.D, Loads.G, Loads.V, HS1_2, v277, v274, v268, v273, v272, v271, v269, r_15, v270, r_13, r_14, cst_48, h7, fold_ext, fold_dy, fold_mmU, ldT1, ldTn1, ldW1]
    simp only [of_ug, of_uv, of_g, of_v, of_d, of_h, of_wd, of_wg, of_wv, of_gn1, of_vn1, of_dn1]
    rfl
  have h5 : HS1_3 c arg4 harg4 arg6 harg6 arg8 harg8 arg24 harg24 x2 x4 x6 xs1 = wl arg24.view ![0, 0] (inbZ z2) [] ((eight (fD L) (fun _ => (fD L) 0 xs1)).drop 5) := by
    rw [show (eight (fD L) (fun _ => (fD L) 0 xs1)).drop 5 = (fD L) 2 :: (eight (fD L) (fun _ => (fD L) 0 xs1)).drop 6 from rfl, wl_cons]
    subst hL
    simp only [k0_pay148, fW, fB, fU, fD, Loads.uG, Loads.uV, Loads.cG, Loads.cV, Loads.D, Loads.G, Loads.V, HS1_3, v437, v434, v428, v433, v432, v431, v429, r_23, r_18, r_22, v430, r_19, r_20, cst_48, h6, fold_ext, fold_dy, fold_mmU, ldT2, ldTn2, ldW2]
    simp only [of_ug, of_uv, of_g, of_v, of_d, of_h, of_wd, of_wg, of_wv, of_gn2, of_vn2, of_dn2]
    rfl
  have h4 : HS1_4 c arg4 harg4 arg6 harg6 arg8 harg8 arg24 harg24 x2 x4 x6 xs1 = wl arg24.view ![0, 0] (inbZ z2) [] ((eight (fD L) (fun _ => (fD L) 0 xs1)).drop 4) := by
    rw [show (eight (fD L) (fun _ => (fD L) 0 xs1)).drop 4 = (fD L) 3 :: (eight (fD L) (fun _ => (fD L) 0 xs1)).drop 5 from rfl, wl_cons]
    subst hL
    simp only [k0_pay148, fW, fB, fU, fD, Loads.uG, Loads.uV, Loads.cG, Loads.cV, Loads.D, Loads.G, Loads.V, HS1_4, v597, v594, v588, v593, v592, v591, v589, r_35, v509, v508, v505, v507, v590, r_33, v511, r_32, r_34, cst_48, h5, fold_ext, fold_dy, fold_mmU, ldT3, ldTn3, ldW3]
    simp only [of_ug, of_uv, of_g, of_v, of_d, of_h, of_wd, of_wg, of_wv, of_gn3, of_vn3, of_dn3]
    rfl
  have h3 : HS1_5 c arg4 harg4 arg6 harg6 arg8 harg8 arg24 harg24 x2 x4 x6 xs1 = wl arg24.view ![0, 0] (inbZ z2) [] ((eight (fD L) (fun _ => (fD L) 0 xs1)).drop 3) := by
    rw [show (eight (fD L) (fun _ => (fD L) 0 xs1)).drop 3 = (fD L) 4 :: (eight (fD L) (fun _ => (fD L) 0 xs1)).drop 4 from rfl, wl_cons]
    subst hL
    simp only [k0_pay148, fW, fB, fU, fD, Loads.uG, Loads.uV, Loads.cG, Loads.cV, Loads.D, Loads.G, Loads.V, HS1_5, v757, v754, v748, v753, v752, v751, v749, r_46, v750, r_44, r_45, cst_48, h4, fold_ext, fold_dy, fold_mmU, ldT4, ldTn4, ldW4]
    simp only [of_ug, of_uv, of_g, of_v, of_d, of_h, of_wd, of_wg, of_wv, of_gn4, of_vn4, of_dn4]
    rfl
  have h2 : HS1_6 c arg4 harg4 arg6 harg6 arg8 harg8 arg24 harg24 x2 x4 x6 xs1 = wl arg24.view ![0, 0] (inbZ z2) [] ((eight (fD L) (fun _ => (fD L) 0 xs1)).drop 2) := by
    rw [show (eight (fD L) (fun _ => (fD L) 0 xs1)).drop 2 = (fD L) 5 :: (eight (fD L) (fun _ => (fD L) 0 xs1)).drop 3 from rfl, wl_cons]
    subst hL
    simp only [k0_pay148, fW, fB, fU, fD, Loads.uG, Loads.uV, Loads.cG, Loads.cV, Loads.D, Loads.G, Loads.V, HS1_6, v917, v914, v908, v913, v912, v911, v909, r_57, v910, r_52, r_53, cst_48, h3, fold_ext, fold_dy, fold_mmU, ldT5, ldTn5, ldW5]
    simp only [of_ug, of_uv, of_g, of_v, of_d, of_h, of_wd, of_wg, of_wv, of_gn5, of_vn5, of_dn5]
    rfl
  have h1 : HS1_7 c arg4 harg4 arg6 harg6 arg8 harg8 arg24 harg24 x2 x4 x6 xs1 = wl arg24.view ![0, 0] (inbZ z2) [] ((eight (fD L) (fun _ => (fD L) 0 xs1)).drop 1) := by
    rw [show (eight (fD L) (fun _ => (fD L) 0 xs1)).drop 1 = (fD L) 6 :: (eight (fD L) (fun _ => (fD L) 0 xs1)).drop 2 from rfl, wl_cons]
    subst hL
    simp only [k0_pay148, fW, fB, fU, fD, Loads.uG, Loads.uV, Loads.cG, Loads.cV, Loads.D, Loads.G, Loads.V, HS1_7, v1075, v1072, v1066, v1071, v1070, v1069, v1067, r_71, r_67, r_70, v1068, r_68, r_69, cst_48, h2, fold_ext, fold_dy, fold_mmU, ldT6, ldTn6, ldW6]
    simp only [of_ug, of_uv, of_g, of_v, of_d, of_h, of_wd, of_wg, of_wv, of_gn6, of_vn6, of_dn6]
    rfl
  have h0 : HS1_8 c arg4 harg4 arg5 harg5 arg6 harg6 arg7 harg7 arg8 harg8 arg24 harg24 x2 x3 x4 x5 x6 xs1 = wl arg24.view ![0, 0] (inbZ z2) [] ((eight (fD L) (fun _ => (fD L) 0 xs1)).drop 0) := by
    rw [show (eight (fD L) (fun _ => (fD L) 0 xs1)).drop 0 = (fD L) 7 :: (eight (fD L) (fun _ => (fD L) 0 xs1)).drop 1 from rfl, wl_cons]
    subst hL
    simp only [k0_pay148, fW, fB, fU, fD, Loads.uG, Loads.uV, Loads.cG, Loads.cV, Loads.D, Loads.G, Loads.V, HS1_8, v1229, v1226, v1220, v1225, v1224, v1223, v1221, r_82, v1141, v1140, v1139, v1137, v1222, v1147, v1146, v1145, v1143, r_81, cst_48, h1, fold_ext, fold_dy, fold_mmU, ldS16x256, ldT7, ldW7]
    simp only [of_ug, of_uv, of_g, of_v, of_d, of_h, of_wd, of_wg, of_wv, of_gn7, of_vn7, of_dn7]
    rfl
  unfold kernelRun0_C
  dsimp only
  subst hL
  rw [h0]
  rfl

set_option maxHeartbeats 8000000 in
/-- The gate half of the up weights' gradient, from the running sum, over the loads `L`. -/
theorem L14_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.1 = [⟨Rect.unit ![0, 0] S256x1024.size (inbZ z2), k0_pay3 (arg23.view.readCov (wl arg23.view ![0, 0] (inbZ z2) [] (eight (fU L) (fun _ => (fU L) 0 xs0))) (Rect.unit ![0, 0] S256x1024.size inbU0 : Rect S512x1024).toLoadRect)⟩] := by
  have e := LS0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 hL
  unfold kernelRun0_C at e ⊢
  dsimp only at e ⊢
  simp only [v1293]
  rw [e]
  all_goals rfl

set_option maxHeartbeats 8000000 in
/-- The value half of the up weights' gradient, from the running sum, over the loads `L`. -/
theorem L15_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.1 = [⟨Rect.unit ![0, 0] S256x1024.size (inbZ z2), k0_pay4 (arg23.view.readCov (wl arg23.view ![0, 0] (inbZ z2) [] (eight (fU L) (fun _ => (fU L) 0 xs0))) (Rect.unit ![256, 0] S256x1024.size inbU1 : Rect S512x1024).toLoadRect)⟩] := by
  have e := LS0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 hL
  unfold kernelRun0_C at e ⊢
  dsimp only at e ⊢
  simp only [v1296]
  rw [e]
  all_goals rfl

set_option maxHeartbeats 8000000 in
/-- The down weights' gradient, from the running sum, over the loads `L`. -/
theorem L16_C :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1).2.2.2.2.1 = [⟨Rect.unit ![0, 0] S256x1024.size (inbZ z2), k0_pay5 (arg24.view.readCov (wl arg24.view ![0, 0] (inbZ z2) [] (eight (fD L) (fun _ => (fD L) 0 xs1))) (Rect.unit ![0, 0] S256x1024.size (inbZ z2) : Rect S256x1024).toLoadRect)⟩] := by
  have e := LS1_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 hL
  unfold kernelRun0_C at e ⊢
  dsimp only at e ⊢
  simp only [v1299]
  rw [e]
  all_goals rfl

end Cert.KernelIdeal.Tile

end

end
-- ==== Proof.Step.lean ====
/- WHAT EACH GRID POINT LEAVES, free of the buffers it ran on: every output block and running sum as the eight
   blocks' terms over what the point before left (over zero at the first of each four points). -/
module

public import proofs.«01_k».proof.Proof.RunA
public import proofs.«01_k».proof.Proof.RunB
public import proofs.«01_k».proof.Proof.RunC
public import proofs.«01_k».proof.Proof.Gen.KernelIdeal.Frame

@[expose] public section

set_option synthInstance.maxSize 4096
set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F] [Named F]

/-- Eight steps in order from a start. -/
def chain8 {α : Type} (g : Fin 8 → α → α) (a : α) : α := g 7 (g 6 (g 5 (g 4 (g 3 (g 2 (g 1 (g 0 a)))))))

/-- The block of `du` that eight blocks of rows make up. -/
def duT (p : Fin 8 → FVec F S256x256 .bf16) : Vec F S2048x256 .bf16 := View.canon (duL p)

theorem fold_eight {α : Type} (f : Fin 8 → α → α) (a : α) : (eight f (f 0)).foldr (fun f a => f a) a = chain8 f a := rfl
theorem fold_eight' {α : Type} (f : Fin 8 → α → α) (a b : α) : (eight f (fun _ => f 0 a)).foldr (fun f a => f a) b = chain8 f a := rfl

theorem rowFold_rows3 (x : Vec F S3x256 .f32) (f : Fin 8 → Fin 3 → Vec F S1x256 .f32 → Vec F S1x256 .f32) (k : Fin 3) :
    rowFold (Val := Elt F) (e := .f32) x k (rows3 f (f 0)) = chain8 (fun s => f s k) (View.ld x (rR k)) := by
  match k with
  | 0 => simp [rowFold, rows3, chain8]
  | 1 => simp [rowFold, rows3, chain8]
  | 2 => simp [rowFold, rows3, chain8]

theorem rowFold_rows3' (x y : Vec F S3x256 .f32) (f : Fin 8 → Fin 3 → Vec F S1x256 .f32 → Vec F S1x256 .f32) (k : Fin 3) :
    rowFold (Val := Elt F) (e := .f32) y k (rows3 f (fun k _ => f 0 k (View.ld x (rR k)))) = chain8 (fun s => f s k) (View.ld x (rR k)) := by
  match k with
  | 0 => simp [rowFold, rows3, chain8]
  | 1 => simp [rowFold, rows3, chain8]
  | 2 => simp [rowFold, rows3, chain8]

section A

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S16x256 .bf16) (harg5 : arg5.IsWhole) (arg6 : Memref sig .tc .vmem S2048x256 .bf16) (harg6 : arg6.IsWhole) (arg7 : Memref sig .tc .vmem S16x256 .bf16) (harg7 : arg7.IsWhole) (arg8 : Memref sig .tc .vmem S2048x1024 .bf16) (harg8 : arg8.IsWhole) (arg9 : Memref sig .tc .vmem S16x1024 .bf16) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S3x256 .f32) (harg12 : arg12.IsWhole) (arg13 : Memref sig .tc .vmem S3x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S3x256 .f32) (harg19 : arg19.IsWhole) (arg20 : Memref sig .tc .vmem S3x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S256x1024 .f32) (harg24 : arg24.IsWhole) (hc0 : cond0_0 i) (hc1 : ¬cond0_1 i)
    (x0 : Vec F S2048x256 .bf16) (x1 : Vec F S2048x256 .bf16) (x2 : Vec F S2048x256 .bf16) (x3 : Vec F S16x256 .bf16) (x4 : Vec F S2048x256 .bf16) (x5 : Vec F S16x256 .bf16) (x6 : Vec F S2048x1024 .bf16) (x7 : Vec F S16x1024 .bf16) (x8 : Vec F S256x1024 .bf16) (x9 : Vec F S2048x1024 .bf16) (x10 : Vec F S3x256 .f32) (x11 : Vec F S3x256 .f32)
  {L : Loads F} (hL : (Loads.of i x0 x1 x2 x3 x4 x5 x6 x7 x8 x9 x10 x11) = L)
include hL

/-- The gate half of `du` that the first row block leaves. -/
theorem O12_A :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 = duT L.uG := by
  unfold out0_A_12
  rw [View.read_writes_junk_eq_canon, L12_A (hL := hL)]
  rfl

/-- The value half of `du` that the first row block leaves. -/
theorem O13_A :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 = duT L.uV := by
  unfold out0_A_13
  rw [View.read_writes_junk_eq_canon, L13_A (hL := hL)]
  rfl

/-- The gate half of the taps' gradient that the first row block leaves. -/
theorem O17_A :
    ∀ k : Fin 3, View.ld (out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11) (rR k) = chain8 (fun s => (fW L.cG L.ug) s k) (View.ld k0_pay6 (rR k)) := by
  unfold out0_A_17
  intro k
  rw [View.read_writes_junk_eq_canon, L17_A (hL := hL), ld_canon_wr, rowFold_rows3]
  rw [View.canon_unit_zero z2]

/-- The value half of the taps' gradient that the first row block leaves. -/
theorem O18_A :
    ∀ k : Fin 3, View.ld (out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11) (rR k) = chain8 (fun s => (fW L.cV L.uv) s k) (View.ld k0_pay7 (rR k)) := by
  unfold out0_A_18
  intro k
  rw [View.read_writes_junk_eq_canon, L18_A (hL := hL), ld_canon_wr, rowFold_rows3]
  rw [View.canon_unit_zero z2]

/-- The gate half of the biases' gradient that the first row block leaves. -/
theorem O19_A :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 = chain8 (fB L.cG) k0_pay8 := by
  unfold out0_A_19
  rw [View.read_writes_junk_eq_canon, L19_A (hL := hL), canon_wl _ _ z2, fold_eight]
  rw [View.canon_unit_zero z2]

/-- The value half of the biases' gradient that the first row block leaves. -/
theorem O20_A :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 = chain8 (fB L.cV) k0_pay9 := by
  unfold out0_A_20
  rw [View.read_writes_junk_eq_canon, L20_A (hL := hL), canon_wl _ _ z2, fold_eight]
  rw [View.canon_unit_zero z2]

/-- The up weights' running sum that the first row block leaves. -/
theorem OS0_A :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 = chain8 (fU L) k0_pay10 := by
  unfold sout0_A_0
  rw [View.read_writes_junk_eq_canon, LS0_A (hL := hL), canon_wl _ _ z2, fold_eight]
  rw [View.canon_unit_zero z2]

/-- The down weights' running sum that the first row block leaves. -/
theorem OS1_A :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 = chain8 (fD L) k0_pay11 := by
  unfold sout0_A_1
  rw [View.read_writes_junk_eq_canon, LS1_A (hL := hL), canon_wl _ _ z2, fold_eight]
  rw [View.canon_unit_zero z2]

end A

section B

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S16x256 .bf16) (harg5 : arg5.IsWhole) (arg6 : Memref sig .tc .vmem S2048x256 .bf16) (harg6 : arg6.IsWhole) (arg7 : Memref sig .tc .vmem S16x256 .bf16) (harg7 : arg7.IsWhole) (arg8 : Memref sig .tc .vmem S2048x1024 .bf16) (harg8 : arg8.IsWhole) (arg9 : Memref sig .tc .vmem S16x1024 .bf16) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S3x256 .f32) (harg12 : arg12.IsWhole) (arg13 : Memref sig .tc .vmem S3x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S3x256 .f32) (harg19 : arg19.IsWhole) (arg20 : Memref sig .tc .vmem S3x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S256x1024 .f32) (harg24 : arg24.IsWhole) (hc0 : ¬cond0_0 i) (hc1 : ¬cond0_1 i)
    (x0 : Vec F S2048x256 .bf16) (x1 : Vec F S2048x256 .bf16) (x2 : Vec F S2048x256 .bf16) (x3 : Vec F S16x256 .bf16) (x4 : Vec F S2048x256 .bf16) (x5 : Vec F S16x256 .bf16) (x6 : Vec F S2048x1024 .bf16) (x7 : Vec F S16x1024 .bf16) (x8 : Vec F S256x1024 .bf16) (x9 : Vec F S2048x1024 .bf16) (x10 : Vec F S3x256 .f32) (x11 : Vec F S3x256 .f32) (xo17 : Vec F S3x256 .f32) (xo18 : Vec F S3x256 .f32) (xo19 : Vec F S1x256 .f32) (xo20 : Vec F S1x256 .f32) (xs0 : Vec F S512x1024 .f32) (xs1 : Vec F S256x1024 .f32)
  {L : Loads F} (hL : (Loads.of i x0 x1 x2 x3 x4 x5 x6 x7 x8 x9 x10 x11) = L)
include hL

/-- The gate half of `du` that a middle row block leaves. -/
theorem O12_B :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = duT L.uG := by
  unfold out0_B_12
  rw [View.read_writes_junk_eq_canon, L12_B (hL := hL)]
  rfl

/-- The value half of `du` that a middle row block leaves. -/
theorem O13_B :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = duT L.uV := by
  unfold out0_B_13
  rw [View.read_writes_junk_eq_canon, L13_B (hL := hL)]
  rfl

/-- The gate half of the taps' gradient that a middle row block leaves. -/
theorem O17_B :
    ∀ k : Fin 3, View.ld (out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1) (rR k) = chain8 (fun s => (fW L.cG L.ug) s k) (View.ld xo17 (rR k)) := by
  unfold out0_B_17
  intro k
  rw [View.read_writes_junk_eq_canon, L17_B (hL := hL), ld_canon_wr, rowFold_rows3']

/-- The value half of the taps' gradient that a middle row block leaves. -/
theorem O18_B :
    ∀ k : Fin 3, View.ld (out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1) (rR k) = chain8 (fun s => (fW L.cV L.uv) s k) (View.ld xo18 (rR k)) := by
  unfold out0_B_18
  intro k
  rw [View.read_writes_junk_eq_canon, L18_B (hL := hL), ld_canon_wr, rowFold_rows3']

/-- The gate half of the biases' gradient that a middle row block leaves. -/
theorem O19_B :
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fB L.cG) xo19 := by
  unfold out0_B_19
  rw [View.read_writes_junk_eq_canon, L19_B (hL := hL), canon_wl _ _ z2, fold_eight']

/-- The value half of the biases' gradient that a middle row block leaves. -/
theorem O20_B :
    out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fB L.cV) xo20 := by
  unfold out0_B_20
  rw [View.read_writes_junk_eq_canon, L20_B (hL := hL), canon_wl _ _ z2, fold_eight']

/-- The up weights' running sum that a middle row block leaves. -/
theorem OS0_B :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fU L) xs0 := by
  unfold sout0_B_0
  rw [View.read_writes_junk_eq_canon, LS0_B (hL := hL), canon_wl _ _ z2, fold_eight']

/-- The down weights' running sum that a middle row block leaves. -/
theorem OS1_B :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fD L) xs1 := by
  unfold sout0_B_1
  rw [View.read_writes_junk_eq_canon, LS1_B (hL := hL), canon_wl _ _ z2, fold_eight']

end B

section C

variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S16x256 .bf16) (harg5 : arg5.IsWhole) (arg6 : Memref sig .tc .vmem S2048x256 .bf16) (harg6 : arg6.IsWhole) (arg7 : Memref sig .tc .vmem S16x256 .bf16) (harg7 : arg7.IsWhole) (arg8 : Memref sig .tc .vmem S2048x1024 .bf16) (harg8 : arg8.IsWhole) (arg9 : Memref sig .tc .vmem S16x1024 .bf16) (harg9 : arg9.IsWhole) (arg10 : Memref sig .tc .vmem S256x1024 .bf16) (harg10 : arg10.IsWhole) (arg11 : Memref sig .tc .vmem S2048x1024 .bf16) (harg11 : arg11.IsWhole) (arg12 : Memref sig .tc .vmem S3x256 .f32) (harg12 : arg12.IsWhole) (arg13 : Memref sig .tc .vmem S3x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S3x256 .f32) (harg19 : arg19.IsWhole) (arg20 : Memref sig .tc .vmem S3x256 .f32) (harg20 : arg20.IsWhole) (arg21 : Memref sig .tc .vmem S1x256 .f32) (harg21 : arg21.IsWhole) (arg22 : Memref sig .tc .vmem S1x256 .f32) (harg22 : arg22.IsWhole) (arg23 : Memref sig .tc .vmem S512x1024 .f32) (harg23 : arg23.IsWhole) (arg24 : Memref sig .tc .vmem S256x1024 .f32) (harg24 : arg24.IsWhole) (hc0 : ¬cond0_0 i) (hc1 : cond0_1 i)
    (x0 : Vec F S2048x256 .bf16) (x1 : Vec F S2048x256 .bf16) (x2 : Vec F S2048x256 .bf16) (x3 : Vec F S16x256 .bf16) (x4 : Vec F S2048x256 .bf16) (x5 : Vec F S16x256 .bf16) (x6 : Vec F S2048x1024 .bf16) (x7 : Vec F S16x1024 .bf16) (x8 : Vec F S256x1024 .bf16) (x9 : Vec F S2048x1024 .bf16) (x10 : Vec F S3x256 .f32) (x11 : Vec F S3x256 .f32) (xo17 : Vec F S3x256 .f32) (xo18 : Vec F S3x256 .f32) (xo19 : Vec F S1x256 .f32) (xo20 : Vec F S1x256 .f32) (xs0 : Vec F S512x1024 .f32) (xs1 : Vec F S256x1024 .f32)
  {L : Loads F} (hL : (Loads.of i x0 x1 x2 x3 x4 x5 x6 x7 x8 x9 x10 x11) = L)
include hL

/-- The gate half of `du` that the last row block leaves. -/
theorem O12_C :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = duT L.uG := by
  unfold out0_C_12
  rw [View.read_writes_junk_eq_canon, L12_C (hL := hL)]
  rfl

/-- The value half of `du` that the last row block leaves. -/
theorem O13_C :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = duT L.uV := by
  unfold out0_C_13
  rw [View.read_writes_junk_eq_canon, L13_C (hL := hL)]
  rfl

/-- The gate half of the up weights' gradient that the last row block leaves. -/
theorem O14_C :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = k0_pay3 (View.ld (chain8 (fU L) xs0) (Rect.unit ![0, 0] S256x1024.size inbU0 : Rect S512x1024)) := by
  unfold out0_C_14
  rw [View.read_writes_junk_eq_canon, L14_C (hL := hL), View.canon_unit_zero z2, View.readCov_eq_canon', canon_wl _ _ z2, fold_eight']

/-- The value half of the up weights' gradient that the last row block leaves. -/
theorem O15_C :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = k0_pay4 (View.ld (chain8 (fU L) xs0) (Rect.unit ![256, 0] S256x1024.size inbU1 : Rect S512x1024)) := by
  unfold out0_C_15
  rw [View.read_writes_junk_eq_canon, L15_C (hL := hL), View.canon_unit_zero z2, View.readCov_eq_canon', canon_wl _ _ z2, fold_eight']

/-- The down weights' gradient that the last row block leaves. -/
theorem O16_C :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = k0_pay5 (chain8 (fD L) xs1) := by
  unfold out0_C_16
  rw [View.read_writes_junk_eq_canon, L16_C (hL := hL), View.canon_unit_zero z2, View.readCov_eq_canon', canon_wl _ _ z2, fold_eight']
  exact congrArg k0_pay5 (View.ld_unit_zero z2 _ _)

/-- The gate half of the taps' gradient that the last row block leaves. -/
theorem O17_C :
    ∀ k : Fin 3, View.ld (out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1) (rR k) = chain8 (fun s => (fW L.cG L.ug) s k) (View.ld xo17 (rR k)) := by
  unfold out0_C_17
  intro k
  rw [View.read_writes_junk_eq_canon, L17_C (hL := hL), ld_canon_wr, rowFold_rows3']

/-- The value half of the taps' gradient that the last row block leaves. -/
theorem O18_C :
    ∀ k : Fin 3, View.ld (out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1) (rR k) = chain8 (fun s => (fW L.cV L.uv) s k) (View.ld xo18 (rR k)) := by
  unfold out0_C_18
  intro k
  rw [View.read_writes_junk_eq_canon, L18_C (hL := hL), ld_canon_wr, rowFold_rows3']

/-- The gate half of the biases' gradient that the last row block leaves. -/
theorem O19_C :
    out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fB L.cG) xo19 := by
  unfold out0_C_19
  rw [View.read_writes_junk_eq_canon, L19_C (hL := hL), canon_wl _ _ z2, fold_eight']

/-- The value half of the biases' gradient that the last row block leaves. -/
theorem O20_C :
    out0_C_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fB L.cV) xo20 := by
  unfold out0_C_20
  rw [View.read_writes_junk_eq_canon, L20_C (hL := hL), canon_wl _ _ z2, fold_eight']

/-- The up weights' running sum that the last row block leaves. -/
theorem OS0_C :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fU L) xs0 := by
  unfold sout0_C_0
  rw [View.read_writes_junk_eq_canon, LS0_C (hL := hL), canon_wl _ _ z2, fold_eight']

/-- The down weights' running sum that the last row block leaves. -/
theorem OS1_C :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 xo17 xo18 xo19 xo20 xs0 xs1 = chain8 (fD L) xs1 := by
  unfold sout0_C_1
  rw [View.read_writes_junk_eq_canon, LS1_C (hL := hL), canon_wl _ _ z2, fold_eight']

end C

/-! ## At the points of the grid -/

section Points

variable (m : (ℓ : Loc nD τ sig) → Buf (Elt F) ℓ) (c : Dev nD) (t : Fin cfg0.N)

/-- The loads of point `t`. -/
def pt : Loads F := Loads.of (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The gate half of `du` at a point of the first row block. -/
theorem at12_A (h0 : t.val % 4 = 0) (h1 : ¬t.val % 4 = 3) : (outsAt0 m c t.val t.isLt).1 = duT (pt m c t).uG := by
  rw [outsAt0_A m c t h0 h1]
  dsimp only
  exact O12_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl

/-- The value half of `du` at a point of the first row block. -/
theorem at13_A (h0 : t.val % 4 = 0) (h1 : ¬t.val % 4 = 3) : (outsAt0 m c t.val t.isLt).2.1 = duT (pt m c t).uV := by
  rw [outsAt0_A m c t h0 h1]
  dsimp only
  exact O13_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl

/-- The gate half of the taps' gradient at a point of the first row block. -/
theorem at17_A (h0 : t.val % 4 = 0) (h1 : ¬t.val % 4 = 3) : ∀ k : Fin 3, View.ld (outsAt0 m c t.val t.isLt).2.2.2.2.2.1 (rR k) = chain8 (fun s => (fW (pt m c t).cG (pt m c t).ug) s k) (View.ld k0_pay6 (rR k)) := by
  intro k
  rw [outsAt0_A m c t h0 h1]
  dsimp only
  exact O17_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl k

/-- The value half of the taps' gradient at a point of the first row block. -/
theorem at18_A (h0 : t.val % 4 = 0) (h1 : ¬t.val % 4 = 3) : ∀ k : Fin 3, View.ld (outsAt0 m c t.val t.isLt).2.2.2.2.2.2.1 (rR k) = chain8 (fun s => (fW (pt m c t).cV (pt m c t).uv) s k) (View.ld k0_pay7 (rR k)) := by
  intro k
  rw [outsAt0_A m c t h0 h1]
  dsimp only
  exact O18_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl k

/-- The gate half of the biases' gradient at a point of the first row block. -/
theorem at19_A (h0 : t.val % 4 = 0) (h1 : ¬t.val % 4 = 3) : (outsAt0 m c t.val t.isLt).2.2.2.2.2.2.2.1 = chain8 (fB (pt m c t).cG) k0_pay8 := by
  rw [outsAt0_A m c t h0 h1]
  dsimp only
  exact O19_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl

/-- The value half of the biases' gradient at a point of the first row block. -/
theorem at20_A (h0 : t.val % 4 = 0) (h1 : ¬t.val % 4 = 3) : (outsAt0 m c t.val t.isLt).2.2.2.2.2.2.2.2.1 = chain8 (fB (pt m c t).cV) k0_pay9 := by
  rw [outsAt0_A m c t h0 h1]
  dsimp only
  exact O20_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl

/-- The up weights' running sum at a point of the first row block. -/
theorem atS0_A (h0 : t.val % 4 = 0) (h1 : ¬t.val % 4 = 3) : (outsAt0 m c t.val t.isLt).2.2.2.2.2.2.2.2.2.1 = chain8 (fU (pt m c t)) k0_pay10 := by
  rw [outsAt0_A m c t h0 h1]
  dsimp only
  exact OS0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl

/-- The down weights' running sum at a point of the first row block. -/
theorem atS1_A (h0 : t.val % 4 = 0) (h1 : ¬t.val % 4 = 3) : (outsAt0 m c t.val t.isLt).2.2.2.2.2.2.2.2.2.2 = chain8 (fD (pt m c t)) k0_pay11 := by
  rw [outsAt0_A m c t h0 h1]
  dsimp only
  exact OS1_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) rfl

/-- The gate half of `du` at a point of a middle row block. -/
theorem at12_B (h0 : ¬t.val % 4 = 0) (h1 : ¬t.val % 4 = 3) : (outsAt0 m c t.val t.isLt).1 = duT (pt m c t).uG := by
  rw [outsAt0_B m c t h0 h1]
  generalize outsAt0 m c (t.val - 1) (Nat.lt_of_le_of_lt (Nat.sub_le _ _) t.isLt) = P
  dsimp only
  exact O12_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The value half of `du` at a point of a middle row block. -/
theorem at13_B (h0 : ¬t.val % 4 = 0) (h1 : ¬t.val % 4 = 3) : (outsAt0 m c t.val t.isLt).2.1 = duT (pt m c t).uV := by
  rw [outsAt0_B m c t h0 h1]
  generalize outsAt0 m c (t.val - 1) (Nat.lt_of_le_of_lt (Nat.sub_le _ _) t.isLt) = P
  dsimp only
  exact O13_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The gate half of the taps' gradient at a point of a middle row block. -/
theorem at17_B (h0 : ¬t.val % 4 = 0) (h1 : ¬t.val % 4 = 3) : ∀ k : Fin 3, View.ld (outsAt0 m c t.val t.isLt).2.2.2.2.2.1 (rR k) = chain8 (fun s => (fW (pt m c t).cG (pt m c t).ug) s k) (View.ld (outsAt0 m c (t.val - 1) (Nat.lt_of_le_of_lt (Nat.sub_le _ _) t.isLt)).2.2.2.2.2.1 (rR k)) := by
  intro k
  rw [outsAt0_B m c t h0 h1]
  generalize outsAt0 m c (t.val - 1) (Nat.lt_of_le_of_lt (Nat.sub_le _ _) t.isLt) = P
  dsimp only
  exact O17_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl k

/-- The value half of the taps' gradient at a point of a middle row block. -/
theorem at18_B (h0 : ¬t.val % 4 = 0) (h1 : ¬t.val % 4 = 3) : ∀ k : Fin 3, View.ld (outsAt0 m c t.val t.isLt).2.2.2.2.2.2.1 (rR k) = chain8 (fun s => (fW (pt m c t).cV (pt m c t).uv) s k) (View.ld (outsAt0 m c (t.val - 1) (Nat.lt_of_le_of_lt (Nat.sub_le _ _) t.isLt)).2.2.2.2.2.2.1 (rR k)) := by
  intro k
  rw [outsAt0_B m c t h0 h1]
  generalize outsAt0 m c (t.val - 1) (Nat.lt_of_le_of_lt (Nat.sub_le _ _) t.isLt) = P
  dsimp only
  exact O18_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl k

/-- The gate half of the biases' gradient at a point of a middle row block. -/
theorem at19_B (h0 : ¬t.val % 4 = 0) (h1 : ¬t.val % 4 = 3) : (outsAt0 m c t.val t.isLt).2.2.2.2.2.2.2.1 = chain8 (fB (pt m c t).cG) (outsAt0 m c (t.val - 1) (Nat.lt_of_le_of_lt (Nat.sub_le _ _) t.isLt)).2.2.2.2.2.2.2.1 := by
  rw [outsAt0_B m c t h0 h1]
  generalize outsAt0 m c (t.val - 1) (Nat.lt_of_le_of_lt (Nat.sub_le _ _) t.isLt) = P
  dsimp only
  exact O19_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The value half of the biases' gradient at a point of a middle row block. -/
theorem at20_B (h0 : ¬t.val % 4 = 0) (h1 : ¬t.val % 4 = 3) : (outsAt0 m c t.val t.isLt).2.2.2.2.2.2.2.2.1 = chain8 (fB (pt m c t).cV) (outsAt0 m c (t.val - 1) (Nat.lt_of_le_of_lt (Nat.sub_le _ _) t.isLt)).2.2.2.2.2.2.2.2.1 := by
  rw [outsAt0_B m c t h0 h1]
  generalize outsAt0 m c (t.val - 1) (Nat.lt_of_le_of_lt (Nat.sub_le _ _) t.isLt) = P
  dsimp only
  exact O20_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The up weights' running sum at a point of a middle row block. -/
theorem atS0_B (h0 : ¬t.val % 4 = 0) (h1 : ¬t.val % 4 = 3) : (outsAt0 m c t.val t.isLt).2.2.2.2.2.2.2.2.2.1 = chain8 (fU (pt m c t)) (outsAt0 m c (t.val - 1) (Nat.lt_of_le_of_lt (Nat.sub_le _ _) t.isLt)).2.2.2.2.2.2.2.2.2.1 := by
  rw [outsAt0_B m c t h0 h1]
  generalize outsAt0 m c (t.val - 1) (Nat.lt_of_le_of_lt (Nat.sub_le _ _) t.isLt) = P
  dsimp only
  exact OS0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The down weights' running sum at a point of a middle row block. -/
theorem atS1_B (h0 : ¬t.val % 4 = 0) (h1 : ¬t.val % 4 = 3) : (outsAt0 m c t.val t.isLt).2.2.2.2.2.2.2.2.2.2 = chain8 (fD (pt m c t)) (outsAt0 m c (t.val - 1) (Nat.lt_of_le_of_lt (Nat.sub_le _ _) t.isLt)).2.2.2.2.2.2.2.2.2.2 := by
  rw [outsAt0_B m c t h0 h1]
  generalize outsAt0 m c (t.val - 1) (Nat.lt_of_le_of_lt (Nat.sub_le _ _) t.isLt) = P
  dsimp only
  exact OS1_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The gate half of `du` at a point of the last row block. -/
theorem at12_C (h0 : ¬t.val % 4 = 0) (h1 : t.val % 4 = 3) : (outsAt0 m c t.val t.isLt).1 = duT (pt m c t).uG := by
  rw [outsAt0_C m c t h0 h1]
  generalize outsAt0 m c (t.val - 1) (Nat.lt_of_le_of_lt (Nat.sub_le _ _) t.isLt) = P
  dsimp only
  exact O12_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The value half of `du` at a point of the last row block. -/
theorem at13_C (h0 : ¬t.val % 4 = 0) (h1 : t.val % 4 = 3) : (outsAt0 m c t.val t.isLt).2.1 = duT (pt m c t).uV := by
  rw [outsAt0_C m c t h0 h1]
  generalize outsAt0 m c (t.val - 1) (Nat.lt_of_le_of_lt (Nat.sub_le _ _) t.isLt) = P
  dsimp only
  exact O13_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The gate half of the up weights' gradient at a point of the last row block. -/
theorem at14_C (h0 : ¬t.val % 4 = 0) (h1 : t.val % 4 = 3) : (outsAt0 m c t.val t.isLt).2.2.1 = k0_pay3 (View.ld (chain8 (fU (pt m c t)) (outsAt0 m c (t.val - 1) (Nat.lt_of_le_of_lt (Nat.sub_le _ _) t.isLt)).2.2.2.2.2.2.2.2.2.1) (Rect.unit ![0, 0] S256x1024.size inbU0 : Rect S512x1024)) := by
  rw [outsAt0_C m c t h0 h1]
  generalize outsAt0 m c (t.val - 1) (Nat.lt_of_le_of_lt (Nat.sub_le _ _) t.isLt) = P
  dsimp only
  exact O14_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The value half of the up weights' gradient at a point of the last row block. -/
theorem at15_C (h0 : ¬t.val % 4 = 0) (h1 : t.val % 4 = 3) : (outsAt0 m c t.val t.isLt).2.2.2.1 = k0_pay4 (View.ld (chain8 (fU (pt m c t)) (outsAt0 m c (t.val - 1) (Nat.lt_of_le_of_lt (Nat.sub_le _ _) t.isLt)).2.2.2.2.2.2.2.2.2.1) (Rect.unit ![256, 0] S256x1024.size inbU1 : Rect S512x1024)) := by
  rw [outsAt0_C m c t h0 h1]
  generalize outsAt0 m c (t.val - 1) (Nat.lt_of_le_of_lt (Nat.sub_le _ _) t.isLt) = P
  dsimp only
  exact O15_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The down weights' gradient at a point of the last row block. -/
theorem at16_C (h0 : ¬t.val % 4 = 0) (h1 : t.val % 4 = 3) : (outsAt0 m c t.val t.isLt).2.2.2.2.1 = k0_pay5 (chain8 (fD (pt m c t)) (outsAt0 m c (t.val - 1) (Nat.lt_of_le_of_lt (Nat.sub_le _ _) t.isLt)).2.2.2.2.2.2.2.2.2.2) := by
  rw [outsAt0_C m c t h0 h1]
  generalize outsAt0 m c (t.val - 1) (Nat.lt_of_le_of_lt (Nat.sub_le _ _) t.isLt) = P
  dsimp only
  exact O16_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The gate half of the taps' gradient at a point of the last row block. -/
theorem at17_C (h0 : ¬t.val % 4 = 0) (h1 : t.val % 4 = 3) : ∀ k : Fin 3, View.ld (outsAt0 m c t.val t.isLt).2.2.2.2.2.1 (rR k) = chain8 (fun s => (fW (pt m c t).cG (pt m c t).ug) s k) (View.ld (outsAt0 m c (t.val - 1) (Nat.lt_of_le_of_lt (Nat.sub_le _ _) t.isLt)).2.2.2.2.2.1 (rR k)) := by
  intro k
  rw [outsAt0_C m c t h0 h1]
  generalize outsAt0 m c (t.val - 1) (Nat.lt_of_le_of_lt (Nat.sub_le _ _) t.isLt) = P
  dsimp only
  exact O17_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl k

/-- The value half of the taps' gradient at a point of the last row block. -/
theorem at18_C (h0 : ¬t.val % 4 = 0) (h1 : t.val % 4 = 3) : ∀ k : Fin 3, View.ld (outsAt0 m c t.val t.isLt).2.2.2.2.2.2.1 (rR k) = chain8 (fun s => (fW (pt m c t).cV (pt m c t).uv) s k) (View.ld (outsAt0 m c (t.val - 1) (Nat.lt_of_le_of_lt (Nat.sub_le _ _) t.isLt)).2.2.2.2.2.2.1 (rR k)) := by
  intro k
  rw [outsAt0_C m c t h0 h1]
  generalize outsAt0 m c (t.val - 1) (Nat.lt_of_le_of_lt (Nat.sub_le _ _) t.isLt) = P
  dsimp only
  exact O18_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl k

/-- The gate half of the biases' gradient at a point of the last row block. -/
theorem at19_C (h0 : ¬t.val % 4 = 0) (h1 : t.val % 4 = 3) : (outsAt0 m c t.val t.isLt).2.2.2.2.2.2.2.1 = chain8 (fB (pt m c t).cG) (outsAt0 m c (t.val - 1) (Nat.lt_of_le_of_lt (Nat.sub_le _ _) t.isLt)).2.2.2.2.2.2.2.1 := by
  rw [outsAt0_C m c t h0 h1]
  generalize outsAt0 m c (t.val - 1) (Nat.lt_of_le_of_lt (Nat.sub_le _ _) t.isLt) = P
  dsimp only
  exact O19_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The value half of the biases' gradient at a point of the last row block. -/
theorem at20_C (h0 : ¬t.val % 4 = 0) (h1 : t.val % 4 = 3) : (outsAt0 m c t.val t.isLt).2.2.2.2.2.2.2.2.1 = chain8 (fB (pt m c t).cV) (outsAt0 m c (t.val - 1) (Nat.lt_of_le_of_lt (Nat.sub_le _ _) t.isLt)).2.2.2.2.2.2.2.2.1 := by
  rw [outsAt0_C m c t h0 h1]
  generalize outsAt0 m c (t.val - 1) (Nat.lt_of_le_of_lt (Nat.sub_le _ _) t.isLt) = P
  dsimp only
  exact O20_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The up weights' running sum at a point of the last row block. -/
theorem atS0_C (h0 : ¬t.val % 4 = 0) (h1 : t.val % 4 = 3) : (outsAt0 m c t.val t.isLt).2.2.2.2.2.2.2.2.2.1 = chain8 (fU (pt m c t)) (outsAt0 m c (t.val - 1) (Nat.lt_of_le_of_lt (Nat.sub_le _ _) t.isLt)).2.2.2.2.2.2.2.2.2.1 := by
  rw [outsAt0_C m c t h0 h1]
  generalize outsAt0 m c (t.val - 1) (Nat.lt_of_le_of_lt (Nat.sub_le _ _) t.isLt) = P
  dsimp only
  exact OS0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

/-- The down weights' running sum at a point of the last row block. -/
theorem atS1_C (h0 : ¬t.val % 4 = 0) (h1 : t.val % 4 = 3) : (outsAt0 m c t.val t.isLt).2.2.2.2.2.2.2.2.2.2 = chain8 (fD (pt m c t)) (outsAt0 m c (t.val - 1) (Nat.lt_of_le_of_lt (Nat.sub_le _ _) t.isLt)).2.2.2.2.2.2.2.2.2.2 := by
  rw [outsAt0_C m c t h0 h1]
  generalize outsAt0 m c (t.val - 1) (Nat.lt_of_le_of_lt (Nat.sub_le _ _) t.isLt) = P
  dsimp only
  exact OS1_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) P.2.2.2.2.2.1 P.2.2.2.2.2.2.1 P.2.2.2.2.2.2.2.1 P.2.2.2.2.2.2.2.2.1 P.2.2.2.2.2.2.2.2.2.1 P.2.2.2.2.2.2.2.2.2.2 rfl

end Points

end Cert.KernelIdeal.Tile

end

end
-- ==== Proof.Entry.lean ====
/- THE ARRAYS A GRID POINT READS. The layer's arrays as functions of natural numbers, zero outside; what the host's lines
   leave in the kernel's operands; each window's block at a point as rows and columns of them; and so what the loads of
   point `t` read: rows from `2048 * (t % 4)`, columns from `256 * (t / 4)`. -/
module

public import proofs.«01_k».proof.Proof.Block
public import proofs.«01_k».proof.Proof.Step
public import proofs.«01_k».proof.Proof.Gen.ReferenceIdeal.Read
public import Idealize.ShloMosaic.Lib.Pipeline.ValueKit
public import Idealize.ShloMosaic.Lib.Claim

@[expose] public section

set_option synthInstance.maxSize 4096
set_option maxRecDepth 16384

noncomputable section

namespace Cert.KernelIdeal.Tile

open Cert.KernelIdeal Cert.KernelIdeal.Gen Idealize.ShloMosaic Idealize.ShloMosaic.TcCoe Idealize.SL.Sem
open Cert.ReferenceIdeal.Read (val_main_v0 val_main_v27)

/-- An array of two axes read at natural numbers, zero outside. -/
def nat2 {a b : ℕ} (x : (⟨2, ![a, b]⟩ : Shape).Idx → EReal) (i j : ℕ) : EReal :=
  if h : i < a ∧ j < b then x (ix2 ⟨i, h.1⟩ ⟨j, h.2⟩) else 0

theorem nat2_of {a b : ℕ} (x : (⟨2, ![a, b]⟩ : Shape).Idx → EReal) (i j : ℕ) (hi : i < a) (hj : j < b) :
    nat2 x i j = x (ix2 ⟨i, hi⟩ ⟨j, hj⟩) := dif_pos ⟨hi, hj⟩

/-- The layer's arrays from the program's arguments. -/
def inp (a0 : FVec Ideal S8192x1024 .f32) (a1 : FVec Ideal S1024x5632 .f32) (a2 : FVec Ideal S3x5632 .f32) (a3 : FVec Ideal S1x5632 .f32)
    (a4 : FVec Ideal S2816x1024 .f32) (a5 : FVec Ideal S8192x1024 .f32) : Spec.Inp where
  u := nat2 (a := 8192) (b := 5632) (val_main_v0 (F := Ideal) a0 a1)
  c := nat2 (a := 8192) (b := 5632) (val_main_v27 (F := Ideal) a0 a1 a2 a3)
  df := nat2 a5
  wd := nat2 a4
  h := nat2 a0
  w := nat2 a2

/-! ## What the host's lines leave in the operands -/

section Host

variable (m : (ℓ : Loc nD τ sig) → Buf (Elt Ideal) ℓ) (c : Dev nD)

/-- The arrays of the arguments on device `c`. -/
abbrev X0 : FVec Ideal S8192x1024 .f32 := m ((c : Thread nD τ).loc main_arg0)
abbrev X1 : FVec Ideal S1024x5632 .f32 := m ((c : Thread nD τ).loc main_arg1)
abbrev X2 : FVec Ideal S3x5632 .f32 := m ((c : Thread nD τ).loc main_arg2)
abbrev X3 : FVec Ideal S1x5632 .f32 := m ((c : Thread nD τ).loc main_arg3)
abbrev X4 : FVec Ideal S2816x1024 .f32 := m ((c : Thread nD τ).loc main_arg4)
abbrev X5 : FVec Ideal S8192x1024 .f32 := m ((c : Thread nD τ).loc main_arg5)
def X : Spec.Inp := inp (X0 m c) (X1 m c) (X2 m c) (X3 m c) (X4 m c) (X5 m c)

theorem V29 : (V m c main_v29 : FVec Ideal S8192x2816 .bf16) = extractStridedSlice S8192x2816 ![0, 0]
    (truncf (F := Ideal) .bf16 (val_main_v0 (F := Ideal) (X0 m c) (X1 m c) : FVec Ideal S8192x5632 .f32) bitsLt_bf16_f32) slices_S8192x5632_S8192x2816_0_0 := by
  entry_read
  rfl
theorem V30 : (V m c main_v30 : FVec Ideal S8192x2816 .bf16) = extractStridedSlice S8192x2816 ![0, 2816]
    (truncf (F := Ideal) .bf16 (val_main_v0 (F := Ideal) (X0 m c) (X1 m c) : FVec Ideal S8192x5632 .f32) bitsLt_bf16_f32) slices_S8192x5632_S8192x2816_0_2816 := by
  entry_read
  rfl
theorem V31 : (V m c main_v31 : FVec Ideal S8192x2816 .bf16) = extractStridedSlice S8192x2816 ![0, 0]
    (truncf (F := Ideal) .bf16 (val_main_v27 (F := Ideal) (X0 m c) (X1 m c) (X2 m c) (X3 m c) : FVec Ideal S8192x5632 .f32) bitsLt_bf16_f32) slices_S8192x5632_S8192x2816_0_0 := by
  entry_read
  rfl
theorem V32 : (V m c main_v32 : FVec Ideal S8192x2816 .bf16) = extractStridedSlice S8192x2816 ![0, 2816]
    (truncf (F := Ideal) .bf16 (val_main_v27 (F := Ideal) (X0 m c) (X1 m c) (X2 m c) (X3 m c) : FVec Ideal S8192x5632 .f32) bitsLt_bf16_f32) slices_S8192x5632_S8192x2816_0_2816 := by
  entry_read
  rfl
theorem V33 : (V m c main_v33 : FVec Ideal S8192x1024 .bf16) = truncf (F := Ideal) .bf16 (X5 m c) bitsLt_bf16_f32 := by
  entry_read
  rfl
theorem V34 : (V m c main_v34 : FVec Ideal S2816x1024 .bf16) = truncf (F := Ideal) .bf16 (X4 m c) bitsLt_bf16_f32 := by
  entry_read
  rfl
theorem V35 : (V m c main_v35 : FVec Ideal S8192x1024 .bf16) = truncf (F := Ideal) .bf16 (X0 m c) bitsLt_bf16_f32 := by
  entry_read
  rfl

/-! ## The windows' blocks -/

/-- The windows' block indices at every point. -/
theorem idx : ∀ t : Fin cfg0.N, win0_0.index t = ![t.val % 4, t.val / 4] ∧ win0_1.index t = ![t.val % 4, t.val / 4]
    ∧ win0_2.index t = ![t.val % 4, t.val / 4] ∧ win0_3.index t = ![min ((t.val % 4 + 1) * 128) 511, t.val / 4]
    ∧ win0_4.index t = ![t.val % 4, t.val / 4] ∧ win0_5.index t = ![min ((t.val % 4 + 1) * 128) 511, t.val / 4]
    ∧ win0_6.index t = ![t.val % 4, 0] ∧ win0_7.index t = ![min ((t.val % 4 + 1) * 128) 511, 0]
    ∧ win0_8.index t = ![t.val / 4, 0] ∧ win0_9.index t = ![t.val % 4, 0] ∧ win0_10.index t = ![0, t.val / 4]
    ∧ win0_11.index t = ![0, 11 + t.val / 4] :=
  (by decide +kernel : ∀ t : Fin grid0.N, _)

theorem coord1 : ∀ t : Fin cfg0.N, (grid0.coords t 1).val = t.val % 4 ∧ t.val / 4 < 11 := (by decide +kernel : ∀ t : Fin grid0.N, _)

variable (t : Fin cfg0.N)

theorem b0 (r : Fin 2048) (q : Fin 256) :
    (iblk m c 0 t : Vec Ideal S2048x256 .bf16) (ix2 r q) = (X m c).u (2048 * (t.val % 4) + r.val) (256 * (t.val / 4) + q.val) := by
  have h4 := (coord1 t).2
  have hm : t.val % 4 < 4 := Nat.mod_lt _ (by decide)
  have e : (iblk m c 0 t : Vec Ideal S2048x256 .bf16) (ix2 r q) = V m c main_v29 (ix2 ⟨2048 * (t.val % 4) + r.val, by omega⟩ ⟨256 * (t.val / 4) + q.val, by omega⟩) := by
    blk_ext [iblk, idx t]
  refine e.trans ?_
  rw [V29]
  pointwise
  refine Eq.trans ?_ (nat2_of (val_main_v0 (F := Ideal) (X0 m c) (X1 m c) : FVec Ideal S8192x5632 .f32) (2048 * (t.val % 4) + r.val) (256 * (t.val / 4) + q.val) (by omega) (by omega)).symm
  blk_ext
theorem b1 (r : Fin 2048) (q : Fin 256) :
    (iblk m c 1 t : Vec Ideal S2048x256 .bf16) (ix2 r q) = (X m c).u (2048 * (t.val % 4) + r.val) (2816 + (256 * (t.val / 4) + q.val)) := by
  have h4 := (coord1 t).2
  have hm : t.val % 4 < 4 := Nat.mod_lt _ (by decide)
  have e : (iblk m c 1 t : Vec Ideal S2048x256 .bf16) (ix2 r q) = V m c main_v30 (ix2 ⟨2048 * (t.val % 4) + r.val, by omega⟩ ⟨256 * (t.val / 4) + q.val, by omega⟩) := by
    blk_ext [iblk, idx t]
  refine e.trans ?_
  rw [V30]
  pointwise
  refine Eq.trans ?_ (nat2_of (val_main_v0 (F := Ideal) (X0 m c) (X1 m c) : FVec Ideal S8192x5632 .f32) (2048 * (t.val % 4) + r.val) (2816 + (256 * (t.val / 4) + q.val)) (by omega) (by omega)).symm
  blk_ext
theorem b2 (r : Fin 2048) (q : Fin 256) :
    (iblk m c 2 t : Vec Ideal S2048x256 .bf16) (ix2 r q) = (X m c).c (2048 * (t.val % 4) + r.val) (256 * (t.val / 4) + q.val) := by
  have h4 := (coord1 t).2
  have hm : t.val % 4 < 4 := Nat.mod_lt _ (by decide)
  have e : (iblk m c 2 t : Vec Ideal S2048x256 .bf16) (ix2 r q) = V m c main_v31 (ix2 ⟨2048 * (t.val % 4) + r.val, by omega⟩ ⟨256 * (t.val / 4) + q.val, by omega⟩) := by
    blk_ext [iblk, idx t]
  refine e.trans ?_
  rw [V31]
  pointwise
  refine Eq.trans ?_ (nat2_of (val_main_v27 (F := Ideal) (X0 m c) (X1 m c) (X2 m c) (X3 m c) : FVec Ideal S8192x5632 .f32) (2048 * (t.val % 4) + r.val) (256 * (t.val / 4) + q.val) (by omega) (by omega)).symm
  blk_ext
theorem b3 (r : Fin 16) (q : Fin 256) (hr : 2048 * (t.val % 4) + 2048 + r.val < 8192) :
    (iblk m c 3 t : Vec Ideal S16x256 .bf16) (ix2 r q) = (X m c).c (2048 * (t.val % 4) + 2048 + r.val) (256 * (t.val / 4) + q.val) := by
  have h4 := (coord1 t).2
  have hm : t.val % 4 < 4 := Nat.mod_lt _ (by decide)
  have e : (iblk m c 3 t : Vec Ideal S16x256 .bf16) (ix2 r q) = V m c main_v31 (ix2 ⟨2048 * (t.val % 4) + 2048 + r.val, by omega⟩ ⟨256 * (t.val / 4) + q.val, by omega⟩) := by
    blk_ext [iblk, idx t]
  refine e.trans ?_
  rw [V31]
  pointwise
  refine Eq.trans ?_ (nat2_of (val_main_v27 (F := Ideal) (X0 m c) (X1 m c) (X2 m c) (X3 m c) : FVec Ideal S8192x5632 .f32) (2048 * (t.val % 4) + 2048 + r.val) (256 * (t.val / 4) + q.val) (by omega) (by omega)).symm
  blk_ext
theorem b4 (r : Fin 2048) (q : Fin 256) :
    (iblk m c 4 t : Vec Ideal S2048x256 .bf16) (ix2 r q) = (X m c).c (2048 * (t.val % 4) + r.val) (2816 + (256 * (t.val / 4) + q.val)) := by
  have h4 := (coord1 t).2
  have hm : t.val % 4 < 4 := Nat.mod_lt _ (by decide)
  have e : (iblk m c 4 t : Vec Ideal S2048x256 .bf16) (ix2 r q) = V m c main_v32 (ix2 ⟨2048 * (t.val % 4) + r.val, by omega⟩ ⟨256 * (t.val / 4) + q.val, by omega⟩) := by
    blk_ext [iblk, idx t]
  refine e.trans ?_
  rw [V32]
  pointwise
  refine Eq.trans ?_ (nat2_of (val_main_v27 (F := Ideal) (X0 m c) (X1 m c) (X2 m c) (X3 m c) : FVec Ideal S8192x5632 .f32) (2048 * (t.val % 4) + r.val) (2816 + (256 * (t.val / 4) + q.val)) (by omega) (by omega)).symm
  blk_ext
theorem b5 (r : Fin 16) (q : Fin 256) (hr : 2048 * (t.val % 4) + 2048 + r.val < 8192) :
    (iblk m c 5 t : Vec Ideal S16x256 .bf16) (ix2 r q) = (X m c).c (2048 * (t.val % 4) + 2048 + r.val) (2816 + (256 * (t.val / 4) + q.val)) := by
  have h4 := (coord1 t).2
  have hm : t.val % 4 < 4 := Nat.mod_lt _ (by decide)
  have e : (iblk m c 5 t : Vec Ideal S16x256 .bf16) (ix2 r q) = V m c main_v32 (ix2 ⟨2048 * (t.val % 4) + 2048 + r.val, by omega⟩ ⟨256 * (t.val / 4) + q.val, by omega⟩) := by
    blk_ext [iblk, idx t]
  refine e.trans ?_
  rw [V32]
  pointwise
  refine Eq.trans ?_ (nat2_of (val_main_v27 (F := Ideal) (X0 m c) (X1 m c) (X2 m c) (X3 m c) : FVec Ideal S8192x5632 .f32) (2048 * (t.val % 4) + 2048 + r.val) (2816 + (256 * (t.val / 4) + q.val)) (by omega) (by omega)).symm
  blk_ext
theorem b6 (r : Fin 2048) (q : Fin 1024) :
    (iblk m c 6 t : Vec Ideal S2048x1024 .bf16) (ix2 r q) = (X m c).df (2048 * (t.val % 4) + r.val) (q.val) := by
  have h4 := (coord1 t).2
  have hm : t.val % 4 < 4 := Nat.mod_lt _ (by decide)
  have e : (iblk m c 6 t : Vec Ideal S2048x1024 .bf16) (ix2 r q) = V m c main_v33 (ix2 ⟨2048 * (t.val % 4) + r.val, by omega⟩ ⟨q.val, by omega⟩) := by
    blk_ext [iblk, idx t]
  refine e.trans ?_
  rw [V33]
  pointwise
  refine Eq.trans ?_ (nat2_of (X5 m c) (2048 * (t.val % 4) + r.val) (q.val) (by omega) (by omega)).symm
  blk_ext
theorem b7 (r : Fin 16) (q : Fin 1024) (hr : 2048 * (t.val % 4) + 2048 + r.val < 8192) :
    (iblk m c 7 t : Vec Ideal S16x1024 .bf16) (ix2 r q) = (X m c).df (2048 * (t.val % 4) + 2048 + r.val) (q.val) := by
  have h4 := (coord1 t).2
  have hm : t.val % 4 < 4 := Nat.mod_lt _ (by decide)
  have e : (iblk m c 7 t : Vec Ideal S16x1024 .bf16) (ix2 r q) = V m c main_v33 (ix2 ⟨2048 * (t.val % 4) + 2048 + r.val, by omega⟩ ⟨q.val, by omega⟩) := by
    blk_ext [iblk, idx t]
  refine e.trans ?_
  rw [V33]
  pointwise
  refine Eq.trans ?_ (nat2_of (X5 m c) (2048 * (t.val % 4) + 2048 + r.val) (q.val) (by omega) (by omega)).symm
  blk_ext
theorem b8 (r : Fin 256) (q : Fin 1024) :
    (iblk m c 8 t : Vec Ideal S256x1024 .bf16) (ix2 r q) = (X m c).wd (256 * (t.val / 4) + r.val) (q.val) := by
  have h4 := (coord1 t).2
  have hm : t.val % 4 < 4 := Nat.mod_lt _ (by decide)
  have e : (iblk m c 8 t : Vec Ideal S256x1024 .bf16) (ix2 r q) = V m c main_v34 (ix2 ⟨256 * (t.val / 4) + r.val, by omega⟩ ⟨q.val, by omega⟩) := by
    blk_ext [iblk, idx t]
  refine e.trans ?_
  rw [V34]
  pointwise
  refine Eq.trans ?_ (nat2_of (X4 m c) (256 * (t.val / 4) + r.val) (q.val) (by omega) (by omega)).symm
  blk_ext
theorem b9 (r : Fin 2048) (q : Fin 1024) :
    (iblk m c 9 t : Vec Ideal S2048x1024 .bf16) (ix2 r q) = (X m c).h (2048 * (t.val % 4) + r.val) (q.val) := by
  have h4 := (coord1 t).2
  have hm : t.val % 4 < 4 := Nat.mod_lt _ (by decide)
  have e : (iblk m c 9 t : Vec Ideal S2048x1024 .bf16) (ix2 r q) = V m c main_v35 (ix2 ⟨2048 * (t.val % 4) + r.val, by omega⟩ ⟨q.val, by omega⟩) := by
    blk_ext [iblk, idx t]
  refine e.trans ?_
  rw [V35]
  pointwise
  refine Eq.trans ?_ (nat2_of (X0 m c) (2048 * (t.val % 4) + r.val) (q.val) (by omega) (by omega)).symm
  blk_ext
theorem b10 (r : Fin 3) (q : Fin 256) :
    (iblk m c 10 t : Vec Ideal S3x256 .f32) (ix2 r q) = (X m c).w (r.val) (256 * (t.val / 4) + q.val) := by
  have h4 := (coord1 t).2
  have hm : t.val % 4 < 4 := Nat.mod_lt _ (by decide)
  have e : (iblk m c 10 t : Vec Ideal S3x256 .f32) (ix2 r q) = V m c main_arg2 (ix2 ⟨r.val, by omega⟩ ⟨256 * (t.val / 4) + q.val, by omega⟩) := by
    blk_ext [iblk, idx t]
  refine e.trans ?_
  rw [V_main_arg2]
  refine Eq.trans ?_ (nat2_of (X2 m c) (r.val) (256 * (t.val / 4) + q.val) (by omega) (by omega)).symm
  blk_ext
theorem b11 (r : Fin 3) (q : Fin 256) :
    (iblk m c 11 t : Vec Ideal S3x256 .f32) (ix2 r q) = (X m c).w (r.val) (2816 + (256 * (t.val / 4) + q.val)) := by
  have h4 := (coord1 t).2
  have hm : t.val % 4 < 4 := Nat.mod_lt _ (by decide)
  have e : (iblk m c 11 t : Vec Ideal S3x256 .f32) (ix2 r q) = V m c main_arg2 (ix2 ⟨r.val, by omega⟩ ⟨2816 + (256 * (t.val / 4) + q.val), by omega⟩) := by
    blk_ext [iblk, idx t]
  refine e.trans ?_
  rw [V_main_arg2]
  refine Eq.trans ?_ (nat2_of (X2 m c) (r.val) (2816 + (256 * (t.val / 4) + q.val)) (by omega) (by omega)).symm
  blk_ext

end Host

end Cert.KernelIdeal.Tile

end

end
-- ==== Proof.Loaded.lean ====
/- WHAT POINT `t` LOADS, block by block, as rows and columns of the layer's arrays; and eight blocks' terms as the sum over
   2048 rows. -/
module

public import proofs.«01_k».proof.Proof.Entry

@[expose] public section

set_option synthInstance.maxSize 4096
set_option maxRecDepth 16384

noncomputable section

namespace Cert.KernelIdeal.Tile

open Cert.KernelIdeal Cert.KernelIdeal.Gen Idealize.ShloMosaic Idealize.ShloMosaic.TcCoe Idealize.SL.Sem

/-- A block of whole rows read at an index. -/
theorem ld2 {A B a : ℕ} {e : EltTy} (x : Vec Ideal ⟨2, ![A, B]⟩ e) (o : ℕ)
    (inb : ∀ i, (![o, 0] : Fin 2 → ℕ) i + (![a, B] : Fin 2 → ℕ) i ≤ (⟨2, ![A, B]⟩ : Shape).size i) (r : Fin a) (q : Fin B) (h : o + r.val < A) :
    View.ld (Val := Elt Ideal) x (Rect.unit ![o, 0] ![a, B] inb : Rect ⟨2, ![A, B]⟩) (ix2 r q) = x (ix2 ⟨o + r.val, h⟩ q) :=
  congrArg x (funext fun i => Fin.ext (by
    match i with
    | ⟨0, _⟩ => show o + 1 * r.val = o + r.val; omega
    | ⟨1, _⟩ => show 0 + 1 * q.val = q.val; omega))

theorem select_lt (k : ℕ) (hk : k < 3) {α : Type} (x y : α) :
    Scalar.select (Scalar.cmpi .slt (BitVec.ofNat 32 k) 3#32) x y = x := by
  match k, hk with
  | 0, _ => rfl
  | 1, _ => rfl
  | 2, _ => rfl
theorem select_3 {α : Type} (x y : α) : Scalar.select (Scalar.cmpi .slt (BitVec.ofNat 32 3) 3#32) x y = y := rfl

/-- The next rows of the cotangent: those the window holds, zero after the last tile. -/
theorem tail_at (i : grid0.Coords) (x : Vec Ideal S16x1024 .bf16) (r : Fin 16) (q : Fin 1024) :
    tail (F := Ideal) i x (ix2 r q) = if (i 1).val < 3 then x (ix2 r q) else 0 := by
  have h4 : (i 1).val < 4 := (i 1).isLt
  have e : tail (F := Ideal) i x (ix2 r q) = Scalar.select (Scalar.cmpi .slt (BitVec.ofNat 32 (i 1).val) 3#32) (x (ix2 r q)) (0 : EReal) := by
    pointwise [tail]
  rw [e]
  by_cases h : (i 1).val < 3
  · rw [if_pos h, select_lt _ h]
  · rw [if_neg h, show (i 1).val = 3 by omega, select_3]

theorem df_zero (m : (ℓ : Loc nD τ sig) → Buf (Elt Ideal) ℓ) (c : Dev nD) (t e : ℕ) (h : 8192 ≤ t) : (X m c).df t e = 0 :=
  dif_neg fun hh => by omega

variable (m : (ℓ : Loc nD τ sig) → Buf (Elt Ideal) ℓ) (c : Dev nD) (t : Fin cfg0.N)

set_option maxHeartbeats 1000000 in
/-- Point `t` loads rows from `2048 * (t % 4)` and columns from `256 * (t / 4)`. -/
theorem reads : Reads (X m c) (pt m c t) (2048 * (t.val % 4)) (256 * (t.val / 4)) where
  ug s r q := (ld2 (A := 2048) (B := 256) (a := 256) (iblk m c 0 t) (256 * s.val) (inbT s) r q (by omega)).trans
    ((b0 m c t ⟨256 * s.val + r.val, by omega⟩ q).trans (congrArg ((X m c).u · _) (Nat.add_assoc _ _ _).symm))
  uv s r q := (ld2 (A := 2048) (B := 256) (a := 256) (iblk m c 1 t) (256 * s.val) (inbT s) r q (by omega)).trans
    ((b1 m c t ⟨256 * s.val + r.val, by omega⟩ q).trans (congrArg ((X m c).u · _) (Nat.add_assoc _ _ _).symm))
  g s r q := (ld2 (A := 2048) (B := 256) (a := 256) (iblk m c 2 t) (256 * s.val) (inbT s) r q (by omega)).trans
    ((b2 m c t ⟨256 * s.val + r.val, by omega⟩ q).trans (congrArg ((X m c).c · _) (Nat.add_assoc _ _ _).symm))
  v s r q := (ld2 (A := 2048) (B := 256) (a := 256) (iblk m c 4 t) (256 * s.val) (inbT s) r q (by omega)).trans
    ((b4 m c t ⟨256 * s.val + r.val, by omega⟩ q).trans (congrArg ((X m c).c · _) (Nat.add_assoc _ _ _).symm))
  d s r q := (ld2 (A := 2048) (B := 1024) (a := 256) (iblk m c 6 t) (256 * s.val) (inbW s) r q (by omega)).trans
    ((b6 m c t ⟨256 * s.val + r.val, by omega⟩ q).trans (congrArg ((X m c).df · _) (Nat.add_assoc _ _ _).symm))
  h s r q := (ld2 (A := 2048) (B := 1024) (a := 256) (iblk m c 9 t) (256 * s.val) (inbW s) r q (by omega)).trans
    ((b9 m c t ⟨256 * s.val + r.val, by omega⟩ q).trans (congrArg ((X m c).h · _) (Nat.add_assoc _ _ _).symm))
  wd q e := b8 m c t q e
  wg k q := b10 m c t k q
  wv k q := b11 m c t k q
  gn s r q hlt := by
    by_cases hs : s.val < 7
    · refine (congrFun (dif_pos hs) (ix2 r q)).trans ((ld2 (A := 2048) (B := 256) (a := 16) (iblk m c 2 t) (256 * (s.val + 1)) (inbTn s hs) r q (by omega)).trans
        ((b2 m c t ⟨256 * (s.val + 1) + r.val, by omega⟩ q).trans (congrArg ((X m c).c · _) ?_)))
      show 2048 * (t.val % 4) + (256 * (s.val + 1) + r.val) = _; omega
    · refine (congrFun (dif_neg hs) (ix2 r q)).trans ((b3 m c t r q (by omega)).trans (congrArg ((X m c).c · _) ?_))
      omega
  vn s r q hlt := by
    by_cases hs : s.val < 7
    · refine (congrFun (dif_pos hs) (ix2 r q)).trans ((ld2 (A := 2048) (B := 256) (a := 16) (iblk m c 4 t) (256 * (s.val + 1)) (inbTn s hs) r q (by omega)).trans
        ((b4 m c t ⟨256 * (s.val + 1) + r.val, by omega⟩ q).trans (congrArg ((X m c).c · _) ?_)))
      show 2048 * (t.val % 4) + (256 * (s.val + 1) + r.val) = _; omega
    · refine (congrFun (dif_neg hs) (ix2 r q)).trans ((b5 m c t r q (by omega)).trans (congrArg ((X m c).c · _) ?_))
      omega
  dn s r q := by
    by_cases hs : s.val < 7
    · refine (congrFun (dif_pos hs) (ix2 r q)).trans ((congrFun (shapeCast_self _ _) (ix2 r q)).trans
        ((ld2 (A := 2048) (B := 1024) (a := 16) (iblk m c 6 t) (256 * (s.val + 1)) (inbWn s hs) r q (by omega)).trans
        ((b6 m c t ⟨256 * (s.val + 1) + r.val, by omega⟩ q).trans (congrArg ((X m c).df · _) ?_))))
      show 2048 * (t.val % 4) + (256 * (s.val + 1) + r.val) = _; omega
    · refine (congrFun (dif_neg hs) (ix2 r q)).trans ((tail_at _ _ r q).trans ?_)
      rw [(coord1 t).1]
      by_cases h3 : t.val % 4 < 3
      · rw [if_pos h3]
        refine (b7 m c t r q (by omega)).trans (congrArg ((X m c).df · _) ?_)
        omega
      · rw [if_neg h3]
        exact (df_zero m c _ _ (by omega)).symm
  z := df_zero m c

/-! ## Eight blocks' terms are 2048 rows' -/

theorem sum_256 (g : ℕ → EReal) (n : ℕ) : (∑ k ∈ Finset.range n, g k) + ∑ k : Fin 256, g (n + k.val) = ∑ k ∈ Finset.range (n + 256), g k := by
  rw [Finset.sum_range_add, Finset.sum_range (fun k => g (n + k))]

theorem chain8_sum {ι : Type} (f : Fin 8 → (ι → EReal) → (ι → EReal)) (g : ℕ → EReal) (n : ℕ) (i : ι) (a : ι → EReal)
    (hf : ∀ s a, f s a i = a i + ∑ k : Fin 256, g (n + 256 * s.val + k.val)) (ha : a i = ∑ k ∈ Finset.range n, g k) :
    chain8 f a i = ∑ k ∈ Finset.range (n + 2048), g k := by
  unfold chain8
  have step : ∀ (s : Fin 8) (b : ι → EReal), b i = ∑ k ∈ Finset.range (n + 256 * s.val), g k →
      f s b i = ∑ k ∈ Finset.range (n + 256 * (s.val + 1)), g k := fun s b hb => by
    rw [hf, hb, sum_256]; rfl
  exact step 7 _ (step 6 _ (step 5 _ (step 4 _ (step 3 _ (step 2 _ (step 1 _ (step 0 a ha)))))))

end Cert.KernelIdeal.Tile

end

end
-- ==== Proof.Sums.lean ====
/- THE KERNEL'S RESULTS AT THE REAL NUMBERS. The four points of a column block run over the sequence in tiles of 2048
   rows; each running sum is the sum over the rows so far, and what the last point leaves is the sum over all 8192. -/
module

public import proofs.«01_k».proof.Proof.Loaded
public import proofs.«01_k».proof.Proof.Arrays

@[expose] public section

set_option synthInstance.maxSize 4096
set_option maxRecDepth 16384

noncomputable section

namespace Cert.KernelIdeal.Tile

open Cert.KernelIdeal Cert.KernelIdeal.Gen Idealize.ShloMosaic Idealize.ShloMosaic.TcCoe Idealize.SL.Sem

/-- The eight blocks of `du` at an index. -/
theorem duT_at (p : Fin 8 → FVec Ideal S256x256 .bf16) (g : ℕ → ℕ → EReal) (hp : ∀ (s : Fin 8) (r q : Fin 256), p s (ix2 r q) = g (256 * s.val + r.val) q.val)
    (r : Fin 2048) (q : Fin 256) : duT (F := Ideal) p (ix2 r q) = g r.val q.val := by
  have piece : ∀ (s : Fin 8) (x : (rT s).shape.Idx), (p s x : EReal) = (fun y : S2048x256.Idx => g (y 0).val (y 1).val) ((rT s).emb x) := fun s x => by
    obtain ⟨a, b, rfl⟩ : ∃ a b, x = ix2 (n0 := 256) (n1 := 256) a b := ⟨x 0, x 1, funext fun i => by match i with | ⟨0, _⟩ => rfl | ⟨1, _⟩ => rfl⟩
    refine (hp s a b).trans ?_
    show g (256 * s.val + a.val) b.val = g (256 * s.val + 1 * a.val) (0 + 1 * b.val)
    rw [Nat.one_mul, Nat.one_mul, Nat.zero_add]
  refine View.canon_apply_of_pieces (Val := Elt Ideal) (e := .bf16) (fun y : S2048x256.Idx => g (y 0).val (y 1).val) (duL p) ?_ (ix2 r q) ?_
  · intro pc hpc
    simp only [duL, List.mem_cons, List.not_mem_nil, or_false] at hpc
    rcases hpc with h | h | h | h | h | h | h | h <;> subst h <;> exact piece _
  · have hr := r.isLt
    have mem : ∀ s : Fin 8, r.val / 256 = s.val → (ix2 r q : S2048x256.Idx) ∈ (rT s).set := fun s hs =>
      (rT s).mem_set.mpr fun a => match a with
        | ⟨0, _⟩ => ⟨r.val - 256 * s.val, by show r.val - 256 * s.val < 256; omega, by show r.val = 256 * s.val + 1 * (r.val - 256 * s.val); omega⟩
        | ⟨1, _⟩ => ⟨q.val, q.isLt, by show q.val = 0 + 1 * q.val; omega⟩
    have h8 : r.val / 256 < 8 := by omega
    refine ⟨⟨rT ⟨r.val / 256, h8⟩, p ⟨r.val / 256, h8⟩⟩, ?_, mem _ rfl⟩
    generalize (⟨r.val / 256, h8⟩ : Fin 8) = s
    match s with
    | 0 => simp [duL]
    | 1 => simp [duL]
    | 2 => simp [duL]
    | 3 => simp [duL]
    | 4 => simp [duL]
    | 5 => simp [duL]
    | 6 => simp [duL]
    | 7 => simp [duL]

/-- A running sum over four points: started at each first one, continued at the others. -/
theorem acc4 (N : ℕ) (v : ∀ n, n < N → EReal) (g : ℕ → ℕ → EReal)
    (hA : ∀ n h, n % 4 = 0 → v n h = ∑ k ∈ Finset.range (2048 * (n % 4) + 2048), g (n / 4) k)
    (hB : ∀ n h, ¬n % 4 = 0 → v (n - 1) (Nat.lt_of_le_of_lt (Nat.sub_le _ _) h) = ∑ k ∈ Finset.range (2048 * (n % 4)), g (n / 4) k →
      v n h = ∑ k ∈ Finset.range (2048 * (n % 4) + 2048), g (n / 4) k) :
    ∀ n h, v n h = ∑ k ∈ Finset.range (2048 * (n % 4) + 2048), g (n / 4) k := by
  intro n
  induction n with
  | zero => intro h; exact hA 0 h rfl
  | succ n ih =>
    intro h
    by_cases h0 : (n + 1) % 4 = 0
    · exact hA _ h h0
    · refine hB _ h h0 ((ih _).trans ?_)
      rw [show (n + 1) / 4 = n / 4 by omega, show 2048 * (n % 4) + 2048 = 2048 * ((n + 1) % 4) by omega]

section Kernel

variable (m : (ℓ : Loc nD τ sig) → Buf (Elt Ideal) ℓ) (c : Dev nD)

theorem pay_zero {S : Shape} (x : S.Idx → EReal) (hx : ∀ i, x i = 0) (i : S.Idx) (g : ℕ → EReal) (n : ℕ) (hn : n % 4 = 0) :
    x i = ∑ k ∈ Finset.range (2048 * (n % 4)), g k := by
  rw [hn, hx]; rfl

theorem z17 (i : S3x256.Idx) : (k0_pay6 (F := Ideal) i : EReal) = 0 := by
  rw [eq_ix2 i]
  pointwise [k0_pay6]
theorem z18 (i : S3x256.Idx) : (k0_pay7 (F := Ideal) i : EReal) = 0 := by
  rw [eq_ix2 i]
  pointwise [k0_pay7]
theorem z19 (i : S1x256.Idx) : (k0_pay8 (F := Ideal) i : EReal) = 0 := by
  rw [eq_ix2 i]
  pointwise [k0_pay8]
theorem z20 (i : S1x256.Idx) : (k0_pay9 (F := Ideal) i : EReal) = 0 := by
  rw [eq_ix2 i]
  pointwise [k0_pay9]
theorem zS0 (i : S512x1024.Idx) : (k0_pay10 (F := Ideal) i : EReal) = 0 := by
  rw [eq_ix2 i]
  pointwise [k0_pay10]
theorem zS1 (i : S256x1024.Idx) : (k0_pay11 (F := Ideal) i : EReal) = 0 := by
  rw [eq_ix2 i]
  pointwise [k0_pay11]
theorem zr17 (k : Fin 3) (q : Fin 256) (g : ℕ → EReal) (n : ℕ) (hn : n % 4 = 0) :
    (k0_pay6 (F := Ideal) ((rR k).idx (ix2 0 q)) : EReal) = ∑ x ∈ Finset.range (2048 * (n % 4)), g x := by
  rw [hn]
  exact z17 _
theorem zr18 (k : Fin 3) (q : Fin 256) (g : ℕ → EReal) (n : ℕ) (hn : n % 4 = 0) :
    (k0_pay7 (F := Ideal) ((rR k).idx (ix2 0 q)) : EReal) = ∑ x ∈ Finset.range (2048 * (n % 4)), g x := by
  rw [hn]
  exact z18 _

theorem accU_lo (q : Fin 256) (e : Fin 1024) (n : ℕ) (h : n < cfg0.N) :
    ((outsAt0 m c n h).2.2.2.2.2.2.2.2.2.1 (ix2 ⟨q.val, by omega⟩ e) : EReal)
      = ∑ x ∈ Finset.range (2048 * (n % 4) + 2048), Spec.termU (X m c) (Spec.dcG (X m c)) (256 * (n / 4) + q.val) (256 * (n / 4) + q.val) e.val x := by
  refine acc4 cfg0.N (fun n h => (outsAt0 m c n h).2.2.2.2.2.2.2.2.2.1 (ix2 ⟨q.val, by omega⟩ e)) (fun j => Spec.termU (X m c) (Spec.dcG (X m c)) (256 * j + q.val) (256 * j + q.val) e.val) ?_ ?_ n h
  · intro n h h0
    have R := reads m c ⟨n, h⟩
    refine (congrFun (atS0_A m c ⟨n, h⟩ h0 (by show ¬n % 4 = 3; omega)) (ix2 ⟨q.val, by omega⟩ e)).trans ?_
    exact chain8_sum (ι := S512x1024.Idx) (fU (pt m c ⟨n, h⟩)) (Spec.termU (X m c) (Spec.dcG (X m c)) (256 * (n / 4) + q.val) (256 * (n / 4) + q.val) e.val) (2048 * (n % 4)) (ix2 ⟨q.val, by omega⟩ e) _
      (fun s a => R.fU_lo s a q e) (pay_zero (S := S512x1024) (k0_pay10 (F := Ideal)) (fun i => zS0 i) (ix2 ⟨q.val, by omega⟩ e) _ n h0)
  · intro n h h0 ih
    have R := reads m c ⟨n, h⟩
    by_cases h1 : n % 4 = 3
    · refine (congrFun (atS0_C m c ⟨n, h⟩ h0 h1) (ix2 ⟨q.val, by omega⟩ e)).trans ?_
      exact chain8_sum (ι := S512x1024.Idx) (fU (pt m c ⟨n, h⟩)) (Spec.termU (X m c) (Spec.dcG (X m c)) (256 * (n / 4) + q.val) (256 * (n / 4) + q.val) e.val) (2048 * (n % 4)) (ix2 ⟨q.val, by omega⟩ e) _
        (fun s a => R.fU_lo s a q e) ih
    · refine (congrFun (atS0_B m c ⟨n, h⟩ h0 h1) (ix2 ⟨q.val, by omega⟩ e)).trans ?_
      exact chain8_sum (ι := S512x1024.Idx) (fU (pt m c ⟨n, h⟩)) (Spec.termU (X m c) (Spec.dcG (X m c)) (256 * (n / 4) + q.val) (256 * (n / 4) + q.val) e.val) (2048 * (n % 4)) (ix2 ⟨q.val, by omega⟩ e) _
        (fun s a => R.fU_lo s a q e) ih

theorem accU_hi (q : Fin 256) (e : Fin 1024) (n : ℕ) (h : n < cfg0.N) :
    ((outsAt0 m c n h).2.2.2.2.2.2.2.2.2.1 (ix2 ⟨256 + q.val, by omega⟩ e) : EReal)
      = ∑ x ∈ Finset.range (2048 * (n % 4) + 2048), Spec.termU (X m c) (Spec.dcV (X m c)) (2816 + (256 * (n / 4) + q.val)) (256 * (n / 4) + q.val) e.val x := by
  refine acc4 cfg0.N (fun n h => (outsAt0 m c n h).2.2.2.2.2.2.2.2.2.1 (ix2 ⟨256 + q.val, by omega⟩ e)) (fun j => Spec.termU (X m c) (Spec.dcV (X m c)) (2816 + (256 * j + q.val)) (256 * j + q.val) e.val) ?_ ?_ n h
  · intro n h h0
    have R := reads m c ⟨n, h⟩
    refine (congrFun (atS0_A m c ⟨n, h⟩ h0 (by show ¬n % 4 = 3; omega)) (ix2 ⟨256 + q.val, by omega⟩ e)).trans ?_
    exact chain8_sum (ι := S512x1024.Idx) (fU (pt m c ⟨n, h⟩)) (Spec.termU (X m c) (Spec.dcV (X m c)) (2816 + (256 * (n / 4) + q.val)) (256 * (n / 4) + q.val) e.val) (2048 * (n % 4)) (ix2 ⟨256 + q.val, by omega⟩ e) _
      (fun s a => R.fU_hi s a q e) (pay_zero (S := S512x1024) (k0_pay10 (F := Ideal)) (fun i => zS0 i) (ix2 ⟨256 + q.val, by omega⟩ e) _ n h0)
  · intro n h h0 ih
    have R := reads m c ⟨n, h⟩
    by_cases h1 : n % 4 = 3
    · refine (congrFun (atS0_C m c ⟨n, h⟩ h0 h1) (ix2 ⟨256 + q.val, by omega⟩ e)).trans ?_
      exact chain8_sum (ι := S512x1024.Idx) (fU (pt m c ⟨n, h⟩)) (Spec.termU (X m c) (Spec.dcV (X m c)) (2816 + (256 * (n / 4) + q.val)) (256 * (n / 4) + q.val) e.val) (2048 * (n % 4)) (ix2 ⟨256 + q.val, by omega⟩ e) _
        (fun s a => R.fU_hi s a q e) ih
    · refine (congrFun (atS0_B m c ⟨n, h⟩ h0 h1) (ix2 ⟨256 + q.val, by omega⟩ e)).trans ?_
      exact chain8_sum (ι := S512x1024.Idx) (fU (pt m c ⟨n, h⟩)) (Spec.termU (X m c) (Spec.dcV (X m c)) (2816 + (256 * (n / 4) + q.val)) (256 * (n / 4) + q.val) e.val) (2048 * (n % 4)) (ix2 ⟨256 + q.val, by omega⟩ e) _
        (fun s a => R.fU_hi s a q e) ih

theorem accD (q : Fin 256) (e : Fin 1024) (n : ℕ) (h : n < cfg0.N) :
    ((outsAt0 m c n h).2.2.2.2.2.2.2.2.2.2 (ix2 q e) : EReal)
      = ∑ x ∈ Finset.range (2048 * (n % 4) + 2048), Spec.termD (X m c) (256 * (n / 4) + q.val) e.val x := by
  refine acc4 cfg0.N (fun n h => (outsAt0 m c n h).2.2.2.2.2.2.2.2.2.2 (ix2 q e)) (fun j => Spec.termD (X m c) (256 * j + q.val) e.val) ?_ ?_ n h
  · intro n h h0
    have R := reads m c ⟨n, h⟩
    refine (congrFun (atS1_A m c ⟨n, h⟩ h0 (by show ¬n % 4 = 3; omega)) (ix2 q e)).trans ?_
    exact chain8_sum (ι := S256x1024.Idx) (fD (pt m c ⟨n, h⟩)) (Spec.termD (X m c) (256 * (n / 4) + q.val) e.val) (2048 * (n % 4)) (ix2 q e) _
      (fun s a => R.fD_at s a q e (by show 2048 * (n % 4) + 2048 ≤ 8192; omega)) (pay_zero (S := S256x1024) (k0_pay11 (F := Ideal)) (fun i => zS1 i) (ix2 q e) _ n h0)
  · intro n h h0 ih
    have R := reads m c ⟨n, h⟩
    by_cases h1 : n % 4 = 3
    · refine (congrFun (atS1_C m c ⟨n, h⟩ h0 h1) (ix2 q e)).trans ?_
      exact chain8_sum (ι := S256x1024.Idx) (fD (pt m c ⟨n, h⟩)) (Spec.termD (X m c) (256 * (n / 4) + q.val) e.val) (2048 * (n % 4)) (ix2 q e) _
        (fun s a => R.fD_at s a q e (by show 2048 * (n % 4) + 2048 ≤ 8192; omega)) ih
    · refine (congrFun (atS1_B m c ⟨n, h⟩ h0 h1) (ix2 q e)).trans ?_
      exact chain8_sum (ι := S256x1024.Idx) (fD (pt m c ⟨n, h⟩)) (Spec.termD (X m c) (256 * (n / 4) + q.val) e.val) (2048 * (n % 4)) (ix2 q e) _
        (fun s a => R.fD_at s a q e (by show 2048 * (n % 4) + 2048 ≤ 8192; omega)) ih

theorem accBG (q : Fin 256) (n : ℕ) (h : n < cfg0.N) :
    ((outsAt0 m c n h).2.2.2.2.2.2.2.1 (ix2 0 q) : EReal)
      = ∑ x ∈ Finset.range (2048 * (n % 4) + 2048), (fun t => Spec.dcG (X m c) t (256 * (n / 4) + q.val)) x := by
  refine acc4 cfg0.N (fun n h => (outsAt0 m c n h).2.2.2.2.2.2.2.1 (ix2 0 q)) (fun j => (fun t => Spec.dcG (X m c) t (256 * j + q.val))) ?_ ?_ n h
  · intro n h h0
    have R := reads m c ⟨n, h⟩
    refine (congrFun (at19_A m c ⟨n, h⟩ h0 (by show ¬n % 4 = 3; omega)) (ix2 0 q)).trans ?_
    exact chain8_sum (ι := S1x256.Idx) (fB (pt m c ⟨n, h⟩).cG) ((fun t => Spec.dcG (X m c) t (256 * (n / 4) + q.val))) (2048 * (n % 4)) (ix2 0 q) _
      (fun s a => R.fBG_at s a 0 q) (pay_zero (S := S1x256) (k0_pay8 (F := Ideal)) (fun i => z19 i) (ix2 0 q) _ n h0)
  · intro n h h0 ih
    have R := reads m c ⟨n, h⟩
    by_cases h1 : n % 4 = 3
    · refine (congrFun (at19_C m c ⟨n, h⟩ h0 h1) (ix2 0 q)).trans ?_
      exact chain8_sum (ι := S1x256.Idx) (fB (pt m c ⟨n, h⟩).cG) ((fun t => Spec.dcG (X m c) t (256 * (n / 4) + q.val))) (2048 * (n % 4)) (ix2 0 q) _
        (fun s a => R.fBG_at s a 0 q) ih
    · refine (congrFun (at19_B m c ⟨n, h⟩ h0 h1) (ix2 0 q)).trans ?_
      exact chain8_sum (ι := S1x256.Idx) (fB (pt m c ⟨n, h⟩).cG) ((fun t => Spec.dcG (X m c) t (256 * (n / 4) + q.val))) (2048 * (n % 4)) (ix2 0 q) _
        (fun s a => R.fBG_at s a 0 q) ih

theorem accBV (q : Fin 256) (n : ℕ) (h : n < cfg0.N) :
    ((outsAt0 m c n h).2.2.2.2.2.2.2.2.1 (ix2 0 q) : EReal)
      = ∑ x ∈ Finset.range (2048 * (n % 4) + 2048), (fun t => Spec.dcV (X m c) t (256 * (n / 4) + q.val)) x := by
  refine acc4 cfg0.N (fun n h => (outsAt0 m c n h).2.2.2.2.2.2.2.2.1 (ix2 0 q)) (fun j => (fun t => Spec.dcV (X m c) t (256 * j + q.val))) ?_ ?_ n h
  · intro n h h0
    have R := reads m c ⟨n, h⟩
    refine (congrFun (at20_A m c ⟨n, h⟩ h0 (by show ¬n % 4 = 3; omega)) (ix2 0 q)).trans ?_
    exact chain8_sum (ι := S1x256.Idx) (fB (pt m c ⟨n, h⟩).cV) ((fun t => Spec.dcV (X m c) t (256 * (n / 4) + q.val))) (2048 * (n % 4)) (ix2 0 q) _
      (fun s a => R.fBV_at s a 0 q) (pay_zero (S := S1x256) (k0_pay9 (F := Ideal)) (fun i => z20 i) (ix2 0 q) _ n h0)
  · intro n h h0 ih
    have R := reads m c ⟨n, h⟩
    by_cases h1 : n % 4 = 3
    · refine (congrFun (at20_C m c ⟨n, h⟩ h0 h1) (ix2 0 q)).trans ?_
      exact chain8_sum (ι := S1x256.Idx) (fB (pt m c ⟨n, h⟩).cV) ((fun t => Spec.dcV (X m c) t (256 * (n / 4) + q.val))) (2048 * (n % 4)) (ix2 0 q) _
        (fun s a => R.fBV_at s a 0 q) ih
    · refine (congrFun (at20_B m c ⟨n, h⟩ h0 h1) (ix2 0 q)).trans ?_
      exact chain8_sum (ι := S1x256.Idx) (fB (pt m c ⟨n, h⟩).cV) ((fun t => Spec.dcV (X m c) t (256 * (n / 4) + q.val))) (2048 * (n % 4)) (ix2 0 q) _
        (fun s a => R.fBV_at s a 0 q) ih

theorem accWG (k : Fin 3) (q : Fin 256) (n : ℕ) (h : n < cfg0.N) :
    (View.ld (outsAt0 m c n h).2.2.2.2.2.1 (rR k) (ix2 0 q) : EReal)
      = ∑ x ∈ Finset.range (2048 * (n % 4) + 2048), Spec.termW (X m c) (Spec.dcG (X m c)) (256 * (n / 4) + q.val) (256 * (n / 4) + q.val) k.val x := by
  refine acc4 cfg0.N (fun n h => View.ld (outsAt0 m c n h).2.2.2.2.2.1 (rR k) (ix2 0 q)) (fun j => Spec.termW (X m c) (Spec.dcG (X m c)) (256 * j + q.val) (256 * j + q.val) k.val) ?_ ?_ n h
  · intro n h h0
    have R := reads m c ⟨n, h⟩
    refine (congrFun (at17_A m c ⟨n, h⟩ h0 (by show ¬n % 4 = 3; omega) k) (ix2 0 q)).trans ?_
    exact chain8_sum (ι := S1x256.Idx) (fun s => fW (pt m c ⟨n, h⟩).cG (pt m c ⟨n, h⟩).ug s k) (Spec.termW (X m c) (Spec.dcG (X m c)) (256 * (n / 4) + q.val) (256 * (n / 4) + q.val) k.val) (2048 * (n % 4)) (ix2 0 q) _
      (fun s a => R.fWG_at s k a 0 q) (zr17 k q _ n h0)
  · intro n h h0 ih
    have R := reads m c ⟨n, h⟩
    by_cases h1 : n % 4 = 3
    · refine (congrFun (at17_C m c ⟨n, h⟩ h0 h1 k) (ix2 0 q)).trans ?_
      exact chain8_sum (ι := S1x256.Idx) (fun s => fW (pt m c ⟨n, h⟩).cG (pt m c ⟨n, h⟩).ug s k) (Spec.termW (X m c) (Spec.dcG (X m c)) (256 * (n / 4) + q.val) (256 * (n / 4) + q.val) k.val) (2048 * (n % 4)) (ix2 0 q) _
        (fun s a => R.fWG_at s k a 0 q) ih
    · refine (congrFun (at17_B m c ⟨n, h⟩ h0 h1 k) (ix2 0 q)).trans ?_
      exact chain8_sum (ι := S1x256.Idx) (fun s => fW (pt m c ⟨n, h⟩).cG (pt m c ⟨n, h⟩).ug s k) (Spec.termW (X m c) (Spec.dcG (X m c)) (256 * (n / 4) + q.val) (256 * (n / 4) + q.val) k.val) (2048 * (n % 4)) (ix2 0 q) _
        (fun s a => R.fWG_at s k a 0 q) ih

theorem accWV (k : Fin 3) (q : Fin 256) (n : ℕ) (h : n < cfg0.N) :
    (View.ld (outsAt0 m c n h).2.2.2.2.2.2.1 (rR k) (ix2 0 q) : EReal)
      = ∑ x ∈ Finset.range (2048 * (n % 4) + 2048), Spec.termW (X m c) (Spec.dcV (X m c)) (2816 + (256 * (n / 4) + q.val)) (256 * (n / 4) + q.val) k.val x := by
  refine acc4 cfg0.N (fun n h => View.ld (outsAt0 m c n h).2.2.2.2.2.2.1 (rR k) (ix2 0 q)) (fun j => Spec.termW (X m c) (Spec.dcV (X m c)) (2816 + (256 * j + q.val)) (256 * j + q.val) k.val) ?_ ?_ n h
  · intro n h h0
    have R := reads m c ⟨n, h⟩
    refine (congrFun (at18_A m c ⟨n, h⟩ h0 (by show ¬n % 4 = 3; omega) k) (ix2 0 q)).trans ?_
    exact chain8_sum (ι := S1x256.Idx) (fun s => fW (pt m c ⟨n, h⟩).cV (pt m c ⟨n, h⟩).uv s k) (Spec.termW (X m c) (Spec.dcV (X m c)) (2816 + (256 * (n / 4) + q.val)) (256 * (n / 4) + q.val) k.val) (2048 * (n % 4)) (ix2 0 q) _
      (fun s a => R.fWV_at s k a 0 q) (zr18 k q _ n h0)
  · intro n h h0 ih
    have R := reads m c ⟨n, h⟩
    by_cases h1 : n % 4 = 3
    · refine (congrFun (at18_C m c ⟨n, h⟩ h0 h1 k) (ix2 0 q)).trans ?_
      exact chain8_sum (ι := S1x256.Idx) (fun s => fW (pt m c ⟨n, h⟩).cV (pt m c ⟨n, h⟩).uv s k) (Spec.termW (X m c) (Spec.dcV (X m c)) (2816 + (256 * (n / 4) + q.val)) (256 * (n / 4) + q.val) k.val) (2048 * (n % 4)) (ix2 0 q) _
        (fun s a => R.fWV_at s k a 0 q) ih
    · refine (congrFun (at18_B m c ⟨n, h⟩ h0 h1 k) (ix2 0 q)).trans ?_
      exact chain8_sum (ι := S1x256.Idx) (fun s => fW (pt m c ⟨n, h⟩).cV (pt m c ⟨n, h⟩).uv s k) (Spec.termW (X m c) (Spec.dcV (X m c)) (2816 + (256 * (n / 4) + q.val)) (256 * (n / 4) + q.val) k.val) (2048 * (n % 4)) (ix2 0 q) _
        (fun s a => R.fWV_at s k a 0 q) ih

theorem duG (n : ℕ) (h : n < cfg0.N) (r : Fin 2048) (q : Fin 256) :
    ((outsAt0 m c n h).1 (ix2 r q) : EReal)
      = Spec.du (X m c) (Spec.dcG (X m c)) ((256 * (n / 4) + q.val)) (2048 * (n % 4) + r.val) (256 * (n / 4) + q.val) := by
  have e : (outsAt0 m c n h).1 = duT (pt m c ⟨n, h⟩).uG := by
    by_cases h0 : n % 4 = 0
    · exact at12_A m c ⟨n, h⟩ h0 (by show ¬n % 4 = 3; omega)
    · by_cases h1 : n % 4 = 3
      · exact at12_C m c ⟨n, h⟩ h0 h1
      · exact at12_B m c ⟨n, h⟩ h0 h1
  rw [e]
  refine duT_at _ (fun r q => Spec.du (X m c) (Spec.dcG (X m c)) ((256 * (n / 4) + q)) (2048 * (n % 4) + r) (256 * (n / 4) + q)) (fun s r q => ?_) r q
  refine ((reads m c ⟨n, h⟩).uG_at s r q).trans ?_
  rw [Nat.add_assoc]

theorem duV (n : ℕ) (h : n < cfg0.N) (r : Fin 2048) (q : Fin 256) :
    ((outsAt0 m c n h).2.1 (ix2 r q) : EReal)
      = Spec.du (X m c) (Spec.dcV (X m c)) (2816 + (256 * (n / 4) + q.val)) (2048 * (n % 4) + r.val) (256 * (n / 4) + q.val) := by
  have e : (outsAt0 m c n h).2.1 = duT (pt m c ⟨n, h⟩).uV := by
    by_cases h0 : n % 4 = 0
    · exact at13_A m c ⟨n, h⟩ h0 (by show ¬n % 4 = 3; omega)
    · by_cases h1 : n % 4 = 3
      · exact at13_C m c ⟨n, h⟩ h0 h1
      · exact at13_B m c ⟨n, h⟩ h0 h1
  rw [e]
  refine duT_at _ (fun r q => Spec.du (X m c) (Spec.dcV (X m c)) (2816 + (256 * (n / 4) + q)) (2048 * (n % 4) + r) (256 * (n / 4) + q)) (fun s r q => ?_) r q
  refine ((reads m c ⟨n, h⟩).uV_at s r q).trans ?_
  rw [Nat.add_assoc]

end Kernel

end Cert.KernelIdeal.Tile

end

end
-- ==== Proof.Results.lean ====
/- THE KERNEL'S NINE RESULTS. Each array the kernel leaves, at an index: the entries of the block its point writes back are
   the plain sums of `Spec` over the layer's arrays. -/
module

public import proofs.«01_k».proof.Proof.Sums

@[expose] public section

set_option synthInstance.maxSize 4096
set_option maxRecDepth 16384

noncomputable section

namespace Cert.KernelIdeal.Tile

open Cert.KernelIdeal Cert.KernelIdeal.Gen Cert.KernelIdeal.Arrays Idealize.ShloMosaic Idealize.ShloMosaic.TcCoe Idealize.SL.Sem

variable (m : (ℓ : Loc nD τ sig) → Buf (Elt Ideal) ℓ) (c : Dev nD)

/-- A point's number is below the grid's size. -/
theorem lt_N (n : ℕ) (h : n < 44) : n < cfg0.N := lt_of_lt_of_eq h N_0.symm

/-- What the last point of a column block writes back: the gate half of the up weights' gradient. -/
theorem w14 (n : ℕ) (h : n < cfg0.N) (h3 : n % 4 = 3) (q : Fin 256) (e : Fin 1024) :
    ((outsAt0 m c n h).2.2.1 (ix2 q e) : EReal) = ∑ x ∈ Finset.range 8192, Spec.termU (X m c) (Spec.dcG (X m c)) (256 * (n / 4) + q.val) (256 * (n / 4) + q.val) e.val x := by
  have h0 : ¬n % 4 = 0 := by omega
  rw [show (outsAt0 m c n h).2.2.1 = _ from at14_C m c ⟨n, h⟩ h0 h3, ← show (outsAt0 m c n h).2.2.2.2.2.2.2.2.2.1 = _ from atS0_C m c ⟨n, h⟩ h0 h3]
  refine (ld2 (A := 512) (B := 1024) (a := 256) _ 0 inbU0 q e (by omega)).trans ?_
  refine (congrArg (fun k => (outsAt0 m c n h).2.2.2.2.2.2.2.2.2.1 (ix2 k e)) (Fin.ext (Nat.zero_add _) : (⟨0 + q.val, by omega⟩ : Fin 512) = ⟨q.val, by omega⟩)).trans ?_
  refine (accU_lo m c q e n h).trans ?_
  rw [h3]

/-- The value half of the up weights' gradient. -/
theorem w15 (n : ℕ) (h : n < cfg0.N) (h3 : n % 4 = 3) (q : Fin 256) (e : Fin 1024) :
    ((outsAt0 m c n h).2.2.2.1 (ix2 q e) : EReal) = ∑ x ∈ Finset.range 8192, Spec.termU (X m c) (Spec.dcV (X m c)) (2816 + (256 * (n / 4) + q.val)) (256 * (n / 4) + q.val) e.val x := by
  have h0 : ¬n % 4 = 0 := by omega
  rw [show (outsAt0 m c n h).2.2.2.1 = _ from at15_C m c ⟨n, h⟩ h0 h3, ← show (outsAt0 m c n h).2.2.2.2.2.2.2.2.2.1 = _ from atS0_C m c ⟨n, h⟩ h0 h3]
  refine (ld2 (A := 512) (B := 1024) (a := 256) _ 256 inbU1 q e (by omega)).trans ?_
  refine (accU_hi m c q e n h).trans ?_
  rw [h3]

/-- The down weights' gradient. -/
theorem w16 (n : ℕ) (h : n < cfg0.N) (h3 : n % 4 = 3) (q : Fin 256) (e : Fin 1024) :
    ((outsAt0 m c n h).2.2.2.2.1 (ix2 q e) : EReal) = ∑ x ∈ Finset.range 8192, Spec.termD (X m c) (256 * (n / 4) + q.val) e.val x := by
  have h0 : ¬n % 4 = 0 := by omega
  rw [show (outsAt0 m c n h).2.2.2.2.1 = _ from at16_C m c ⟨n, h⟩ h0 h3, ← show (outsAt0 m c n h).2.2.2.2.2.2.2.2.2.2 = _ from atS1_C m c ⟨n, h⟩ h0 h3]
  refine (accD m c q e n h).trans ?_
  rw [h3]

/-- A half of the taps' gradient. -/
theorem w17 (n : ℕ) (h : n < cfg0.N) (h3 : n % 4 = 3) (k : Fin 3) (q : Fin 256) :
    ((outsAt0 m c n h).2.2.2.2.2.1 (ix2 k q) : EReal) = ∑ x ∈ Finset.range 8192, Spec.termW (X m c) (Spec.dcG (X m c)) (256 * (n / 4) + q.val) (256 * (n / 4) + q.val) k.val x := by
  refine ((congrArg (fun i => (outsAt0 m c n h).2.2.2.2.2.1 (ix2 i q)) (Fin.ext rfl : (⟨k.val + (0 : Fin 1).val, by show k.val + 0 < 3; omega⟩ : Fin 3) = k)).symm.trans
    (ld2 (A := 3) (B := 256) (a := 1) (outsAt0 m c n h).2.2.2.2.2.1 k.val (inbR k) 0 q (by show k.val + 0 < 3; omega)).symm).trans ?_
  refine (accWG m c k q n h).trans ?_
  rw [h3]

/-- A half of the taps' gradient. -/
theorem w18 (n : ℕ) (h : n < cfg0.N) (h3 : n % 4 = 3) (k : Fin 3) (q : Fin 256) :
    ((outsAt0 m c n h).2.2.2.2.2.2.1 (ix2 k q) : EReal) = ∑ x ∈ Finset.range 8192, Spec.termW (X m c) (Spec.dcV (X m c)) (2816 + (256 * (n / 4) + q.val)) (256 * (n / 4) + q.val) k.val x := by
  refine ((congrArg (fun i => (outsAt0 m c n h).2.2.2.2.2.2.1 (ix2 i q)) (Fin.ext rfl : (⟨k.val + (0 : Fin 1).val, by show k.val + 0 < 3; omega⟩ : Fin 3) = k)).symm.trans
    (ld2 (A := 3) (B := 256) (a := 1) (outsAt0 m c n h).2.2.2.2.2.2.1 k.val (inbR k) 0 q (by show k.val + 0 < 3; omega)).symm).trans ?_
  refine (accWV m c k q n h).trans ?_
  rw [h3]

/-- A half of the biases' gradient. -/
theorem w19 (n : ℕ) (h : n < cfg0.N) (h3 : n % 4 = 3) (q : Fin 256) :
    ((outsAt0 m c n h).2.2.2.2.2.2.2.1 (ix2 0 q) : EReal) = ∑ x ∈ Finset.range 8192, (fun t => Spec.dcG (X m c) t (256 * (n / 4) + q.val)) x := by
  refine (accBG m c q n h).trans ?_
  rw [h3]

/-- A half of the biases' gradient. -/
theorem w20 (n : ℕ) (h : n < cfg0.N) (h3 : n % 4 = 3) (q : Fin 256) :
    ((outsAt0 m c n h).2.2.2.2.2.2.2.2.1 (ix2 0 q) : EReal) = ∑ x ∈ Finset.range 8192, (fun t => Spec.dcV (X m c) t (256 * (n / 4) + q.val)) x := by
  refine (accBV m c q n h).trans ?_
  rw [h3]

/-! ## The arrays -/

/-- A half of the gradient of the convolution's input. -/
theorem g12 (t : Fin 8192) (f : Fin 2816) : (G12 m c (ix2 t f) : EReal) = Spec.du (X m c) (Spec.dcG (X m c)) f.val t.val f.val := by
  have hp : pt12Of (ix2 t f) = t.val / 2048 + 4 * (f.val / 256) := by
    show 1 * (t.val / 2048 - 0) + 4 * (f.val / 256 - 0) = _
    omega
  have h : pt12Of (ix2 t f) < cfg0.N := lt_N _ (by omega)
  unfold G12
  rw [dif_pos h, show loc12Of (ix2 t f) = ix2 (n0 := 2048) (n1 := 256) ⟨t.val % 2048, Nat.mod_lt _ (by decide)⟩ ⟨f.val % 256, Nat.mod_lt _ (by decide)⟩ from funext fun a => by match a with | ⟨0, _⟩ => rfl | ⟨1, _⟩ => rfl]
  refine (duG m c _ h ⟨t.val % 2048, Nat.mod_lt _ (by decide)⟩ ⟨f.val % 256, Nat.mod_lt _ (by decide)⟩).trans ?_
  rw [hp, show 256 * ((t.val / 2048 + 4 * (f.val / 256)) / 4) + f.val % 256 = f.val by omega,
    show 2048 * ((t.val / 2048 + 4 * (f.val / 256)) % 4) + t.val % 2048 = t.val by omega]

/-- A half of the gradient of the convolution's input. -/
theorem g13 (t : Fin 8192) (f : Fin 2816) : (G13 m c (ix2 t f) : EReal) = Spec.du (X m c) (Spec.dcV (X m c)) (2816 + f.val) t.val f.val := by
  have hp : pt13Of (ix2 t f) = t.val / 2048 + 4 * (f.val / 256) := by
    show 1 * (t.val / 2048 - 0) + 4 * (f.val / 256 - 0) = _
    omega
  have h : pt13Of (ix2 t f) < cfg0.N := lt_N _ (by omega)
  unfold G13
  rw [dif_pos h, show loc13Of (ix2 t f) = ix2 (n0 := 2048) (n1 := 256) ⟨t.val % 2048, Nat.mod_lt _ (by decide)⟩ ⟨f.val % 256, Nat.mod_lt _ (by decide)⟩ from funext fun a => by match a with | ⟨0, _⟩ => rfl | ⟨1, _⟩ => rfl]
  refine (duV m c _ h ⟨t.val % 2048, Nat.mod_lt _ (by decide)⟩ ⟨f.val % 256, Nat.mod_lt _ (by decide)⟩).trans ?_
  rw [hp, show 256 * ((t.val / 2048 + 4 * (f.val / 256)) / 4) + f.val % 256 = f.val by omega,
    show 2048 * ((t.val / 2048 + 4 * (f.val / 256)) % 4) + t.val % 2048 = t.val by omega]

/-- A gradient of the weights, as a sum over the sequence. -/
theorem g14 (f : Fin 2816) (e : Fin 1024) : (G14 m c (ix2 f e) : EReal) = ∑ x ∈ Finset.range 8192, Spec.termU (X m c) (Spec.dcG (X m c)) f.val f.val e.val x := by
  have hp : pt14Of (ix2 f e) = 4 * (f.val / 256) + 3 := by
    show 4 * (1 * (f.val / 256 - 0) + 1 * (e.val / 1024 - 0)) + 3 = _
    omega
  have h : pt14Of (ix2 f e) < cfg0.N := lt_N _ (by omega)
  unfold G14
  rw [dif_pos h, show loc14Of (ix2 f e) = ix2 (n0 := 256) (n1 := 1024) ⟨f.val % 256, Nat.mod_lt _ (by decide)⟩ ⟨e.val % 1024, Nat.mod_lt _ (by decide)⟩ from funext fun a => by match a with | ⟨0, _⟩ => rfl | ⟨1, _⟩ => rfl]
  refine (w14 m c _ h (by omega) ⟨f.val % 256, Nat.mod_lt _ (by decide)⟩ ⟨e.val % 1024, Nat.mod_lt _ (by decide)⟩).trans ?_
  rw [hp, show 256 * ((4 * (f.val / 256) + 3) / 4) + f.val % 256 = f.val by omega, show (⟨e.val % 1024, Nat.mod_lt _ (by decide)⟩ : Fin 1024) = e from Fin.ext (Nat.mod_eq_of_lt e.isLt)]

/-- A gradient of the weights, as a sum over the sequence. -/
theorem g15 (f : Fin 2816) (e : Fin 1024) : (G15 m c (ix2 f e) : EReal) = ∑ x ∈ Finset.range 8192, Spec.termU (X m c) (Spec.dcV (X m c)) (2816 + f.val) f.val e.val x := by
  have hp : pt15Of (ix2 f e) = 4 * (f.val / 256) + 3 := by
    show 4 * (1 * (f.val / 256 - 0) + 1 * (e.val / 1024 - 0)) + 3 = _
    omega
  have h : pt15Of (ix2 f e) < cfg0.N := lt_N _ (by omega)
  unfold G15
  rw [dif_pos h, show loc15Of (ix2 f e) = ix2 (n0 := 256) (n1 := 1024) ⟨f.val % 256, Nat.mod_lt _ (by decide)⟩ ⟨e.val % 1024, Nat.mod_lt _ (by decide)⟩ from funext fun a => by match a with | ⟨0, _⟩ => rfl | ⟨1, _⟩ => rfl]
  refine (w15 m c _ h (by omega) ⟨f.val % 256, Nat.mod_lt _ (by decide)⟩ ⟨e.val % 1024, Nat.mod_lt _ (by decide)⟩).trans ?_
  rw [hp, show 256 * ((4 * (f.val / 256) + 3) / 4) + f.val % 256 = f.val by omega, show (⟨e.val % 1024, Nat.mod_lt _ (by decide)⟩ : Fin 1024) = e from Fin.ext (Nat.mod_eq_of_lt e.isLt)]

/-- A gradient of the weights, as a sum over the sequence. -/
theorem g16 (f : Fin 2816) (e : Fin 1024) : (G16 m c (ix2 f e) : EReal) = ∑ x ∈ Finset.range 8192, Spec.termD (X m c) f.val e.val x := by
  have hp : pt16Of (ix2 f e) = 4 * (f.val / 256) + 3 := by
    show 4 * (1 * (f.val / 256 - 0) + 1 * (e.val / 1024 - 0)) + 3 = _
    omega
  have h : pt16Of (ix2 f e) < cfg0.N := lt_N _ (by omega)
  unfold G16
  rw [dif_pos h, show loc16Of (ix2 f e) = ix2 (n0 := 256) (n1 := 1024) ⟨f.val % 256, Nat.mod_lt _ (by decide)⟩ ⟨e.val % 1024, Nat.mod_lt _ (by decide)⟩ from funext fun a => by match a with | ⟨0, _⟩ => rfl | ⟨1, _⟩ => rfl]
  refine (w16 m c _ h (by omega) ⟨f.val % 256, Nat.mod_lt _ (by decide)⟩ ⟨e.val % 1024, Nat.mod_lt _ (by decide)⟩).trans ?_
  rw [hp, show 256 * ((4 * (f.val / 256) + 3) / 4) + f.val % 256 = f.val by omega, show (⟨e.val % 1024, Nat.mod_lt _ (by decide)⟩ : Fin 1024) = e from Fin.ext (Nat.mod_eq_of_lt e.isLt)]

/-- A half of the taps' gradient, as a sum over the sequence. -/
theorem g17 (k : Fin 3) (f : Fin 2816) : (G17 m c (ix2 k f) : EReal) = ∑ x ∈ Finset.range 8192, Spec.termW (X m c) (Spec.dcG (X m c)) f.val f.val k.val x := by
  have hp : pt17Of (ix2 k f) = 4 * (f.val / 256) + 3 := by
    show 4 * (11 * (k.val / 3 - 0) + 1 * (f.val / 256 - 0)) + 3 = _
    omega
  have h : pt17Of (ix2 k f) < cfg0.N := lt_N _ (by omega)
  unfold G17
  rw [dif_pos h, show loc17Of (ix2 k f) = ix2 (n0 := 3) (n1 := 256) ⟨k.val % 3, Nat.mod_lt _ (by decide)⟩ ⟨f.val % 256, Nat.mod_lt _ (by decide)⟩ from funext fun a => by match a with | ⟨0, _⟩ => rfl | ⟨1, _⟩ => rfl]
  refine (w17 m c _ h (by omega) ⟨k.val % 3, Nat.mod_lt _ (by decide)⟩ ⟨f.val % 256, Nat.mod_lt _ (by decide)⟩).trans ?_
  rw [hp, show 256 * ((4 * (f.val / 256) + 3) / 4) + f.val % 256 = f.val by omega, show (⟨k.val % 3, Nat.mod_lt _ (by decide)⟩ : Fin 3) = k from Fin.ext (Nat.mod_eq_of_lt k.isLt)]

/-- A half of the taps' gradient, as a sum over the sequence. -/
theorem g18 (k : Fin 3) (f : Fin 2816) : (G18 m c (ix2 k f) : EReal) = ∑ x ∈ Finset.range 8192, Spec.termW (X m c) (Spec.dcV (X m c)) (2816 + f.val) f.val k.val x := by
  have hp : pt18Of (ix2 k f) = 4 * (f.val / 256) + 3 := by
    show 4 * (11 * (k.val / 3 - 0) + 1 * (f.val / 256 - 0)) + 3 = _
    omega
  have h : pt18Of (ix2 k f) < cfg0.N := lt_N _ (by omega)
  unfold G18
  rw [dif_pos h, show loc18Of (ix2 k f) = ix2 (n0 := 3) (n1 := 256) ⟨k.val % 3, Nat.mod_lt _ (by decide)⟩ ⟨f.val % 256, Nat.mod_lt _ (by decide)⟩ from funext fun a => by match a with | ⟨0, _⟩ => rfl | ⟨1, _⟩ => rfl]
  refine (w18 m c _ h (by omega) ⟨k.val % 3, Nat.mod_lt _ (by decide)⟩ ⟨f.val % 256, Nat.mod_lt _ (by decide)⟩).trans ?_
  rw [hp, show 256 * ((4 * (f.val / 256) + 3) / 4) + f.val % 256 = f.val by omega, show (⟨k.val % 3, Nat.mod_lt _ (by decide)⟩ : Fin 3) = k from Fin.ext (Nat.mod_eq_of_lt k.isLt)]

/-- A half of the biases' gradient, as a sum over the sequence. -/
theorem g19 (z : Fin 1) (f : Fin 2816) : (G19 m c (ix2 z f) : EReal) = ∑ x ∈ Finset.range 8192, Spec.dcG (X m c) x f.val := by
  obtain rfl : z = 0 := Subsingleton.elim _ _
  have hp : pt19Of (ix2 0 f) = 4 * (f.val / 256) + 3 := by
    show 4 * (11 * (0 / 1 - 0) + 1 * (f.val / 256 - 0)) + 3 = _
    omega
  have h : pt19Of (ix2 0 f) < cfg0.N := lt_N _ (by omega)
  unfold G19
  rw [dif_pos h, show loc19Of (ix2 0 f) = ix2 (n0 := 1) (n1 := 256) (0 : Fin 1) ⟨f.val % 256, Nat.mod_lt _ (by decide)⟩ from funext fun a => by match a with | ⟨0, _⟩ => rfl | ⟨1, _⟩ => rfl]
  refine (w19 m c _ h (by omega) ⟨f.val % 256, Nat.mod_lt _ (by decide)⟩).trans ?_
  rw [hp, show 256 * ((4 * (f.val / 256) + 3) / 4) + f.val % 256 = f.val by omega]

/-- A half of the biases' gradient, as a sum over the sequence. -/
theorem g20 (z : Fin 1) (f : Fin 2816) : (G20 m c (ix2 z f) : EReal) = ∑ x ∈ Finset.range 8192, Spec.dcV (X m c) x f.val := by
  obtain rfl : z = 0 := Subsingleton.elim _ _
  have hp : pt20Of (ix2 0 f) = 4 * (f.val / 256) + 3 := by
    show 4 * (11 * (0 / 1 - 0) + 1 * (f.val / 256 - 0)) + 3 = _
    omega
  have h : pt20Of (ix2 0 f) < cfg0.N := lt_N _ (by omega)
  unfold G20
  rw [dif_pos h, show loc20Of (ix2 0 f) = ix2 (n0 := 1) (n1 := 256) (0 : Fin 1) ⟨f.val % 256, Nat.mod_lt _ (by decide)⟩ from funext fun a => by match a with | ⟨0, _⟩ => rfl | ⟨1, _⟩ => rfl]
  refine (w20 m c _ h (by omega) ⟨f.val % 256, Nat.mod_lt _ (by decide)⟩).trans ?_
  rw [hp, show 256 * ((4 * (f.val / 256) + 3) / 4) + f.val % 256 = f.val by omega]

end Cert.KernelIdeal.Tile

end

end
-- ==== Proof.Consts.lean ====
/- THE LITERALS. What the float literals and the two named constants of the programs denote at the real numbers. -/
module

public import proofs.«01_k».proof.Proof.Spec
public import Idealize.ShloMosaic.PureOps.IdealRules
public import Mathlib.Tactic.NormNum

@[expose] public section

noncomputable section

namespace Cert.Spec

open Cert.KernelIdeal Idealize.ShloMosaic

/-- The gelu's outer constant. -/
theorem lit_k0 : Ideal.ofBits .f32 0x3F4C422A#32 = ((6693141 / 8388608 : ℝ) : EReal) := by
  simp [Ideal.ofBits, Ideal.ieee, -EReal.coe_mul]; norm_num
/-- The gelu's inner constant. -/
theorem lit_k1 : Ideal.ofBits .f32 0x3D372713#32 = ((12003091 / 268435456 : ℝ) : EReal) := by
  simp [Ideal.ofBits, Ideal.ieee, -EReal.coe_mul]; norm_num
/-- One half. -/
theorem lit_half : Ideal.ofBits .f32 0x3F000000#32 = ((1 / 2 : ℝ) : EReal) := by
  simp [Ideal.ofBits, Ideal.ieee, -EReal.coe_mul]; norm_num
/-- One. -/
theorem lit_one : Ideal.ofBits .f32 0x3F800000#32 = ((1 : ℝ) : EReal) := by
  simp [Ideal.ofBits, Ideal.ieee, -EReal.coe_mul]; norm_num
/-- Three. -/
theorem lit_three : Ideal.ofBits .f32 0x40400000#32 = ((3 : ℝ) : EReal) := by
  simp [Ideal.ofBits, Ideal.ieee, -EReal.coe_mul]; norm_num
/-- Zero. -/
theorem lit_zero : Ideal.ofBits .f32 0x00000000#32 = 0 := by
  simp [Ideal.ofBits, Ideal.ieee]
/-- Infinity. -/
theorem lit_top : Ideal.ofBits .f32 0x7F800000#32 = ⊤ := by
  simp [Ideal.ofBits, Ideal.ieee]
/-- The product of the two constants of the gelu. -/
theorem named_k01 : Named.named (F := Ideal) (φ := .f32) κ "k01" 0x3D122279#32 = ((80338380498831 / 2251799813685248 : ℝ) : EReal) :=
  IdealRules.named_const.ideal_named_scalar _ _ _ _ rfl
/-- Three times it. -/
theorem named_k013 : Named.named (F := Ideal) (φ := .f32) κ "k013" 0x3DDB33B6#32 = ((241015141496493 / 2251799813685248 : ℝ) : EReal) :=
  IdealRules.named_const.ideal_named_scalar _ _ _ _ rfl

end Cert.Spec

end

end
-- ==== Proof.Gelu.lean ====
/- THE GELU AND ITS SLOPE. The reference's expressions for the gelu and for the gradient through it, which carry the two
   constants one by one, equal the kernel's at real numbers. -/
module

public import proofs.«01_k».proof.Proof.Consts
public import Mathlib.Tactic.Ring

@[expose] public section

noncomputable section

namespace Cert.Spec

open Cert.KernelIdeal Idealize.ShloMosaic

/-- A value that is a real number. -/
def IsReal (x : EReal) : Prop := ∃ r : ℝ, x = (r : EReal)

theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) (f : ι → EReal) (h : ∀ i, IsReal (f i)) : IsReal (∑ i ∈ s, f i) := by
  classical
  induction s using Finset.induction_on with
  | empty => rw [Finset.sum_empty]; exact IsReal.zero
  | insert a s ha ih => rw [Finset.sum_insert ha]; exact (h a).add ih
/-- A value whose absolute value is below infinity. -/
theorem IsReal.of_abs {x : EReal} (h : max x (-x) < ⊤) : IsReal x := by
  induction x using EReal.rec with
  | bot => exact absurd h (by simp)
  | coe r => exact ⟨r, rfl⟩
  | top => exact absurd h (by simp)

/-- The reference's hyperbolic tangent, half of one plus it, and its gradient through the gelu. -/
def thR (x : EReal) : EReal :=
  Ideal.tanh (Ideal.ofBits .f32 0x3F4C422A#32 * (x + Ideal.ofBits .f32 0x3D372713#32 * (x * x * x)))
def hpR (x : EReal) : EReal := Ideal.ofBits .f32 0x3F000000#32 * (Ideal.ofBits .f32 0x3F800000#32 + thR x)
/-- The part of the gradient that goes through the tangent. -/
def inR (x d : EReal) : EReal := Ideal.ofBits .f32 0x3F4C422A#32 * (Ideal.ofBits .f32 0x3F000000#32 * (x * d)
  * ((Ideal.ofBits .f32 0x3F800000#32 + thR x) * (Ideal.ofBits .f32 0x3F800000#32 - thR x)))
def gradR (x d : EReal) : EReal :=
  d * hpR x + inR x d + Ideal.ofBits .f32 0x3D372713#32 * inR x d * (Ideal.ofBits .f32 0x40400000#32 * (x * x))

theorem thR_coe (r : ℝ) : thR r = th r := by
  unfold thR th
  rw [lit_k0, lit_k1, named_k01]
  simp only [← EReal.coe_mul, ← EReal.coe_add]
  congr 2
  ring

/-- The tangent at a real number is a real number. -/
theorem th_coe (r : ℝ) : ∃ s : ℝ, th r = (s : EReal) := by
  unfold th
  rw [lit_k0, named_k01]
  simp only [← EReal.coe_mul, ← EReal.coe_add, Ideal.tanh_coe]
  exact ⟨_, rfl⟩

theorem hpR_coe (r : ℝ) : hpR r = hp r := by
  unfold hpR hp
  rw [thR_coe]
  obtain ⟨s, hs⟩ := th_coe r
  rw [hs, lit_half, lit_one]
  simp only [← EReal.coe_mul, ← EReal.coe_add]
  congr 1
  ring

/-- The gelu. -/
theorem geluR_eq {x : EReal} (hx : IsReal x) : x * hpR x = gelu x := by
  obtain ⟨r, rfl⟩ := hx
  rw [hpR_coe]; rfl

/-- The gradient through the gelu. -/
theorem gradR_eq {x d : EReal} (hx : IsReal x) (hd : IsReal d) : gradR x d = d * slope x := by
  obtain ⟨r, rfl⟩ := hx
  obtain ⟨a, rfl⟩ := hd
  unfold gradR slope inR
  rw [hpR_coe, thR_coe]
  unfold hp
  obtain ⟨s, hs⟩ := th_coe r
  rw [hs, lit_half, lit_one, lit_k0, lit_k1, lit_three, named_k013, show (1 : EReal) = ((1 : ℝ) : EReal) from rfl]
  simp only [← EReal.coe_mul, ← EReal.coe_add, ← EReal.coe_sub]
  congr 1
  ring

end Cert.Spec

end

end
-- ==== Proof.RefRead.lean ====
/- THE REFERENCE, OPERATION BY OPERATION. What the reference's values are at an index, in the plain sums of `Spec` over the
   layer's arrays, where the arguments are real numbers: the convolution's input and output, the cotangent of the gated
   product, the gradients of the convolution's two outputs. -/
module

public import proofs.«01_k».proof.Proof.Gelu
public import proofs.«01_k».proof.Proof.Entry
public import Idealize.ShloMosaic.Lib.KernelVsHost

@[expose] public section

set_option maxRecDepth 16384

noncomputable section

namespace Cert.ReferenceIdeal.Plain

open Cert.ReferenceIdeal Cert.ReferenceIdeal.Read Cert.KernelIdeal.Tile Cert.Spec Idealize.ShloMosaic

/-! ## Padding and joining rows -/

theorem pad_in {n m b lo hi : ℕ} (x : (⟨2, ![n, b]⟩ : Shape).Idx → EReal) (v : (⟨0, ![]⟩ : Shape).Idx → EReal)
    (h : (⟨2, ![n, b]⟩ : Shape).Pads ![lo, 0] ![hi, 0] ![0, 0] ⟨2, ![m, b]⟩) (hu : 0 < (⟨0, ![]⟩ : Shape).numel)
    (s : Fin m) (q : Fin b) (k : Fin n) (hk : s.val = lo + k.val) :
    pad ⟨2, ![m, b]⟩ ![lo, 0] ![hi, 0] ![0, 0] x v h hu (ix2 s q) = x (ix2 k q) :=
  pad_apply_of_inside _ _ _ x v h hu (ix2 s q) (ix2 k q) fun a => by
    match a with
    | ⟨0, _⟩ => show s.val = lo + k.val * (0 + 1); omega
    | ⟨1, _⟩ => show q.val = 0 + q.val * (0 + 1); omega

theorem pad_out {n m b lo hi : ℕ} (x : (⟨2, ![n, b]⟩ : Shape).Idx → EReal) (v : (⟨0, ![]⟩ : Shape).Idx → EReal) (hv : ∀ i, v i = 0)
    (h : (⟨2, ![n, b]⟩ : Shape).Pads ![lo, 0] ![hi, 0] ![0, 0] ⟨2, ![m, b]⟩) (hu : 0 < (⟨0, ![]⟩ : Shape).numel)
    (s : Fin m) (q : Fin b) (hs : s.val < lo ∨ lo + n ≤ s.val) :
    pad ⟨2, ![m, b]⟩ ![lo, 0] ![hi, 0] ![0, 0] x v h hu (ix2 s q) = 0 :=
  (pad_apply_of_not_inside _ _ _ x v h hu (ix2 s q) (0 : Fin 2) (by
    show ¬(lo ≤ s.val ∧ (s.val - lo) % (0 + 1) = 0 ∧ (s.val - lo) / (0 + 1) < n)
    rintro ⟨h1, -, h3⟩
    rw [Nat.zero_add, Nat.div_one] at h3
    omega)).trans (hv _)

/-- A sum over the sequence with one factor moved by `j` rows is the sum with the other factor moved back. -/
theorem shift_sum (N j : ℕ) (hj : j ≤ N) (U D : ℕ → EReal) (hD : ∀ t, N ≤ t → D t = 0) :
    ∑ t ∈ Finset.range N, (if j ≤ t then U (t - j) else 0) * D t = ∑ t ∈ Finset.range N, D (t + j) * U t := by
  obtain ⟨n, rfl⟩ : ∃ n, N = n + j := ⟨N - j, by omega⟩
  rw [Nat.add_comm n j, Finset.sum_range_add, Nat.add_comm j n, Finset.sum_range_add]
  rw [Finset.sum_eq_zero (s := Finset.range j) (fun t ht => by
      rw [if_neg (by have := Finset.mem_range.mp ht; omega), zero_mul]), zero_add]
  rw [Finset.sum_eq_zero (s := Finset.range j) (fun t ht => by
      rw [hD (n + t + j) (by omega), zero_mul]), add_zero]
  refine Finset.sum_congr rfl fun t _ => ?_
  rw [if_pos (by omega), Nat.add_sub_cancel_left, mul_comm, Nat.add_comm j t]

/-- Equal rows and columns, equal indices. -/
theorem ix_eq {a b : ℕ} (i : (⟨2, ![a, b]⟩ : Shape).Idx) (r : Fin a) (q : Fin b) (hr : (i 0).val = r.val) (hq : (i 1).val = q.val) : i = ix2 r q :=
  funext fun z => Fin.ext (by match z with | ⟨0, _⟩ => exact hr | ⟨1, _⟩ => exact hq)

section Arrays

variable (x0 : FVec Ideal S8192x1024 .f32) (x1 : FVec Ideal S1024x5632 .f32) (x2 : FVec Ideal S3x5632 .f32) (x3 : FVec Ideal S1x5632 .f32)
  (x4 : FVec Ideal S2816x1024 .f32) (x5 : FVec Ideal S8192x1024 .f32)

/-- The convolution's input with two rows of zeros before it. -/
theorem v2_at (s : Fin 8194) (g : Fin 5632) :
    (val_main_v2 (F := Ideal) x0 x1 (ix2 s g) : EReal) = if 2 ≤ s.val then (inp x0 x1 x2 x3 x4 x5).u (s.val - 2) g.val else 0 := by
  unfold val_main_v2
  by_cases hs : 2 ≤ s.val
  · rw [if_pos hs]
    refine (concatenate_pair_apply_right (t := S8194x5632) (s₁ := S2x5632) (s₂ := S8192x5632) 0 _ _ _ (ix2 s g) rfl rfl
      (ix2 ⟨s.val - 2, by omega⟩ g) (fun b hb => ?_) ?_).trans (nat2_of (a := 8192) (b := 5632) _ _ _ (by omega) g.isLt).symm
    · match b with
      | ⟨0, _⟩ => exact absurd rfl hb
      | ⟨1, _⟩ => rfl
    · show s.val - 2 + 2 = s.val; omega
  · rw [if_neg hs]
    refine (concatenate_pair_apply_left (t := S8194x5632) (s₁ := S2x5632) (s₂ := S8192x5632) 0 _ _ _ (ix2 s g) rfl
      (ix2 ⟨s.val, by omega⟩ g) (fun b => ?_)).trans ?_
    · match b with
      | ⟨0, _⟩ => rfl
      | ⟨1, _⟩ => rfl
    · rw [val_main_v1_apply, val_main_cst_apply]; exact lit_zero

theorem v4_at (t : Fin 8192) (g : Fin 5632) :
    (val_main_v4 (F := Ideal) x0 x1 (ix2 t g) : EReal) = if 2 ≤ t.val then (inp x0 x1 x2 x3 x4 x5).u (t.val - 2) g.val else 0 := by
  rw [val_main_v4_apply, ix_eq (a := 8194) (b := 5632) (idx_main_v4 (ix2 t g)) ⟨t.val, by omega⟩ g rfl rfl, v2_at x0 x1 x2 x3 x4 x5]
theorem v12_at (t : Fin 8192) (g : Fin 5632) :
    (val_main_v12 (F := Ideal) x0 x1 (ix2 t g) : EReal) = if 1 ≤ t.val then (inp x0 x1 x2 x3 x4 x5).u (t.val - 1) g.val else 0 := by
  rw [val_main_v12_apply, ix_eq (a := 8194) (b := 5632) (idx_main_v12 (ix2 t g)) ⟨1 + t.val, by omega⟩ g rfl rfl, v2_at x0 x1 x2 x3 x4 x5]
  show (if 2 ≤ 1 + t.val then (inp x0 x1 x2 x3 x4 x5).u (1 + t.val - 2) g.val else 0) = _
  by_cases h : 1 ≤ t.val
  · rw [if_pos h, if_pos (by omega), show 1 + t.val - 2 = t.val - 1 by omega]
  · rw [if_neg h, if_neg (by omega)]
theorem v19_at (t : Fin 8192) (g : Fin 5632) :
    (val_main_v19 (F := Ideal) x0 x1 (ix2 t g) : EReal) = (inp x0 x1 x2 x3 x4 x5).u t.val g.val := by
  rw [val_main_v19_apply, ix_eq (a := 8194) (b := 5632) (idx_main_v19 (ix2 t g)) ⟨2 + t.val, by omega⟩ g rfl rfl, v2_at x0 x1 x2 x3 x4 x5]
  show (if 2 ≤ 2 + t.val then (inp x0 x1 x2 x3 x4 x5).u (2 + t.val - 2) g.val else 0) = _
  rw [if_pos (by omega), show 2 + t.val - 2 = t.val by omega]

theorem v28_at (t : Fin 8192) (f : Fin 2816) : (val_main_v28 (F := Ideal) x0 x1 x2 x3 (ix2 t f) : EReal) = (inp x0 x1 x2 x3 x4 x5).c t.val f.val := by
  rw [val_main_v28_apply, ix_eq (a := 8192) (b := 5632) (idx_main_v28 (ix2 t f)) t ⟨f.val, by omega⟩ rfl rfl]
  exact (nat2_of (a := 8192) (b := 5632) (val_main_v27 (F := Ideal) x0 x1 x2 x3) t.val f.val t.isLt (by omega)).symm
theorem v29_at (t : Fin 8192) (f : Fin 2816) : (val_main_v29 (F := Ideal) x0 x1 x2 x3 (ix2 t f) : EReal) = (inp x0 x1 x2 x3 x4 x5).c t.val (2816 + f.val) := by
  rw [val_main_v29_apply, ix_eq (a := 8192) (b := 5632) (idx_main_v29 (ix2 t f)) t ⟨2816 + f.val, by omega⟩ rfl rfl]
  exact (nat2_of (a := 8192) (b := 5632) (val_main_v27 (F := Ideal) x0 x1 x2 x3) t.val (2816 + f.val) t.isLt (by omega)).symm

theorem v55_at (t : Fin 8192) (f : Fin 2816) : (val_main_v55 (F := Ideal) x4 x5 (ix2 t f) : EReal) = dy (inp x0 x1 x2 x3 x4 x5) t.val f.val := by
  refine (val_main_v55_apply x4 x5 _).trans (Finset.sum_congr rfl fun d _ => congr (congrArg HMul.hMul ?_) ?_)
  · exact (congrArg x5 (ix_eq (a := 8192) (b := 1024) _ t d rfl rfl)).trans (nat2_of (a := 8192) (b := 1024) x5 _ _ t.isLt d.isLt).symm
  · exact (congrArg x4 (ix_eq (a := 2816) (b := 1024) _ f d rfl rfl)).trans (nat2_of (a := 2816) (b := 1024) x4 _ _ f.isLt d.isLt).symm

/-! ## Elementwise -/

theorem v51_eq (i : S8192x2816.Idx) : (val_main_v51 (F := Ideal) x0 x1 x2 x3 i : EReal)
    = val_main_v28 (F := Ideal) x0 x1 x2 x3 i * hpR (val_main_v28 (F := Ideal) x0 x1 x2 x3 i) * val_main_v29 (F := Ideal) x0 x1 x2 x3 i := rfl
theorem v56_eq (i : S8192x2816.Idx) : (val_main_v56 (F := Ideal) x0 x1 x2 x3 x4 x5 i : EReal)
    = val_main_v28 (F := Ideal) x0 x1 x2 x3 i * hpR (val_main_v28 (F := Ideal) x0 x1 x2 x3 i) * val_main_v55 (F := Ideal) x4 x5 i := rfl
theorem v69_eq (i : S8192x2816.Idx) : (val_main_v69 (F := Ideal) x0 x1 x2 x3 x4 x5 i : EReal)
    = gradR (val_main_v28 (F := Ideal) x0 x1 x2 x3 i) (val_main_v55 (F := Ideal) x4 x5 i * val_main_v29 (F := Ideal) x0 x1 x2 x3 i) := rfl

/-! ## Real numbers -/

/-- The arguments are real numbers. -/
structure Reals : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)

variable {x0 x1 x2 x3 x4 x5}

theorem nat2_real {a b : ℕ} (x : (⟨2, ![a, b]⟩ : Shape).Idx → EReal) (h : ∀ i, IsReal (x i)) (i j : ℕ) : IsReal (nat2 x i j) := by
  unfold nat2
  split
  · exact h _
  · exact IsReal.zero

variable (R : Reals x0 x1 x2 x3 x4 x5)
include R

theorem Reals.u (i j : ℕ) : IsReal ((inp x0 x1 x2 x3 x4 x5).u i j) :=
  nat2_real (a := 8192) (b := 5632) _ (fun i => by
    rw [val_main_v0_apply]
    exact IsReal.sum _ _ fun k => (R.r0 _).mul (R.r1 _)) i j

theorem Reals.c (i j : ℕ) : IsReal ((inp x0 x1 x2 x3 x4 x5).c i j) := by
  refine nat2_real (a := 8192) (b := 5632) _ (fun i => ?_) i j
  obtain ⟨t, g, rfl⟩ : ∃ t g, i = ix2 (n0 := 8192) (n1 := 5632) t g := ⟨i 0, i 1, eq_ix2 i⟩
  rw [val_main_v27_apply, val_main_v26_apply, val_main_v25_apply, val_main_v18_apply, val_main_v11_apply, val_main_v10_apply, val_main_cst_1_apply,
    val_main_v9_apply, val_main_v17_apply, val_main_v24_apply, val_main_v8_apply, val_main_v7_apply, val_main_v6_apply, val_main_v5_apply,
    val_main_v16_apply, val_main_v15_apply, val_main_v14_apply, val_main_v13_apply,
    val_main_v23_apply, val_main_v22_apply, val_main_v21_apply, val_main_v20_apply,
    v4_at x0 x1 x2 x3 x4 x5, v12_at x0 x1 x2 x3 x4 x5, v19_at x0 x1 x2 x3 x4 x5]
  have z : IsReal (FloatOps.ofBits (F := Ideal) .f32 0x00000000#32) := ⟨0, lit_zero⟩
  have cond : ∀ (p : Prop) [Decidable p] (y : EReal), IsReal y → IsReal (if p then y else 0) := fun p _ y hy => by
    split
    · exact hy
    · exact IsReal.zero
  exact (R.r3 _).add (((z.add ((cond _ _ (R.u _ _)).mul (R.r2 _))).add ((cond _ _ (R.u _ _)).mul (R.r2 _))).add ((R.u _ _).mul (R.r2 _)))

theorem Reals.dy (t f : ℕ) : IsReal (dy (inp x0 x1 x2 x3 x4 x5) t f) :=
  IsReal.sum _ _ fun d => (nat2_real x5 R.r5 _ _).mul (nat2_real x4 R.r4 _ _)

/-! ## The gradients of the convolution's outputs -/

theorem v69_at (t : Fin 8192) (f : Fin 2816) :
    (val_main_v69 (F := Ideal) x0 x1 x2 x3 x4 x5 (ix2 t f) : EReal) = dcG (inp x0 x1 x2 x3 x4 x5) t.val f.val := by
  rw [v69_eq, v28_at x0 x1 x2 x3 x4 x5, v29_at x0 x1 x2 x3 x4 x5, v55_at x0 x1 x2 x3 x4 x5]
  exact gradR_eq (R.c _ _) ((R.dy _ _).mul (R.c _ _))
theorem v56_at (t : Fin 8192) (f : Fin 2816) :
    (val_main_v56 (F := Ideal) x0 x1 x2 x3 x4 x5 (ix2 t f) : EReal) = dcV (inp x0 x1 x2 x3 x4 x5) t.val f.val := by
  rw [v56_eq, v28_at x0 x1 x2 x3 x4 x5, v55_at x0 x1 x2 x3 x4 x5, geluR_eq (R.c _ _)]
  exact mul_comm _ _
theorem v51_at (t : Fin 8192) (f : Fin 2816) :
    (val_main_v51 (F := Ideal) x0 x1 x2 x3 (ix2 t f) : EReal) = gelu ((inp x0 x1 x2 x3 x4 x5).c t.val f.val) * (inp x0 x1 x2 x3 x4 x5).c t.val (2816 + f.val) := by
  rw [v51_eq, v28_at x0 x1 x2 x3 x4 x5, v29_at x0 x1 x2 x3 x4 x5, geluR_eq (R.c _ _)]

theorem v70_lo (t : Fin 8192) (f : Fin 2816) :
    (val_main_v70 (F := Ideal) x0 x1 x2 x3 x4 x5 (ix2 t ⟨f.val, by omega⟩) : EReal) = dcG (inp x0 x1 x2 x3 x4 x5) t.val f.val := by
  unfold val_main_v70
  refine (concatenate_pair_apply_left (t := S8192x5632) (s₁ := S8192x2816) (s₂ := S8192x2816) 1 _ _ _ _ rfl (ix2 t f) (fun b => ?_)).trans (v69_at R t f)
  match b with
  | ⟨0, _⟩ => rfl
  | ⟨1, _⟩ => rfl
theorem v70_hi (t : Fin 8192) (f : Fin 2816) :
    (val_main_v70 (F := Ideal) x0 x1 x2 x3 x4 x5 (ix2 t ⟨2816 + f.val, by omega⟩) : EReal) = dcV (inp x0 x1 x2 x3 x4 x5) t.val f.val := by
  unfold val_main_v70
  refine (concatenate_pair_apply_right (t := S8192x5632) (s₁ := S8192x2816) (s₂ := S8192x2816) 1 _ _ _ _ rfl rfl (ix2 t f) (fun b hb => ?_) ?_).trans (v56_at R t f)
  · match b with
    | ⟨0, _⟩ => rfl
    | ⟨1, _⟩ => exact absurd rfl hb
  · show f.val + 2816 = 2816 + f.val; omega

end Arrays

end Cert.ReferenceIdeal.Plain

end

end
-- ==== Proof.RefValue.lean ====
/- THE REFERENCE'S NINE RESULTS. One column of the convolution at a time, with `D` the gradient of its output down the
   sequence (zero past the end), each result is the plain sum of `Spec`; then the two halves. -/
module

public import proofs.«01_k».proof.Proof.RefRead

@[expose] public section

set_option maxRecDepth 16384

noncomputable section

namespace Cert.ReferenceIdeal.Plain

open Cert.ReferenceIdeal Cert.ReferenceIdeal.Read Cert.KernelIdeal.Tile Cert.Spec Idealize.ShloMosaic

variable (x0 : FVec Ideal S8192x1024 .f32) (x1 : FVec Ideal S1024x5632 .f32) (x2 : FVec Ideal S3x5632 .f32) (x3 : FVec Ideal S1x5632 .f32)
  (x4 : FVec Ideal S2816x1024 .f32) (x5 : FVec Ideal S8192x1024 .f32)

/-! ## One column -/

section Column

variable (g : Fin 5632) (D : ℕ → EReal) (hD : ∀ t : Fin 8192, (val_main_v70 (F := Ideal) x0 x1 x2 x3 x4 x5 (ix2 t g) : EReal) = D t.val)
  (h0 : ∀ t, 8192 ≤ t → D t = 0)

/-- The taps of row `k` in every row of the sequence. -/
theorem w_row (k : Fin 3) : (inp x0 x1 x2 x3 x4 x5).w k.val g.val = x2 (ix2 k g) := nat2_of (a := 3) (b := 5632) x2 _ _ k.isLt g.isLt

theorem v76_at (t : Fin 8192) : (val_main_v76 (F := Ideal) x2 (ix2 t g) : EReal) = (inp x0 x1 x2 x3 x4 x5).w 2 g.val := by
  rw [val_main_v76_apply, val_main_v22_apply, val_main_v21_apply, val_main_v20_apply]
  exact (congrArg x2 (ix_eq (a := 3) (b := 5632) _ 2 g rfl (Nat.mod_eq_of_lt g.isLt))).trans (w_row x0 x1 x2 x3 x4 x5 g 2).symm
theorem v85_at (t : Fin 8192) : (val_main_v85 (F := Ideal) x2 (ix2 t g) : EReal) = (inp x0 x1 x2 x3 x4 x5).w 1 g.val := by
  rw [val_main_v85_apply, val_main_v15_apply, val_main_v14_apply, val_main_v13_apply]
  exact (congrArg x2 (ix_eq (a := 3) (b := 5632) _ 1 g rfl (Nat.mod_eq_of_lt g.isLt))).trans (w_row x0 x1 x2 x3 x4 x5 g 1).symm
theorem v96_at (t : Fin 8192) : (val_main_v96 (F := Ideal) x2 (ix2 t g) : EReal) = (inp x0 x1 x2 x3 x4 x5).w 0 g.val := by
  rw [val_main_v96_apply, val_main_v7_apply, val_main_v6_apply, val_main_v5_apply]
  exact (congrArg x2 (ix_eq (a := 3) (b := 5632) _ 0 g rfl (Nat.mod_eq_of_lt g.isLt))).trans (w_row x0 x1 x2 x3 x4 x5 g 0).symm

include hD

theorem v77_at (t : Fin 8192) : (val_main_v77 (F := Ideal) x0 x1 x2 x3 x4 x5 (ix2 t g) : EReal) = D t.val * (inp x0 x1 x2 x3 x4 x5).w 2 g.val := by
  rw [val_main_v77_apply, hD, v76_at x0 x1 x2 x3 x4 x5]; rfl
theorem v86_at (t : Fin 8192) : (val_main_v86 (F := Ideal) x0 x1 x2 x3 x4 x5 (ix2 t g) : EReal) = D t.val * (inp x0 x1 x2 x3 x4 x5).w 1 g.val := by
  rw [val_main_v86_apply, hD, v85_at x0 x1 x2 x3 x4 x5]; rfl
theorem v97_at (t : Fin 8192) : (val_main_v97 (F := Ideal) x0 x1 x2 x3 x4 x5 (ix2 t g) : EReal) = D t.val * (inp x0 x1 x2 x3 x4 x5).w 0 g.val := by
  rw [val_main_v97_apply, hD, v96_at x0 x1 x2 x3 x4 x5]; rfl

include h0

/-- The gradient of the convolution's input. -/
theorem v105_at (t : Fin 8192) :
    (val_main_v105 (F := Ideal) x0 x1 x2 x3 x4 x5 (ix2 t g) : EReal) = du (inp x0 x1 x2 x3 x4 x5) (fun t _ => D t) g.val t.val 0 := by
  rw [val_main_v105_apply, ix_eq (a := 8194) (b := 5632) (idx_main_v105 (ix2 t g)) ⟨2 + t.val, by omega⟩ g rfl rfl, val_main_v103_apply, val_main_v92_apply]
  have e81 : (val_main_v81 (F := Ideal) x0 x1 x2 x3 x4 x5 (ix2 ⟨2 + t.val, by omega⟩ g) : EReal) = D t.val * (inp x0 x1 x2 x3 x4 x5).w 2 g.val :=
    (pad_in (n := 8192) (m := 8194) (b := 5632) (lo := 2) (hi := 0) (val_main_v77 (F := Ideal) x0 x1 x2 x3 x4 x5) _ _ _ ⟨2 + t.val, by omega⟩ g t rfl).trans (v77_at x0 x1 x2 x3 x4 x5 g D hD t)
  have e91 : (val_main_v91 (F := Ideal) x0 x1 x2 x3 x4 x5 (ix2 ⟨2 + t.val, by omega⟩ g) : EReal) = D (t.val + 1) * (inp x0 x1 x2 x3 x4 x5).w 1 g.val := by
    by_cases ht : t.val + 1 < 8192
    · exact (pad_in (n := 8192) (m := 8194) (b := 5632) (lo := 1) (hi := 1) (val_main_v86 (F := Ideal) x0 x1 x2 x3 x4 x5) _ _ _ ⟨2 + t.val, by omega⟩ g ⟨t.val + 1, ht⟩
        (by show 2 + t.val = 1 + (t.val + 1); omega)).trans (v86_at x0 x1 x2 x3 x4 x5 g D hD ⟨t.val + 1, ht⟩)
    · rw [h0 _ (by omega), zero_mul]
      exact pad_out (n := 8192) (m := 8194) (b := 5632) (lo := 1) (hi := 1) (val_main_v86 (F := Ideal) x0 x1 x2 x3 x4 x5) _ (fun _ => lit_zero) _ _ ⟨2 + t.val, by omega⟩ g
        (Or.inr (by show 1 + 8192 ≤ 2 + t.val; omega))
  have e102 : (val_main_v102 (F := Ideal) x0 x1 x2 x3 x4 x5 (ix2 ⟨2 + t.val, by omega⟩ g) : EReal) = D (t.val + 2) * (inp x0 x1 x2 x3 x4 x5).w 0 g.val := by
    by_cases ht : t.val + 2 < 8192
    · exact (pad_in (n := 8192) (m := 8194) (b := 5632) (lo := 0) (hi := 2) (val_main_v97 (F := Ideal) x0 x1 x2 x3 x4 x5) _ _ _ ⟨2 + t.val, by omega⟩ g ⟨t.val + 2, ht⟩
        (by show 2 + t.val = 0 + (t.val + 2); omega)).trans (v97_at x0 x1 x2 x3 x4 x5 g D hD ⟨t.val + 2, ht⟩)
    · rw [h0 _ (by omega), zero_mul]
      exact pad_out (n := 8192) (m := 8194) (b := 5632) (lo := 0) (hi := 2) (val_main_v97 (F := Ideal) x0 x1 x2 x3 x4 x5) _ (fun _ => lit_zero) _ _ ⟨2 + t.val, by omega⟩ g
        (Or.inr (by show 0 + 8192 ≤ 2 + t.val; omega))
  rw [e81, e91, e102]; rfl

/-- The gradient of the up weights. -/
theorem v106_at (e : Fin 1024) :
    (val_main_v106 (F := Ideal) x0 x1 x2 x3 x4 x5 (ix2 g e) : EReal)
      = ∑ t ∈ Finset.range 8192, du (inp x0 x1 x2 x3 x4 x5) (fun t _ => D t) g.val t 0 * (inp x0 x1 x2 x3 x4 x5).h t e.val := by
  rw [Finset.sum_range]
  refine (val_main_v106_apply x0 x1 x2 x3 x4 x5 _).trans (Finset.sum_congr rfl fun t _ => congr (congrArg HMul.hMul ?_) ?_)
  · rw [ix_eq (a := 8192) (b := 5632) (lidx_main_v106 (ix2 g e) t) t g rfl rfl]
    exact v105_at x0 x1 x2 x3 x4 x5 g D hD h0 t
  · rw [ix_eq (a := 8192) (b := 1024) (ridx_main_v106 (ix2 g e) t) t e rfl rfl]
    exact (nat2_of (a := 8192) (b := 1024) x0 _ _ t.isLt e.isLt).symm

omit h0 in
/-- The gradient of the biases. -/
theorem v72_at (z : Fin 1) : (val_main_v72 (F := Ideal) x0 x1 x2 x3 x4 x5 (ix2 z g) : EReal) = ∑ t ∈ Finset.range 8192, D t := by
  obtain rfl : z = 0 := Subsingleton.elim _ _
  rw [Finset.sum_range, val_main_v72_apply, val_main_v71_apply, val_main_cst_12_apply]
  rw [show (FloatOps.ofBits (F := Ideal) .f32 0x00000000#32 : EReal) = 0 from lit_zero]
  refine (zero_add _).trans (Finset.sum_congr rfl fun t _ => ?_)
  refine Eq.trans ?_ (hD t)
  exact congrArg (val_main_v70 (F := Ideal) x0 x1 x2 x3 x4 x5) (ix_eq (a := 8192) (b := 5632) _ t g rfl (by show 0 * 5632 + g.val = _; exact Nat.zero_add _))

/-- The sum down the sequence that gives each row of the taps' gradient. -/
theorem v79_at (z : Fin 1) : (val_main_v79 (F := Ideal) x0 x1 x2 x3 x4 x5 (ix2 z g) : EReal)
    = ∑ t ∈ Finset.range 8192, D (t + 0) * (inp x0 x1 x2 x3 x4 x5).u t g.val := by
  rw [Finset.sum_range, val_main_v79_apply, val_main_v78_apply, val_main_cst_14_apply]
  rw [show (FloatOps.ofBits (F := Ideal) .f32 0x00000000#32 : EReal) = 0 from lit_zero]
  refine (zero_add _).trans ((Fin.sum_univ_one _).trans ?_)
  rw [val_main_v75_apply, val_main_v74_apply, val_main_cst_13_apply]
  rw [show (FloatOps.ofBits (F := Ideal) .f32 0x00000000#32 : EReal) = 0 from lit_zero]
  refine (zero_add _).trans (Finset.sum_congr rfl fun t _ => ?_)
  rw [val_main_v73_apply, ix_eq (a := 8192) (b := 5632) (idx_main_v74 _ t) t g rfl (by show 0 * 5632 + g.val = _; exact Nat.zero_add _), hD, v19_at x0 x1 x2 x3 x4 x5]
  exact mul_comm _ _
theorem v88_at (z : Fin 1) : (val_main_v88 (F := Ideal) x0 x1 x2 x3 x4 x5 (ix2 z g) : EReal)
    = ∑ t ∈ Finset.range 8192, D (t + 1) * (inp x0 x1 x2 x3 x4 x5).u t g.val := by
  rw [← shift_sum 8192 1 (by omega) (fun t => (inp x0 x1 x2 x3 x4 x5).u t g.val) D h0, Finset.sum_range, val_main_v88_apply, val_main_v87_apply, val_main_cst_18_apply]
  rw [show (FloatOps.ofBits (F := Ideal) .f32 0x00000000#32 : EReal) = 0 from lit_zero]
  refine (zero_add _).trans ((Fin.sum_univ_one _).trans ?_)
  rw [val_main_v84_apply, val_main_v83_apply, val_main_cst_17_apply]
  rw [show (FloatOps.ofBits (F := Ideal) .f32 0x00000000#32 : EReal) = 0 from lit_zero]
  refine (zero_add _).trans (Finset.sum_congr rfl fun t _ => ?_)
  rw [val_main_v82_apply, ix_eq (a := 8192) (b := 5632) (idx_main_v83 _ t) t g rfl (by show 0 * 5632 + g.val = _; exact Nat.zero_add _), hD, v12_at x0 x1 x2 x3 x4 x5]
  rfl
theorem v99_at (z : Fin 1) : (val_main_v99 (F := Ideal) x0 x1 x2 x3 x4 x5 (ix2 z g) : EReal)
    = ∑ t ∈ Finset.range 8192, D (t + 2) * (inp x0 x1 x2 x3 x4 x5).u t g.val := by
  rw [← shift_sum 8192 2 (by omega) (fun t => (inp x0 x1 x2 x3 x4 x5).u t g.val) D h0, Finset.sum_range, val_main_v99_apply, val_main_v98_apply, val_main_cst_22_apply]
  rw [show (FloatOps.ofBits (F := Ideal) .f32 0x00000000#32 : EReal) = 0 from lit_zero]
  refine (zero_add _).trans ((Fin.sum_univ_one _).trans ?_)
  rw [val_main_v95_apply, val_main_v94_apply, val_main_cst_21_apply]
  rw [show (FloatOps.ofBits (F := Ideal) .f32 0x00000000#32 : EReal) = 0 from lit_zero]
  refine (zero_add _).trans (Finset.sum_congr rfl fun t _ => ?_)
  rw [val_main_v93_apply, ix_eq (a := 8192) (b := 5632) (idx_main_v94 _ t) t g rfl (by show 0 * 5632 + g.val = _; exact Nat.zero_add _), hD, v4_at x0 x1 x2 x3 x4 x5]
  rfl

/-- The gradient of the taps. -/
theorem v101_at (k : Fin 3) : (val_main_v101 (F := Ideal) x0 x1 x2 x3 x4 x5 (ix2 k g) : EReal)
    = ∑ t ∈ Finset.range 8192, D (t + (2 - k.val)) * (inp x0 x1 x2 x3 x4 x5).u t g.val := by
  rw [val_main_v101_apply, val_main_v90_apply]
  have o80 : ∀ k : Fin 3, k.val ≠ 2 → (val_main_v80 (F := Ideal) x0 x1 x2 x3 x4 x5 (ix2 k g) : EReal) = 0 := fun k hk =>
    pad_out (n := 1) (m := 3) (b := 5632) (lo := 2) (hi := 0) (val_main_v79 (F := Ideal) x0 x1 x2 x3 x4 x5) _ (fun _ => lit_zero) _ _ k g (by omega)
  have o89 : ∀ k : Fin 3, k.val ≠ 1 → (val_main_v89 (F := Ideal) x0 x1 x2 x3 x4 x5 (ix2 k g) : EReal) = 0 := fun k hk =>
    pad_out (n := 1) (m := 3) (b := 5632) (lo := 1) (hi := 1) (val_main_v88 (F := Ideal) x0 x1 x2 x3 x4 x5) _ (fun _ => lit_zero) _ _ k g (by omega)
  have o100 : ∀ k : Fin 3, k.val ≠ 0 → (val_main_v100 (F := Ideal) x0 x1 x2 x3 x4 x5 (ix2 k g) : EReal) = 0 := fun k hk =>
    pad_out (n := 1) (m := 3) (b := 5632) (lo := 0) (hi := 2) (val_main_v99 (F := Ideal) x0 x1 x2 x3 x4 x5) _ (fun _ => lit_zero) _ _ k g (by omega)
  match k with
  | ⟨0, _⟩ =>
    rw [o80 _ (by show 0 ≠ 2; decide), o89 _ (by show 0 ≠ 1; decide)]
    refine (congrArg (· + _) (zero_add (0 : EReal))).trans ((zero_add _).trans ?_)
    exact (pad_in (n := 1) (m := 3) (b := 5632) (lo := 0) (hi := 2) (val_main_v99 (F := Ideal) x0 x1 x2 x3 x4 x5) _ _ _ 0 g 0 rfl).trans (v99_at x0 x1 x2 x3 x4 x5 g D hD h0 0)
  | ⟨1, _⟩ =>
    rw [o80 _ (by show 1 ≠ 2; decide), o100 _ (by show 1 ≠ 0; decide)]
    refine (add_zero _).trans ((zero_add _).trans ?_)
    exact (pad_in (n := 1) (m := 3) (b := 5632) (lo := 1) (hi := 1) (val_main_v88 (F := Ideal) x0 x1 x2 x3 x4 x5) _ _ _ 1 g 0 rfl).trans (v88_at x0 x1 x2 x3 x4 x5 g D hD h0 0)
  | ⟨2, _⟩ =>
    rw [o89 _ (by show 2 ≠ 1; decide), o100 _ (by show 2 ≠ 0; decide)]
    refine (add_zero _).trans ((add_zero _).trans ?_)
    exact (pad_in (n := 1) (m := 3) (b := 5632) (lo := 2) (hi := 0) (val_main_v79 (F := Ideal) x0 x1 x2 x3 x4 x5) _ _ _ 2 g 0 rfl).trans (v79_at x0 x1 x2 x3 x4 x5 g D hD h0 0)

end Column

/-! ## The two halves -/

variable {x0 x1 x2 x3 x4 x5} (R : Reals x0 x1 x2 x3 x4 x5)

/-- Past the end of the sequence there is no cotangent. -/
theorem dy_zero (t f : ℕ) (h : 8192 ≤ t) : dy (inp x0 x1 x2 x3 x4 x5) t f = 0 :=
  Finset.sum_eq_zero fun d _ => by
    rw [show (inp x0 x1 x2 x3 x4 x5).df t d.val = 0 from dif_neg (by omega), zero_mul]
theorem dcG_zero (f t : ℕ) (h : 8192 ≤ t) : Spec.dcG (inp x0 x1 x2 x3 x4 x5) t f = 0 := by
  unfold Spec.dcG; rw [dy_zero t f h, zero_mul, zero_mul]
theorem dcV_zero (f t : ℕ) (h : 8192 ≤ t) : Spec.dcV (inp x0 x1 x2 x3 x4 x5) t f = 0 := by
  unfold Spec.dcV; rw [dy_zero t f h, zero_mul]

/-- A column of the gate half, and of the value half. -/
abbrev lo (f : Fin 2816) : Fin 5632 := ⟨f.val, by omega⟩
abbrev hi (f : Fin 2816) : Fin 5632 := ⟨2816 + f.val, by omega⟩

include R

theorem v110_at (t : Fin 8192) (f : Fin 2816) : (val_main_v110 (F := Ideal) x0 x1 x2 x3 x4 x5 (ix2 t f) : EReal)
    = du (inp x0 x1 x2 x3 x4 x5) (Spec.dcG (inp x0 x1 x2 x3 x4 x5)) f.val t.val f.val := by
  refine (val_main_v109_apply (F := Ideal) x0 x1 x2 x3 x4 x5 (ix2 t f)).trans ?_
  rw [ix_eq (a := 8192) (b := 5632) (idx_main_v109 (ix2 t f)) t (lo f) rfl rfl]
  exact v105_at x0 x1 x2 x3 x4 x5 (lo f) (fun t => Spec.dcG (inp x0 x1 x2 x3 x4 x5) t f.val) (fun t => v70_lo R t f) (dcG_zero f.val) t
theorem v112_at (t : Fin 8192) (f : Fin 2816) : (val_main_v112 (F := Ideal) x0 x1 x2 x3 x4 x5 (ix2 t f) : EReal)
    = du (inp x0 x1 x2 x3 x4 x5) (Spec.dcV (inp x0 x1 x2 x3 x4 x5)) (2816 + f.val) t.val f.val := by
  refine (val_main_v111_apply (F := Ideal) x0 x1 x2 x3 x4 x5 (ix2 t f)).trans ?_
  rw [ix_eq (a := 8192) (b := 5632) (idx_main_v111 (ix2 t f)) t (hi f) rfl rfl]
  exact v105_at x0 x1 x2 x3 x4 x5 (hi f) (fun t => Spec.dcV (inp x0 x1 x2 x3 x4 x5) t f.val) (fun t => v70_hi R t f) (dcV_zero f.val) t

theorem v115_at (f : Fin 2816) (e : Fin 1024) : (val_main_v115 (F := Ideal) x0 x1 x2 x3 x4 x5 (ix2 f e) : EReal)
    = ∑ x ∈ Finset.range 8192, termU (inp x0 x1 x2 x3 x4 x5) (Spec.dcG (inp x0 x1 x2 x3 x4 x5)) f.val f.val e.val x := by
  refine (val_main_v114_apply (F := Ideal) x0 x1 x2 x3 x4 x5 (ix2 f e)).trans ?_
  rw [val_main_v113_apply, val_main_v107_apply, ix_eq (a := 5632) (b := 1024) (idx_main_v107 _) (lo f) e rfl rfl]
  exact v106_at x0 x1 x2 x3 x4 x5 (lo f) (fun t => Spec.dcG (inp x0 x1 x2 x3 x4 x5) t f.val) (fun t => v70_lo R t f) (dcG_zero f.val) e
theorem v118_at (f : Fin 2816) (e : Fin 1024) : (val_main_v118 (F := Ideal) x0 x1 x2 x3 x4 x5 (ix2 f e) : EReal)
    = ∑ x ∈ Finset.range 8192, termU (inp x0 x1 x2 x3 x4 x5) (Spec.dcV (inp x0 x1 x2 x3 x4 x5)) (2816 + f.val) f.val e.val x := by
  refine (val_main_v117_apply (F := Ideal) x0 x1 x2 x3 x4 x5 (ix2 f e)).trans ?_
  rw [val_main_v116_apply, val_main_v107_apply, ix_eq (a := 5632) (b := 1024) (idx_main_v107 _) (hi f) e rfl rfl]
  exact v106_at x0 x1 x2 x3 x4 x5 (hi f) (fun t => Spec.dcV (inp x0 x1 x2 x3 x4 x5) t f.val) (fun t => v70_hi R t f) (dcV_zero f.val) e

theorem v119_at (f : Fin 2816) (e : Fin 1024) : (val_main_v119 (F := Ideal) x0 x1 x2 x3 x5 (ix2 f e) : EReal)
    = ∑ x ∈ Finset.range 8192, termD (inp x0 x1 x2 x3 x4 x5) f.val e.val x := by
  rw [Finset.sum_range]
  refine (val_main_v54_apply (F := Ideal) x0 x1 x2 x3 x5 (ix2 f e)).trans ((val_main_v53_apply x0 x1 x2 x3 x5 _).trans (Finset.sum_congr rfl fun t _ => ?_))
  rw [ix_eq (a := 8192) (b := 1024) (lidx_main_v53 _ t) t e rfl rfl, ix_eq (a := 8192) (b := 2816) (ridx_main_v53 _ t) t f rfl rfl, v51_at R t f]
  refine (mul_comm _ _).trans (congrArg (HMul.hMul (_ : EReal)) ?_)
  exact (nat2_of (a := 8192) (b := 1024) x5 _ _ t.isLt e.isLt).symm

theorem v120_at (k : Fin 3) (f : Fin 2816) : (val_main_v120 (F := Ideal) x0 x1 x2 x3 x4 x5 (ix2 k f) : EReal)
    = ∑ x ∈ Finset.range 8192, termW (inp x0 x1 x2 x3 x4 x5) (Spec.dcG (inp x0 x1 x2 x3 x4 x5)) f.val f.val k.val x := by
  rw [val_main_v120_apply, ix_eq (a := 3) (b := 5632) (idx_main_v120 (ix2 k f)) k (lo f) rfl rfl]
  exact v101_at x0 x1 x2 x3 x4 x5 (lo f) (fun t => Spec.dcG (inp x0 x1 x2 x3 x4 x5) t f.val) (fun t => v70_lo R t f) (dcG_zero f.val) k
theorem v121_at (k : Fin 3) (f : Fin 2816) : (val_main_v121 (F := Ideal) x0 x1 x2 x3 x4 x5 (ix2 k f) : EReal)
    = ∑ x ∈ Finset.range 8192, termW (inp x0 x1 x2 x3 x4 x5) (Spec.dcV (inp x0 x1 x2 x3 x4 x5)) (2816 + f.val) f.val k.val x := by
  rw [val_main_v121_apply, ix_eq (a := 3) (b := 5632) (idx_main_v121 (ix2 k f)) k (hi f) rfl rfl]
  exact v101_at x0 x1 x2 x3 x4 x5 (hi f) (fun t => Spec.dcV (inp x0 x1 x2 x3 x4 x5) t f.val) (fun t => v70_hi R t f) (dcV_zero f.val) k

theorem v122_at (z : Fin 1) (f : Fin 2816) : (val_main_v122 (F := Ideal) x0 x1 x2 x3 x4 x5 (ix2 z f) : EReal)
    = ∑ x ∈ Finset.range 8192, Spec.dcG (inp x0 x1 x2 x3 x4 x5) x f.val := by
  rw [val_main_v122_apply, ix_eq (a := 1) (b := 5632) (idx_main_v122 (ix2 z f)) z (lo f) rfl rfl]
  exact v72_at x0 x1 x2 x3 x4 x5 (lo f) (fun t => Spec.dcG (inp x0 x1 x2 x3 x4 x5) t f.val) (fun t => v70_lo R t f) z
theorem v123_at (z : Fin 1) (f : Fin 2816) : (val_main_v123 (F := Ideal) x0 x1 x2 x3 x4 x5 (ix2 z f) : EReal)
    = ∑ x ∈ Finset.range 8192, Spec.dcV (inp x0 x1 x2 x3 x4 x5) x f.val := by
  rw [val_main_v123_apply, ix_eq (a := 1) (b := 5632) (idx_main_v123 (ix2 z f)) z (hi f) rfl rfl]
  exact v72_at x0 x1 x2 x3 x4 x5 (hi f) (fun t => Spec.dcV (inp x0 x1 x2 x3 x4 x5) t f.val) (fun t => v70_hi R t f) z

end Cert.ReferenceIdeal.Plain

end

end
-- ==== Proof.Equal.lean ====
/- THE TWO PROGRAMS SIDE BY SIDE. The precondition says of every entry of every argument that its size is below the
   infinite one, so every entry is a real number; over such arguments each of the kernel's nine results is the reference's. -/
module

public import proofs.«01_k».proof.Defs
public import proofs.«01_k».proof.Proof.Results
public import proofs.«01_k».proof.Proof.RefValue
public import Idealize.ShloMosaic.Lib.Claim

@[expose] public section

set_option maxRecDepth 16384

noncomputable section

namespace Cert.Equal

open Cert.KernelIdeal Cert.KernelIdeal.Tile Cert.KernelIdeal.Arrays Cert.ReferenceIdeal.Plain Cert.ReferenceIdeal.Read Cert.Spec
open Idealize.ShloMosaic Idealize.SL.Sem

/-- The broadcasts of the precondition's one scalar are of lengths that agree. -/
@[instance] theorem preFacts : Cert.Pre_finite_args.Facts where
  bcast_S_S8192x1024 := by decide
  bcast_S_S1024x5632 := by decide
  bcast_S_S3x5632 := by decide
  bcast_S_S1x5632 := by decide
  bcast_S_S2816x1024 := by decide

/-- A comparison against the infinite size that comes out as one says the entry is a real number. -/
theorem real_of (x : Ideal .f32) (h : BitVec.ofBool (decide (max (x : EReal) (-x) < Ideal.ofBits .f32 0x7F800000#32)) = 1#1) : IsReal x := by
  rw [lit_top] at h
  refine IsReal.of_abs ?_
  by_contra hn
  rw [decide_eq_false hn] at h
  exact absurd h (by decide)

variable (m : (ℓ : Loc nD τ sig) → Buf (Elt Ideal) ℓ) (c : Dev nD)

/-- Under the precondition every entry of every argument is a real number. -/
theorem reals (h : Pre_KernelIdeal_finite_args m) : Reals (X0 m c) (X1 m c) (X2 m c) (X3 m c) (X4 m c) (X5 m c) where
  r0 := fun i => real_of _ (congrFun (h c).1 i)
  r1 := fun i => real_of _ (congrFun (h c).2.1 i)
  r2 := fun i => real_of _ (congrFun (h c).2.2.1 i)
  r3 := fun i => real_of _ (congrFun (h c).2.2.2.1 i)
  r4 := fun i => real_of _ (congrFun (h c).2.2.2.2.1 i)
  r5 := fun i => real_of _ (congrFun (h c).2.2.2.2.2 i)

variable (x0 : FVec Ideal S8192x1024 .f32) (x1 : FVec Ideal S1024x5632 .f32) (x2 : FVec Ideal S3x5632 .f32) (x3 : FVec Ideal S1x5632 .f32)
  (x4 : FVec Ideal S2816x1024 .f32) (x5 : FVec Ideal S8192x1024 .f32)
  (e0 : x0 = X0 m c) (e1 : x1 = X1 m c) (e2 : x2 = X2 m c) (e3 : x3 = X3 m c) (e4 : x4 = X4 m c) (e5 : x5 = X5 m c)
include e0 e1 e2 e3 e4 e5

/-- Both programs give the gate half's gradient at the up-projection's output. -/
theorem same110 (R : Reals (X0 m c) (X1 m c) (X2 m c) (X3 m c) (X4 m c) (X5 m c)) : val_main_v110 (F := Ideal) x0 x1 x2 x3 x4 x5 = (G12 m c : FVec Ideal S8192x2816 .bf16) := by
  subst e0 e1 e2 e3 e4 e5
  funext i
  rw [eq_ix2 i]
  exact (v110_at R _ _).trans (g12 m c _ _).symm

/-- Both programs give the value half's gradient at the up-projection's output. -/
theorem same112 (R : Reals (X0 m c) (X1 m c) (X2 m c) (X3 m c) (X4 m c) (X5 m c)) : val_main_v112 (F := Ideal) x0 x1 x2 x3 x4 x5 = (G13 m c : FVec Ideal S8192x2816 .bf16) := by
  subst e0 e1 e2 e3 e4 e5
  funext i
  rw [eq_ix2 i]
  exact (v112_at R _ _).trans (g13 m c _ _).symm

/-- Both programs give the gradient of the gate half of the up weights. -/
theorem same115 (R : Reals (X0 m c) (X1 m c) (X2 m c) (X3 m c) (X4 m c) (X5 m c)) : val_main_v115 (F := Ideal) x0 x1 x2 x3 x4 x5 = (G14 m c : FVec Ideal S2816x1024 .bf16) := by
  subst e0 e1 e2 e3 e4 e5
  funext i
  rw [eq_ix2 i]
  exact (v115_at R _ _).trans (g14 m c _ _).symm

/-- Both programs give the gradient of the value half of the up weights. -/
theorem same118 (R : Reals (X0 m c) (X1 m c) (X2 m c) (X3 m c) (X4 m c) (X5 m c)) : val_main_v118 (F := Ideal) x0 x1 x2 x3 x4 x5 = (G15 m c : FVec Ideal S2816x1024 .bf16) := by
  subst e0 e1 e2 e3 e4 e5
  funext i
  rw [eq_ix2 i]
  exact (v118_at R _ _).trans (g15 m c _ _).symm

/-- Both programs give the gradient of the down weights. -/
theorem same119 (R : Reals (X0 m c) (X1 m c) (X2 m c) (X3 m c) (X4 m c) (X5 m c)) : val_main_v119 (F := Ideal) x0 x1 x2 x3 x5 = (G16 m c : FVec Ideal S2816x1024 .bf16) := by
  subst e0 e1 e2 e3 e4 e5
  funext i
  rw [eq_ix2 i]
  exact (v119_at R _ _).trans (g16 m c _ _).symm

/-- Both programs give the gradient of the gate half of the taps. -/
theorem same120 (R : Reals (X0 m c) (X1 m c) (X2 m c) (X3 m c) (X4 m c) (X5 m c)) : val_main_v120 (F := Ideal) x0 x1 x2 x3 x4 x5 = (G17 m c : FVec Ideal S3x2816 .f32) := by
  subst e0 e1 e2 e3 e4 e5
  funext i
  rw [eq_ix2 i]
  exact (v120_at R _ _).trans (g17 m c _ _).symm

/-- Both programs give the gradient of the value half of the taps. -/
theorem same121 (R : Reals (X0 m c) (X1 m c) (X2 m c) (X3 m c) (X4 m c) (X5 m c)) : val_main_v121 (F := Ideal) x0 x1 x2 x3 x4 x5 = (G18 m c : FVec Ideal S3x2816 .f32) := by
  subst e0 e1 e2 e3 e4 e5
  funext i
  rw [eq_ix2 i]
  exact (v121_at R _ _).trans (g18 m c _ _).symm

/-- Both programs give the gradient of the gate half of the biases. -/
theorem same122 (R : Reals (X0 m c) (X1 m c) (X2 m c) (X3 m c) (X4 m c) (X5 m c)) : val_main_v122 (F := Ideal) x0 x1 x2 x3 x4 x5 = (G19 m c : FVec Ideal S1x2816 .f32) := by
  subst e0 e1 e2 e3 e4 e5
  funext i
  rw [eq_ix2 i]
  exact (v122_at R _ _).trans (g19 m c _ _).symm

/-- Both programs give the gradient of the value half of the biases. -/
theorem same123 (R : Reals (X0 m c) (X1 m c) (X2 m c) (X3 m c) (X4 m c) (X5 m c)) : val_main_v123 (F := Ideal) x0 x1 x2 x3 x4 x5 = (G20 m c : FVec Ideal S1x2816 .f32) := by
  subst e0 e1 e2 e3 e4 e5
  funext i
  rw [eq_ix2 i]
  exact (v123_at R _ _).trans (g20 m c _ _).symm

end Cert.Equal

end
-- ==== Proof.Rms.lean ====
module

public import Idealize.ShloMosaic.PureOps.IdealRules
public import Mathlib.Tactic.NormNum
public import Mathlib.Tactic.Ring
public import Mathlib.Tactic.FieldSimp
public import Mathlib.Tactic.Positivity

@[expose] public section

noncomputable section

namespace Cert.Rms

open Idealize.ShloMosaic

/-- A real factor that is not negative goes through a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, mul_comm (f a), mul_comm (∑ i ∈ s, f i)]
    exact EReal.left_distrib_of_nonneg_of_ne_top (by exact_mod_cast hc) (EReal.coe_ne_top c) _ _

/-- A value added to itself is the value with twice the real factor. -/
theorem twice (p : ℝ) (s : EReal) : (p : EReal) * s + (p : EReal) * s = ((2 * p : ℝ) : EReal) * s := by
  have key : ∀ q : ℝ, 0 ≤ q → (q : EReal) * s + (q : EReal) * s = ((2 * q : ℝ) : EReal) * s := by
    intro q hq
    rw [← EReal.right_distrib_of_nonneg (by exact_mod_cast hq) (by exact_mod_cast hq), ← EReal.coe_add, two_mul]
  rcases le_total 0 p with h | h
  · exact key p h
  · have hk := key (-p) (by linarith)
    induction s with
    | coe s => rw [← EReal.coe_mul, ← EReal.coe_add, ← EReal.coe_mul]; congr 1; ring
    | bot =>
      rcases h.lt_or_eq with h | h
      · rw [EReal.coe_mul_bot_of_neg h, EReal.coe_mul_bot_of_neg (by linarith)]; rfl
      · subst h; simp
    | top =>
      rcases h.lt_or_eq with h | h
      · rw [EReal.coe_mul_top_of_neg h, EReal.coe_mul_top_of_neg (by linarith)]; rfl
      · subst h; simp

variable {ι : Type} [Fintype ι]

/-- A row of squares is real and not negative when its entries are real. -/
theorem sq_coe (s : Finset ι) (x : ι → ℝ) : ∃ q : ℝ, 0 ≤ q ∧ (∑ k ∈ s, (x k : EReal) * (x k : EReal)) = (q : EReal) := by
  classical
  induction s using Finset.induction_on with
  | empty => exact ⟨0, le_rfl, by simp⟩
  | insert a s ha ih =>
    obtain ⟨q, hq, e⟩ := ih
    refine ⟨x a * x a + q, add_nonneg (mul_self_nonneg _) hq, ?_⟩
    rw [Finset.sum_insert ha, e, EReal.coe_add, EReal.coe_mul]

/-- A square is not negative. -/
theorem sq_nonneg' (a : EReal) : 0 ≤ a * a := by
  induction a with
  | coe a => rw [← EReal.coe_mul]; exact_mod_cast mul_self_nonneg a
  | bot => simp
  | top => simp

/-- With an infinite entry in the row the sum of its squares is infinite. -/
theorem sq_top (x : ι → EReal) (k : ι) (hk : x k = ⊤ ∨ x k = ⊥) : (∑ i, x i * x i) = ⊤ := by
  have h : x k * x k = ⊤ := by rcases hk with h | h <;> rw [h] <;> rfl
  exact top_le_iff.1 (h ▸ Finset.single_le_sum (f := fun i => x i * x i) (fun i _ => sq_nonneg' (x i)) (Finset.mem_univ k))

/-- The mean of the squares of a row, with the small term added. -/
def mean (n e : ℝ) (x : ι → EReal) : EReal := Ideal.div (∑ k, x k * x k) (n : EReal) + (e : EReal)

/-- A row is real with a positive real scale, or its scale is zero. -/
theorem scale (n e : ℝ) (hn : 0 < n) (he : 0 < e) (x : ι → EReal) :
    (Ideal.rsqrt (mean n e x) = 0 ∧ Ideal.div 0 (mean n e x) = 0) ∨
    (∃ (y : ι → ℝ) (v r : ℝ), 0 < v ∧ 0 < r ∧ r * r * v = 1 ∧ (∀ k, x k = (y k : EReal)) ∧
      mean n e x = (v : EReal) ∧ Ideal.rsqrt (mean n e x) = (r : EReal)) := by
  by_cases h : ∃ k, x k = ⊤ ∨ x k = ⊥
  · obtain ⟨k, hk⟩ := h
    left
    have hv : mean n e x = ⊤ := by
      rw [mean, sq_top x k hk, Ideal.div_coe hn.ne', EReal.top_mul_coe_of_pos (by positivity), EReal.top_add_coe]
    rw [hv]
    exact ⟨rfl, by rw [Ideal.div, if_neg (by simp), zero_mul]⟩
  · right
    have hx : ∀ k, ∃ y : ℝ, x k = (y : EReal) := fun k => by
      have hk : ¬ (x k = ⊤ ∨ x k = ⊥) := fun hk => h ⟨k, hk⟩
      exact ⟨(x k).toReal, (EReal.coe_toReal (fun t => hk (Or.inl t)) (fun t => hk (Or.inr t))).symm⟩
    choose y hy using hx
    obtain ⟨q, hq, eq⟩ := sq_coe Finset.univ y
    have hv : mean n e x = ((q * (1 / n) + e : ℝ) : EReal) := by
      simp only [mean, hy, eq]
      rw [Ideal.div_coe hn.ne', ← EReal.coe_mul, ← EReal.coe_add]
    have pv : 0 < q * (1 / n) + e := by positivity
    refine ⟨y, q * (1 / n) + e, (Real.sqrt (q * (1 / n) + e))⁻¹, pv, by positivity, ?_, hy, hv, ?_⟩
    · rw [← mul_inv, Real.mul_self_sqrt pv.le, inv_mul_cancel₀ pv.ne']
    · rw [hv, Ideal.rsqrt_coe, if_neg (not_lt.2 pv.le), if_neg pv.ne']

/-- The gradient of a normalized row: from the normalized entries, and term by term through the scale. -/
theorem row (n e : ℝ) (hn : 0 < n) (he : 0 < e) (x g y : ι → EReal) (j : ι) :
    Ideal.rsqrt (mean n e x) * (g j * y j - x j * Ideal.rsqrt (mean n e x) *
      Ideal.div (∑ k, g k * y k * (x k * Ideal.rsqrt (mean n e x))) (n : EReal)) =
    y j * g j * Ideal.rsqrt (mean n e x)
      + x j * Ideal.div ((∑ k, x k * (y k * g k)) * (((-1 / 2 : ℝ) : EReal) * Ideal.div (Ideal.rsqrt (mean n e x)) (mean n e x))) (n : EReal)
      + Ideal.div ((∑ k, x k * (y k * g k)) * (((-1 / 2 : ℝ) : EReal) * Ideal.div (Ideal.rsqrt (mean n e x)) (mean n e x))) (n : EReal) * x j := by
  rcases scale n e hn he x with ⟨hr, h0⟩ | ⟨z, v, r, hv, hr, hrv, hx, ev, er⟩
  · rw [hr, h0]; simp [Ideal.div_coe hn.ne']
  · rw [er, ev, Ideal.div_coe hn.ne', Ideal.div_coe hn.ne', Ideal.div_coe hv.ne']
    have hS : (∑ k, g k * y k * (x k * (r : EReal))) = (∑ k, x k * (y k * g k)) * (r : EReal) := by
      rw [sum_mul_coe _ _ _ hr.le]
      refine Finset.sum_congr rfl fun k _ => ?_
      rw [← mul_assoc, mul_comm (g k * y k), mul_comm (g k)]
    rw [hS, hx j]
    set S := ∑ k, x k * (y k * g k)
    have hA : (z j : EReal) * (r : EReal) * (S * (r : EReal) * ((1 / n : ℝ) : EReal)) = ((z j * r * r * (1 / n) : ℝ) : EReal) * S := by
      simp only [EReal.coe_mul]; ac_rfl
    have hB : (z j : EReal) * (S * (((-1 / 2 : ℝ) : EReal) * ((r : EReal) * ((1 / v : ℝ) : EReal))) * ((1 / n : ℝ) : EReal))
        = ((z j * (-1 / 2) * r * (1 / v) * (1 / n) : ℝ) : EReal) * S := by
      simp only [EReal.coe_mul]; ac_rfl
    rw [mul_comm (S * _ * _) (z j : EReal), hA, hB, add_assoc, twice, sub_eq_add_neg,
      EReal.left_distrib_of_nonneg_of_ne_top (by exact_mod_cast hr.le) (EReal.coe_ne_top r), ← EReal.neg_mul, ← EReal.coe_neg]
    have hC : ∀ q : ℝ, (r : EReal) * ((q : EReal) * S) = ((r * q : ℝ) : EReal) * S := fun q => by rw [EReal.coe_mul, mul_assoc]
    rw [hC, mul_comm (r : EReal) (g j * y j), mul_comm (g j)]
    refine congrArg₂ (· + ·) rfl (congrArg (fun t : ℝ => (t : EReal) * S) ?_)
    have h1 : 1 / v = r * r := by rw [eq_comm, eq_div_iff hv.ne', hrv]
    rw [h1]; ring

end Cert.Rms

end

end
-- ==== Proof.UpGrad.lean ====
/- THE GRADIENT THROUGH THE UP PROJECTION AND TWO NORMALIZATIONS. Each grid point works on 512 rows in two strips of 256: it
   multiplies the cotangent with the transposed weight, goes back through the first normalization, adds the skip's cotangent and
   goes back through the second one; the gradients of the two scales are added up over the points. -/
module

public import proofs.«01_k».proof.Proof.Gen.Kernel2Ideal.Value
public import proofs.«01_k».proof.Proof.Gen.Reference2Ideal.Read
public import proofs.«01_k».proof.Proof.Rms
public import Idealize.ShloMosaic.Lib.Pipeline.ValueKit
public import Idealize.ShloMosaic.Lib.Pipeline.ReadBack
public import Idealize.ShloMosaic.Lib.Pointwise.Select
public import Idealize.ShloMosaic.Lib.KernelVsHost
public import Idealize.ShloMosaic.Lib.Claim

@[expose] public section

set_option maxRecDepth 16384

noncomputable section

namespace Cert.Kernel2Ideal.UpGrad

open Cert.Kernel2Ideal Cert.Kernel2Ideal.Gen Cert.Reference2Ideal.Read Idealize.ShloMosaic Idealize.ShloMosaic.TcCoe Idealize.SL.Sem

variable (m : (ℓ : Loc nD τ sig) → Buf (Elt Ideal) ℓ)

/-- The literal that the programs divide a row's sums by. -/
def len : EReal := Ideal.ofBits .f32 0x44800000#32

/-- The literal that the programs add to a row's mean square. -/
def eps : EReal := Ideal.ofBits .f32 0x358637BD#32

/-- Rows of `a` and `b` against columns of `u` and `w`. -/
def dh {n : ℕ} (a b : (⟨2, ![n, 2816]⟩ : Shape).Idx → EReal) (u w : S2816x1024.Idx → EReal) : (⟨2, ![n, 1024]⟩ : Shape).Idx → EReal :=
  fun i => (∑ k : Fin 2816, a (ix2 (i 0) k) * u (ix2 k (i 1))) + ∑ k : Fin 2816, b (ix2 (i 0) k) * w (ix2 k (i 1))

/-- The scale of row `r`. -/
def scale {n : ℕ} (x : (⟨2, ![n, 1024]⟩ : Shape).Idx → EReal) (r : Fin n) : EReal :=
  Ideal.rsqrt (Ideal.div (∑ k : Fin 1024, x (ix2 r k) * x (ix2 r k)) len + eps)

/-- The normalized rows. -/
def unit {n : ℕ} (x : (⟨2, ![n, 1024]⟩ : Shape).Idx → EReal) : (⟨2, ![n, 1024]⟩ : Shape).Idx → EReal :=
  fun i => x i * scale x (i 0)

/-- Back through the normalization of the rows. -/
def back {n : ℕ} (x : (⟨2, ![n, 1024]⟩ : Shape).Idx → EReal) (g : S1x1024.Idx → EReal) (y : (⟨2, ![n, 1024]⟩ : Shape).Idx → EReal) :
    (⟨2, ![n, 1024]⟩ : Shape).Idx → EReal :=
  fun i => scale x (i 0) * (g (ix2 0 (i 1)) * y i
    - unit x i * Ideal.div (∑ k : Fin 1024, g (ix2 0 k) * y (ix2 (i 0) k) * unit x (ix2 (i 0) k)) len)

/-- The same with the skip's cotangent. -/
def skip {n : ℕ} (d x : (⟨2, ![n, 1024]⟩ : Shape).Idx → EReal) (g : S1x1024.Idx → EReal) (y : (⟨2, ![n, 1024]⟩ : Shape).Idx → EReal) :
    (⟨2, ![n, 1024]⟩ : Shape).Idx → EReal :=
  fun i => d i + back x g y i

/-- Some rows of an array. -/
def rows {n k l : ℕ} (e : Fin l → Fin n) (a : (⟨2, ![n, k]⟩ : Shape).Idx → EReal) : (⟨2, ![l, k]⟩ : Shape).Idx → EReal :=
  fun i => a (ix2 (e (i 0)) (i 1))

section strips

variable (a b : FVec Ideal S256x2816 .bf16) (u w : FVec Ideal S2816x1024 .bf16) (y x d z v : FVec Ideal S256x1024 .f32)
  (g p : FVec Ideal S1x1024 .f32)

/-- The first strip's product is the one of its rows with both halves of the weight. -/
theorem pay5 : k0_pay5 (F := Ideal) a u b w = dh a b u w := by
  funext i; pointwise [k0_pay5, dh]
/-- The second strip's product likewise. -/
theorem pay6 : k0_pay6 (F := Ideal) a u b w = dh a b u w := by
  funext i; pointwise [k0_pay6, dh]
/-- The first strip's new cotangent: the skip's, and the product's back through the first norm. -/
theorem pay10 : k0_pay10 (F := Ideal) y x g (k0_pay7 x) (FloatOps.ofBits .f32 0x44800000#32) d = skip d x g y := by
  funext i; pointwise [k0_pay10, k0_pay9, k0_pay8, k0_pay7, skip, back, unit, scale, len, eps]
/-- What the first strip adds to the gradient of the first norm's scale. -/
theorem pay11 : k0_pay11 (F := Ideal) y x (k0_pay7 x) (FloatOps.ofBits .f32 0x44800000#32) p
    = fun j => p j + ∑ k : Fin 256, y (ix2 k (j 1)) * unit x (ix2 k (j 1)) := by
  funext i; pointwise [k0_pay11, k0_pay9, k0_pay8, k0_pay7, unit, scale, len, eps]
/-- The first strip's cotangent back through the second norm. -/
theorem pay14 : k0_pay14 (F := Ideal) z v g (k0_pay12 v) = back v g z := by
  funext i; pointwise [k0_pay14, k0_pay13, k0_pay12, back, unit, scale, len, eps]
/-- What the first strip adds to the gradient of the second norm's scale. -/
theorem pay15 : k0_pay15 (F := Ideal) z v (k0_pay12 v) p
    = fun j => p j + ∑ k : Fin 256, z (ix2 k (j 1)) * unit v (ix2 k (j 1)) := by
  funext i; pointwise [k0_pay15, k0_pay13, k0_pay12, unit, scale, len, eps]
/-- The second strip's new cotangent. -/
theorem pay20 : k0_pay20 (F := Ideal) (k0_pay16 x) (k0_pay17 x) (k0_pay18 y g) (k0_pay19 y x g) (FloatOps.ofBits .f32 0x44800000#32) d = skip d x g y := by
  funext i; pointwise [k0_pay20, k0_pay19, k0_pay18, k0_pay17, k0_pay16, skip, back, unit, scale, len, eps]
/-- What the second strip adds to the gradient of the first norm's scale. -/
theorem pay21 : k0_pay21 (F := Ideal) y (k0_pay17 x) p
    = fun j => p j + ∑ k : Fin 256, y (ix2 k (j 1)) * unit x (ix2 k (j 1)) := by
  funext i; pointwise [k0_pay21, k0_pay17, k0_pay16, unit, scale, len, eps]
/-- What the second strip adds to the gradient of the second norm's scale. -/
theorem pay2 : k0_pay2 (F := Ideal) z (k0_pay23 v) p
    = fun j => p j + ∑ k : Fin 256, z (ix2 k (j 1)) * unit v (ix2 k (j 1)) := by
  funext i; pointwise [k0_pay2, k0_pay23, k0_pay22, unit, scale, len, eps]
/-- The second strip's cotangent back through the second norm. -/
theorem pay1 : k0_pay1 (F := Ideal) (k0_pay24 (k0_pay16 x) (k0_pay17 x) (k0_pay18 y g) (k0_pay19 y x g) (FloatOps.ofBits .f32 0x44800000#32) d v p) (k0_pay25 v)
    = back v p (skip d x g y) := by
  rw [← pay20]
  funext i; pointwise [k0_pay1, k0_pay24, k0_pay25, k0_pay23, k0_pay22, back, unit, scale, len, eps]
/-- The gradient of the first norm's scale starts at zero. -/
theorem pay3 : k0_pay3 (F := Ideal) = fun _ => 0 := by
  funext i; pointwise [k0_pay3]
/-- The gradient of the second norm's scale starts at zero. -/
theorem pay4 : k0_pay4 (F := Ideal) = fun _ => 0 := by
  funext i; pointwise [k0_pay4]

end strips

/-- Row `r` of the strip at `o` of point `t`. -/
def place (o : ℕ) (t : Fin cfg0.N) (h : o + 256 ≤ 512) (r : Fin 256) : Fin 8192 :=
  ⟨t.val * 512 + o + r.val, by have := lt_of_lt_of_eq t.isLt N_0; omega⟩

/-- The first half of the columns. -/
def left (a : S8192x5632.Idx → EReal) : S8192x2816.Idx → EReal := fun i => a (ix2 (i 0) ⟨(i 1).val, by have h : (i 1).val < 2816 := (i 1).isLt; omega⟩)
/-- The second half of the columns. -/
def right (a : S8192x5632.Idx → EReal) : S8192x2816.Idx → EReal := fun i => a (ix2 (i 0) ⟨2816 + (i 1).val, by have h : (i 1).val < 2816 := (i 1).isLt; omega⟩)
/-- The first half of the weight, transposed. -/
def upper (w : S1024x5632.Idx → EReal) : S2816x1024.Idx → EReal := fun i => w (ix2 (i 1) ⟨(i 0).val, by have h : (i 0).val < 2816 := (i 0).isLt; omega⟩)
/-- The second half of the weight, transposed. -/
def lower (w : S1024x5632.Idx → EReal) : S2816x1024.Idx → EReal := fun i => w (ix2 (i 1) ⟨2816 + (i 0).val, by have h : (i 0).val < 2816 := (i 0).isLt; omega⟩)

/-- The blocks' places: point `t` has the `t`-th 512 rows of the row arrays, and the whole of the others. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![0, 0] ∧ win0_10.index t = ![t.val, 0]
    ∧ win0_11.index t = ![0, 0] :=
  (by decide +kernel : ∀ t : Fin grid0.N, _)

/-- The kernel's first operand is the left half of the cotangent. -/
theorem a_entry (c : Dev nD) (i : S8192x2816.Idx) : V m c main_v1 i = left (m ((c : Thread nD τ).loc main_arg6)) i := by
  entry_read; pointwise [left]
/-- The second operand is its right half. -/
theorem b_entry (c : Dev nD) (i : S8192x2816.Idx) : V m c main_v2 i = right (m ((c : Thread nD τ).loc main_arg6)) i := by
  entry_read; pointwise [right]
/-- The weight arrives transposed. -/
theorem w_entry (c : Dev nD) (i : S5632x1024.Idx) : V m c main_v4 i = m ((c : Thread nD τ).loc main_arg2) (ix2 (i 1) (i 0)) := by
  entry_read; pointwise

/-- The skip's cotangent arrives as it is. -/
theorem d_entry (c : Dev nD) (i : S8192x1024.Idx) : V m c main_arg5 i = (m ((c : Thread nD τ).loc main_arg5)) i := by
  entry_read; rfl
/-- The first norm's input arrives as it is. -/
theorem x_entry (c : Dev nD) (i : S8192x1024.Idx) : V m c main_arg0 i = (m ((c : Thread nD τ).loc main_arg0)) i := by
  entry_read; rfl
/-- The second norm's input arrives as it is. -/
theorem v_entry (c : Dev nD) (i : S8192x1024.Idx) : V m c main_arg3 i = (m ((c : Thread nD τ).loc main_arg3)) i := by
  entry_read; rfl
/-- The first norm's scale arrives as it is. -/
theorem g_entry (c : Dev nD) (i : S1x1024.Idx) : V m c main_arg1 i = (m ((c : Thread nD τ).loc main_arg1)) i := by
  entry_read; rfl
/-- The second norm's scale arrives as it is. -/
theorem p_entry (c : Dev nD) (i : S1x1024.Idx) : V m c main_arg4 i = (m ((c : Thread nD τ).loc main_arg4)) i := by
  entry_read; rfl

section loads

variable (c : Dev nD) (t : Fin cfg0.N) (o : ℕ) (ho : o + 256 ≤ 512)

/-- A strip of the left half's block is a run of rows of the left half. -/
theorem a_ld (h : ∀ a, (![o, 0] : Fin 2 → ℕ) a + (![256, 2816] : Fin 2 → ℕ) a ≤ S512x2816.size a) :
    View.ld (iblk m c 0 t) (Rect.unit ![o, 0] ![256, 2816] h) = rows (place o t ho) (left (m ((c : Thread nD τ).loc main_arg6))) := by
  funext i
  refine (a_entry m c _).trans ?_
  simp only [left, rows, place]
  blk_point [idx t]
  all_goals (rw [Rect.idx_unit_val]; simp [Nat.add_assoc])

/-- The same of the right half. -/
theorem b_ld (h : ∀ a, (![o, 0] : Fin 2 → ℕ) a + (![256, 2816] : Fin 2 → ℕ) a ≤ S512x2816.size a) :
    View.ld (iblk m c 1 t) (Rect.unit ![o, 0] ![256, 2816] h) = rows (place o t ho) (right (m ((c : Thread nD τ).loc main_arg6))) := by
  funext i
  refine (b_entry m c _).trans ?_
  simp only [right, rows, place]
  blk_point [idx t]
  all_goals (rw [Rect.idx_unit_val]; simp [Nat.add_assoc])

/-- A strip of the skip's cotangent's block is a run of its rows. -/
theorem d_ld (h : ∀ a, (![o, 0] : Fin 2 → ℕ) a + (![256, 1024] : Fin 2 → ℕ) a ≤ S512x1024.size a) :
    View.ld (iblk m c 3 t) (Rect.unit ![o, 0] ![256, 1024] h) = rows (place o t ho) (m ((c : Thread nD τ).loc main_arg5)) := by
  funext i
  refine (d_entry m c _).trans ?_
  simp only [rows, place]
  blk_point [idx t]
  all_goals (rw [Rect.idx_unit_val]; simp [Nat.add_assoc])

/-- The same of the first norm's input. -/
theorem x_ld (h : ∀ a, (![o, 0] : Fin 2 → ℕ) a + (![256, 1024] : Fin 2 → ℕ) a ≤ S512x1024.size a) :
    View.ld (iblk m c 4 t) (Rect.unit ![o, 0] ![256, 1024] h) = rows (place o t ho) (m ((c : Thread nD τ).loc main_arg0)) := by
  funext i
  refine (x_entry m c _).trans ?_
  simp only [rows, place]
  blk_point [idx t]
  all_goals (rw [Rect.idx_unit_val]; simp [Nat.add_assoc])

/-- The same of the second norm's input. -/
theorem v_ld (h : ∀ a, (![o, 0] : Fin 2 → ℕ) a + (![256, 1024] : Fin 2 → ℕ) a ≤ S512x1024.size a) :
    View.ld (iblk m c 6 t) (Rect.unit ![o, 0] ![256, 1024] h) = rows (place o t ho) (m ((c : Thread nD τ).loc main_arg3)) := by
  funext i
  refine (v_entry m c _).trans ?_
  simp only [rows, place]
  blk_point [idx t]
  all_goals (rw [Rect.idx_unit_val]; simp [Nat.add_assoc])

/-- The upper rows of the weight's block are the upper half of the transposed weight. -/
theorem u_ld : View.ld (iblk m c 2 t) (Rect.unit ![0, 0] ![2816, 1024] inb_S5632x1024_S2816x1024_0_0) = upper (m ((c : Thread nD τ).loc main_arg2)) := by
  funext i
  refine (w_entry m c _).trans ?_
  simp only [upper]
  blk_point [idx t]
  all_goals (rw [Rect.idx_unit_val]; simp [Nat.add_assoc])

/-- The lower rows are its lower half. -/
theorem w_ld : View.ld (iblk m c 2 t) (Rect.unit ![2816, 0] ![2816, 1024] inb_S5632x1024_S2816x1024_2816_0) = lower (m ((c : Thread nD τ).loc main_arg2)) := by
  funext i
  refine (w_entry m c _).trans ?_
  simp only [lower]
  blk_point [idx t]
  all_goals (rw [Rect.idx_unit_val]; simp [Nat.add_assoc])

/-- The block of the first norm's scale is the scale. -/
theorem g_ld : (iblk m c 5 t : FVec Ideal S1x1024 .f32) = (m ((c : Thread nD τ).loc main_arg1)) := by
  funext i
  refine (g_entry m c _).trans ?_
  blk_point [idx t]

/-- The block of the second norm's scale is the scale. -/
theorem p_ld : (iblk m c 7 t : FVec Ideal S1x1024 .f32) = (m ((c : Thread nD τ).loc main_arg4)) := by
  funext i
  refine (p_entry m c _).trans ?_
  blk_point [idx t]

end loads

/-- The whole arrays: the product with the weight, the gradient after the skip, the gradient of the mixed rows. -/
def prod (du : S8192x5632.Idx → EReal) (w : S1024x5632.Idx → EReal) : S8192x1024.Idx → EReal :=
  dh (left du) (right du) (upper w) (lower w)

/-- The product of the call's inputs. -/
abbrev DH (c : Dev nD) : S8192x1024.Idx → EReal := prod (m ((c : Thread nD τ).loc main_arg6)) (m ((c : Thread nD τ).loc main_arg2))
/-- The gradient after the skip, of the call's inputs. -/
abbrev DX (c : Dev nD) : S8192x1024.Idx → EReal := skip (m ((c : Thread nD τ).loc main_arg5)) (m ((c : Thread nD τ).loc main_arg0)) (m ((c : Thread nD τ).loc main_arg1)) (DH m c)

/-- The product of chosen rows is those rows of the product. -/
theorem rows_dh {n l : ℕ} (e : Fin l → Fin n) (a b : (⟨2, ![n, 2816]⟩ : Shape).Idx → EReal) (u w : S2816x1024.Idx → EReal) :
    dh (rows e a) (rows e b) u w = rows e (dh a b u w) := rfl
/-- Going back through a norm is done row by row. -/
theorem rows_back {n l : ℕ} (e : Fin l → Fin n) (x y : (⟨2, ![n, 1024]⟩ : Shape).Idx → EReal) (g : S1x1024.Idx → EReal) :
    back (rows e x) g (rows e y) = rows e (back x g y) := rfl
/-- So is the new cotangent. -/
theorem rows_skip {n l : ℕ} (e : Fin l → Fin n) (d x y : (⟨2, ![n, 1024]⟩ : Shape).Idx → EReal) (g : S1x1024.Idx → EReal) :
    skip (rows e d) (rows e x) g (rows e y) = rows e (skip d x g y) := rfl
/-- So is the normalized input. -/
theorem rows_unit {n l : ℕ} (e : Fin l → Fin n) (x : (⟨2, ![n, 1024]⟩ : Shape).Idx → EReal) :
    unit (rows e x) = rows e (unit x) := rfl

section strip

variable (c : Dev nD) (t : Fin cfg0.N) (o : ℕ) (ho : o + 256 ≤ 512)
  (h2816 : ∀ a, (![o, 0] : Fin 2 → ℕ) a + (![256, 2816] : Fin 2 → ℕ) a ≤ S512x2816.size a)
  (h1024 : ∀ a, (![o, 0] : Fin 2 → ℕ) a + (![256, 1024] : Fin 2 → ℕ) a ≤ S512x1024.size a)

/-- The product, on one strip. -/
theorem strip_dh : dh (n := 256) (View.ld (iblk m c 0 t) (Rect.unit ![o, 0] ![256, 2816] h2816)) (View.ld (iblk m c 1 t) (Rect.unit ![o, 0] ![256, 2816] h2816)) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) = rows (place o t ho) (DH m c) := by
  rw [a_ld m c t o ho, b_ld m c t o ho, u_ld, w_ld, rows_dh]; rfl
/-- The normalized rows, on one strip. -/
theorem strip_unit : unit (n := 256) (View.ld (iblk m c 4 t) (Rect.unit ![o, 0] ![256, 1024] h1024)) = rows (place o t ho) (unit (m ((c : Thread nD τ).loc main_arg0))) := by
  rw [x_ld m c t o ho, rows_unit]
/-- The gradient after the skip, on one strip. -/
theorem strip_dx : skip (n := 256) (View.ld (iblk m c 3 t) (Rect.unit ![o, 0] ![256, 1024] h1024)) (View.ld (iblk m c 4 t) (Rect.unit ![o, 0] ![256, 1024] h1024)) (iblk m c 5 t) (dh (n := 256) (View.ld (iblk m c 0 t) (Rect.unit ![o, 0] ![256, 2816] h2816)) (View.ld (iblk m c 1 t) (Rect.unit ![o, 0] ![256, 2816] h2816)) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) = rows (place o t ho) (DX m c) := by
  rw [strip_dh m c t o ho, x_ld m c t o ho, d_ld m c t o ho, g_ld, rows_skip]
/-- The normalized mixed rows, on one strip. -/
theorem strip_mix : unit (n := 256) (View.ld (iblk m c 6 t) (Rect.unit ![o, 0] ![256, 1024] h1024)) = rows (place o t ho) (unit (m ((c : Thread nD τ).loc main_arg3))) := by
  rw [v_ld m c t o ho, rows_unit]
/-- The gradient of the mixed rows, on one strip. -/
theorem strip_d2 : back (n := 256) (View.ld (iblk m c 6 t) (Rect.unit ![o, 0] ![256, 1024] h1024)) (iblk m c 7 t) (skip (n := 256) (View.ld (iblk m c 3 t) (Rect.unit ![o, 0] ![256, 1024] h1024)) (View.ld (iblk m c 4 t) (Rect.unit ![o, 0] ![256, 1024] h1024)) (iblk m c 5 t) (dh (n := 256) (View.ld (iblk m c 0 t) (Rect.unit ![o, 0] ![256, 2816] h2816)) (View.ld (iblk m c 1 t) (Rect.unit ![o, 0] ![256, 2816] h2816)) (View.ld (iblk m c 2 t) (Rect.unit ![0, 0] ![2816, 1024] inb_S5632x1024_S2816x1024_0_0)) (View.ld (iblk m c 2 t) (Rect.unit ![2816, 0] ![2816, 1024] inb_S5632x1024_S2816x1024_2816_0)))) = rows (place o t ho) (back (m ((c : Thread nD τ).loc main_arg3)) (m ((c : Thread nD τ).loc main_arg4)) (DX m c)) := by
  rw [strip_dx m c t o ho, v_ld m c t o ho, p_ld, rows_back]

end strip

/-- What a point leaves of the gradient after the skip. -/
theorem out8 (c : Dev nD) (t : Fin cfg0.N) (y : S512x1024.Idx) :
    (outsAt0 m c t.val t.isLt).1 y = (DX m c) (((cfg0.win 8).blk t).view.emb y) := by
  by_cases hc : t.val % 16 = 0
  · rw [outsAt0_A m c t hc]; frame_out
    canon_tiles x h
    · rw [pay20, pay6]
      refine (congrFun (strip_dx m c t 256 (by decide) _ _) x).trans (congrArg (DX m c) ?_)
      blk_ext [place, idx t]
    · rw [pay10, pay5]
      refine (congrFun (strip_dx m c t 0 (by decide) _ _) x).trans (congrArg (DX m c) ?_)
      blk_ext [place, idx t]
  · rw [outsAt0_B m c t hc]; frame_out
    canon_tiles x h
    · rw [pay20, pay6]
      refine (congrFun (strip_dx m c t 256 (by decide) _ _) x).trans (congrArg (DX m c) ?_)
      blk_ext [place, idx t]
    · rw [pay10, pay5]
      refine (congrFun (strip_dx m c t 0 (by decide) _ _) x).trans (congrArg (DX m c) ?_)
      blk_ext [place, idx t]

/-- What a point leaves of the gradient of the mixed rows. -/
theorem out10 (c : Dev nD) (t : Fin cfg0.N) (y : S512x1024.Idx) :
    (outsAt0 m c t.val t.isLt).2.2.1 y = (back (m ((c : Thread nD τ).loc main_arg3)) (m ((c : Thread nD τ).loc main_arg4)) (DX m c)) (((cfg0.win 10).blk t).view.emb y) := by
  by_cases hc : t.val % 16 = 0
  · rw [outsAt0_A m c t hc]; frame_out
    canon_tiles x h
    · rw [pay1, pay6]
      refine (congrFun (strip_d2 m c t 256 (by decide) _ _) x).trans (congrArg (back (m ((c : Thread nD τ).loc main_arg3)) (m ((c : Thread nD τ).loc main_arg4)) (DX m c)) ?_)
      blk_ext [place, idx t]
    · rw [pay14, pay10, pay5]
      refine (congrFun (strip_d2 m c t 0 (by decide) _ _) x).trans (congrArg (back (m ((c : Thread nD τ).loc main_arg3)) (m ((c : Thread nD τ).loc main_arg4)) (DX m c)) ?_)
      blk_ext [place, idx t]
  · rw [outsAt0_B m c t hc]; frame_out
    canon_tiles x h
    · rw [pay1, pay6]
      refine (congrFun (strip_d2 m c t 256 (by decide) _ _) x).trans (congrArg (back (m ((c : Thread nD τ).loc main_arg3)) (m ((c : Thread nD τ).loc main_arg4)) (DX m c)) ?_)
      blk_ext [place, idx t]
    · rw [pay14, pay10, pay5]
      refine (congrFun (strip_d2 m c t 0 (by decide) _ _) x).trans (congrArg (back (m ((c : Thread nD τ).loc main_arg3)) (m ((c : Thread nD τ).loc main_arg4)) (DX m c)) ?_)
      blk_ext [place, idx t]

/-- What the call leaves in window 8. -/
theorem final8 (c : Dev nD) : (dats m 0 c).arrAt 8 (cfgs 0).N = DX m c := by
  refine (dats m 0 c).arrAt_eq_of_covers 8 _ (by decide +kernel) fun t _ y => ?_
  blk_simp
  rw [after0_8]
  exact out8 m c t y

/-- What the call leaves in window 10. -/
theorem final10 (c : Dev nD) : (dats m 0 c).arrAt 10 (cfgs 0).N = (back (m ((c : Thread nD τ).loc main_arg3)) (m ((c : Thread nD τ).loc main_arg4)) (DX m c)) := by
  refine (dats m 0 c).arrAt_eq_of_covers 10 _ (by decide +kernel) fun t _ y => ?_
  blk_simp
  rw [after0_10]
  exact out10 m c t y

/-- One point's part of a sum over all rows: the products of its two strips. -/
def part (a b : S8192x1024.Idx → EReal) (t : Fin cfg0.N) (j : S1x1024.Idx) : EReal :=
  (∑ k : Fin 256, rows (place 0 t (by decide)) a (ix2 k (j 1)) * rows (place 0 t (by decide)) b (ix2 k (j 1)))
    + ∑ k : Fin 256, rows (place 256 t (by decide)) a (ix2 k (j 1)) * rows (place 256 t (by decide)) b (ix2 k (j 1))

/-- The parts of all points make up the sum over all rows. -/
theorem parts (a b : S8192x1024.Idx → EReal) (j : S1x1024.Idx) :
    ∑ t : Fin cfg0.N, part a b t j = ∑ k : Fin 8192, a (ix2 k (j 1)) * b (ix2 k (j 1)) := by
  have h : ∀ t : Fin cfg0.N, part a b t j = ∑ k : Fin 512, (fun r : Fin 8192 => a (ix2 r (j 1)) * b (ix2 r (j 1)))
      ⟨t.val * 512 + k.val, by have := lt_of_lt_of_eq t.isLt N_0; omega⟩ := fun t => by
    refine ((Fin.sum_univ_add (a := 256) (b := 256) (fun k : Fin (256 + 256) => (fun r : Fin 8192 => a (ix2 r (j 1)) * b (ix2 r (j 1)))
      ⟨t.val * 512 + k.val, by have := lt_of_lt_of_eq t.isLt N_0; omega⟩)).trans ?_).symm
    refine congrArg₂ (· + ·) (Finset.sum_congr rfl fun k _ => ?_) (Finset.sum_congr rfl fun k _ => ?_)
    · simp [rows, place]
    · simp [rows, place, Nat.add_assoc]; simp only [Nat.add_comm 256]
  rw [Finset.sum_congr rfl fun t _ => h t]
  trans ∑ o : Fin 1, ∑ k : Fin 8192, a (ix2 k (j 1)) * b (ix2 k (j 1))
  · refine Fin.sum_points_lanes_congr 16 fun t k ha hl => ?_
    have ht : t.val % 16 = t.val := by have := lt_of_lt_of_eq t.isLt N_0; omega
    simp only [ht]
  · rw [Fin.sum_univ_one]

/-- What the call leaves in window 9: a sum over all rows. -/
theorem final9 (c : Dev nD) : (dats m 0 c).arrAt 9 (cfgs 0).N
    = fun j => ∑ k : Fin 8192, (DH m c) (ix2 k (j 1)) * (unit (m ((c : Thread nD τ).loc main_arg0))) (ix2 k (j 1)) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => (0 : EReal))
    (fun p j => part (DH m c) (unit (m ((c : Thread nD τ).loc main_arg0))) p j)
    (fun t h j => by
      rw [outsAt0_A m c t h]; frame_out; rw [pay21, pay11, pay5, pay3, pay6]
      refine (congrArg₂ (· + ·) (congrArg₂ (· + ·) rfl (Finset.sum_congr rfl fun k _ => congrArg₂ (· * ·)
        (congrFun (strip_dh m c t 0 (by decide) _) _) (congrFun (strip_unit m c t 0 (by decide) _) _))) (Finset.sum_congr rfl fun k _ => congrArg₂ (· * ·)
        (congrFun (strip_dh m c t 256 (by decide) _) _) (congrFun (strip_unit m c t 256 (by decide) _) _))).trans (add_assoc _ _ _))
    (fun t h j => by
      rw [outsAt0_B m c t h]; frame_out; rw [pay21, pay11, pay5, pay6]
      refine (congrArg₂ (· + ·) (congrArg₂ (· + ·) rfl (Finset.sum_congr rfl fun k _ => congrArg₂ (· * ·)
        (congrFun (strip_dh m c t 0 (by decide) _) _) (congrFun (strip_unit m c t 0 (by decide) _) _))) (Finset.sum_congr rfl fun k _ => congrArg₂ (· * ·)
        (congrFun (strip_dh m c t 256 (by decide) _) _) (congrFun (strip_unit m c t 256 (by decide) _) _))).trans (add_assoc _ _ _))
    (le_of_eq N_0) t0_15 rfl j, zero_add]
  exact parts _ _ j

/-- What the call leaves in window 11: a sum over all rows. -/
theorem final11 (c : Dev nD) : (dats m 0 c).arrAt 11 (cfgs 0).N
    = fun j => ∑ k : Fin 8192, (DX m c) (ix2 k (j 1)) * (unit (m ((c : Thread nD τ).loc main_arg3))) (ix2 k (j 1)) := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => (0 : EReal))
    (fun p j => part (DX m c) (unit (m ((c : Thread nD τ).loc main_arg3))) p j)
    (fun t h j => by
      rw [outsAt0_A m c t h]; frame_out; rw [pay2, pay20, pay15, pay10, pay5, pay4, pay6]
      refine (congrArg₂ (· + ·) (congrArg₂ (· + ·) rfl (Finset.sum_congr rfl fun k _ => congrArg₂ (· * ·)
        (congrFun (strip_dx m c t 0 (by decide) _ _) _) (congrFun (strip_mix m c t 0 (by decide) _) _))) (Finset.sum_congr rfl fun k _ => congrArg₂ (· * ·)
        (congrFun (strip_dx m c t 256 (by decide) _ _) _) (congrFun (strip_mix m c t 256 (by decide) _) _))).trans (add_assoc _ _ _))
    (fun t h j => by
      rw [outsAt0_B m c t h]; frame_out; rw [pay2, pay20, pay15, pay10, pay5, pay6]
      refine (congrArg₂ (· + ·) (congrArg₂ (· + ·) rfl (Finset.sum_congr rfl fun k _ => congrArg₂ (· * ·)
        (congrFun (strip_dx m c t 0 (by decide) _ _) _) (congrFun (strip_mix m c t 0 (by decide) _) _))) (Finset.sum_congr rfl fun k _ => congrArg₂ (· * ·)
        (congrFun (strip_dx m c t 256 (by decide) _ _) _) (congrFun (strip_mix m c t 256 (by decide) _) _))).trans (add_assoc _ _ _))
    (le_of_eq N_0) t0_15 rfl j, zero_add]
  exact parts _ _ j

section reference

/-- The literal for a row's length is 1024. -/
theorem len_eq : len = ((1024 : ℝ) : EReal) := by
  simp [len, Ideal.ofBits, Ideal.ieee, -EReal.coe_mul]; norm_num
/-- The small literal, as a fraction. -/
theorem eps_eq : eps = ((8796093 / 8796093022208 : ℝ) : EReal) := by
  simp [eps, Ideal.ofBits, Ideal.ieee, -EReal.coe_mul]; norm_num
/-- The literal in the derivative of the reciprocal root is minus one half. -/
theorem half_eq : Ideal.ofBits .f32 0xBF000000#32 = ((-1 / 2 : ℝ) : EReal) := by
  simp [Ideal.ofBits, Ideal.ieee, -EReal.coe_mul]; norm_num

variable (x0 x3 x5 : FVec Ideal S8192x1024 .f32) (x1 x4 : FVec Ideal S1x1024 .f32) (x2 : FVec Ideal S1024x5632 .f32) (x6 : FVec Ideal S8192x5632 .f32)

/-- The reference's product, in the kernel's two halves. -/
theorem ref16 : val_main_v16 (F := Ideal) x2 x6 = prod x6 x2 := by
  funext i
  pointwise [val_main_v16, prod, dh, left, right, upper, lower]
  exact Fin.sum_univ_add (a := 2816) (b := 2816) _

/-- The reference's way back through the normalization is the kernel's. -/
theorem back_eq {n : ℕ} (x y : (⟨2, ![n, 1024]⟩ : Shape).Idx → EReal) (g : S1x1024.Idx → EReal) (r : Fin n) (j : Fin 1024) (v q : EReal)
    (hv : v = Ideal.div (∑ k : Fin 1024, x (ix2 r k) * x (ix2 r k)) len + eps)
    (hq : q = Ideal.div ((∑ k : Fin 1024, x (ix2 r k) * (y (ix2 r k) * g (ix2 0 k))) * (Ideal.ofBits .f32 0xBF000000#32 * Ideal.div (Ideal.rsqrt v) v)) len) :
    y (ix2 r j) * g (ix2 0 j) * Ideal.rsqrt v + x (ix2 r j) * q + q * x (ix2 r j) = back x g y (ix2 r j) := by
  rw [len_eq, eps_eq] at hv
  rw [len_eq, half_eq] at hq
  have h := (Rms.row 1024 (8796093 / 8796093022208) (by norm_num) (by norm_num) (fun k => x (ix2 r k)) (fun k => g (ix2 0 k)) (fun k => y (ix2 r k)) j).symm
  simp only [Rms.mean] at h
  subst hv hq
  simp only [back, unit, scale, len_eq, eps_eq]
  exact h

/-- The reference's first result: the new cotangent. -/
theorem ref36 : val_main_v36 (F := Ideal) x0 x1 x2 x5 x6 = skip x5 x0 x1 (prod x6 x2) := by
  rw [← ref16]
  funext i
  obtain ⟨r, j, rfl⟩ : ∃ (r : Fin 8192) (j : Fin 1024), i = ix2 r j := ⟨i 0, i 1, by blk_ext⟩
  simp only [skip]
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  refine congrArg (x5 (ix2 r j) + ·) (back_eq _ _ _ _ _ _ _ ?_ ?_)
  · rfl
  · rw [Fin.sum_univ_one]; rfl

/-- Its second: the gradient of the first norm's scale. -/
theorem ref19 : val_main_v19 (F := Ideal) x0 x2 x6 = fun j => ∑ k : Fin 8192, prod x6 x2 (ix2 k (j 1)) * unit x0 (ix2 k (j 1)) := by
  rw [← ref16]
  funext i
  pointwise [val_main_v19, val_main_v18, val_main_v17, val_main_v12, val_main_v11, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, unit, scale, len, eps]
  exact Finset.sum_congr rfl fun k _ => mul_comm _ _

/-- Its third: the new cotangent back through the second norm. -/
theorem ref71 : val_main_v71 (F := Ideal) x0 x1 x2 x3 x4 x5 x6 = back x3 x4 (skip x5 x0 x1 (prod x6 x2)) := by
  rw [← ref36]
  funext i
  obtain ⟨r, j, rfl⟩ : ∃ (r : Fin 8192) (j : Fin 1024), i = ix2 r j := ⟨i 0, i 1, by blk_ext⟩
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v47, val_main_v46, val_main_v45, val_main_v44, val_main_v43, val_main_v42, val_main_v41, val_main_v40, val_main_v39, val_main_v38, val_main_v37, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]
  refine back_eq _ _ _ _ _ _ _ ?_ ?_
  · rfl
  · rw [Fin.sum_univ_one]; rfl

/-- Its fourth: the gradient of the second norm's scale. -/
theorem ref54 : val_main_v54 (F := Ideal) x0 x1 x2 x3 x5 x6
    = fun j => ∑ k : Fin 8192, skip x5 x0 x1 (prod x6 x2) (ix2 k (j 1)) * unit x3 (ix2 k (j 1)) := by
  rw [← ref36]
  funext i
  pointwise [val_main_v54, val_main_v53, val_main_v52, val_main_v49, val_main_v48, val_main_v44, val_main_v43, val_main_v42, val_main_v41, val_main_v40, val_main_v39, val_main_v38, val_main_v37, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, unit, scale, len, eps]
  exact Finset.sum_congr rfl fun k _ => mul_comm _ _

end reference

end Cert.Kernel2Ideal.UpGrad

end
-- ==== Proof.GradOut.lean ====
/- THE GRADIENT OF THE OUTPUT PROJECTION'S WEIGHT. The call adds up, over its eight grid points, the products of 1024 rows of
   the two joined inputs with 1024 rows of the cotangent; the sum over all rows is the reference's transposed product. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Pointwise.Select
public import Idealize.ShloMosaic.Lib.KernelVsHost
public import Idealize.ShloMosaic.Lib.Claim

@[expose] public section

set_option maxRecDepth 16384

noncomputable section

namespace Cert.Kernel3Ideal.GradOut

open Cert.Kernel3Ideal Cert.Kernel3Ideal.Gen Cert.Reference3Ideal.Read Idealize.ShloMosaic Idealize.ShloMosaic.TcCoe Idealize.SL.Sem

variable (m : (ℓ : Loc nD τ sig) → Buf (Elt Ideal) ℓ)

/-- Two arrays of `n` rows side by side. -/
def pair {n : ℕ} (a b : (⟨2, ![n, 512]⟩ : Shape).Idx → EReal) (r : Fin n) (q : Fin 1024) : EReal :=
  if h : q.val < 512 then a (ix2 r ⟨q.val, h⟩) else b (ix2 r ⟨q.val - 512, by omega⟩)

/-- The blocks' places: point `t` has the `t`-th 1024 rows of each input, and the whole result. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The first mixer's output arrives as it is. -/
theorem a_entry (c : Dev nD) (i : S8192x512.Idx) : V m c main_v0 i = m ((c : Thread nD τ).loc main_arg0) i := by
  entry_read; rfl

/-- So does the second's. -/
theorem b_entry (c : Dev nD) (i : S8192x512.Idx) : V m c main_v1 i = m ((c : Thread nD τ).loc main_arg1) i := by
  entry_read; rfl

/-- So does the cotangent. -/
theorem d_entry (c : Dev nD) (i : S8192x1024.Idx) : V m c main_v2 i = m ((c : Thread nD τ).loc main_arg3) i := by
  entry_read; rfl

/-- The sum starts at zero. -/
theorem zero_at (j : S1024x1024.Idx) : k0_pay1 (F := Ideal) j = 0 := by pointwise [k0_pay1]

/-- One point's addition. -/
theorem step_at (acc : Vec Ideal S1024x1024 .f32) (a b : Vec Ideal S1024x512 .bf16) (d : Vec Ideal S1024x1024 .bf16) (j : S1024x1024.Idx) :
    k0_pay2 (F := Ideal) acc a b d j = acc j + ∑ k : Fin 1024, pair a b k (j 0) * d (ix2 k (j 1)) := by
  pointwise [k0_pay2, pair]

/-- The reference's sum over all rows. -/
theorem ref (a b : FVec Ideal S8192x512 .f32) (d : FVec Ideal S8192x1024 .f32) (j : S1024x1024.Idx) :
    val_main_v4 (F := Ideal) a b d j = ∑ o : Fin 1, ∑ k : Fin 8192, pair a b k (j 0) * d (ix2 k (j 1)) := by
  rw [Fin.sum_univ_one]
  pointwise [val_main_v4, val_main_v3, val_main_v2, val_main_v0, pair]
  exact Finset.sum_congr rfl fun k _ => mul_comm _ _

/-- The last point writes back the sum it has reached. -/
theorem last (c : Dev nD) (t : Fin cfg0.N) (h0 : ¬t.val % 8 = 0) (h1 : t.val % 8 = 7) (j : S1024x1024.Idx) :
    (outsAt0 m c t.val t.isLt).1 j = (outsAt0 m c t.val t.isLt).2 j := by
  rw [outsAt0_C m c t h0 h1]; frame_out; pointwise [k0_pay3]

/-- What the call leaves. -/
theorem final (c : Dev nD) : (dats m 0 c).arrAt 3 (cfgs 0).N
    = val_main_v4 (F := Ideal) (m ((c : Thread nD τ).loc main_arg0)) (m ((c : Thread nD τ).loc main_arg1)) (m ((c : Thread nD τ).loc main_arg3)) := by
  refine (dats m 0 c).arrAt_eq_of_after_last 3 t0_7 (by decide +kernel) _ fun j => ?_
  blk_simp
  rw [after0_3, last m c t0_7 (by decide +kernel) (by decide +kernel), Pipeline.eq_sum_fin_of_reset_step_apply_last (fun n h => (outsAt0 m c n h).2) 8 (fun _ => (0 : EReal))
    (fun p j => ∑ k : Fin 1024, pair (show FVec Ideal S1024x512 .bf16 from iblk m c 0 p) (show FVec Ideal S1024x512 .bf16 from iblk m c 1 p) k (j 0) * (show FVec Ideal S1024x1024 .bf16 from iblk m c 2 p) (ix2 k (j 1)))
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole])
    (le_of_eq N_0) t0_7 rfl j, zero_add, ref]
  refine Fin.sum_points_lanes_congr 8 fun t k ha hl => ?_
  simp only [pair]
  blk_point [iblk, a_entry m c, b_entry m c, d_entry m c, idx t]

end Cert.Kernel3Ideal.GradOut

end
-- ==== Proof.MixOut.lean ====
/- THE GRADIENT OF THE MIXER'S OUTPUT. The call multiplies 1024 rows of the cotangent by the transposed weight at each grid
   point; its array is the reference's product, joined again from the two halves the reference takes it apart into. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise.Select
public import Idealize.ShloMosaic.Lib.KernelVsHost
public import Idealize.ShloMosaic.Lib.Claim

@[expose] public section

set_option maxRecDepth 16384

noncomputable section

namespace Cert.Kernel4Ideal.MixOut

open Cert.Kernel4Ideal Cert.Kernel4Ideal.Gen Cert.Reference4Ideal.Read Idealize.ShloMosaic Idealize.ShloMosaic.TcCoe Idealize.SL.Sem

variable (m : (ℓ : Loc nD τ sig) → Buf (Elt Ideal) ℓ)

/-- Rows of `x` against rows of `w`. -/
def prod (x : FVec Ideal S8192x1024 .f32) (w : FVec Ideal S1024x1024 .f32) : FVec Ideal S8192x1024 .f32 :=
  fun i => ∑ k : Fin 1024, x (ix2 (i 0) k) * w (ix2 (i 1) k)

/-- The blocks' places: point `t` has the `t`-th 1024 rows, and the whole weight. -/
theorem idx : ∀ t : Fin cfg0.N, win0_0.index t = ![t.val, 0] ∧ win0_1.index t = ![0, 0] ∧ win0_2.index t = ![t.val, 0] :=
  (by decide +kernel : ∀ t : Fin grid0.N, _)

/-- The cotangent arrives as it is. -/
theorem x_entry (c : Dev nD) (i : S8192x1024.Idx) : V m c main_v0 i = m ((c : Thread nD τ).loc main_arg3) i := by
  entry_read; rfl

/-- So does the weight. -/
theorem w_entry (c : Dev nD) (i : S1024x1024.Idx) : V m c main_v1 i = m ((c : Thread nD τ).loc main_arg2) i := by
  entry_read; rfl

/-- A block of the result is the product of a block of rows with the weight's rows. -/
theorem point (c : Dev nD) (t : Fin cfg0.N) (y : S1024x1024.Idx) : k0_pay1 (F := Ideal) (iblk m c 0 t) (iblk m c 1 t) y
    = prod (m ((c : Thread nD τ).loc main_arg3)) (m ((c : Thread nD τ).loc main_arg2)) (((cfg0.win 2).blk t).view.emb y) := by
  pointwise [k0_pay1, prod]
  blk_point [iblk, x_entry m c, w_entry m c, idx t]

/-- What the call leaves. -/
theorem final (c : Dev nD) : (dats m 0 c).arrAt 2 (cfgs 0).N
    = prod (m ((c : Thread nD τ).loc main_arg3)) (m ((c : Thread nD τ).loc main_arg2)) := by
  refine (dats m 0 c).arrAt_eq_of_covers 2 _ (by decide +kernel) fun t _ y => ?_
  blk_simp
  rw [after0_2]; frame_out
  exact point m c t y

/-- The reference's value is the same product. -/
theorem ref (w : FVec Ideal S1024x1024 .f32) (x : FVec Ideal S8192x1024 .f32) : val_main_v5 (F := Ideal) w x = prod x w := by
  funext i
  pointwise [val_main_v5, val_main_v3, val_main_v4, val_main_v2, prod]
  blk_point []

end Cert.Kernel4Ideal.MixOut

end
-- ==== Proof.GradIn.lean ====
/- THE GRADIENT OF THE INPUT PROJECTION'S WEIGHT. The call adds up, over its eight grid points, the products of 1024 rows of
   the four joined cotangents with 1024 rows of the input; the sum over all rows is the reference's product. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise.Select
public import Idealize.ShloMosaic.Lib.KernelVsHost
public import Idealize.ShloMosaic.Lib.Claim

@[expose] public section

set_option maxRecDepth 16384

noncomputable section

namespace Cert.Kernel5Ideal.GradIn

open Cert.Kernel5Ideal Cert.Kernel5Ideal.Gen Cert.Reference5Ideal.Read Idealize.ShloMosaic Idealize.ShloMosaic.TcCoe Idealize.SL.Sem

variable (m : (ℓ : Loc nD τ sig) → Buf (Elt Ideal) ℓ)

/-- Four arrays of `n` rows side by side. -/
def four {n : ℕ} (a b d e : (⟨2, ![n, 512]⟩ : Shape).Idx → EReal) (r : Fin n) (q : Fin 2048) : EReal :=
  if h : q.val < 512 then a (ix2 r ⟨q.val, h⟩)
  else if h : q.val - 512 < 512 then b (ix2 r ⟨q.val - 512, h⟩)
  else if h : q.val - 512 - 512 < 512 then d (ix2 r ⟨q.val - 512 - 512, h⟩)
  else e (ix2 r ⟨q.val - 512 - 512 - 512, by omega⟩)

/-- The blocks' places: point `t` has the `t`-th 1024 rows of each input, and the whole result. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

/-- The queries' cotangent arrives as it is. -/
theorem q_entry (c : Dev nD) (i : S8192x512.Idx) : V m c main_v0 i = m ((c : Thread nD τ).loc main_arg2) i := by
  entry_read; rfl

/-- So does the keys'. -/
theorem k_entry (c : Dev nD) (i : S8192x512.Idx) : V m c main_v1 i = m ((c : Thread nD τ).loc main_arg3) i := by
  entry_read; rfl

/-- So does the values'. -/
theorem v_entry (c : Dev nD) (i : S8192x512.Idx) : V m c main_v2 i = m ((c : Thread nD τ).loc main_arg4) i := by
  entry_read; rfl

/-- So does the pooling mixer's. -/
theorem p_entry (c : Dev nD) (i : S8192x512.Idx) : V m c main_v3 i = m ((c : Thread nD τ).loc main_arg5) i := by
  entry_read; rfl

/-- So does the projection's input. -/
theorem x_entry (c : Dev nD) (i : S8192x1024.Idx) : V m c main_v4 i = m ((c : Thread nD τ).loc main_arg0) i := by
  entry_read; rfl

/-- The sum starts at zero. -/
theorem zero_at (j : S2048x1024.Idx) : k0_pay1 (F := Ideal) j = 0 := by pointwise [k0_pay1]

/-- One point's addition. -/
theorem step_at (acc : Vec Ideal S2048x1024 .f32) (a b d e : Vec Ideal S1024x512 .bf16) (x : Vec Ideal S1024x1024 .bf16) (j : S2048x1024.Idx) :
    k0_pay2 (F := Ideal) acc a b d e x j = acc j + ∑ k : Fin 1024, four a b d e k (j 0) * x (ix2 k (j 1)) := by
  pointwise [k0_pay2, four]

/-- The reference's sum over all rows. -/
theorem ref (x : FVec Ideal S8192x1024 .f32) (a b d e : FVec Ideal S8192x512 .f32) (j : S2048x1024.Idx) :
    val_main_v9 (F := Ideal) x a b d e j = ∑ o : Fin 1, ∑ k : Fin 8192, four a b d e k (j 0) * x (ix2 k (j 1)) := by
  rw [Fin.sum_univ_one]
  pointwise [val_main_v9, val_main_v8, val_main_v7, val_main_v6, val_main_v5, four]

/-- The last point writes back the sum it has reached. -/
theorem last (c : Dev nD) (t : Fin cfg0.N) (h0 : ¬t.val % 8 = 0) (h1 : t.val % 8 = 7) (j : S2048x1024.Idx) :
    (outsAt0 m c t.val t.isLt).1 j = (outsAt0 m c t.val t.isLt).2 j := by
  rw [outsAt0_C m c t h0 h1]; frame_out; pointwise [k0_pay3]

/-- What the call leaves. -/
theorem final (c : Dev nD) : (dats m 0 c).arrAt 5 (cfgs 0).N
    = val_main_v9 (F := Ideal) (m ((c : Thread nD τ).loc main_arg0)) (m ((c : Thread nD τ).loc main_arg2)) (m ((c : Thread nD τ).loc main_arg3))
        (m ((c : Thread nD τ).loc main_arg4)) (m ((c : Thread nD τ).loc main_arg5)) := by
  refine (dats m 0 c).arrAt_eq_of_after_last 5 t0_7 (by decide +kernel) _ fun j => ?_
  blk_simp
  rw [after0_5, last m c t0_7 (by decide +kernel) (by decide +kernel), Pipeline.eq_sum_fin_of_reset_step_apply_last (fun n h => (outsAt0 m c n h).2) 8 (fun _ => (0 : EReal))
    (fun p j => ∑ k : Fin 1024, four (show FVec Ideal S1024x512 .bf16 from iblk m c 0 p) (show FVec Ideal S1024x512 .bf16 from iblk m c 1 p)
      (show FVec Ideal S1024x512 .bf16 from iblk m c 2 p) (show FVec Ideal S1024x512 .bf16 from iblk m c 3 p) k (j 0)
        * (show FVec Ideal S1024x1024 .bf16 from iblk m c 4 p) (ix2 k (j 1)))
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole])
    (le_of_eq N_0) t0_7 rfl j, zero_add, ref]
  refine Fin.sum_points_lanes_congr 8 fun t k ha hl => ?_
  simp only [four]
  blk_point [iblk, q_entry m c, k_entry m c, v_entry m c, p_entry m c, x_entry m c, idx t]

end Cert.Kernel5Ideal.GradIn

end
-- ==== Proof.ProjIn.lean ====
/- THE INPUT PROJECTION. The call multiplies 1024 rows of its input by the weight at each grid point; its array is the
   reference's product. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.KernelVsHost
public import Idealize.ShloMosaic.Lib.Claim

@[expose] public section

set_option maxRecDepth 16384

noncomputable section

namespace Cert.Kernel6Ideal.ProjIn

open Cert.Kernel6Ideal Cert.Kernel6Ideal.Gen Cert.Reference6Ideal.Read Idealize.ShloMosaic Idealize.ShloMosaic.TcCoe Idealize.SL.Sem

variable (m : (ℓ : Loc nD τ sig) → Buf (Elt Ideal) ℓ)

/-- The blocks' places: point `t` has the `t`-th 1024 rows, and the whole weight. -/
theorem idx : ∀ t : Fin cfg0.N, win0_0.index t = ![t.val, 0] ∧ win0_1.index t = ![0, 0] ∧ win0_2.index t = ![t.val, 0] :=
  (by decide +kernel : ∀ t : Fin grid0.N, _)

/-- The rows arrive as they are. -/
theorem x_entry (c : Dev nD) (i : S8192x1024.Idx) : V m c main_v0 i = m ((c : Thread nD τ).loc main_arg0) i := by
  entry_read; rfl

/-- The weight arrives transposed. -/
theorem w_entry (c : Dev nD) (i : S2048x1024.Idx) : V m c main_v2 i = m ((c : Thread nD τ).loc main_arg1) (ix2 (i 1) (i 0)) := by
  entry_read; pointwise

/-- A block of the result is the product of a block of rows with the weight. -/
theorem point (c : Dev nD) (t : Fin cfg0.N) (y : S1024x2048.Idx) : k0_pay1 (F := Ideal) (iblk m c 0 t) (iblk m c 1 t) y
    = val_main_v0 (F := Ideal) (m ((c : Thread nD τ).loc main_arg0)) (m ((c : Thread nD τ).loc main_arg1)) (((cfg0.win 2).blk t).view.emb y) := by
  pointwise [k0_pay1, val_main_v0]
  blk_point [iblk, x_entry m c, w_entry m c, idx t]

/-- What the call leaves. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel6Ideal.ProjIn

end
-- ==== Proof.Calls.lean ====
/- THE FURTHER CALLS. What is claimed of each of the five further programs: its frames, and that over exact numbers the kernel and its
   reference leave the same arrays. Nothing is asked of the arguments. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.UpGrad
public import proofs.«01_k».proof.Proof.Gen.Kernel3.Frame
public import proofs.«01_k».proof.Proof.Gen.Kernel3Ideal.Frame
public import proofs.«01_k».proof.Proof.Gen.Reference3Ideal.Run
public import proofs.«01_k».proof.Proof.GradOut
public import proofs.«01_k».proof.Proof.Gen.Kernel4.Frame
public import proofs.«01_k».proof.Proof.Gen.Kernel4Ideal.Frame
public import proofs.«01_k».proof.Proof.Gen.Reference4Ideal.Run
public import proofs.«01_k».proof.Proof.MixOut
public import proofs.«01_k».proof.Proof.Gen.Kernel5.Frame
public import proofs.«01_k».proof.Proof.Gen.Kernel5Ideal.Frame
public import proofs.«01_k».proof.Proof.Gen.Reference5Ideal.Run
public import proofs.«01_k».proof.Proof.GradIn
public import proofs.«01_k».proof.Proof.Gen.Kernel6.Frame
public import proofs.«01_k».proof.Proof.Gen.Kernel6Ideal.Frame
public import proofs.«01_k».proof.Proof.Gen.Reference6Ideal.Run
public import proofs.«01_k».proof.Proof.ProjIn

@[expose] public section

set_option maxRecDepth 16384

noncomputable section

namespace Cert.Proof

open Idealize.ShloMosaic Idealize.SL.Sem

/-- The frame of the gradient through the up projection and the two normalizations, on the floats. -/
theorem frameKernel2 [Cert.Kernel2.Facts] : Cert.quiescent_Kernel2 := fun m g _ => Cert.Kernel2.Gen.frame m g

/-- The same over exact numbers. -/
theorem frameIdeal2 [Cert.Kernel2Ideal.Facts] : Cert.quiescent_Kernel2Ideal := fun m g _ => Cert.Kernel2Ideal.Gen.frame m g

/-- The same of its reference. -/
theorem frameReference2 [Cert.Reference2Ideal.Facts] : Cert.quiescent_Reference2Ideal := fun m g _ =>
  (θ_run Cert.Reference2Ideal.defs _ _).mono
    (fun r h => ⟨fun c => (h c).2.2.2.2, sem_eq_zero_of_no_sems (by decide) r.2⟩) (Cert.Reference2Ideal.Value.run m g)

open Cert.Kernel2Ideal.UpGrad Cert.Reference2Ideal.Read in
/-- Over exact numbers the kernel and the reference give the same four arrays. -/
theorem algebraic2 : Cert.algebraic_Kernel2Ideal_Reference2Ideal := fun m g m' g' _ hagree => by
  refine ⟨_, _, _, _, Cert.Kernel2Ideal.Value.run_blocks m g, (θ_run Cert.Reference2Ideal.defs _ _).mono (fun r h c => ?_) (Cert.Reference2Ideal.Value.run m' g')⟩
  obtain ⟨a0, a1, a2, a3, a4, a5, a6⟩ := hagree c
  refine ⟨(h c).1.trans ?_, (h c).2.1.trans ?_, (h c).2.2.1.trans ?_, (h c).2.2.2.1.trans ?_, (h c).2.2.2.2⟩
  · refine (val_main_v36_eq m' c).trans (.trans ?_ (final8 m c).symm)
    rw [a0, a1, a2, a5, a6]; exact ref36 ..
  · refine (val_main_v19_eq _ _ _).trans (.trans ?_ (final9 m c).symm)
    rw [a0, a2, a6]; exact ref19 ..
  · refine (val_main_v71_eq m' c).trans (.trans ?_ (final10 m c).symm)
    rw [a0, a1, a2, a3, a4, a5, a6]; exact ref71 ..
  · refine (val_main_v54_eq m' c).trans (.trans ?_ (final11 m c).symm)
    rw [a0, a1, a2, a3, a5, a6]; exact ref54 ..

/-- The frame of the gradient of the output projection's weight, on the floats. -/
theorem frameKernel3 [Cert.Kernel3.Facts] : Cert.quiescent_Kernel3 := fun m g _ => Cert.Kernel3.Gen.frame m g

/-- The same over exact numbers. -/
theorem frameIdeal3 [Cert.Kernel3Ideal.Facts] : Cert.quiescent_Kernel3Ideal := fun m g _ => Cert.Kernel3Ideal.Gen.frame m g

/-- The same of its reference. -/
theorem frameReference3 [Cert.Reference3Ideal.Facts] : Cert.quiescent_Reference3Ideal := fun m g _ =>
  (θ_run Cert.Reference3Ideal.defs _ _).mono
    (fun r h => ⟨fun c => (h c).2, sem_eq_zero_of_no_sems (by decide) r.2⟩) (Cert.Reference3Ideal.Value.run m g)

open Cert.Kernel3Ideal.GradOut Cert.Reference3Ideal.Read in
/-- Over exact numbers the kernel and the reference give the same array. -/
theorem algebraic3 : Cert.algebraic_Kernel3Ideal_Reference3Ideal := fun m g m' g' _ hagree => by
  refine ⟨_, Cert.Kernel3Ideal.Value.run_blocks m g, (θ_run Cert.Reference3Ideal.defs _ _).mono (fun r h c => ?_) (Cert.Reference3Ideal.Value.run m' g')⟩
  obtain ⟨a0, a1, _, a3⟩ := hagree c
  refine ⟨(h c).1.trans ((val_main_v4_eq _ _ _).trans (.trans ?_ (final m c).symm)), (h c).2⟩
  rw [a0, a1, a3]

/-- The frame of the cotangent of the mixing layer's output, on the floats. -/
theorem frameKernel4 [Cert.Kernel4.Facts] : Cert.quiescent_Kernel4 := fun m g _ => Cert.Kernel4.Gen.frame m g

/-- The same over exact numbers. -/
theorem frameIdeal4 [Cert.Kernel4Ideal.Facts] : Cert.quiescent_Kernel4Ideal := fun m g _ => Cert.Kernel4Ideal.Gen.frame m g

/-- The same of its reference. -/
theorem frameReference4 [Cert.Reference4Ideal.Facts] : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

open Cert.Kernel4Ideal.MixOut Cert.Reference4Ideal.Read in
/-- Over exact numbers the kernel and the reference give the same array. -/
theorem algebraic4 : Cert.algebraic_Kernel4Ideal_Reference4Ideal := fun m g m' g' _ hagree => by
  refine ⟨_, Cert.Kernel4Ideal.Value.run_blocks m g, (θ_run Cert.Reference4Ideal.defs _ _).mono (fun r h c => ?_) (Cert.Reference4Ideal.Value.run m' g')⟩
  obtain ⟨_, _, a2, a3⟩ := hagree c
  refine ⟨(h c).1.trans ((val_main_v5_eq _ _).trans (.trans ?_ (final m c).symm)), (h c).2⟩
  rw [a2, a3]; exact ref ..

/-- The frame of the gradient of the input projections' weight, on the floats. -/
theorem frameKernel5 [Cert.Kernel5.Facts] : Cert.quiescent_Kernel5 := fun m g _ => Cert.Kernel5.Gen.frame m g

/-- The same over exact numbers. -/
theorem frameIdeal5 [Cert.Kernel5Ideal.Facts] : Cert.quiescent_Kernel5Ideal := fun m g _ => Cert.Kernel5Ideal.Gen.frame m g

/-- The same of its reference. -/
theorem frameReference5 [Cert.Reference5Ideal.Facts] : Cert.quiescent_Reference5Ideal := fun m g _ =>
  (θ_run Cert.Reference5Ideal.defs _ _).mono
    (fun r h => ⟨fun c => (h c).2, sem_eq_zero_of_no_sems (by decide) r.2⟩) (Cert.Reference5Ideal.Value.run m g)

open Cert.Kernel5Ideal.GradIn Cert.Reference5Ideal.Read in
/-- Over exact numbers the kernel and the reference give the same array. -/
theorem algebraic5 : Cert.algebraic_Kernel5Ideal_Reference5Ideal := fun m g m' g' _ hagree => by
  refine ⟨_, Cert.Kernel5Ideal.Value.run_blocks m g, (θ_run Cert.Reference5Ideal.defs _ _).mono (fun r h c => ?_) (Cert.Reference5Ideal.Value.run m' g')⟩
  obtain ⟨a0, _, a2, a3, a4, a5⟩ := hagree c
  refine ⟨(h c).1.trans ((val_main_v9_eq _ _ _ _ _).trans (.trans ?_ (final m c).symm)), (h c).2⟩
  rw [a0, a2, a3, a4, a5]

/-- The frame of the input projections, on the floats. -/
theorem frameKernel6 [Cert.Kernel6.Facts] : Cert.quiescent_Kernel6 := fun m g _ => Cert.Kernel6.Gen.frame m g

/-- The same over exact numbers. -/
theorem frameIdeal6 [Cert.Kernel6Ideal.Facts] : Cert.quiescent_Kernel6Ideal := fun m g _ => Cert.Kernel6Ideal.Gen.frame m g

/-- The same of its reference. -/
theorem frameReference6 [Cert.Reference6Ideal.Facts] : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

open Cert.Kernel6Ideal.ProjIn Cert.Reference6Ideal.Read in
/-- Over exact numbers the kernel and the reference give the same array. -/
theorem algebraic6 : Cert.algebraic_Kernel6Ideal_Reference6Ideal := fun m g m' g' _ hagree => by
  refine ⟨_, Cert.Kernel6Ideal.Value.run_blocks m g, (θ_run Cert.Reference6Ideal.defs _ _).mono (fun r h c => ?_) (Cert.Reference6Ideal.Value.run m' g')⟩
  obtain ⟨a0, a1⟩ := hagree c
  refine ⟨(h c).1.trans ((val_main_v0_eq _ _).trans (.trans ?_ (final m c).symm)), (h c).2⟩
  rw [a0, a1]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Arrays
public import proofs.«01_k».proof.Proof.Equal
public import proofs.«01_k».proof.Proof.Calls
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem

/-- The kernel's frame: it runs to an end from every memory, leaves its arguments as they were, and every counter at zero. -/
theorem frameKernel [Cert.Kernel.Facts] : Cert.quiescent_Kernel := fun m g _ => Cert.Kernel.Gen.frame m g

/-- The same of the kernel over exact numbers. -/
theorem frameIdeal [Cert.KernelIdeal.Facts] : Cert.quiescent_KernelIdeal := fun m g _ => Cert.KernelIdeal.Gen.frame m g

/-- The same of the reference: it has no counter at all. -/
theorem frameReference [Cert.ReferenceIdeal.Facts] : Cert.quiescent_ReferenceIdeal := fun m g _ =>
  (θ_run Cert.ReferenceIdeal.defs _ _).mono
    (fun r h => ⟨fun c => (h c).2.2.2.2.2.2.2.2.2, sem_eq_zero_of_no_sems (by decide) r.2⟩) (Cert.ReferenceIdeal.Value.run m g)

/-- The two named constants stand for the floats written in the kernel. -/
theorem preserves : Cert.preserves_Kernel_KernelIdeal :=
  ⟨IdealRules.named_const.statement Cert.KernelIdeal.κ "k01" .f32 0x3D122279#32 _ rfl,
   IdealRules.named_const.statement Cert.KernelIdeal.κ "k013" .f32 0x3DDB33B6#32 _ rfl⟩

open Cert.KernelIdeal.Arrays in
/-- Over exact numbers and finite arguments the kernel and the reference give the same nine arrays. -/
theorem algebraic : Cert.algebraic_KernelIdeal_ReferenceIdeal_pre_finite_args := fun m g m' g' hpre hagree =>
  ⟨G12 m, G13 m, G14 m, G15 m, G16 m, G17 m, G18 m, G19 m, G20 m,
   Cert.KernelIdeal.Arrays.run m g,
   (θ_run Cert.ReferenceIdeal.defs _ _).mono (fun r h c => ⟨
    (h c).1.trans ((Cert.ReferenceIdeal.Read.val_main_v110_eq (StableHlo.launchContents m' c)).trans (Cert.Equal.same110 m c _ _ _ _ _ _ (hagree c).1 (hagree c).2.1 (hagree c).2.2.1 (hagree c).2.2.2.1 (hagree c).2.2.2.2.1 (hagree c).2.2.2.2.2 (Cert.Equal.reals m c hpre))),
    (h c).2.1.trans ((Cert.ReferenceIdeal.Read.val_main_v112_eq (StableHlo.launchContents m' c)).trans (Cert.Equal.same112 m c _ _ _ _ _ _ (hagree c).1 (hagree c).2.1 (hagree c).2.2.1 (hagree c).2.2.2.1 (hagree c).2.2.2.2.1 (hagree c).2.2.2.2.2 (Cert.Equal.reals m c hpre))),
    (h c).2.2.1.trans ((Cert.ReferenceIdeal.Read.val_main_v115_eq (StableHlo.launchContents m' c)).trans (Cert.Equal.same115 m c _ _ _ _ _ _ (hagree c).1 (hagree c).2.1 (hagree c).2.2.1 (hagree c).2.2.2.1 (hagree c).2.2.2.2.1 (hagree c).2.2.2.2.2 (Cert.Equal.reals m c hpre))),
    (h c).2.2.2.1.trans ((Cert.ReferenceIdeal.Read.val_main_v118_eq (StableHlo.launchContents m' c)).trans (Cert.Equal.same118 m c _ _ _ _ _ _ (hagree c).1 (hagree c).2.1 (hagree c).2.2.1 (hagree c).2.2.2.1 (hagree c).2.2.2.2.1 (hagree c).2.2.2.2.2 (Cert.Equal.reals m c hpre))),
    (h c).2.2.2.2.1.trans ((Cert.ReferenceIdeal.Read.val_main_v119_eq (StableHlo.launchContents m' c)).trans (Cert.Equal.same119 m c _ _ _ _ _ _ (hagree c).1 (hagree c).2.1 (hagree c).2.2.1 (hagree c).2.2.2.1 (hagree c).2.2.2.2.1 (hagree c).2.2.2.2.2 (Cert.Equal.reals m c hpre))),
    (h c).2.2.2.2.2.1.trans ((Cert.ReferenceIdeal.Read.val_main_v120_eq (StableHlo.launchContents m' c)).trans (Cert.Equal.same120 m c _ _ _ _ _ _ (hagree c).1 (hagree c).2.1 (hagree c).2.2.1 (hagree c).2.2.2.1 (hagree c).2.2.2.2.1 (hagree c).2.2.2.2.2 (Cert.Equal.reals m c hpre))),
    (h c).2.2.2.2.2.2.1.trans ((Cert.ReferenceIdeal.Read.val_main_v121_eq (StableHlo.launchContents m' c)).trans (Cert.Equal.same121 m c _ _ _ _ _ _ (hagree c).1 (hagree c).2.1 (hagree c).2.2.1 (hagree c).2.2.2.1 (hagree c).2.2.2.2.1 (hagree c).2.2.2.2.2 (Cert.Equal.reals m c hpre))),
    (h c).2.2.2.2.2.2.2.1.trans ((Cert.ReferenceIdeal.Read.val_main_v122_eq (StableHlo.launchContents m' c)).trans (Cert.Equal.same122 m c _ _ _ _ _ _ (hagree c).1 (hagree c).2.1 (hagree c).2.2.1 (hagree c).2.2.2.1 (hagree c).2.2.2.2.1 (hagree c).2.2.2.2.2 (Cert.Equal.reals m c hpre))),
    (h c).2.2.2.2.2.2.2.2.1.trans ((Cert.ReferenceIdeal.Read.val_main_v123_eq (StableHlo.launchContents m' c)).trans (Cert.Equal.same123 m c _ _ _ _ _ _ (hagree c).1 (hagree c).2.1 (hagree c).2.2.1 (hagree c).2.2.2.1 (hagree c).2.2.2.2.1 (hagree c).2.2.2.2.2 (Cert.Equal.reals m c hpre))),
    (h c).2.2.2.2.2.2.2.2.2⟩)
    (Cert.ReferenceIdeal.Value.run m' g')⟩

/-- Everything claimed of the six programs. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts, Cert.Equal.preFacts,
   frameKernel, frameIdeal, fun m g _ => frameIdeal m g trivial, frameReference, fun m g _ => frameReference m g trivial,
   frameKernel2, frameIdeal2, frameReference2,
   frameKernel3, frameIdeal3, frameReference3,
   frameKernel4, frameIdeal4, frameReference4,
   frameKernel5, frameIdeal5, frameReference5,
   frameKernel6, frameIdeal6, frameReference6,
   preserves, algebraic, trivial, algebraic2, trivial, algebraic3, trivial, algebraic4, trivial, algebraic5, trivial, algebraic6⟩

end Cert.Proof

end
